-- ==== Defs.lean ====
def Pre_Kernel [hPre_finite_and_partition : Cert.Pre_finite_and_partition.Facts] (m : (ℓ : Loc Cert.Kernel.nD Cert.Kernel.τ Cert.Kernel.sig) → Buf (Elt Bits) ℓ) : Prop :=
  ∀ c : Dev Cert.Kernel.nD,
    (Cert.Pre_finite_and_partition.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_and_partition : Cert.Pre_finite_and_partition.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_partition.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_partition [hPre_finite_and_partition : Cert.Pre_finite_and_partition.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_partition.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_finite_and_partition : Cert.Pre_finite_and_partition.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_finite_and_partition : Cert.Pre_finite_and_partition.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_and_partition [hReferenceIdeal : Cert.ReferenceIdeal.Facts] [hPre_finite_and_partition : Cert.Pre_finite_and_partition.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_partition m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_finite_and_partition : Cert.Pre_finite_and_partition.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v2)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122_0) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_v122_1) = v2 c
          ∧ r.2.mem ((c.tc : Thread Cert.ReferenceIdeal.nD Cert.ReferenceIdeal.τ).loc Cert.ReferenceIdeal.main_v107) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_and_partition : Cert.Pre_finite_and_partition.Facts),
    quiescent_Kernel (hKernel := hKernel) (hPre_finite_and_partition := hPre_finite_and_partition)
    ∧ quiescent_KernelIdeal (hKernelIdeal := hKernelIdeal) (hPre_finite_and_partition := hPre_finite_and_partition)
    ∧ quiescent_ReferenceIdeal (hReferenceIdeal := hReferenceIdeal)
    ∧ quiescent_ReferenceIdeal_pre_finite_and_partition (hReferenceIdeal := hReferenceIdeal) (hPre_finite_and_partition := hPre_finite_and_partition)
    ∧ preserves_Kernel_KernelIdeal
    ∧ algebraic_KernelIdeal_ReferenceIdeal (hKernelIdeal := hKernelIdeal) (hReferenceIdeal := hReferenceIdeal) (hPre_finite_and_partition := hPre_finite_and_partition)
-- ==== Pre_finite_and_partition.lean ====
abbrev S20x2560x2048 : Shape := ⟨3, ![20, 2560, 2048]⟩
abbrev S9 : Shape := ⟨1, ![9]⟩
abbrev S_ : Shape := ⟨0, ![]⟩

class Facts : Prop where
  bitsLt_bf16_f32 : FTy.bits .bf16 < FTy.bits .f32
  bcast_S_S20x2560x2048 : S_.BroadcastsInDim S20x2560x2048 (![] : Fin 0 → Fin S20x2560x2048.rank)
  reducesTo_S20x2560x2048_S_d0_1_2 : S20x2560x2048.ReducesTo [0, 1, 2] S_
  h_S_ : 0 < S_.numel
  bcast_S_S9 : S_.BroadcastsInDim S9 (![] : Fin 0 → Fin S9.rank)
  reducesTo_S9_S_d0 : S9.ReducesTo [0] S_

variable [Facts]

def fn {F : FTy → Type} [FloatOps F] (main_arg0 : FVec F S20x2560x2048 .bf16) (main_arg1 : IVec S9 32) : IVec S_ 1 :=
  let main_v0 : FVec F S20x2560x2048 .f32 := (extf .f32 · bitsLt_bf16_f32) main_arg0
  let main_v1 : FVec F S20x2560x2048 .f32 := Host.absf main_v0
  let main_cst : FVec F S_ .f32 := constant S_ .f32 0x7F7F0000#32
  let main_v2 : FVec F S20x2560x2048 .f32 := broadcastInDim S20x2560x2048 ![] bcast_S_S20x2560x2048 main_cst
  let main_v3 : IVec S20x2560x2048 1 := cmpf .ole main_v1 main_v2
  let main_c : IVec S_ 1 := constantI S_ 1 1#1
  let main_v4 : IVec S_ 1 := (fun x v => Host.reduce IntOp.andi x v reducesTo_S20x2560x2048_S_d0_1_2 h_S_) main_v3 main_c
  let main_c_0 : IVec S_ 32 := constantI S_ 32 0#32
  let main_v5 : IVec S9 32 := broadcastInDim S9 ![] bcast_S_S9 main_c_0
  let main_v6 : IVec S9 1 := cmpi .sge main_arg1 main_v5
  let main_c_1 : IVec S_ 32 := constantI S_ 32 51200#32
  let main_v7 : IVec S9 32 := broadcastInDim S9 ![] bcast_S_S9 main_c_1
  let main_v8 : IVec S9 1 := cmpi .sle main_arg1 main_v7
  let main_v9 : IVec S9 1 := andi main_v6 main_v8
  let main_c_2 : IVec S_ 1 := constantI S_ 1 1#1
  let main_v10 : IVec S_ 1 := (fun x v => Host.reduce IntOp.andi x v reducesTo_S9_S_d0 h_S_) main_v9 main_c_2
  let main_v11 : IVec S_ 1 := andi main_v4 main_v10
  let main_c_3 : IVec S_ 32 := constantI S_ 32 0#32
  let main_v12 : IVec S_ 32 := (fun x v => Host.reduce IntOp.addi x v reducesTo_S9_S_d0 h_S_) main_arg1 main_c_3
  let main_c_4 : IVec S_ 32 := constantI S_ 32 51200#32
  let main_v13 : IVec S_ 1 := cmpi .eq main_v12 main_c_4
  let main_v14 : IVec S_ 1 := andi main_v11 main_v13
  main_v14
-- ==== Kernel.lean ====
abbrev S20x2560x2048 : Shape := ⟨3, ![20, 2560, 2048]⟩
abbrev S9 : Shape := ⟨1, ![9]⟩
abbrev S51200x2048 : Shape := ⟨2, ![51200, 2048]⟩
abbrev S16x51200 : Shape := ⟨2, ![16, 51200]⟩
abbrev S2048x51200 : Shape := ⟨2, ![2048, 51200]⟩
abbrev S409x2048 : Shape := ⟨2, ![409, 2048]⟩
abbrev S512x2048 : Shape := ⟨2, ![512, 2048]⟩
abbrev S16x512 : Shape := ⟨2, ![16, 512]⟩
abbrev S2048x512 : Shape := ⟨2, ![2048, 512]⟩
abbrev S2x2048x512 : Shape := ⟨3, ![2, 2048, 512]⟩
abbrev S32x2048 : Shape := ⟨2, ![32, 2048]⟩
abbrev S32x128 : Shape := ⟨2, ![32, 128]⟩
abbrev S4 : Shape := ⟨1, ![4]⟩
abbrev S1 : Shape := ⟨1, ![1]⟩
abbrev S512x128 : Shape := ⟨2, ![512, 128]⟩
abbrev S128x512 : Shape := ⟨2, ![128, 512]⟩
abbrev S1x128x512 : Shape := ⟨3, ![1, 128, 512]⟩
abbrev S512 : Shape := ⟨1, ![512]⟩
abbrev S1x512 : Shape := ⟨2, ![1, 512]⟩
abbrev S16x2048 : Shape := ⟨2, ![16, 2048]⟩
abbrev S16x128 : Shape := ⟨2, ![16, 128]⟩
abbrev S16x256 : Shape := ⟨2, ![16, 256]⟩
abbrev S128x256 : Shape := ⟨2, ![128, 256]⟩
abbrev S2048 : Shape := ⟨1, ![2048]⟩
abbrev S1x2048 : Shape := ⟨2, ![1, 2048]⟩
abbrev S1x128 : Shape := ⟨2, ![1, 128]⟩
abbrev S128x128 : Shape := ⟨2, ![128, 128]⟩
abbrev S1x128x128 : Shape := ⟨3, ![1, 128, 128]⟩
abbrev S51200x16 : Shape := ⟨2, ![51200, 16]⟩
abbrev S2048x409 : Shape := ⟨2, ![2048, 409]⟩

abbrev nBuf : Space → Nat
  | .hbm => 8
  | .vmem => 14
  | .smem => 2
  | _ => 0

abbrev bufTy : (tb : Table) → Fin (tcTables nBuf tb) → BufTy
  | .hbm, ⟨0, _⟩ => ⟨S20x2560x2048, .bf16⟩
  | .hbm, ⟨1, _⟩ => ⟨S51200x2048, .bf16⟩
  | .hbm, ⟨2, _⟩ => ⟨S51200x2048, .fp8e4m3⟩
  | .hbm, ⟨3, _⟩ => ⟨S16x51200, .f32⟩
  | .hbm, ⟨4, _⟩ => ⟨S2048x51200, .fp8e4m3⟩
  | .hbm, ⟨5, _⟩ => ⟨S409x2048, .f32⟩
  | .hbm, ⟨6, _⟩ => ⟨S51200x16, .f32⟩
  | .hbm, ⟨7, _⟩ => ⟨S2048x409, .f32⟩
  | .local _ .vmem, ⟨0, _⟩ => ⟨S512x2048, .bf16⟩
  | .local _ .vmem, ⟨1, _⟩ => ⟨S512x2048, .bf16⟩
  | .local _ .vmem, ⟨2, _⟩ => ⟨S512x2048, .fp8e4m3⟩
  | .local _ .vmem, ⟨3, _⟩ => ⟨S512x2048, .fp8e4m3⟩
  | .local _ .vmem, ⟨4, _⟩ => ⟨S16x512, .f32⟩
  | .local _ .vmem, ⟨5, _⟩ => ⟨S16x512, .f32⟩
  | .local _ .vmem, ⟨6, _⟩ => ⟨S2048x512, .fp8e4m3⟩
  | .local _ .vmem, ⟨7, _⟩ => ⟨S2048x512, .fp8e4m3⟩
  | .local _ .vmem, ⟨8, _⟩ => ⟨S409x2048, .f32⟩
  | .local _ .vmem, ⟨9, _⟩ => ⟨S2x2048x512, .bf16⟩
  | .local _ .vmem, ⟨10, _⟩ => ⟨S16x512, .f32⟩
  | .local _ .vmem, ⟨11, _⟩ => ⟨S32x2048, .f32⟩
  | .local _ .vmem, ⟨12, _⟩ => ⟨S32x128, .i32⟩
  | .local _ .vmem, ⟨13, _⟩ => ⟨S32x128, .i32⟩
  | .local _ .smem, ⟨0, _⟩ => ⟨S9, .i32⟩
  | .local _ .smem, ⟨1, _⟩ => ⟨S4, .i32⟩
  | _, _ => ⟨S20x2560x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨1, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev main_v1_3 : Ref sig .tc := ⟨.hbm, 5, rfl⟩
abbrev main_v2 : Ref sig .tc := ⟨.hbm, 6, rfl⟩
abbrev main_v3 : Ref sig .tc := ⟨.hbm, 7, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_scratch5 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![101], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_cond2 (i : grid0.Coords) : BitVec 1 :=
  let arg0 : BitVec 32 := BitVec.ofNat 32 (i 0).val
  let c100_i32 : BitVec 32 := 100#32
  let v3 : BitVec 1 := Scalar.cmpi .slt arg0 c100_i32
  let v4 : BitVec 32 := Scalar.extui v3
  let c0_i32_1 : BitVec 32 := 0#32
  let v5 : BitVec 1 := Scalar.cmpi .ne v4 c0_i32_1
  v5

def k0_off1 (i : grid0.Coords) : Fin 3 → Nat :=
  let arg0 : BitVec 32 := BitVec.ofNat 32 (i 0).val
  let c2_i32 : BitVec 32 := 2#32
  let c0_i32_9 : BitVec 32 := 0#32
  let v21 : BitVec 1 := Scalar.cmpi .eq c2_i32 c0_i32_9
  let c1_i32 : BitVec 32 := 1#32
  let v22 : BitVec 32 := Scalar.select v21 c1_i32 c2_i32
  let v23 : BitVec 32 := Scalar.remsi arg0 v22
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let c0_i32_10 : BitVec 32 := 0#32
  let v24 : BitVec 1 := Scalar.cmpi .ne v23 c0_i32_10
  let v28 : BitVec 1 := Scalar.andi v27 v24
  let v29 : BitVec 32 := Scalar.addi v23 v22
  let v30 : BitVec 32 := Scalar.select v28 v29 v23
  let v34 : Index := Scalar.indexCast v30
  let c0_15 : Index := 0#32
  let c0_16 : Index := 0#32
  ![v34.toNat, 0, 0]
def k0_off2 (i : grid0.Coords) : Fin 3 → Nat :=
  let arg0 : BitVec 32 := BitVec.ofNat 32 (i 0).val
  let c2_i32 : BitVec 32 := 2#32
  let c0_i32_9 : BitVec 32 := 0#32
  let v21 : BitVec 1 := Scalar.cmpi .eq c2_i32 c0_i32_9
  let c1_i32 : BitVec 32 := 1#32
  let v22 : BitVec 32 := Scalar.select v21 c1_i32 c2_i32
  let v23 : BitVec 32 := Scalar.remsi arg0 v22
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let c0_i32_10 : BitVec 32 := 0#32
  let v24 : BitVec 1 := Scalar.cmpi .ne v23 c0_i32_10
  let v28 : BitVec 1 := Scalar.andi v27 v24
  let v29 : BitVec 32 := Scalar.addi v23 v22
  let v30 : BitVec 32 := Scalar.select v28 v29 v23
  let v70 : Index := Scalar.indexCast v30
  let c128_20 : Index := 128#32
  let c0_21 : Index := 0#32
  ![v70.toNat, 128, 0]
def k0_off3 (i : grid0.Coords) : Fin 3 → Nat :=
  let arg0 : BitVec 32 := BitVec.ofNat 32 (i 0).val
  let c2_i32 : BitVec 32 := 2#32
  let c0_i32_9 : BitVec 32 := 0#32
  let v21 : BitVec 1 := Scalar.cmpi .eq c2_i32 c0_i32_9
  let c1_i32 : BitVec 32 := 1#32
  let v22 : BitVec 32 := Scalar.select v21 c1_i32 c2_i32
  let v23 : BitVec 32 := Scalar.remsi arg0 v22
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let c0_i32_10 : BitVec 32 := 0#32
  let v24 : BitVec 1 := Scalar.cmpi .ne v23 c0_i32_10
  let v28 : BitVec 1 := Scalar.andi v27 v24
  let v29 : BitVec 32 := Scalar.addi v23 v22
  let v30 : BitVec 32 := Scalar.select v28 v29 v23
  let v106 : Index := Scalar.indexCast v30
  let c256_26 : Index := 256#32
  let c0_27 : Index := 0#32
  ![v106.toNat, 256, 0]
def k0_off4 (i : grid0.Coords) : Fin 3 → Nat :=
  let arg0 : BitVec 32 := BitVec.ofNat 32 (i 0).val
  let c2_i32 : BitVec 32 := 2#32
  let c0_i32_9 : BitVec 32 := 0#32
  let v21 : BitVec 1 := Scalar.cmpi .eq c2_i32 c0_i32_9
  let c1_i32 : BitVec 32 := 1#32
  let v22 : BitVec 32 := Scalar.select v21 c1_i32 c2_i32
  let v23 : BitVec 32 := Scalar.remsi arg0 v22
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let c0_i32_10 : BitVec 32 := 0#32
  let v24 : BitVec 1 := Scalar.cmpi .ne v23 c0_i32_10
  let v28 : BitVec 1 := Scalar.andi v27 v24
  let v29 : BitVec 32 := Scalar.addi v23 v22
  let v30 : BitVec 32 := Scalar.select v28 v29 v23
  let v142 : Index := Scalar.indexCast v30
  let c384_32 : Index := 384#32
  let c0_33 : Index := 0#32
  ![v142.toNat, 384, 0]
def k0_off5 (i : grid0.Coords) : Fin 3 → Nat :=
  let arg0 : BitVec 32 := BitVec.ofNat 32 (i 0).val
  let c2_i32 : BitVec 32 := 2#32
  let c0_i32_9 : BitVec 32 := 0#32
  let v21 : BitVec 1 := Scalar.cmpi .eq c2_i32 c0_i32_9
  let c1_i32 : BitVec 32 := 1#32
  let v22 : BitVec 32 := Scalar.select v21 c1_i32 c2_i32
  let v23 : BitVec 32 := Scalar.remsi arg0 v22
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let c0_i32_10 : BitVec 32 := 0#32
  let v24 : BitVec 1 := Scalar.cmpi .ne v23 c0_i32_10
  let v28 : BitVec 1 := Scalar.andi v27 v24
  let v29 : BitVec 32 := Scalar.addi v23 v22
  let v30 : BitVec 32 := Scalar.select v28 v29 v23
  let v178 : Index := Scalar.indexCast v30
  let c512_38 : Index := 512#32
  let c0_39 : Index := 0#32
  ![v178.toNat, 512, 0]
def k0_off6 (i : grid0.Coords) : Fin 3 → Nat :=
  let arg0 : BitVec 32 := BitVec.ofNat 32 (i 0).val
  let c2_i32 : BitVec 32 := 2#32
  let c0_i32_9 : BitVec 32 := 0#32
  let v21 : BitVec 1 := Scalar.cmpi .eq c2_i32 c0_i32_9
  let c1_i32 : BitVec 32 := 1#32
  let v22 : BitVec 32 := Scalar.select v21 c1_i32 c2_i32
  let v23 : BitVec 32 := Scalar.remsi arg0 v22
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let c0_i32_10 : BitVec 32 := 0#32
  let v24 : BitVec 1 := Scalar.cmpi .ne v23 c0_i32_10
  let v28 : BitVec 1 := Scalar.andi v27 v24
  let v29 : BitVec 32 := Scalar.addi v23 v22
  let v30 : BitVec 32 := Scalar.select v28 v29 v23
  let v214 : Index := Scalar.indexCast v30
  let c640_43 : Index := 640#32
  let c0_44 : Index := 0#32
  ![v214.toNat, 640, 0]
def k0_off7 (i : grid0.Coords) : Fin 3 → Nat :=
  let arg0 : BitVec 32 := BitVec.ofNat 32 (i 0).val
  let c2_i32 : BitVec 32 := 2#32
  let c0_i32_9 : BitVec 32 := 0#32
  let v21 : BitVec 1 := Scalar.cmpi .eq c2_i32 c0_i32_9
  let c1_i32 : BitVec 32 := 1#32
  let v22 : BitVec 32 := Scalar.select v21 c1_i32 c2_i32
  let v23 : BitVec 32 := Scalar.remsi arg0 v22
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let c0_i32_10 : BitVec 32 := 0#32
  let v24 : BitVec 1 := Scalar.cmpi .ne v23 c0_i32_10
  let v28 : BitVec 1 := Scalar.andi v27 v24
  let v29 : BitVec 32 := Scalar.addi v23 v22
  let v30 : BitVec 32 := Scalar.select v28 v29 v23
  let v250 : Index := Scalar.indexCast v30
  let c768_48 : Index := 768#32
  let c0_49 : Index := 0#32
  ![v250.toNat, 768, 0]
def k0_off8 (i : grid0.Coords) : Fin 3 → Nat :=
  let arg0 : BitVec 32 := BitVec.ofNat 32 (i 0).val
  let c2_i32 : BitVec 32 := 2#32
  let c0_i32_9 : BitVec 32 := 0#32
  let v21 : BitVec 1 := Scalar.cmpi .eq c2_i32 c0_i32_9
  let c1_i32 : BitVec 32 := 1#32
  let v22 : BitVec 32 := Scalar.select v21 c1_i32 c2_i32
  let v23 : BitVec 32 := Scalar.remsi arg0 v22
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let c0_i32_10 : BitVec 32 := 0#32
  let v24 : BitVec 1 := Scalar.cmpi .ne v23 c0_i32_10
  let v28 : BitVec 1 := Scalar.andi v27 v24
  let v29 : BitVec 32 := Scalar.addi v23 v22
  let v30 : BitVec 32 := Scalar.select v28 v29 v23
  let v286 : Index := Scalar.indexCast v30
  let c896_53 : Index := 896#32
  let c0_54 : Index := 0#32
  ![v286.toNat, 896, 0]
def k0_off9 (i : grid0.Coords) : Fin 3 → Nat :=
  let arg0 : BitVec 32 := BitVec.ofNat 32 (i 0).val
  let c2_i32 : BitVec 32 := 2#32
  let c0_i32_9 : BitVec 32 := 0#32
  let v21 : BitVec 1 := Scalar.cmpi .eq c2_i32 c0_i32_9
  let c1_i32 : BitVec 32 := 1#32
  let v22 : BitVec 32 := Scalar.select v21 c1_i32 c2_i32
  let v23 : BitVec 32 := Scalar.remsi arg0 v22
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let c0_i32_10 : BitVec 32 := 0#32
  let v24 : BitVec 1 := Scalar.cmpi .ne v23 c0_i32_10
  let v28 : BitVec 1 := Scalar.andi v27 v24
  let v29 : BitVec 32 := Scalar.addi v23 v22
  let v30 : BitVec 32 := Scalar.select v28 v29 v23
  let v322 : Index := Scalar.indexCast v30
  let c1024_58 : Index := 1024#32
  let c0_59 : Index := 0#32
  ![v322.toNat, 1024, 0]
def k0_off10 (i : grid0.Coords) : Fin 3 → Nat :=
  let arg0 : BitVec 32 := BitVec.ofNat 32 (i 0).val
  let c2_i32 : BitVec 32 := 2#32
  let c0_i32_9 : BitVec 32 := 0#32
  let v21 : BitVec 1 := Scalar.cmpi .eq c2_i32 c0_i32_9
  let c1_i32 : BitVec 32 := 1#32
  let v22 : BitVec 32 := Scalar.select v21 c1_i32 c2_i32
  let v23 : BitVec 32 := Scalar.remsi arg0 v22
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let c0_i32_10 : BitVec 32 := 0#32
  let v24 : BitVec 1 := Scalar.cmpi .ne v23 c0_i32_10
  let v28 : BitVec 1 := Scalar.andi v27 v24
  let v29 : BitVec 32 := Scalar.addi v23 v22
  let v30 : BitVec 32 := Scalar.select v28 v29 v23
  let v358 : Index := Scalar.indexCast v30
  let c1152_63 : Index := 1152#32
  let c0_64 : Index := 0#32
  ![v358.toNat, 1152, 0]
def k0_off11 (i : grid0.Coords) : Fin 3 → Nat :=
  let arg0 : BitVec 32 := BitVec.ofNat 32 (i 0).val
  let c2_i32 : BitVec 32 := 2#32
  let c0_i32_9 : BitVec 32 := 0#32
  let v21 : BitVec 1 := Scalar.cmpi .eq c2_i32 c0_i32_9
  let c1_i32 : BitVec 32 := 1#32
  let v22 : BitVec 32 := Scalar.select v21 c1_i32 c2_i32
  let v23 : BitVec 32 := Scalar.remsi arg0 v22
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let c0_i32_10 : BitVec 32 := 0#32
  let v24 : BitVec 1 := Scalar.cmpi .ne v23 c0_i32_10
  let v28 : BitVec 1 := Scalar.andi v27 v24
  let v29 : BitVec 32 := Scalar.addi v23 v22
  let v30 : BitVec 32 := Scalar.select v28 v29 v23
  let v394 : Index := Scalar.indexCast v30
  let c1280_68 : Index := 1280#32
  let c0_69 : Index := 0#32
  ![v394.toNat, 1280, 0]
def k0_off12 (i : grid0.Coords) : Fin 3 → Nat :=
  let arg0 : BitVec 32 := BitVec.ofNat 32 (i 0).val
  let c2_i32 : BitVec 32 := 2#32
  let c0_i32_9 : BitVec 32 := 0#32
  let v21 : BitVec 1 := Scalar.cmpi .eq c2_i32 c0_i32_9
  let c1_i32 : BitVec 32 := 1#32
  let v22 : BitVec 32 := Scalar.select v21 c1_i32 c2_i32
  let v23 : BitVec 32 := Scalar.remsi arg0 v22
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let c0_i32_10 : BitVec 32 := 0#32
  let v24 : BitVec 1 := Scalar.cmpi .ne v23 c0_i32_10
  let v28 : BitVec 1 := Scalar.andi v27 v24
  let v29 : BitVec 32 := Scalar.addi v23 v22
  let v30 : BitVec 32 := Scalar.select v28 v29 v23
  let v430 : Index := Scalar.indexCast v30
  let c1408_73 : Index := 1408#32
  let c0_74 : Index := 0#32
  ![v430.toNat, 1408, 0]
def k0_off13 (i : grid0.Coords) : Fin 3 → Nat :=
  let arg0 : BitVec 32 := BitVec.ofNat 32 (i 0).val
  let c2_i32 : BitVec 32 := 2#32
  let c0_i32_9 : BitVec 32 := 0#32
  let v21 : BitVec 1 := Scalar.cmpi .eq c2_i32 c0_i32_9
  let c1_i32 : BitVec 32 := 1#32
  let v22 : BitVec 32 := Scalar.select v21 c1_i32 c2_i32
  let v23 : BitVec 32 := Scalar.remsi arg0 v22
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let c0_i32_10 : BitVec 32 := 0#32
  let v24 : BitVec 1 := Scalar.cmpi .ne v23 c0_i32_10
  let v28 : BitVec 1 := Scalar.andi v27 v24
  let v29 : BitVec 32 := Scalar.addi v23 v22
  let v30 : BitVec 32 := Scalar.select v28 v29 v23
  let v466 : Index := Scalar.indexCast v30
  let c1536_78 : Index := 1536#32
  let c0_79 : Index := 0#32
  ![v466.toNat, 1536, 0]
def k0_off14 (i : grid0.Coords) : Fin 3 → Nat :=
  let arg0 : BitVec 32 := BitVec.ofNat 32 (i 0).val
  let c2_i32 : BitVec 32 := 2#32
  let c0_i32_9 : BitVec 32 := 0#32
  let v21 : BitVec 1 := Scalar.cmpi .eq c2_i32 c0_i32_9
  let c1_i32 : BitVec 32 := 1#32
  let v22 : BitVec 32 := Scalar.select v21 c1_i32 c2_i32
  let v23 : BitVec 32 := Scalar.remsi arg0 v22
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let c0_i32_10 : BitVec 32 := 0#32
  let v24 : BitVec 1 := Scalar.cmpi .ne v23 c0_i32_10
  let v28 : BitVec 1 := Scalar.andi v27 v24
  let v29 : BitVec 32 := Scalar.addi v23 v22
  let v30 : BitVec 32 := Scalar.select v28 v29 v23
  let v502 : Index := Scalar.indexCast v30
  let c1664_83 : Index := 1664#32
  let c0_84 : Index := 0#32
  ![v502.toNat, 1664, 0]
def k0_off15 (i : grid0.Coords) : Fin 3 → Nat :=
  let arg0 : BitVec 32 := BitVec.ofNat 32 (i 0).val
  let c2_i32 : BitVec 32 := 2#32
  let c0_i32_9 : BitVec 32 := 0#32
  let v21 : BitVec 1 := Scalar.cmpi .eq c2_i32 c0_i32_9
  let c1_i32 : BitVec 32 := 1#32
  let v22 : BitVec 32 := Scalar.select v21 c1_i32 c2_i32
  let v23 : BitVec 32 := Scalar.remsi arg0 v22
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let c0_i32_10 : BitVec 32 := 0#32
  let v24 : BitVec 1 := Scalar.cmpi .ne v23 c0_i32_10
  let v28 : BitVec 1 := Scalar.andi v27 v24
  let v29 : BitVec 32 := Scalar.addi v23 v22
  let v30 : BitVec 32 := Scalar.select v28 v29 v23
  let v538 : Index := Scalar.indexCast v30
  let c1792_88 : Index := 1792#32
  let c0_89 : Index := 0#32
  ![v538.toNat, 1792, 0]
def k0_off16 (i : grid0.Coords) : Fin 3 → Nat :=
  let arg0 : BitVec 32 := BitVec.ofNat 32 (i 0).val
  let c2_i32 : BitVec 32 := 2#32
  let c0_i32_9 : BitVec 32 := 0#32
  let v21 : BitVec 1 := Scalar.cmpi .eq c2_i32 c0_i32_9
  let c1_i32 : BitVec 32 := 1#32
  let v22 : BitVec 32 := Scalar.select v21 c1_i32 c2_i32
  let v23 : BitVec 32 := Scalar.remsi arg0 v22
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let c0_i32_10 : BitVec 32 := 0#32
  let v24 : BitVec 1 := Scalar.cmpi .ne v23 c0_i32_10
  let v28 : BitVec 1 := Scalar.andi v27 v24
  let v29 : BitVec 32 := Scalar.addi v23 v22
  let v30 : BitVec 32 := Scalar.select v28 v29 v23
  let v574 : Index := Scalar.indexCast v30
  let c1920_93 : Index := 1920#32
  let c0_94 : Index := 0#32
  ![v574.toNat, 1920, 0]
def k0_off17 (arg18 : BitVec 32) : Fin 1 → Nat :=
  let c1_i32_61 : BitVec 32 := 1#32
  let v247 : BitVec 32 := Scalar.addi arg18 c1_i32_61
  let v248 : Index := Scalar.indexCast v247
  ![v248.toNat]

def k0_chk1 (arg18 : BitVec 32) : Prop :=
  (∀ a, (k0_off17 arg18) a + S1.size a ≤ S9.size a)
theorem k0_off17_inb : ∀ (arg18 : BitVec 32) (k0_hw1 : k0_chk1 arg18), ∀ a, (k0_off17 arg18) a + S1.size a ≤ S9.size a := fun arg18 k0_hw1 => k0_hw1

def k0_mult1 (i : grid0.Coords) (arg14 : BitVec 32) : BitVec 32 :=
  let c368_i32 : BitVec 32 := 368#32
  let c0_i32_20 : BitVec 32 := 0#32
  let arg0 : BitVec 32 := BitVec.ofNat 32 (i 0).val
  let c512_i32 : BitVec 32 := 512#32
  let v6 : BitVec 32 := Scalar.muli arg0 c512_i32
  let v34 : BitVec 32 := Scalar.subi arg14 v6
  let c0_i32_13 : BitVec 32 := 0#32
  let v37 : BitVec 1 := Scalar.cmpi .sgt v34 c0_i32_13
  let v38 : BitVec 32 := Scalar.extui v37
  let c0_i32_14 : BitVec 32 := 0#32
  let v39 : BitVec 1 := Scalar.cmpi .slt v34 c0_i32_14
  let v40 : BitVec 32 := Scalar.extui v39
  let v41 : BitVec 32 := Scalar.subi v38 v40
  let c16_i32 : BitVec 32 := 16#32
  let c0_i32_15 : BitVec 32 := 0#32
  let v42 : BitVec 1 := Scalar.cmpi .sgt c16_i32 c0_i32_15
  let v43 : BitVec 32 := Scalar.extui v42
  let c0_i32_16 : BitVec 32 := 0#32
  let v44 : BitVec 1 := Scalar.cmpi .slt c16_i32 c0_i32_16
  let v45 : BitVec 32 := Scalar.extui v44
  let v46 : BitVec 32 := Scalar.subi v43 v45
  let v47 : BitVec 1 := Scalar.cmpi .ne v41 v46
  let v48 : BitVec 32 := Scalar.remsi v34 c16_i32
  let c0_i32_17 : BitVec 32 := 0#32
  let v49 : BitVec 1 := Scalar.cmpi .ne v48 c0_i32_17
  let v50 : BitVec 1 := Scalar.andi v47 v49
  let v36 : BitVec 32 := Scalar.divsi v34 c16_i32
  let c1_i32_18 : BitVec 32 := 1#32
  let v51 : BitVec 32 := Scalar.subi v36 c1_i32_18
  let v52 : BitVec 32 := Scalar.select v50 v51 v36
  let c16_i32_19 : BitVec 32 := 16#32
  let v53 : BitVec 32 := Scalar.muli v52 c16_i32_19
  let v54 : BitVec 32 := Scalar.maxsi c0_i32_20 v53
  let v55 : BitVec 32 := Scalar.minsi c368_i32 v54
  v55

def k0_off18 (i : grid0.Coords) (arg14 : BitVec 32) (c0_i32_22 : BitVec 32) : Fin 2 → Nat :=
  let c368_i32 : BitVec 32 := 368#32
  let c0_i32_20 : BitVec 32 := 0#32
  let arg0 : BitVec 32 := BitVec.ofNat 32 (i 0).val
  let c512_i32 : BitVec 32 := 512#32
  let v6 : BitVec 32 := Scalar.muli arg0 c512_i32
  let v34 : BitVec 32 := Scalar.subi arg14 v6
  let c0_i32_13 : BitVec 32 := 0#32
  let v37 : BitVec 1 := Scalar.cmpi .sgt v34 c0_i32_13
  let v38 : BitVec 32 := Scalar.extui v37
  let c0_i32_14 : BitVec 32 := 0#32
  let v39 : BitVec 1 := Scalar.cmpi .slt v34 c0_i32_14
  let v40 : BitVec 32 := Scalar.extui v39
  let v41 : BitVec 32 := Scalar.subi v38 v40
  let c16_i32 : BitVec 32 := 16#32
  let c0_i32_15 : BitVec 32 := 0#32
  let v42 : BitVec 1 := Scalar.cmpi .sgt c16_i32 c0_i32_15
  let v43 : BitVec 32 := Scalar.extui v42
  let c0_i32_16 : BitVec 32 := 0#32
  let v44 : BitVec 1 := Scalar.cmpi .slt c16_i32 c0_i32_16
  let v45 : BitVec 32 := Scalar.extui v44
  let v46 : BitVec 32 := Scalar.subi v43 v45
  let v47 : BitVec 1 := Scalar.cmpi .ne v41 v46
  let v48 : BitVec 32 := Scalar.remsi v34 c16_i32
  let c0_i32_17 : BitVec 32 := 0#32
  let v49 : BitVec 1 := Scalar.cmpi .ne v48 c0_i32_17
  let v50 : BitVec 1 := Scalar.andi v47 v49
  let v36 : BitVec 32 := Scalar.divsi v34 c16_i32
  let c1_i32_18 : BitVec 32 := 1#32
  let v51 : BitVec 32 := Scalar.subi v36 c1_i32_18
  let v52 : BitVec 32 := Scalar.select v50 v51 v36
  let c16_i32_19 : BitVec 32 := 16#32
  let v53 : BitVec 32 := Scalar.muli v52 c16_i32_19
  let v54 : BitVec 32 := Scalar.maxsi c0_i32_20 v53
  let v55 : BitVec 32 := Scalar.minsi c368_i32 v54
  let v56 : BitVec 32 := v55
  let v61 : BitVec 32 := Scalar.addi v56 c0_i32_22
  let v62 : Index := Scalar.indexCast v61
  let c0_23 : Index := 0#32
  ![v62.toNat, 0]

def k0_chk2 (i : grid0.Coords) (arg14 : BitVec 32) : Prop :=
  (16 ∣ (k0_mult1 i arg14).toNat) ∧
  (∀ (r : Fin 9), ∀ a, (k0_off18 i arg14 (BitVec.ofNat 32 (16 * r.val))) a + S16x2048.size a ≤ S512x2048.size a)
theorem k0_mult1_dvd : ∀ (i : grid0.Coords) (arg14 : BitVec 32) (k0_hw2 : k0_chk2 i arg14), 16 ∣ (k0_mult1 i arg14).toNat := fun i arg14 k0_hw2 => k0_hw2.1
theorem k0_off18_inb : ∀ (i : grid0.Coords) (arg14 : BitVec 32) (k0_hw2 : k0_chk2 i arg14), ∀ (r : Fin 9), ∀ a, (k0_off18 i arg14 (BitVec.ofNat 32 (16 * r.val))) a + S16x2048.size a ≤ S512x2048.size a := fun i arg14 k0_hw2 r => k0_hw2.2 r

def k0_off19 (arg16 : BitVec 32) : Fin 2 → Nat :=
  let c32_i32 : BitVec 32 := 32#32
  let c0_i32_9 : BitVec 32 := 0#32
  let v24 : BitVec 1 := Scalar.cmpi .eq c32_i32 c0_i32_9
  let c1_i32 : BitVec 32 := 1#32
  let v25 : BitVec 32 := Scalar.select v24 c1_i32 c32_i32
  let v26 : BitVec 32 := Scalar.remsi arg16 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let v221 : Index := Scalar.indexCast v33
  let c0_53 : Index := 0#32
  ![v221.toNat, 0]

def k0_off20 (arg16 : BitVec 32) : Fin 2 → Nat :=
  let c32_i32 : BitVec 32 := 32#32
  let c0_i32_9 : BitVec 32 := 0#32
  let v24 : BitVec 1 := Scalar.cmpi .eq c32_i32 c0_i32_9
  let c1_i32 : BitVec 32 := 1#32
  let v25 : BitVec 32 := Scalar.select v24 c1_i32 c32_i32
  let v26 : BitVec 32 := Scalar.remsi arg16 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let v230 : Index := Scalar.indexCast v33
  let c0_55 : Index := 0#32
  ![v230.toNat, 0]

def k0_chk3 (arg16 : BitVec 32) : Prop :=
  (∀ a, (k0_off19 arg16) a + S1x2048.size a ≤ S32x2048.size a) ∧
  (∀ a, (k0_off20 arg16) a + S1x128.size a ≤ S32x128.size a)
theorem k0_off19_inb : ∀ (arg16 : BitVec 32) (k0_hw3 : k0_chk3 arg16), ∀ a, (k0_off19 arg16) a + S1x2048.size a ≤ S32x2048.size a := fun arg16 k0_hw3 => k0_hw3.1
theorem k0_off20_inb : ∀ (arg16 : BitVec 32) (k0_hw3 : k0_chk3 arg16), ∀ a, (k0_off20 arg16) a + S1x128.size a ≤ S32x128.size a := fun arg16 k0_hw3 => k0_hw3.2

def k0_off21 (arg16 : BitVec 32) : Fin 2 → Nat :=
  let v339 : Index := Scalar.indexCast arg16
  let c0_87 : Index := 0#32
  ![v339.toNat, 0]
def k0_cond3 (i : grid0.Coords) (arg14 : BitVec 32) (v21_1 : BitVec 32) : BitVec 1 :=
  let c128_i32 : BitVec 32 := 128#32
  let v22 : BitVec 32 := Scalar.addi arg14 c128_i32
  let v23 : BitVec 32 := Scalar.minsi v22 v21_1
  let arg0 : BitVec 32 := BitVec.ofNat 32 (i 0).val
  let c512_i32 : BitVec 32 := 512#32
  let v6 : BitVec 32 := Scalar.muli arg0 c512_i32
  let c512_i32_57 : BitVec 32 := 512#32
  let v239 : BitVec 32 := Scalar.addi v6 c512_i32_57
  let v240 : BitVec 1 := Scalar.cmpi .sle v23 v239
  let v241 : BitVec 32 := Scalar.extui v240
  let c0_i32_58 : BitVec 32 := 0#32
  let v242 : BitVec 1 := Scalar.cmpi .ne v241 c0_i32_58
  v242

def k0_chk4 (i : grid0.Coords) (arg14 : BitVec 32) (arg16 : BitVec 32) (v21_1 : BitVec 32) : Prop :=
  (∀ (k0_h3 : k0_cond3 i arg14 v21_1 = 1#1), ∀ a, (k0_off21 arg16) a + S1x2048.size a ≤ S409x2048.size a)
theorem k0_off21_inb : ∀ (i : grid0.Coords) (arg14 : BitVec 32) (arg16 : BitVec 32) (v21_1 : BitVec 32) (k0_hw4 : k0_chk4 i arg14 arg16 v21_1), ∀ (k0_h3 : k0_cond3 i arg14 v21_1 = 1#1), ∀ a, (k0_off21 arg16) a + S1x2048.size a ≤ S409x2048.size a := fun i arg14 arg16 v21_1 k0_hw4 k0_h3 => k0_hw4 k0_h3

def k0_cond4 (i : grid0.Coords) : BitVec 1 :=
  let arg0 : BitVec 32 := BitVec.ofNat 32 (i 0).val
  let c0_i32_7 : BitVec 32 := 0#32
  let v18 : BitVec 1 := Scalar.cmpi .sgt arg0 c0_i32_7
  let v19 : BitVec 32 := Scalar.extui v18
  let c0_i32_8 : BitVec 32 := 0#32
  let v20 : BitVec 1 := Scalar.cmpi .ne v19 c0_i32_8
  v20

def k0_off22 (i : grid0.Coords) : Fin 3 → Nat :=
  let arg0 : BitVec 32 := BitVec.ofNat 32 (i 0).val
  let c1_i32 : BitVec 32 := 1#32
  let v21 : BitVec 32 := Scalar.subi arg0 c1_i32
  let c2_i32 : BitVec 32 := 2#32
  let c0_i32_9 : BitVec 32 := 0#32
  let v22 : BitVec 1 := Scalar.cmpi .eq c2_i32 c0_i32_9
  let c1_i32_10 : BitVec 32 := 1#32
  let v23 : BitVec 32 := Scalar.select v22 c1_i32_10 c2_i32
  let v24 : BitVec 32 := Scalar.remsi v21 v23
  let c0_i32_12 : BitVec 32 := 0#32
  let v26 : BitVec 1 := Scalar.cmpi .slt v24 c0_i32_12
  let c0_i32_13 : BitVec 32 := 0#32
  let v27 : BitVec 1 := Scalar.cmpi .slt v23 c0_i32_13
  let v28 : BitVec 1 := Scalar.xori v26 v27
  let c0_i32_11 : BitVec 32 := 0#32
  let v25 : BitVec 1 := Scalar.cmpi .ne v24 c0_i32_11
  let v29 : BitVec 1 := Scalar.andi v28 v25
  let v30 : BitVec 32 := Scalar.addi v24 v23
  let v31 : BitVec 32 := Scalar.select v29 v30 v24
  let v146 : Index := Scalar.indexCast v31
  let c0_50 : Index := 0#32
  let c0_51 : Index := 0#32
  ![v146.toNat, 0, 0]
def k0_off23 (i : grid0.Coords) : Fin 3 → Nat :=
  let arg0 : BitVec 32 := BitVec.ofNat 32 (i 0).val
  let c1_i32 : BitVec 32 := 1#32
  let v21 : BitVec 32 := Scalar.subi arg0 c1_i32
  let c2_i32 : BitVec 32 := 2#32
  let c0_i32_9 : BitVec 32 := 0#32
  let v22 : BitVec 1 := Scalar.cmpi .eq c2_i32 c0_i32_9
  let c1_i32_10 : BitVec 32 := 1#32
  let v23 : BitVec 32 := Scalar.select v22 c1_i32_10 c2_i32
  let v24 : BitVec 32 := Scalar.remsi v21 v23
  let c0_i32_12 : BitVec 32 := 0#32
  let v26 : BitVec 1 := Scalar.cmpi .slt v24 c0_i32_12
  let c0_i32_13 : BitVec 32 := 0#32
  let v27 : BitVec 1 := Scalar.cmpi .slt v23 c0_i32_13
  let v28 : BitVec 1 := Scalar.xori v26 v27
  let c0_i32_11 : BitVec 32 := 0#32
  let v25 : BitVec 1 := Scalar.cmpi .ne v24 c0_i32_11
  let v29 : BitVec 1 := Scalar.andi v28 v25
  let v30 : BitVec 32 := Scalar.addi v24 v23
  let v31 : BitVec 32 := Scalar.select v29 v30 v24
  let v159 : Index := Scalar.indexCast v31
  let c128 : Index := 128#32
  let c0_57 : Index := 0#32
  ![v159.toNat, 128, 0]
def k0_off24 (i : grid0.Coords) : Fin 3 → Nat :=
  let arg0 : BitVec 32 := BitVec.ofNat 32 (i 0).val
  let c1_i32 : BitVec 32 := 1#32
  let v21 : BitVec 32 := Scalar.subi arg0 c1_i32
  let c2_i32 : BitVec 32 := 2#32
  let c0_i32_9 : BitVec 32 := 0#32
  let v22 : BitVec 1 := Scalar.cmpi .eq c2_i32 c0_i32_9
  let c1_i32_10 : BitVec 32 := 1#32
  let v23 : BitVec 32 := Scalar.select v22 c1_i32_10 c2_i32
  let v24 : BitVec 32 := Scalar.remsi v21 v23
  let c0_i32_12 : BitVec 32 := 0#32
  let v26 : BitVec 1 := Scalar.cmpi .slt v24 c0_i32_12
  let c0_i32_13 : BitVec 32 := 0#32
  let v27 : BitVec 1 := Scalar.cmpi .slt v23 c0_i32_13
  let v28 : BitVec 1 := Scalar.xori v26 v27
  let c0_i32_11 : BitVec 32 := 0#32
  let v25 : BitVec 1 := Scalar.cmpi .ne v24 c0_i32_11
  let v29 : BitVec 1 := Scalar.andi v28 v25
  let v30 : BitVec 32 := Scalar.addi v24 v23
  let v31 : BitVec 32 := Scalar.select v29 v30 v24
  let v172 : Index := Scalar.indexCast v31
  let c256 : Index := 256#32
  let c0_63 : Index := 0#32
  ![v172.toNat, 256, 0]
def k0_off25 (i : grid0.Coords) : Fin 3 → Nat :=
  let arg0 : BitVec 32 := BitVec.ofNat 32 (i 0).val
  let c1_i32 : BitVec 32 := 1#32
  let v21 : BitVec 32 := Scalar.subi arg0 c1_i32
  let c2_i32 : BitVec 32 := 2#32
  let c0_i32_9 : BitVec 32 := 0#32
  let v22 : BitVec 1 := Scalar.cmpi .eq c2_i32 c0_i32_9
  let c1_i32_10 : BitVec 32 := 1#32
  let v23 : BitVec 32 := Scalar.select v22 c1_i32_10 c2_i32
  let v24 : BitVec 32 := Scalar.remsi v21 v23
  let c0_i32_12 : BitVec 32 := 0#32
  let v26 : BitVec 1 := Scalar.cmpi .slt v24 c0_i32_12
  let c0_i32_13 : BitVec 32 := 0#32
  let v27 : BitVec 1 := Scalar.cmpi .slt v23 c0_i32_13
  let v28 : BitVec 1 := Scalar.xori v26 v27
  let c0_i32_11 : BitVec 32 := 0#32
  let v25 : BitVec 1 := Scalar.cmpi .ne v24 c0_i32_11
  let v29 : BitVec 1 := Scalar.andi v28 v25
  let v30 : BitVec 32 := Scalar.addi v24 v23
  let v31 : BitVec 32 := Scalar.select v29 v30 v24
  let v185 : Index := Scalar.indexCast v31
  let c384 : Index := 384#32
  let c0_69 : Index := 0#32
  ![v185.toNat, 384, 0]
def k0_off26 (i : grid0.Coords) : Fin 3 → Nat :=
  let arg0 : BitVec 32 := BitVec.ofNat 32 (i 0).val
  let c1_i32 : BitVec 32 := 1#32
  let v21 : BitVec 32 := Scalar.subi arg0 c1_i32
  let c2_i32 : BitVec 32 := 2#32
  let c0_i32_9 : BitVec 32 := 0#32
  let v22 : BitVec 1 := Scalar.cmpi .eq c2_i32 c0_i32_9
  let c1_i32_10 : BitVec 32 := 1#32
  let v23 : BitVec 32 := Scalar.select v22 c1_i32_10 c2_i32
  let v24 : BitVec 32 := Scalar.remsi v21 v23
  let c0_i32_12 : BitVec 32 := 0#32
  let v26 : BitVec 1 := Scalar.cmpi .slt v24 c0_i32_12
  let c0_i32_13 : BitVec 32 := 0#32
  let v27 : BitVec 1 := Scalar.cmpi .slt v23 c0_i32_13
  let v28 : BitVec 1 := Scalar.xori v26 v27
  let c0_i32_11 : BitVec 32 := 0#32
  let v25 : BitVec 1 := Scalar.cmpi .ne v24 c0_i32_11
  let v29 : BitVec 1 := Scalar.andi v28 v25
  let v30 : BitVec 32 := Scalar.addi v24 v23
  let v31 : BitVec 32 := Scalar.select v29 v30 v24
  let v198 : Index := Scalar.indexCast v31
  let c512 : Index := 512#32
  let c0_75 : Index := 0#32
  ![v198.toNat, 512, 0]
def k0_off27 (i : grid0.Coords) : Fin 3 → Nat :=
  let arg0 : BitVec 32 := BitVec.ofNat 32 (i 0).val
  let c1_i32 : BitVec 32 := 1#32
  let v21 : BitVec 32 := Scalar.subi arg0 c1_i32
  let c2_i32 : BitVec 32 := 2#32
  let c0_i32_9 : BitVec 32 := 0#32
  let v22 : BitVec 1 := Scalar.cmpi .eq c2_i32 c0_i32_9
  let c1_i32_10 : BitVec 32 := 1#32
  let v23 : BitVec 32 := Scalar.select v22 c1_i32_10 c2_i32
  let v24 : BitVec 32 := Scalar.remsi v21 v23
  let c0_i32_12 : BitVec 32 := 0#32
  let v26 : BitVec 1 := Scalar.cmpi .slt v24 c0_i32_12
  let c0_i32_13 : BitVec 32 := 0#32
  let v27 : BitVec 1 := Scalar.cmpi .slt v23 c0_i32_13
  let v28 : BitVec 1 := Scalar.xori v26 v27
  let c0_i32_11 : BitVec 32 := 0#32
  let v25 : BitVec 1 := Scalar.cmpi .ne v24 c0_i32_11
  let v29 : BitVec 1 := Scalar.andi v28 v25
  let v30 : BitVec 32 := Scalar.addi v24 v23
  let v31 : BitVec 32 := Scalar.select v29 v30 v24
  let v211 : Index := Scalar.indexCast v31
  let c640 : Index := 640#32
  let c0_81 : Index := 0#32
  ![v211.toNat, 640, 0]
def k0_off28 (i : grid0.Coords) : Fin 3 → Nat :=
  let arg0 : BitVec 32 := BitVec.ofNat 32 (i 0).val
  let c1_i32 : BitVec 32 := 1#32
  let v21 : BitVec 32 := Scalar.subi arg0 c1_i32
  let c2_i32 : BitVec 32 := 2#32
  let c0_i32_9 : BitVec 32 := 0#32
  let v22 : BitVec 1 := Scalar.cmpi .eq c2_i32 c0_i32_9
  let c1_i32_10 : BitVec 32 := 1#32
  let v23 : BitVec 32 := Scalar.select v22 c1_i32_10 c2_i32
  let v24 : BitVec 32 := Scalar.remsi v21 v23
  let c0_i32_12 : BitVec 32 := 0#32
  let v26 : BitVec 1 := Scalar.cmpi .slt v24 c0_i32_12
  let c0_i32_13 : BitVec 32 := 0#32
  let v27 : BitVec 1 := Scalar.cmpi .slt v23 c0_i32_13
  let v28 : BitVec 1 := Scalar.xori v26 v27
  let c0_i32_11 : BitVec 32 := 0#32
  let v25 : BitVec 1 := Scalar.cmpi .ne v24 c0_i32_11
  let v29 : BitVec 1 := Scalar.andi v28 v25
  let v30 : BitVec 32 := Scalar.addi v24 v23
  let v31 : BitVec 32 := Scalar.select v29 v30 v24
  let v224 : Index := Scalar.indexCast v31
  let c768 : Index := 768#32
  let c0_87 : Index := 0#32
  ![v224.toNat, 768, 0]
def k0_off29 (i : grid0.Coords) : Fin 3 → Nat :=
  let arg0 : BitVec 32 := BitVec.ofNat 32 (i 0).val
  let c1_i32 : BitVec 32 := 1#32
  let v21 : BitVec 32 := Scalar.subi arg0 c1_i32
  let c2_i32 : BitVec 32 := 2#32
  let c0_i32_9 : BitVec 32 := 0#32
  let v22 : BitVec 1 := Scalar.cmpi .eq c2_i32 c0_i32_9
  let c1_i32_10 : BitVec 32 := 1#32
  let v23 : BitVec 32 := Scalar.select v22 c1_i32_10 c2_i32
  let v24 : BitVec 32 := Scalar.remsi v21 v23
  let c0_i32_12 : BitVec 32 := 0#32
  let v26 : BitVec 1 := Scalar.cmpi .slt v24 c0_i32_12
  let c0_i32_13 : BitVec 32 := 0#32
  let v27 : BitVec 1 := Scalar.cmpi .slt v23 c0_i32_13
  let v28 : BitVec 1 := Scalar.xori v26 v27
  let c0_i32_11 : BitVec 32 := 0#32
  let v25 : BitVec 1 := Scalar.cmpi .ne v24 c0_i32_11
  let v29 : BitVec 1 := Scalar.andi v28 v25
  let v30 : BitVec 32 := Scalar.addi v24 v23
  let v31 : BitVec 32 := Scalar.select v29 v30 v24
  let v237 : Index := Scalar.indexCast v31
  let c896 : Index := 896#32
  let c0_93 : Index := 0#32
  ![v237.toNat, 896, 0]
def k0_off30 (i : grid0.Coords) : Fin 3 → Nat :=
  let arg0 : BitVec 32 := BitVec.ofNat 32 (i 0).val
  let c1_i32 : BitVec 32 := 1#32
  let v21 : BitVec 32 := Scalar.subi arg0 c1_i32
  let c2_i32 : BitVec 32 := 2#32
  let c0_i32_9 : BitVec 32 := 0#32
  let v22 : BitVec 1 := Scalar.cmpi .eq c2_i32 c0_i32_9
  let c1_i32_10 : BitVec 32 := 1#32
  let v23 : BitVec 32 := Scalar.select v22 c1_i32_10 c2_i32
  let v24 : BitVec 32 := Scalar.remsi v21 v23
  let c0_i32_12 : BitVec 32 := 0#32
  let v26 : BitVec 1 := Scalar.cmpi .slt v24 c0_i32_12
  let c0_i32_13 : BitVec 32 := 0#32
  let v27 : BitVec 1 := Scalar.cmpi .slt v23 c0_i32_13
  let v28 : BitVec 1 := Scalar.xori v26 v27
  let c0_i32_11 : BitVec 32 := 0#32
  let v25 : BitVec 1 := Scalar.cmpi .ne v24 c0_i32_11
  let v29 : BitVec 1 := Scalar.andi v28 v25
  let v30 : BitVec 32 := Scalar.addi v24 v23
  let v31 : BitVec 32 := Scalar.select v29 v30 v24
  let v250 : Index := Scalar.indexCast v31
  let c1024 : Index := 1024#32
  let c0_99 : Index := 0#32
  ![v250.toNat, 1024, 0]
def k0_off31 (i : grid0.Coords) : Fin 3 → Nat :=
  let arg0 : BitVec 32 := BitVec.ofNat 32 (i 0).val
  let c1_i32 : BitVec 32 := 1#32
  let v21 : BitVec 32 := Scalar.subi arg0 c1_i32
  let c2_i32 : BitVec 32 := 2#32
  let c0_i32_9 : BitVec 32 := 0#32
  let v22 : BitVec 1 := Scalar.cmpi .eq c2_i32 c0_i32_9
  let c1_i32_10 : BitVec 32 := 1#32
  let v23 : BitVec 32 := Scalar.select v22 c1_i32_10 c2_i32
  let v24 : BitVec 32 := Scalar.remsi v21 v23
  let c0_i32_12 : BitVec 32 := 0#32
  let v26 : BitVec 1 := Scalar.cmpi .slt v24 c0_i32_12
  let c0_i32_13 : BitVec 32 := 0#32
  let v27 : BitVec 1 := Scalar.cmpi .slt v23 c0_i32_13
  let v28 : BitVec 1 := Scalar.xori v26 v27
  let c0_i32_11 : BitVec 32 := 0#32
  let v25 : BitVec 1 := Scalar.cmpi .ne v24 c0_i32_11
  let v29 : BitVec 1 := Scalar.andi v28 v25
  let v30 : BitVec 32 := Scalar.addi v24 v23
  let v31 : BitVec 32 := Scalar.select v29 v30 v24
  let v263 : Index := Scalar.indexCast v31
  let c1152 : Index := 1152#32
  let c0_105 : Index := 0#32
  ![v263.toNat, 1152, 0]
def k0_off32 (i : grid0.Coords) : Fin 3 → Nat :=
  let arg0 : BitVec 32 := BitVec.ofNat 32 (i 0).val
  let c1_i32 : BitVec 32 := 1#32
  let v21 : BitVec 32 := Scalar.subi arg0 c1_i32
  let c2_i32 : BitVec 32 := 2#32
  let c0_i32_9 : BitVec 32 := 0#32
  let v22 : BitVec 1 := Scalar.cmpi .eq c2_i32 c0_i32_9
  let c1_i32_10 : BitVec 32 := 1#32
  let v23 : BitVec 32 := Scalar.select v22 c1_i32_10 c2_i32
  let v24 : BitVec 32 := Scalar.remsi v21 v23
  let c0_i32_12 : BitVec 32 := 0#32
  let v26 : BitVec 1 := Scalar.cmpi .slt v24 c0_i32_12
  let c0_i32_13 : BitVec 32 := 0#32
  let v27 : BitVec 1 := Scalar.cmpi .slt v23 c0_i32_13
  let v28 : BitVec 1 := Scalar.xori v26 v27
  let c0_i32_11 : BitVec 32 := 0#32
  let v25 : BitVec 1 := Scalar.cmpi .ne v24 c0_i32_11
  let v29 : BitVec 1 := Scalar.andi v28 v25
  let v30 : BitVec 32 := Scalar.addi v24 v23
  let v31 : BitVec 32 := Scalar.select v29 v30 v24
  let v276 : Index := Scalar.indexCast v31
  let c1280 : Index := 1280#32
  let c0_111 : Index := 0#32
  ![v276.toNat, 1280, 0]
def k0_off33 (i : grid0.Coords) : Fin 3 → Nat :=
  let arg0 : BitVec 32 := BitVec.ofNat 32 (i 0).val
  let c1_i32 : BitVec 32 := 1#32
  let v21 : BitVec 32 := Scalar.subi arg0 c1_i32
  let c2_i32 : BitVec 32 := 2#32
  let c0_i32_9 : BitVec 32 := 0#32
  let v22 : BitVec 1 := Scalar.cmpi .eq c2_i32 c0_i32_9
  let c1_i32_10 : BitVec 32 := 1#32
  let v23 : BitVec 32 := Scalar.select v22 c1_i32_10 c2_i32
  let v24 : BitVec 32 := Scalar.remsi v21 v23
  let c0_i32_12 : BitVec 32 := 0#32
  let v26 : BitVec 1 := Scalar.cmpi .slt v24 c0_i32_12
  let c0_i32_13 : BitVec 32 := 0#32
  let v27 : BitVec 1 := Scalar.cmpi .slt v23 c0_i32_13
  let v28 : BitVec 1 := Scalar.xori v26 v27
  let c0_i32_11 : BitVec 32 := 0#32
  let v25 : BitVec 1 := Scalar.cmpi .ne v24 c0_i32_11
  let v29 : BitVec 1 := Scalar.andi v28 v25
  let v30 : BitVec 32 := Scalar.addi v24 v23
  let v31 : BitVec 32 := Scalar.select v29 v30 v24
  let v289 : Index := Scalar.indexCast v31
  let c1408 : Index := 1408#32
  let c0_117 : Index := 0#32
  ![v289.toNat, 1408, 0]
def k0_off34 (i : grid0.Coords) : Fin 3 → Nat :=
  let arg0 : BitVec 32 := BitVec.ofNat 32 (i 0).val
  let c1_i32 : BitVec 32 := 1#32
  let v21 : BitVec 32 := Scalar.subi arg0 c1_i32
  let c2_i32 : BitVec 32 := 2#32
  let c0_i32_9 : BitVec 32 := 0#32
  let v22 : BitVec 1 := Scalar.cmpi .eq c2_i32 c0_i32_9
  let c1_i32_10 : BitVec 32 := 1#32
  let v23 : BitVec 32 := Scalar.select v22 c1_i32_10 c2_i32
  let v24 : BitVec 32 := Scalar.remsi v21 v23
  let c0_i32_12 : BitVec 32 := 0#32
  let v26 : BitVec 1 := Scalar.cmpi .slt v24 c0_i32_12
  let c0_i32_13 : BitVec 32 := 0#32
  let v27 : BitVec 1 := Scalar.cmpi .slt v23 c0_i32_13
  let v28 : BitVec 1 := Scalar.xori v26 v27
  let c0_i32_11 : BitVec 32 := 0#32
  let v25 : BitVec 1 := Scalar.cmpi .ne v24 c0_i32_11
  let v29 : BitVec 1 := Scalar.andi v28 v25
  let v30 : BitVec 32 := Scalar.addi v24 v23
  let v31 : BitVec 32 := Scalar.select v29 v30 v24
  let v302 : Index := Scalar.indexCast v31
  let c1536 : Index := 1536#32
  let c0_123 : Index := 0#32
  ![v302.toNat, 1536, 0]
def k0_off35 (i : grid0.Coords) : Fin 3 → Nat :=
  let arg0 : BitVec 32 := BitVec.ofNat 32 (i 0).val
  let c1_i32 : BitVec 32 := 1#32
  let v21 : BitVec 32 := Scalar.subi arg0 c1_i32
  let c2_i32 : BitVec 32 := 2#32
  let c0_i32_9 : BitVec 32 := 0#32
  let v22 : BitVec 1 := Scalar.cmpi .eq c2_i32 c0_i32_9
  let c1_i32_10 : BitVec 32 := 1#32
  let v23 : BitVec 32 := Scalar.select v22 c1_i32_10 c2_i32
  let v24 : BitVec 32 := Scalar.remsi v21 v23
  let c0_i32_12 : BitVec 32 := 0#32
  let v26 : BitVec 1 := Scalar.cmpi .slt v24 c0_i32_12
  let c0_i32_13 : BitVec 32 := 0#32
  let v27 : BitVec 1 := Scalar.cmpi .slt v23 c0_i32_13
  let v28 : BitVec 1 := Scalar.xori v26 v27
  let c0_i32_11 : BitVec 32 := 0#32
  let v25 : BitVec 1 := Scalar.cmpi .ne v24 c0_i32_11
  let v29 : BitVec 1 := Scalar.andi v28 v25
  let v30 : BitVec 32 := Scalar.addi v24 v23
  let v31 : BitVec 32 := Scalar.select v29 v30 v24
  let v315 : Index := Scalar.indexCast v31
  let c1664 : Index := 1664#32
  let c0_129 : Index := 0#32
  ![v315.toNat, 1664, 0]
def k0_off36 (i : grid0.Coords) : Fin 3 → Nat :=
  let arg0 : BitVec 32 := BitVec.ofNat 32 (i 0).val
  let c1_i32 : BitVec 32 := 1#32
  let v21 : BitVec 32 := Scalar.subi arg0 c1_i32
  let c2_i32 : BitVec 32 := 2#32
  let c0_i32_9 : BitVec 32 := 0#32
  let v22 : BitVec 1 := Scalar.cmpi .eq c2_i32 c0_i32_9
  let c1_i32_10 : BitVec 32 := 1#32
  let v23 : BitVec 32 := Scalar.select v22 c1_i32_10 c2_i32
  let v24 : BitVec 32 := Scalar.remsi v21 v23
  let c0_i32_12 : BitVec 32 := 0#32
  let v26 : BitVec 1 := Scalar.cmpi .slt v24 c0_i32_12
  let c0_i32_13 : BitVec 32 := 0#32
  let v27 : BitVec 1 := Scalar.cmpi .slt v23 c0_i32_13
  let v28 : BitVec 1 := Scalar.xori v26 v27
  let c0_i32_11 : BitVec 32 := 0#32
  let v25 : BitVec 1 := Scalar.cmpi .ne v24 c0_i32_11
  let v29 : BitVec 1 := Scalar.andi v28 v25
  let v30 : BitVec 32 := Scalar.addi v24 v23
  let v31 : BitVec 32 := Scalar.select v29 v30 v24
  let v328 : Index := Scalar.indexCast v31
  let c1792 : Index := 1792#32
  let c0_135 : Index := 0#32
  ![v328.toNat, 1792, 0]
def k0_off37 (i : grid0.Coords) : Fin 3 → Nat :=
  let arg0 : BitVec 32 := BitVec.ofNat 32 (i 0).val
  let c1_i32 : BitVec 32 := 1#32
  let v21 : BitVec 32 := Scalar.subi arg0 c1_i32
  let c2_i32 : BitVec 32 := 2#32
  let c0_i32_9 : BitVec 32 := 0#32
  let v22 : BitVec 1 := Scalar.cmpi .eq c2_i32 c0_i32_9
  let c1_i32_10 : BitVec 32 := 1#32
  let v23 : BitVec 32 := Scalar.select v22 c1_i32_10 c2_i32
  let v24 : BitVec 32 := Scalar.remsi v21 v23
  let c0_i32_12 : BitVec 32 := 0#32
  let v26 : BitVec 1 := Scalar.cmpi .slt v24 c0_i32_12
  let c0_i32_13 : BitVec 32 := 0#32
  let v27 : BitVec 1 := Scalar.cmpi .slt v23 c0_i32_13
  let v28 : BitVec 1 := Scalar.xori v26 v27
  let c0_i32_11 : BitVec 32 := 0#32
  let v25 : BitVec 1 := Scalar.cmpi .ne v24 c0_i32_11
  let v29 : BitVec 1 := Scalar.andi v28 v25
  let v30 : BitVec 32 := Scalar.addi v24 v23
  let v31 : BitVec 32 := Scalar.select v29 v30 v24
  let v341 : Index := Scalar.indexCast v31
  let c1920 : Index := 1920#32
  let c0_141 : Index := 0#32
  ![v341.toNat, 1920, 0]
def k0_off38 (i : grid0.Coords) : Fin 3 → Nat :=
  let arg0 : BitVec 32 := BitVec.ofNat 32 (i 0).val
  let c1_i32 : BitVec 32 := 1#32
  let v21 : BitVec 32 := Scalar.subi arg0 c1_i32
  let c2_i32 : BitVec 32 := 2#32
  let c0_i32_9 : BitVec 32 := 0#32
  let v22 : BitVec 1 := Scalar.cmpi .eq c2_i32 c0_i32_9
  let c1_i32_10 : BitVec 32 := 1#32
  let v23 : BitVec 32 := Scalar.select v22 c1_i32_10 c2_i32
  let v24 : BitVec 32 := Scalar.remsi v21 v23
  let c0_i32_12 : BitVec 32 := 0#32
  let v26 : BitVec 1 := Scalar.cmpi .slt v24 c0_i32_12
  let c0_i32_13 : BitVec 32 := 0#32
  let v27 : BitVec 1 := Scalar.cmpi .slt v23 c0_i32_13
  let v28 : BitVec 1 := Scalar.xori v26 v27
  let c0_i32_11 : BitVec 32 := 0#32
  let v25 : BitVec 1 := Scalar.cmpi .ne v24 c0_i32_11
  let v29 : BitVec 1 := Scalar.andi v28 v25
  let v30 : BitVec 32 := Scalar.addi v24 v23
  let v31 : BitVec 32 := Scalar.select v29 v30 v24
  let v367 : Index := Scalar.indexCast v31
  let c0_154 : Index := 0#32
  let c128_155 : Index := 128#32
  ![v367.toNat, 0, 128]
def k0_off39 (i : grid0.Coords) : Fin 3 → Nat :=
  let arg0 : BitVec 32 := BitVec.ofNat 32 (i 0).val
  let c1_i32 : BitVec 32 := 1#32
  let v21 : BitVec 32 := Scalar.subi arg0 c1_i32
  let c2_i32 : BitVec 32 := 2#32
  let c0_i32_9 : BitVec 32 := 0#32
  let v22 : BitVec 1 := Scalar.cmpi .eq c2_i32 c0_i32_9
  let c1_i32_10 : BitVec 32 := 1#32
  let v23 : BitVec 32 := Scalar.select v22 c1_i32_10 c2_i32
  let v24 : BitVec 32 := Scalar.remsi v21 v23
  let c0_i32_12 : BitVec 32 := 0#32
  let v26 : BitVec 1 := Scalar.cmpi .slt v24 c0_i32_12
  let c0_i32_13 : BitVec 32 := 0#32
  let v27 : BitVec 1 := Scalar.cmpi .slt v23 c0_i32_13
  let v28 : BitVec 1 := Scalar.xori v26 v27
  let c0_i32_11 : BitVec 32 := 0#32
  let v25 : BitVec 1 := Scalar.cmpi .ne v24 c0_i32_11
  let v29 : BitVec 1 := Scalar.andi v28 v25
  let v30 : BitVec 32 := Scalar.addi v24 v23
  let v31 : BitVec 32 := Scalar.select v29 v30 v24
  let v380 : Index := Scalar.indexCast v31
  let c128_161 : Index := 128#32
  let c128_162 : Index := 128#32
  ![v380.toNat, 128, 128]
def k0_off40 (i : grid0.Coords) : Fin 3 → Nat :=
  let arg0 : BitVec 32 := BitVec.ofNat 32 (i 0).val
  let c1_i32 : BitVec 32 := 1#32
  let v21 : BitVec 32 := Scalar.subi arg0 c1_i32
  let c2_i32 : BitVec 32 := 2#32
  let c0_i32_9 : BitVec 32 := 0#32
  let v22 : BitVec 1 := Scalar.cmpi .eq c2_i32 c0_i32_9
  let c1_i32_10 : BitVec 32 := 1#32
  let v23 : BitVec 32 := Scalar.select v22 c1_i32_10 c2_i32
  let v24 : BitVec 32 := Scalar.remsi v21 v23
  let c0_i32_12 : BitVec 32 := 0#32
  let v26 : BitVec 1 := Scalar.cmpi .slt v24 c0_i32_12
  let c0_i32_13 : BitVec 32 := 0#32
  let v27 : BitVec 1 := Scalar.cmpi .slt v23 c0_i32_13
  let v28 : BitVec 1 := Scalar.xori v26 v27
  let c0_i32_11 : BitVec 32 := 0#32
  let v25 : BitVec 1 := Scalar.cmpi .ne v24 c0_i32_11
  let v29 : BitVec 1 := Scalar.andi v28 v25
  let v30 : BitVec 32 := Scalar.addi v24 v23
  let v31 : BitVec 32 := Scalar.select v29 v30 v24
  let v393 : Index := Scalar.indexCast v31
  let c256_168 : Index := 256#32
  let c128_169 : Index := 128#32
  ![v393.toNat, 256, 128]
def k0_off41 (i : grid0.Coords) : Fin 3 → Nat :=
  let arg0 : BitVec 32 := BitVec.ofNat 32 (i 0).val
  let c1_i32 : BitVec 32 := 1#32
  let v21 : BitVec 32 := Scalar.subi arg0 c1_i32
  let c2_i32 : BitVec 32 := 2#32
  let c0_i32_9 : BitVec 32 := 0#32
  let v22 : BitVec 1 := Scalar.cmpi .eq c2_i32 c0_i32_9
  let c1_i32_10 : BitVec 32 := 1#32
  let v23 : BitVec 32 := Scalar.select v22 c1_i32_10 c2_i32
  let v24 : BitVec 32 := Scalar.remsi v21 v23
  let c0_i32_12 : BitVec 32 := 0#32
  let v26 : BitVec 1 := Scalar.cmpi .slt v24 c0_i32_12
  let c0_i32_13 : BitVec 32 := 0#32
  let v27 : BitVec 1 := Scalar.cmpi .slt v23 c0_i32_13
  let v28 : BitVec 1 := Scalar.xori v26 v27
  let c0_i32_11 : BitVec 32 := 0#32
  let v25 : BitVec 1 := Scalar.cmpi .ne v24 c0_i32_11
  let v29 : BitVec 1 := Scalar.andi v28 v25
  let v30 : BitVec 32 := Scalar.addi v24 v23
  let v31 : BitVec 32 := Scalar.select v29 v30 v24
  let v406 : Index := Scalar.indexCast v31
  let c384_175 : Index := 384#32
  let c128_176 : Index := 128#32
  ![v406.toNat, 384, 128]
def k0_off42 (i : grid0.Coords) : Fin 3 → Nat :=
  let arg0 : BitVec 32 := BitVec.ofNat 32 (i 0).val
  let c1_i32 : BitVec 32 := 1#32
  let v21 : BitVec 32 := Scalar.subi arg0 c1_i32
  let c2_i32 : BitVec 32 := 2#32
  let c0_i32_9 : BitVec 32 := 0#32
  let v22 : BitVec 1 := Scalar.cmpi .eq c2_i32 c0_i32_9
  let c1_i32_10 : BitVec 32 := 1#32
  let v23 : BitVec 32 := Scalar.select v22 c1_i32_10 c2_i32
  let v24 : BitVec 32 := Scalar.remsi v21 v23
  let c0_i32_12 : BitVec 32 := 0#32
  let v26 : BitVec 1 := Scalar.cmpi .slt v24 c0_i32_12
  let c0_i32_13 : BitVec 32 := 0#32
  let v27 : BitVec 1 := Scalar.cmpi .slt v23 c0_i32_13
  let v28 : BitVec 1 := Scalar.xori v26 v27
  let c0_i32_11 : BitVec 32 := 0#32
  let v25 : BitVec 1 := Scalar.cmpi .ne v24 c0_i32_11
  let v29 : BitVec 1 := Scalar.andi v28 v25
  let v30 : BitVec 32 := Scalar.addi v24 v23
  let v31 : BitVec 32 := Scalar.select v29 v30 v24
  let v419 : Index := Scalar.indexCast v31
  let c512_182 : Index := 512#32
  let c128_183 : Index := 128#32
  ![v419.toNat, 512, 128]
def k0_off43 (i : grid0.Coords) : Fin 3 → Nat :=
  let arg0 : BitVec 32 := BitVec.ofNat 32 (i 0).val
  let c1_i32 : BitVec 32 := 1#32
  let v21 : BitVec 32 := Scalar.subi arg0 c1_i32
  let c2_i32 : BitVec 32 := 2#32
  let c0_i32_9 : BitVec 32 := 0#32
  let v22 : BitVec 1 := Scalar.cmpi .eq c2_i32 c0_i32_9
  let c1_i32_10 : BitVec 32 := 1#32
  let v23 : BitVec 32 := Scalar.select v22 c1_i32_10 c2_i32
  let v24 : BitVec 32 := Scalar.remsi v21 v23
  let c0_i32_12 : BitVec 32 := 0#32
  let v26 : BitVec 1 := Scalar.cmpi .slt v24 c0_i32_12
  let c0_i32_13 : BitVec 32 := 0#32
  let v27 : BitVec 1 := Scalar.cmpi .slt v23 c0_i32_13
  let v28 : BitVec 1 := Scalar.xori v26 v27
  let c0_i32_11 : BitVec 32 := 0#32
  let v25 : BitVec 1 := Scalar.cmpi .ne v24 c0_i32_11
  let v29 : BitVec 1 := Scalar.andi v28 v25
  let v30 : BitVec 32 := Scalar.addi v24 v23
  let v31 : BitVec 32 := Scalar.select v29 v30 v24
  let v432 : Index := Scalar.indexCast v31
  let c640_189 : Index := 640#32
  let c128_190 : Index := 128#32
  ![v432.toNat, 640, 128]
def k0_off44 (i : grid0.Coords) : Fin 3 → Nat :=
  let arg0 : BitVec 32 := BitVec.ofNat 32 (i 0).val
  let c1_i32 : BitVec 32 := 1#32
  let v21 : BitVec 32 := Scalar.subi arg0 c1_i32
  let c2_i32 : BitVec 32 := 2#32
  let c0_i32_9 : BitVec 32 := 0#32
  let v22 : BitVec 1 := Scalar.cmpi .eq c2_i32 c0_i32_9
  let c1_i32_10 : BitVec 32 := 1#32
  let v23 : BitVec 32 := Scalar.select v22 c1_i32_10 c2_i32
  let v24 : BitVec 32 := Scalar.remsi v21 v23
  let c0_i32_12 : BitVec 32 := 0#32
  let v26 : BitVec 1 := Scalar.cmpi .slt v24 c0_i32_12
  let c0_i32_13 : BitVec 32 := 0#32
  let v27 : BitVec 1 := Scalar.cmpi .slt v23 c0_i32_13
  let v28 : BitVec 1 := Scalar.xori v26 v27
  let c0_i32_11 : BitVec 32 := 0#32
  let v25 : BitVec 1 := Scalar.cmpi .ne v24 c0_i32_11
  let v29 : BitVec 1 := Scalar.andi v28 v25
  let v30 : BitVec 32 := Scalar.addi v24 v23
  let v31 : BitVec 32 := Scalar.select v29 v30 v24
  let v445 : Index := Scalar.indexCast v31
  let c768_196 : Index := 768#32
  let c128_197 : Index := 128#32
  ![v445.toNat, 768, 128]
def k0_off45 (i : grid0.Coords) : Fin 3 → Nat :=
  let arg0 : BitVec 32 := BitVec.ofNat 32 (i 0).val
  let c1_i32 : BitVec 32 := 1#32
  let v21 : BitVec 32 := Scalar.subi arg0 c1_i32
  let c2_i32 : BitVec 32 := 2#32
  let c0_i32_9 : BitVec 32 := 0#32
  let v22 : BitVec 1 := Scalar.cmpi .eq c2_i32 c0_i32_9
  let c1_i32_10 : BitVec 32 := 1#32
  let v23 : BitVec 32 := Scalar.select v22 c1_i32_10 c2_i32
  let v24 : BitVec 32 := Scalar.remsi v21 v23
  let c0_i32_12 : BitVec 32 := 0#32
  let v26 : BitVec 1 := Scalar.cmpi .slt v24 c0_i32_12
  let c0_i32_13 : BitVec 32 := 0#32
  let v27 : BitVec 1 := Scalar.cmpi .slt v23 c0_i32_13
  let v28 : BitVec 1 := Scalar.xori v26 v27
  let c0_i32_11 : BitVec 32 := 0#32
  let v25 : BitVec 1 := Scalar.cmpi .ne v24 c0_i32_11
  let v29 : BitVec 1 := Scalar.andi v28 v25
  let v30 : BitVec 32 := Scalar.addi v24 v23
  let v31 : BitVec 32 := Scalar.select v29 v30 v24
  let v458 : Index := Scalar.indexCast v31
  let c896_203 : Index := 896#32
  let c128_204 : Index := 128#32
  ![v458.toNat, 896, 128]
def k0_off46 (i : grid0.Coords) : Fin 3 → Nat :=
  let arg0 : BitVec 32 := BitVec.ofNat 32 (i 0).val
  let c1_i32 : BitVec 32 := 1#32
  let v21 : BitVec 32 := Scalar.subi arg0 c1_i32
  let c2_i32 : BitVec 32 := 2#32
  let c0_i32_9 : BitVec 32 := 0#32
  let v22 : BitVec 1 := Scalar.cmpi .eq c2_i32 c0_i32_9
  let c1_i32_10 : BitVec 32 := 1#32
  let v23 : BitVec 32 := Scalar.select v22 c1_i32_10 c2_i32
  let v24 : BitVec 32 := Scalar.remsi v21 v23
  let c0_i32_12 : BitVec 32 := 0#32
  let v26 : BitVec 1 := Scalar.cmpi .slt v24 c0_i32_12
  let c0_i32_13 : BitVec 32 := 0#32
  let v27 : BitVec 1 := Scalar.cmpi .slt v23 c0_i32_13
  let v28 : BitVec 1 := Scalar.xori v26 v27
  let c0_i32_11 : BitVec 32 := 0#32
  let v25 : BitVec 1 := Scalar.cmpi .ne v24 c0_i32_11
  let v29 : BitVec 1 := Scalar.andi v28 v25
  let v30 : BitVec 32 := Scalar.addi v24 v23
  let v31 : BitVec 32 := Scalar.select v29 v30 v24
  let v471 : Index := Scalar.indexCast v31
  let c1024_210 : Index := 1024#32
  let c128_211 : Index := 128#32
  ![v471.toNat, 1024, 128]
def k0_off47 (i : grid0.Coords) : Fin 3 → Nat :=
  let arg0 : BitVec 32 := BitVec.ofNat 32 (i 0).val
  let c1_i32 : BitVec 32 := 1#32
  let v21 : BitVec 32 := Scalar.subi arg0 c1_i32
  let c2_i32 : BitVec 32 := 2#32
  let c0_i32_9 : BitVec 32 := 0#32
  let v22 : BitVec 1 := Scalar.cmpi .eq c2_i32 c0_i32_9
  let c1_i32_10 : BitVec 32 := 1#32
  let v23 : BitVec 32 := Scalar.select v22 c1_i32_10 c2_i32
  let v24 : BitVec 32 := Scalar.remsi v21 v23
  let c0_i32_12 : BitVec 32 := 0#32
  let v26 : BitVec 1 := Scalar.cmpi .slt v24 c0_i32_12
  let c0_i32_13 : BitVec 32 := 0#32
  let v27 : BitVec 1 := Scalar.cmpi .slt v23 c0_i32_13
  let v28 : BitVec 1 := Scalar.xori v26 v27
  let c0_i32_11 : BitVec 32 := 0#32
  let v25 : BitVec 1 := Scalar.cmpi .ne v24 c0_i32_11
  let v29 : BitVec 1 := Scalar.andi v28 v25
  let v30 : BitVec 32 := Scalar.addi v24 v23
  let v31 : BitVec 32 := Scalar.select v29 v30 v24
  let v484 : Index := Scalar.indexCast v31
  let c1152_217 : Index := 1152#32
  let c128_218 : Index := 128#32
  ![v484.toNat, 1152, 128]
def k0_off48 (i : grid0.Coords) : Fin 3 → Nat :=
  let arg0 : BitVec 32 := BitVec.ofNat 32 (i 0).val
  let c1_i32 : BitVec 32 := 1#32
  let v21 : BitVec 32 := Scalar.subi arg0 c1_i32
  let c2_i32 : BitVec 32 := 2#32
  let c0_i32_9 : BitVec 32 := 0#32
  let v22 : BitVec 1 := Scalar.cmpi .eq c2_i32 c0_i32_9
  let c1_i32_10 : BitVec 32 := 1#32
  let v23 : BitVec 32 := Scalar.select v22 c1_i32_10 c2_i32
  let v24 : BitVec 32 := Scalar.remsi v21 v23
  let c0_i32_12 : BitVec 32 := 0#32
  let v26 : BitVec 1 := Scalar.cmpi .slt v24 c0_i32_12
  let c0_i32_13 : BitVec 32 := 0#32
  let v27 : BitVec 1 := Scalar.cmpi .slt v23 c0_i32_13
  let v28 : BitVec 1 := Scalar.xori v26 v27
  let c0_i32_11 : BitVec 32 := 0#32
  let v25 : BitVec 1 := Scalar.cmpi .ne v24 c0_i32_11
  let v29 : BitVec 1 := Scalar.andi v28 v25
  let v30 : BitVec 32 := Scalar.addi v24 v23
  let v31 : BitVec 32 := Scalar.select v29 v30 v24
  let v497 : Index := Scalar.indexCast v31
  let c1280_224 : Index := 1280#32
  let c128_225 : Index := 128#32
  ![v497.toNat, 1280, 128]
def k0_off49 (i : grid0.Coords) : Fin 3 → Nat :=
  let arg0 : BitVec 32 := BitVec.ofNat 32 (i 0).val
  let c1_i32 : BitVec 32 := 1#32
  let v21 : BitVec 32 := Scalar.subi arg0 c1_i32
  let c2_i32 : BitVec 32 := 2#32
  let c0_i32_9 : BitVec 32 := 0#32
  let v22 : BitVec 1 := Scalar.cmpi .eq c2_i32 c0_i32_9
  let c1_i32_10 : BitVec 32 := 1#32
  let v23 : BitVec 32 := Scalar.select v22 c1_i32_10 c2_i32
  let v24 : BitVec 32 := Scalar.remsi v21 v23
  let c0_i32_12 : BitVec 32 := 0#32
  let v26 : BitVec 1 := Scalar.cmpi .slt v24 c0_i32_12
  let c0_i32_13 : BitVec 32 := 0#32
  let v27 : BitVec 1 := Scalar.cmpi .slt v23 c0_i32_13
  let v28 : BitVec 1 := Scalar.xori v26 v27
  let c0_i32_11 : BitVec 32 := 0#32
  let v25 : BitVec 1 := Scalar.cmpi .ne v24 c0_i32_11
  let v29 : BitVec 1 := Scalar.andi v28 v25
  let v30 : BitVec 32 := Scalar.addi v24 v23
  let v31 : BitVec 32 := Scalar.select v29 v30 v24
  let v510 : Index := Scalar.indexCast v31
  let c1408_231 : Index := 1408#32
  let c128_232 : Index := 128#32
  ![v510.toNat, 1408, 128]
def k0_off50 (i : grid0.Coords) : Fin 3 → Nat :=
  let arg0 : BitVec 32 := BitVec.ofNat 32 (i 0).val
  let c1_i32 : BitVec 32 := 1#32
  let v21 : BitVec 32 := Scalar.subi arg0 c1_i32
  let c2_i32 : BitVec 32 := 2#32
  let c0_i32_9 : BitVec 32 := 0#32
  let v22 : BitVec 1 := Scalar.cmpi .eq c2_i32 c0_i32_9
  let c1_i32_10 : BitVec 32 := 1#32
  let v23 : BitVec 32 := Scalar.select v22 c1_i32_10 c2_i32
  let v24 : BitVec 32 := Scalar.remsi v21 v23
  let c0_i32_12 : BitVec 32 := 0#32
  let v26 : BitVec 1 := Scalar.cmpi .slt v24 c0_i32_12
  let c0_i32_13 : BitVec 32 := 0#32
  let v27 : BitVec 1 := Scalar.cmpi .slt v23 c0_i32_13
  let v28 : BitVec 1 := Scalar.xori v26 v27
  let c0_i32_11 : BitVec 32 := 0#32
  let v25 : BitVec 1 := Scalar.cmpi .ne v24 c0_i32_11
  let v29 : BitVec 1 := Scalar.andi v28 v25
  let v30 : BitVec 32 := Scalar.addi v24 v23
  let v31 : BitVec 32 := Scalar.select v29 v30 v24
  let v523 : Index := Scalar.indexCast v31
  let c1536_238 : Index := 1536#32
  let c128_239 : Index := 128#32
  ![v523.toNat, 1536, 128]
def k0_off51 (i : grid0.Coords) : Fin 3 → Nat :=
  let arg0 : BitVec 32 := BitVec.ofNat 32 (i 0).val
  let c1_i32 : BitVec 32 := 1#32
  let v21 : BitVec 32 := Scalar.subi arg0 c1_i32
  let c2_i32 : BitVec 32 := 2#32
  let c0_i32_9 : BitVec 32 := 0#32
  let v22 : BitVec 1 := Scalar.cmpi .eq c2_i32 c0_i32_9
  let c1_i32_10 : BitVec 32 := 1#32
  let v23 : BitVec 32 := Scalar.select v22 c1_i32_10 c2_i32
  let v24 : BitVec 32 := Scalar.remsi v21 v23
  let c0_i32_12 : BitVec 32 := 0#32
  let v26 : BitVec 1 := Scalar.cmpi .slt v24 c0_i32_12
  let c0_i32_13 : BitVec 32 := 0#32
  let v27 : BitVec 1 := Scalar.cmpi .slt v23 c0_i32_13
  let v28 : BitVec 1 := Scalar.xori v26 v27
  let c0_i32_11 : BitVec 32 := 0#32
  let v25 : BitVec 1 := Scalar.cmpi .ne v24 c0_i32_11
  let v29 : BitVec 1 := Scalar.andi v28 v25
  let v30 : BitVec 32 := Scalar.addi v24 v23
  let v31 : BitVec 32 := Scalar.select v29 v30 v24
  let v536 : Index := Scalar.indexCast v31
  let c1664_245 : Index := 1664#32
  let c128_246 : Index := 128#32
  ![v536.toNat, 1664, 128]
def k0_off52 (i : grid0.Coords) : Fin 3 → Nat :=
  let arg0 : BitVec 32 := BitVec.ofNat 32 (i 0).val
  let c1_i32 : BitVec 32 := 1#32
  let v21 : BitVec 32 := Scalar.subi arg0 c1_i32
  let c2_i32 : BitVec 32 := 2#32
  let c0_i32_9 : BitVec 32 := 0#32
  let v22 : BitVec 1 := Scalar.cmpi .eq c2_i32 c0_i32_9
  let c1_i32_10 : BitVec 32 := 1#32
  let v23 : BitVec 32 := Scalar.select v22 c1_i32_10 c2_i32
  let v24 : BitVec 32 := Scalar.remsi v21 v23
  let c0_i32_12 : BitVec 32 := 0#32
  let v26 : BitVec 1 := Scalar.cmpi .slt v24 c0_i32_12
  let c0_i32_13 : BitVec 32 := 0#32
  let v27 : BitVec 1 := Scalar.cmpi .slt v23 c0_i32_13
  let v28 : BitVec 1 := Scalar.xori v26 v27
  let c0_i32_11 : BitVec 32 := 0#32
  let v25 : BitVec 1 := Scalar.cmpi .ne v24 c0_i32_11
  let v29 : BitVec 1 := Scalar.andi v28 v25
  let v30 : BitVec 32 := Scalar.addi v24 v23
  let v31 : BitVec 32 := Scalar.select v29 v30 v24
  let v549 : Index := Scalar.indexCast v31
  let c1792_252 : Index := 1792#32
  let c128_253 : Index := 128#32
  ![v549.toNat, 1792, 128]
def k0_off53 (i : grid0.Coords) : Fin 3 → Nat :=
  let arg0 : BitVec 32 := BitVec.ofNat 32 (i 0).val
  let c1_i32 : BitVec 32 := 1#32
  let v21 : BitVec 32 := Scalar.subi arg0 c1_i32
  let c2_i32 : BitVec 32 := 2#32
  let c0_i32_9 : BitVec 32 := 0#32
  let v22 : BitVec 1 := Scalar.cmpi .eq c2_i32 c0_i32_9
  let c1_i32_10 : BitVec 32 := 1#32
  let v23 : BitVec 32 := Scalar.select v22 c1_i32_10 c2_i32
  let v24 : BitVec 32 := Scalar.remsi v21 v23
  let c0_i32_12 : BitVec 32 := 0#32
  let v26 : BitVec 1 := Scalar.cmpi .slt v24 c0_i32_12
  let c0_i32_13 : BitVec 32 := 0#32
  let v27 : BitVec 1 := Scalar.cmpi .slt v23 c0_i32_13
  let v28 : BitVec 1 := Scalar.xori v26 v27
  let c0_i32_11 : BitVec 32 := 0#32
  let v25 : BitVec 1 := Scalar.cmpi .ne v24 c0_i32_11
  let v29 : BitVec 1 := Scalar.andi v28 v25
  let v30 : BitVec 32 := Scalar.addi v24 v23
  let v31 : BitVec 32 := Scalar.select v29 v30 v24
  let v562 : Index := Scalar.indexCast v31
  let c1920_259 : Index := 1920#32
  let c128_260 : Index := 128#32
  ![v562.toNat, 1920, 128]
def k0_off54 (i : grid0.Coords) : Fin 3 → Nat :=
  let arg0 : BitVec 32 := BitVec.ofNat 32 (i 0).val
  let c1_i32 : BitVec 32 := 1#32
  let v21 : BitVec 32 := Scalar.subi arg0 c1_i32
  let c2_i32 : BitVec 32 := 2#32
  let c0_i32_9 : BitVec 32 := 0#32
  let v22 : BitVec 1 := Scalar.cmpi .eq c2_i32 c0_i32_9
  let c1_i32_10 : BitVec 32 := 1#32
  let v23 : BitVec 32 := Scalar.select v22 c1_i32_10 c2_i32
  let v24 : BitVec 32 := Scalar.remsi v21 v23
  let c0_i32_12 : BitVec 32 := 0#32
  let v26 : BitVec 1 := Scalar.cmpi .slt v24 c0_i32_12
  let c0_i32_13 : BitVec 32 := 0#32
  let v27 : BitVec 1 := Scalar.cmpi .slt v23 c0_i32_13
  let v28 : BitVec 1 := Scalar.xori v26 v27
  let c0_i32_11 : BitVec 32 := 0#32
  let v25 : BitVec 1 := Scalar.cmpi .ne v24 c0_i32_11
  let v29 : BitVec 1 := Scalar.andi v28 v25
  let v30 : BitVec 32 := Scalar.addi v24 v23
  let v31 : BitVec 32 := Scalar.select v29 v30 v24
  let v588 : Index := Scalar.indexCast v31
  let c0_272 : Index := 0#32
  let c256_273 : Index := 256#32
  ![v588.toNat, 0, 256]
def k0_off55 (i : grid0.Coords) : Fin 3 → Nat :=
  let arg0 : BitVec 32 := BitVec.ofNat 32 (i 0).val
  let c1_i32 : BitVec 32 := 1#32
  let v21 : BitVec 32 := Scalar.subi arg0 c1_i32
  let c2_i32 : BitVec 32 := 2#32
  let c0_i32_9 : BitVec 32 := 0#32
  let v22 : BitVec 1 := Scalar.cmpi .eq c2_i32 c0_i32_9
  let c1_i32_10 : BitVec 32 := 1#32
  let v23 : BitVec 32 := Scalar.select v22 c1_i32_10 c2_i32
  let v24 : BitVec 32 := Scalar.remsi v21 v23
  let c0_i32_12 : BitVec 32 := 0#32
  let v26 : BitVec 1 := Scalar.cmpi .slt v24 c0_i32_12
  let c0_i32_13 : BitVec 32 := 0#32
  let v27 : BitVec 1 := Scalar.cmpi .slt v23 c0_i32_13
  let v28 : BitVec 1 := Scalar.xori v26 v27
  let c0_i32_11 : BitVec 32 := 0#32
  let v25 : BitVec 1 := Scalar.cmpi .ne v24 c0_i32_11
  let v29 : BitVec 1 := Scalar.andi v28 v25
  let v30 : BitVec 32 := Scalar.addi v24 v23
  let v31 : BitVec 32 := Scalar.select v29 v30 v24
  let v601 : Index := Scalar.indexCast v31
  let c128_279 : Index := 128#32
  let c256_280 : Index := 256#32
  ![v601.toNat, 128, 256]
def k0_off56 (i : grid0.Coords) : Fin 3 → Nat :=
  let arg0 : BitVec 32 := BitVec.ofNat 32 (i 0).val
  let c1_i32 : BitVec 32 := 1#32
  let v21 : BitVec 32 := Scalar.subi arg0 c1_i32
  let c2_i32 : BitVec 32 := 2#32
  let c0_i32_9 : BitVec 32 := 0#32
  let v22 : BitVec 1 := Scalar.cmpi .eq c2_i32 c0_i32_9
  let c1_i32_10 : BitVec 32 := 1#32
  let v23 : BitVec 32 := Scalar.select v22 c1_i32_10 c2_i32
  let v24 : BitVec 32 := Scalar.remsi v21 v23
  let c0_i32_12 : BitVec 32 := 0#32
  let v26 : BitVec 1 := Scalar.cmpi .slt v24 c0_i32_12
  let c0_i32_13 : BitVec 32 := 0#32
  let v27 : BitVec 1 := Scalar.cmpi .slt v23 c0_i32_13
  let v28 : BitVec 1 := Scalar.xori v26 v27
  let c0_i32_11 : BitVec 32 := 0#32
  let v25 : BitVec 1 := Scalar.cmpi .ne v24 c0_i32_11
  let v29 : BitVec 1 := Scalar.andi v28 v25
  let v30 : BitVec 32 := Scalar.addi v24 v23
  let v31 : BitVec 32 := Scalar.select v29 v30 v24
  let v614 : Index := Scalar.indexCast v31
  let c256_286 : Index := 256#32
  let c256_287 : Index := 256#32
  ![v614.toNat, 256, 256]
def k0_off57 (i : grid0.Coords) : Fin 3 → Nat :=
  let arg0 : BitVec 32 := BitVec.ofNat 32 (i 0).val
  let c1_i32 : BitVec 32 := 1#32
  let v21 : BitVec 32 := Scalar.subi arg0 c1_i32
  let c2_i32 : BitVec 32 := 2#32
  let c0_i32_9 : BitVec 32 := 0#32
  let v22 : BitVec 1 := Scalar.cmpi .eq c2_i32 c0_i32_9
  let c1_i32_10 : BitVec 32 := 1#32
  let v23 : BitVec 32 := Scalar.select v22 c1_i32_10 c2_i32
  let v24 : BitVec 32 := Scalar.remsi v21 v23
  let c0_i32_12 : BitVec 32 := 0#32
  let v26 : BitVec 1 := Scalar.cmpi .slt v24 c0_i32_12
  let c0_i32_13 : BitVec 32 := 0#32
  let v27 : BitVec 1 := Scalar.cmpi .slt v23 c0_i32_13
  let v28 : BitVec 1 := Scalar.xori v26 v27
  let c0_i32_11 : BitVec 32 := 0#32
  let v25 : BitVec 1 := Scalar.cmpi .ne v24 c0_i32_11
  let v29 : BitVec 1 := Scalar.andi v28 v25
  let v30 : BitVec 32 := Scalar.addi v24 v23
  let v31 : BitVec 32 := Scalar.select v29 v30 v24
  let v627 : Index := Scalar.indexCast v31
  let c384_293 : Index := 384#32
  let c256_294 : Index := 256#32
  ![v627.toNat, 384, 256]
def k0_off58 (i : grid0.Coords) : Fin 3 → Nat :=
  let arg0 : BitVec 32 := BitVec.ofNat 32 (i 0).val
  let c1_i32 : BitVec 32 := 1#32
  let v21 : BitVec 32 := Scalar.subi arg0 c1_i32
  let c2_i32 : BitVec 32 := 2#32
  let c0_i32_9 : BitVec 32 := 0#32
  let v22 : BitVec 1 := Scalar.cmpi .eq c2_i32 c0_i32_9
  let c1_i32_10 : BitVec 32 := 1#32
  let v23 : BitVec 32 := Scalar.select v22 c1_i32_10 c2_i32
  let v24 : BitVec 32 := Scalar.remsi v21 v23
  let c0_i32_12 : BitVec 32 := 0#32
  let v26 : BitVec 1 := Scalar.cmpi .slt v24 c0_i32_12
  let c0_i32_13 : BitVec 32 := 0#32
  let v27 : BitVec 1 := Scalar.cmpi .slt v23 c0_i32_13
  let v28 : BitVec 1 := Scalar.xori v26 v27
  let c0_i32_11 : BitVec 32 := 0#32
  let v25 : BitVec 1 := Scalar.cmpi .ne v24 c0_i32_11
  let v29 : BitVec 1 := Scalar.andi v28 v25
  let v30 : BitVec 32 := Scalar.addi v24 v23
  let v31 : BitVec 32 := Scalar.select v29 v30 v24
  let v640 : Index := Scalar.indexCast v31
  let c512_300 : Index := 512#32
  let c256_301 : Index := 256#32
  ![v640.toNat, 512, 256]
def k0_off59 (i : grid0.Coords) : Fin 3 → Nat :=
  let arg0 : BitVec 32 := BitVec.ofNat 32 (i 0).val
  let c1_i32 : BitVec 32 := 1#32
  let v21 : BitVec 32 := Scalar.subi arg0 c1_i32
  let c2_i32 : BitVec 32 := 2#32
  let c0_i32_9 : BitVec 32 := 0#32
  let v22 : BitVec 1 := Scalar.cmpi .eq c2_i32 c0_i32_9
  let c1_i32_10 : BitVec 32 := 1#32
  let v23 : BitVec 32 := Scalar.select v22 c1_i32_10 c2_i32
  let v24 : BitVec 32 := Scalar.remsi v21 v23
  let c0_i32_12 : BitVec 32 := 0#32
  let v26 : BitVec 1 := Scalar.cmpi .slt v24 c0_i32_12
  let c0_i32_13 : BitVec 32 := 0#32
  let v27 : BitVec 1 := Scalar.cmpi .slt v23 c0_i32_13
  let v28 : BitVec 1 := Scalar.xori v26 v27
  let c0_i32_11 : BitVec 32 := 0#32
  let v25 : BitVec 1 := Scalar.cmpi .ne v24 c0_i32_11
  let v29 : BitVec 1 := Scalar.andi v28 v25
  let v30 : BitVec 32 := Scalar.addi v24 v23
  let v31 : BitVec 32 := Scalar.select v29 v30 v24
  let v653 : Index := Scalar.indexCast v31
  let c640_307 : Index := 640#32
  let c256_308 : Index := 256#32
  ![v653.toNat, 640, 256]
def k0_off60 (i : grid0.Coords) : Fin 3 → Nat :=
  let arg0 : BitVec 32 := BitVec.ofNat 32 (i 0).val
  let c1_i32 : BitVec 32 := 1#32
  let v21 : BitVec 32 := Scalar.subi arg0 c1_i32
  let c2_i32 : BitVec 32 := 2#32
  let c0_i32_9 : BitVec 32 := 0#32
  let v22 : BitVec 1 := Scalar.cmpi .eq c2_i32 c0_i32_9
  let c1_i32_10 : BitVec 32 := 1#32
  let v23 : BitVec 32 := Scalar.select v22 c1_i32_10 c2_i32
  let v24 : BitVec 32 := Scalar.remsi v21 v23
  let c0_i32_12 : BitVec 32 := 0#32
  let v26 : BitVec 1 := Scalar.cmpi .slt v24 c0_i32_12
  let c0_i32_13 : BitVec 32 := 0#32
  let v27 : BitVec 1 := Scalar.cmpi .slt v23 c0_i32_13
  let v28 : BitVec 1 := Scalar.xori v26 v27
  let c0_i32_11 : BitVec 32 := 0#32
  let v25 : BitVec 1 := Scalar.cmpi .ne v24 c0_i32_11
  let v29 : BitVec 1 := Scalar.andi v28 v25
  let v30 : BitVec 32 := Scalar.addi v24 v23
  let v31 : BitVec 32 := Scalar.select v29 v30 v24
  let v666 : Index := Scalar.indexCast v31
  let c768_314 : Index := 768#32
  let c256_315 : Index := 256#32
  ![v666.toNat, 768, 256]
def k0_off61 (i : grid0.Coords) : Fin 3 → Nat :=
  let arg0 : BitVec 32 := BitVec.ofNat 32 (i 0).val
  let c1_i32 : BitVec 32 := 1#32
  let v21 : BitVec 32 := Scalar.subi arg0 c1_i32
  let c2_i32 : BitVec 32 := 2#32
  let c0_i32_9 : BitVec 32 := 0#32
  let v22 : BitVec 1 := Scalar.cmpi .eq c2_i32 c0_i32_9
  let c1_i32_10 : BitVec 32 := 1#32
  let v23 : BitVec 32 := Scalar.select v22 c1_i32_10 c2_i32
  let v24 : BitVec 32 := Scalar.remsi v21 v23
  let c0_i32_12 : BitVec 32 := 0#32
  let v26 : BitVec 1 := Scalar.cmpi .slt v24 c0_i32_12
  let c0_i32_13 : BitVec 32 := 0#32
  let v27 : BitVec 1 := Scalar.cmpi .slt v23 c0_i32_13
  let v28 : BitVec 1 := Scalar.xori v26 v27
  let c0_i32_11 : BitVec 32 := 0#32
  let v25 : BitVec 1 := Scalar.cmpi .ne v24 c0_i32_11
  let v29 : BitVec 1 := Scalar.andi v28 v25
  let v30 : BitVec 32 := Scalar.addi v24 v23
  let v31 : BitVec 32 := Scalar.select v29 v30 v24
  let v679 : Index := Scalar.indexCast v31
  let c896_321 : Index := 896#32
  let c256_322 : Index := 256#32
  ![v679.toNat, 896, 256]
def k0_off62 (i : grid0.Coords) : Fin 3 → Nat :=
  let arg0 : BitVec 32 := BitVec.ofNat 32 (i 0).val
  let c1_i32 : BitVec 32 := 1#32
  let v21 : BitVec 32 := Scalar.subi arg0 c1_i32
  let c2_i32 : BitVec 32 := 2#32
  let c0_i32_9 : BitVec 32 := 0#32
  let v22 : BitVec 1 := Scalar.cmpi .eq c2_i32 c0_i32_9
  let c1_i32_10 : BitVec 32 := 1#32
  let v23 : BitVec 32 := Scalar.select v22 c1_i32_10 c2_i32
  let v24 : BitVec 32 := Scalar.remsi v21 v23
  let c0_i32_12 : BitVec 32 := 0#32
  let v26 : BitVec 1 := Scalar.cmpi .slt v24 c0_i32_12
  let c0_i32_13 : BitVec 32 := 0#32
  let v27 : BitVec 1 := Scalar.cmpi .slt v23 c0_i32_13
  let v28 : BitVec 1 := Scalar.xori v26 v27
  let c0_i32_11 : BitVec 32 := 0#32
  let v25 : BitVec 1 := Scalar.cmpi .ne v24 c0_i32_11
  let v29 : BitVec 1 := Scalar.andi v28 v25
  let v30 : BitVec 32 := Scalar.addi v24 v23
  let v31 : BitVec 32 := Scalar.select v29 v30 v24
  let v692 : Index := Scalar.indexCast v31
  let c1024_328 : Index := 1024#32
  let c256_329 : Index := 256#32
  ![v692.toNat, 1024, 256]
def k0_off63 (i : grid0.Coords) : Fin 3 → Nat :=
  let arg0 : BitVec 32 := BitVec.ofNat 32 (i 0).val
  let c1_i32 : BitVec 32 := 1#32
  let v21 : BitVec 32 := Scalar.subi arg0 c1_i32
  let c2_i32 : BitVec 32 := 2#32
  let c0_i32_9 : BitVec 32 := 0#32
  let v22 : BitVec 1 := Scalar.cmpi .eq c2_i32 c0_i32_9
  let c1_i32_10 : BitVec 32 := 1#32
  let v23 : BitVec 32 := Scalar.select v22 c1_i32_10 c2_i32
  let v24 : BitVec 32 := Scalar.remsi v21 v23
  let c0_i32_12 : BitVec 32 := 0#32
  let v26 : BitVec 1 := Scalar.cmpi .slt v24 c0_i32_12
  let c0_i32_13 : BitVec 32 := 0#32
  let v27 : BitVec 1 := Scalar.cmpi .slt v23 c0_i32_13
  let v28 : BitVec 1 := Scalar.xori v26 v27
  let c0_i32_11 : BitVec 32 := 0#32
  let v25 : BitVec 1 := Scalar.cmpi .ne v24 c0_i32_11
  let v29 : BitVec 1 := Scalar.andi v28 v25
  let v30 : BitVec 32 := Scalar.addi v24 v23
  let v31 : BitVec 32 := Scalar.select v29 v30 v24
  let v705 : Index := Scalar.indexCast v31
  let c1152_335 : Index := 1152#32
  let c256_336 : Index := 256#32
  ![v705.toNat, 1152, 256]
def k0_off64 (i : grid0.Coords) : Fin 3 → Nat :=
  let arg0 : BitVec 32 := BitVec.ofNat 32 (i 0).val
  let c1_i32 : BitVec 32 := 1#32
  let v21 : BitVec 32 := Scalar.subi arg0 c1_i32
  let c2_i32 : BitVec 32 := 2#32
  let c0_i32_9 : BitVec 32 := 0#32
  let v22 : BitVec 1 := Scalar.cmpi .eq c2_i32 c0_i32_9
  let c1_i32_10 : BitVec 32 := 1#32
  let v23 : BitVec 32 := Scalar.select v22 c1_i32_10 c2_i32
  let v24 : BitVec 32 := Scalar.remsi v21 v23
  let c0_i32_12 : BitVec 32 := 0#32
  let v26 : BitVec 1 := Scalar.cmpi .slt v24 c0_i32_12
  let c0_i32_13 : BitVec 32 := 0#32
  let v27 : BitVec 1 := Scalar.cmpi .slt v23 c0_i32_13
  let v28 : BitVec 1 := Scalar.xori v26 v27
  let c0_i32_11 : BitVec 32 := 0#32
  let v25 : BitVec 1 := Scalar.cmpi .ne v24 c0_i32_11
  let v29 : BitVec 1 := Scalar.andi v28 v25
  let v30 : BitVec 32 := Scalar.addi v24 v23
  let v31 : BitVec 32 := Scalar.select v29 v30 v24
  let v718 : Index := Scalar.indexCast v31
  let c1280_342 : Index := 1280#32
  let c256_343 : Index := 256#32
  ![v718.toNat, 1280, 256]
def k0_off65 (i : grid0.Coords) : Fin 3 → Nat :=
  let arg0 : BitVec 32 := BitVec.ofNat 32 (i 0).val
  let c1_i32 : BitVec 32 := 1#32
  let v21 : BitVec 32 := Scalar.subi arg0 c1_i32
  let c2_i32 : BitVec 32 := 2#32
  let c0_i32_9 : BitVec 32 := 0#32
  let v22 : BitVec 1 := Scalar.cmpi .eq c2_i32 c0_i32_9
  let c1_i32_10 : BitVec 32 := 1#32
  let v23 : BitVec 32 := Scalar.select v22 c1_i32_10 c2_i32
  let v24 : BitVec 32 := Scalar.remsi v21 v23
  let c0_i32_12 : BitVec 32 := 0#32
  let v26 : BitVec 1 := Scalar.cmpi .slt v24 c0_i32_12
  let c0_i32_13 : BitVec 32 := 0#32
  let v27 : BitVec 1 := Scalar.cmpi .slt v23 c0_i32_13
  let v28 : BitVec 1 := Scalar.xori v26 v27
  let c0_i32_11 : BitVec 32 := 0#32
  let v25 : BitVec 1 := Scalar.cmpi .ne v24 c0_i32_11
  let v29 : BitVec 1 := Scalar.andi v28 v25
  let v30 : BitVec 32 := Scalar.addi v24 v23
  let v31 : BitVec 32 := Scalar.select v29 v30 v24
  let v731 : Index := Scalar.indexCast v31
  let c1408_349 : Index := 1408#32
  let c256_350 : Index := 256#32
  ![v731.toNat, 1408, 256]
def k0_off66 (i : grid0.Coords) : Fin 3 → Nat :=
  let arg0 : BitVec 32 := BitVec.ofNat 32 (i 0).val
  let c1_i32 : BitVec 32 := 1#32
  let v21 : BitVec 32 := Scalar.subi arg0 c1_i32
  let c2_i32 : BitVec 32 := 2#32
  let c0_i32_9 : BitVec 32 := 0#32
  let v22 : BitVec 1 := Scalar.cmpi .eq c2_i32 c0_i32_9
  let c1_i32_10 : BitVec 32 := 1#32
  let v23 : BitVec 32 := Scalar.select v22 c1_i32_10 c2_i32
  let v24 : BitVec 32 := Scalar.remsi v21 v23
  let c0_i32_12 : BitVec 32 := 0#32
  let v26 : BitVec 1 := Scalar.cmpi .slt v24 c0_i32_12
  let c0_i32_13 : BitVec 32 := 0#32
  let v27 : BitVec 1 := Scalar.cmpi .slt v23 c0_i32_13
  let v28 : BitVec 1 := Scalar.xori v26 v27
  let c0_i32_11 : BitVec 32 := 0#32
  let v25 : BitVec 1 := Scalar.cmpi .ne v24 c0_i32_11
  let v29 : BitVec 1 := Scalar.andi v28 v25
  let v30 : BitVec 32 := Scalar.addi v24 v23
  let v31 : BitVec 32 := Scalar.select v29 v30 v24
  let v744 : Index := Scalar.indexCast v31
  let c1536_356 : Index := 1536#32
  let c256_357 : Index := 256#32
  ![v744.toNat, 1536, 256]
def k0_off67 (i : grid0.Coords) : Fin 3 → Nat :=
  let arg0 : BitVec 32 := BitVec.ofNat 32 (i 0).val
  let c1_i32 : BitVec 32 := 1#32
  let v21 : BitVec 32 := Scalar.subi arg0 c1_i32
  let c2_i32 : BitVec 32 := 2#32
  let c0_i32_9 : BitVec 32 := 0#32
  let v22 : BitVec 1 := Scalar.cmpi .eq c2_i32 c0_i32_9
  let c1_i32_10 : BitVec 32 := 1#32
  let v23 : BitVec 32 := Scalar.select v22 c1_i32_10 c2_i32
  let v24 : BitVec 32 := Scalar.remsi v21 v23
  let c0_i32_12 : BitVec 32 := 0#32
  let v26 : BitVec 1 := Scalar.cmpi .slt v24 c0_i32_12
  let c0_i32_13 : BitVec 32 := 0#32
  let v27 : BitVec 1 := Scalar.cmpi .slt v23 c0_i32_13
  let v28 : BitVec 1 := Scalar.xori v26 v27
  let c0_i32_11 : BitVec 32 := 0#32
  let v25 : BitVec 1 := Scalar.cmpi .ne v24 c0_i32_11
  let v29 : BitVec 1 := Scalar.andi v28 v25
  let v30 : BitVec 32 := Scalar.addi v24 v23
  let v31 : BitVec 32 := Scalar.select v29 v30 v24
  let v757 : Index := Scalar.indexCast v31
  let c1664_363 : Index := 1664#32
  let c256_364 : Index := 256#32
  ![v757.toNat, 1664, 256]
def k0_off68 (i : grid0.Coords) : Fin 3 → Nat :=
  let arg0 : BitVec 32 := BitVec.ofNat 32 (i 0).val
  let c1_i32 : BitVec 32 := 1#32
  let v21 : BitVec 32 := Scalar.subi arg0 c1_i32
  let c2_i32 : BitVec 32 := 2#32
  let c0_i32_9 : BitVec 32 := 0#32
  let v22 : BitVec 1 := Scalar.cmpi .eq c2_i32 c0_i32_9
  let c1_i32_10 : BitVec 32 := 1#32
  let v23 : BitVec 32 := Scalar.select v22 c1_i32_10 c2_i32
  let v24 : BitVec 32 := Scalar.remsi v21 v23
  let c0_i32_12 : BitVec 32 := 0#32
  let v26 : BitVec 1 := Scalar.cmpi .slt v24 c0_i32_12
  let c0_i32_13 : BitVec 32 := 0#32
  let v27 : BitVec 1 := Scalar.cmpi .slt v23 c0_i32_13
  let v28 : BitVec 1 := Scalar.xori v26 v27
  let c0_i32_11 : BitVec 32 := 0#32
  let v25 : BitVec 1 := Scalar.cmpi .ne v24 c0_i32_11
  let v29 : BitVec 1 := Scalar.andi v28 v25
  let v30 : BitVec 32 := Scalar.addi v24 v23
  let v31 : BitVec 32 := Scalar.select v29 v30 v24
  let v770 : Index := Scalar.indexCast v31
  let c1792_370 : Index := 1792#32
  let c256_371 : Index := 256#32
  ![v770.toNat, 1792, 256]
def k0_off69 (i : grid0.Coords) : Fin 3 → Nat :=
  let arg0 : BitVec 32 := BitVec.ofNat 32 (i 0).val
  let c1_i32 : BitVec 32 := 1#32
  let v21 : BitVec 32 := Scalar.subi arg0 c1_i32
  let c2_i32 : BitVec 32 := 2#32
  let c0_i32_9 : BitVec 32 := 0#32
  let v22 : BitVec 1 := Scalar.cmpi .eq c2_i32 c0_i32_9
  let c1_i32_10 : BitVec 32 := 1#32
  let v23 : BitVec 32 := Scalar.select v22 c1_i32_10 c2_i32
  let v24 : BitVec 32 := Scalar.remsi v21 v23
  let c0_i32_12 : BitVec 32 := 0#32
  let v26 : BitVec 1 := Scalar.cmpi .slt v24 c0_i32_12
  let c0_i32_13 : BitVec 32 := 0#32
  let v27 : BitVec 1 := Scalar.cmpi .slt v23 c0_i32_13
  let v28 : BitVec 1 := Scalar.xori v26 v27
  let c0_i32_11 : BitVec 32 := 0#32
  let v25 : BitVec 1 := Scalar.cmpi .ne v24 c0_i32_11
  let v29 : BitVec 1 := Scalar.andi v28 v25
  let v30 : BitVec 32 := Scalar.addi v24 v23
  let v31 : BitVec 32 := Scalar.select v29 v30 v24
  let v783 : Index := Scalar.indexCast v31
  let c1920_377 : Index := 1920#32
  let c256_378 : Index := 256#32
  ![v783.toNat, 1920, 256]
def k0_off70 (i : grid0.Coords) : Fin 3 → Nat :=
  let arg0 : BitVec 32 := BitVec.ofNat 32 (i 0).val
  let c1_i32 : BitVec 32 := 1#32
  let v21 : BitVec 32 := Scalar.subi arg0 c1_i32
  let c2_i32 : BitVec 32 := 2#32
  let c0_i32_9 : BitVec 32 := 0#32
  let v22 : BitVec 1 := Scalar.cmpi .eq c2_i32 c0_i32_9
  let c1_i32_10 : BitVec 32 := 1#32
  let v23 : BitVec 32 := Scalar.select v22 c1_i32_10 c2_i32
  let v24 : BitVec 32 := Scalar.remsi v21 v23
  let c0_i32_12 : BitVec 32 := 0#32
  let v26 : BitVec 1 := Scalar.cmpi .slt v24 c0_i32_12
  let c0_i32_13 : BitVec 32 := 0#32
  let v27 : BitVec 1 := Scalar.cmpi .slt v23 c0_i32_13
  let v28 : BitVec 1 := Scalar.xori v26 v27
  let c0_i32_11 : BitVec 32 := 0#32
  let v25 : BitVec 1 := Scalar.cmpi .ne v24 c0_i32_11
  let v29 : BitVec 1 := Scalar.andi v28 v25
  let v30 : BitVec 32 := Scalar.addi v24 v23
  let v31 : BitVec 32 := Scalar.select v29 v30 v24
  let v809 : Index := Scalar.indexCast v31
  let c0_390 : Index := 0#32
  let c384_391 : Index := 384#32
  ![v809.toNat, 0, 384]
def k0_off71 (i : grid0.Coords) : Fin 3 → Nat :=
  let arg0 : BitVec 32 := BitVec.ofNat 32 (i 0).val
  let c1_i32 : BitVec 32 := 1#32
  let v21 : BitVec 32 := Scalar.subi arg0 c1_i32
  let c2_i32 : BitVec 32 := 2#32
  let c0_i32_9 : BitVec 32 := 0#32
  let v22 : BitVec 1 := Scalar.cmpi .eq c2_i32 c0_i32_9
  let c1_i32_10 : BitVec 32 := 1#32
  let v23 : BitVec 32 := Scalar.select v22 c1_i32_10 c2_i32
  let v24 : BitVec 32 := Scalar.remsi v21 v23
  let c0_i32_12 : BitVec 32 := 0#32
  let v26 : BitVec 1 := Scalar.cmpi .slt v24 c0_i32_12
  let c0_i32_13 : BitVec 32 := 0#32
  let v27 : BitVec 1 := Scalar.cmpi .slt v23 c0_i32_13
  let v28 : BitVec 1 := Scalar.xori v26 v27
  let c0_i32_11 : BitVec 32 := 0#32
  let v25 : BitVec 1 := Scalar.cmpi .ne v24 c0_i32_11
  let v29 : BitVec 1 := Scalar.andi v28 v25
  let v30 : BitVec 32 := Scalar.addi v24 v23
  let v31 : BitVec 32 := Scalar.select v29 v30 v24
  let v822 : Index := Scalar.indexCast v31
  let c128_397 : Index := 128#32
  let c384_398 : Index := 384#32
  ![v822.toNat, 128, 384]
def k0_off72 (i : grid0.Coords) : Fin 3 → Nat :=
  let arg0 : BitVec 32 := BitVec.ofNat 32 (i 0).val
  let c1_i32 : BitVec 32 := 1#32
  let v21 : BitVec 32 := Scalar.subi arg0 c1_i32
  let c2_i32 : BitVec 32 := 2#32
  let c0_i32_9 : BitVec 32 := 0#32
  let v22 : BitVec 1 := Scalar.cmpi .eq c2_i32 c0_i32_9
  let c1_i32_10 : BitVec 32 := 1#32
  let v23 : BitVec 32 := Scalar.select v22 c1_i32_10 c2_i32
  let v24 : BitVec 32 := Scalar.remsi v21 v23
  let c0_i32_12 : BitVec 32 := 0#32
  let v26 : BitVec 1 := Scalar.cmpi .slt v24 c0_i32_12
  let c0_i32_13 : BitVec 32 := 0#32
  let v27 : BitVec 1 := Scalar.cmpi .slt v23 c0_i32_13
  let v28 : BitVec 1 := Scalar.xori v26 v27
  let c0_i32_11 : BitVec 32 := 0#32
  let v25 : BitVec 1 := Scalar.cmpi .ne v24 c0_i32_11
  let v29 : BitVec 1 := Scalar.andi v28 v25
  let v30 : BitVec 32 := Scalar.addi v24 v23
  let v31 : BitVec 32 := Scalar.select v29 v30 v24
  let v835 : Index := Scalar.indexCast v31
  let c256_404 : Index := 256#32
  let c384_405 : Index := 384#32
  ![v835.toNat, 256, 384]
def k0_off73 (i : grid0.Coords) : Fin 3 → Nat :=
  let arg0 : BitVec 32 := BitVec.ofNat 32 (i 0).val
  let c1_i32 : BitVec 32 := 1#32
  let v21 : BitVec 32 := Scalar.subi arg0 c1_i32
  let c2_i32 : BitVec 32 := 2#32
  let c0_i32_9 : BitVec 32 := 0#32
  let v22 : BitVec 1 := Scalar.cmpi .eq c2_i32 c0_i32_9
  let c1_i32_10 : BitVec 32 := 1#32
  let v23 : BitVec 32 := Scalar.select v22 c1_i32_10 c2_i32
  let v24 : BitVec 32 := Scalar.remsi v21 v23
  let c0_i32_12 : BitVec 32 := 0#32
  let v26 : BitVec 1 := Scalar.cmpi .slt v24 c0_i32_12
  let c0_i32_13 : BitVec 32 := 0#32
  let v27 : BitVec 1 := Scalar.cmpi .slt v23 c0_i32_13
  let v28 : BitVec 1 := Scalar.xori v26 v27
  let c0_i32_11 : BitVec 32 := 0#32
  let v25 : BitVec 1 := Scalar.cmpi .ne v24 c0_i32_11
  let v29 : BitVec 1 := Scalar.andi v28 v25
  let v30 : BitVec 32 := Scalar.addi v24 v23
  let v31 : BitVec 32 := Scalar.select v29 v30 v24
  let v848 : Index := Scalar.indexCast v31
  let c384_411 : Index := 384#32
  let c384_412 : Index := 384#32
  ![v848.toNat, 384, 384]
def k0_off74 (i : grid0.Coords) : Fin 3 → Nat :=
  let arg0 : BitVec 32 := BitVec.ofNat 32 (i 0).val
  let c1_i32 : BitVec 32 := 1#32
  let v21 : BitVec 32 := Scalar.subi arg0 c1_i32
  let c2_i32 : BitVec 32 := 2#32
  let c0_i32_9 : BitVec 32 := 0#32
  let v22 : BitVec 1 := Scalar.cmpi .eq c2_i32 c0_i32_9
  let c1_i32_10 : BitVec 32 := 1#32
  let v23 : BitVec 32 := Scalar.select v22 c1_i32_10 c2_i32
  let v24 : BitVec 32 := Scalar.remsi v21 v23
  let c0_i32_12 : BitVec 32 := 0#32
  let v26 : BitVec 1 := Scalar.cmpi .slt v24 c0_i32_12
  let c0_i32_13 : BitVec 32 := 0#32
  let v27 : BitVec 1 := Scalar.cmpi .slt v23 c0_i32_13
  let v28 : BitVec 1 := Scalar.xori v26 v27
  let c0_i32_11 : BitVec 32 := 0#32
  let v25 : BitVec 1 := Scalar.cmpi .ne v24 c0_i32_11
  let v29 : BitVec 1 := Scalar.andi v28 v25
  let v30 : BitVec 32 := Scalar.addi v24 v23
  let v31 : BitVec 32 := Scalar.select v29 v30 v24
  let v861 : Index := Scalar.indexCast v31
  let c512_418 : Index := 512#32
  let c384_419 : Index := 384#32
  ![v861.toNat, 512, 384]
def k0_off75 (i : grid0.Coords) : Fin 3 → Nat :=
  let arg0 : BitVec 32 := BitVec.ofNat 32 (i 0).val
  let c1_i32 : BitVec 32 := 1#32
  let v21 : BitVec 32 := Scalar.subi arg0 c1_i32
  let c2_i32 : BitVec 32 := 2#32
  let c0_i32_9 : BitVec 32 := 0#32
  let v22 : BitVec 1 := Scalar.cmpi .eq c2_i32 c0_i32_9
  let c1_i32_10 : BitVec 32 := 1#32
  let v23 : BitVec 32 := Scalar.select v22 c1_i32_10 c2_i32
  let v24 : BitVec 32 := Scalar.remsi v21 v23
  let c0_i32_12 : BitVec 32 := 0#32
  let v26 : BitVec 1 := Scalar.cmpi .slt v24 c0_i32_12
  let c0_i32_13 : BitVec 32 := 0#32
  let v27 : BitVec 1 := Scalar.cmpi .slt v23 c0_i32_13
  let v28 : BitVec 1 := Scalar.xori v26 v27
  let c0_i32_11 : BitVec 32 := 0#32
  let v25 : BitVec 1 := Scalar.cmpi .ne v24 c0_i32_11
  let v29 : BitVec 1 := Scalar.andi v28 v25
  let v30 : BitVec 32 := Scalar.addi v24 v23
  let v31 : BitVec 32 := Scalar.select v29 v30 v24
  let v874 : Index := Scalar.indexCast v31
  let c640_425 : Index := 640#32
  let c384_426 : Index := 384#32
  ![v874.toNat, 640, 384]
def k0_off76 (i : grid0.Coords) : Fin 3 → Nat :=
  let arg0 : BitVec 32 := BitVec.ofNat 32 (i 0).val
  let c1_i32 : BitVec 32 := 1#32
  let v21 : BitVec 32 := Scalar.subi arg0 c1_i32
  let c2_i32 : BitVec 32 := 2#32
  let c0_i32_9 : BitVec 32 := 0#32
  let v22 : BitVec 1 := Scalar.cmpi .eq c2_i32 c0_i32_9
  let c1_i32_10 : BitVec 32 := 1#32
  let v23 : BitVec 32 := Scalar.select v22 c1_i32_10 c2_i32
  let v24 : BitVec 32 := Scalar.remsi v21 v23
  let c0_i32_12 : BitVec 32 := 0#32
  let v26 : BitVec 1 := Scalar.cmpi .slt v24 c0_i32_12
  let c0_i32_13 : BitVec 32 := 0#32
  let v27 : BitVec 1 := Scalar.cmpi .slt v23 c0_i32_13
  let v28 : BitVec 1 := Scalar.xori v26 v27
  let c0_i32_11 : BitVec 32 := 0#32
  let v25 : BitVec 1 := Scalar.cmpi .ne v24 c0_i32_11
  let v29 : BitVec 1 := Scalar.andi v28 v25
  let v30 : BitVec 32 := Scalar.addi v24 v23
  let v31 : BitVec 32 := Scalar.select v29 v30 v24
  let v887 : Index := Scalar.indexCast v31
  let c768_432 : Index := 768#32
  let c384_433 : Index := 384#32
  ![v887.toNat, 768, 384]
def k0_off77 (i : grid0.Coords) : Fin 3 → Nat :=
  let arg0 : BitVec 32 := BitVec.ofNat 32 (i 0).val
  let c1_i32 : BitVec 32 := 1#32
  let v21 : BitVec 32 := Scalar.subi arg0 c1_i32
  let c2_i32 : BitVec 32 := 2#32
  let c0_i32_9 : BitVec 32 := 0#32
  let v22 : BitVec 1 := Scalar.cmpi .eq c2_i32 c0_i32_9
  let c1_i32_10 : BitVec 32 := 1#32
  let v23 : BitVec 32 := Scalar.select v22 c1_i32_10 c2_i32
  let v24 : BitVec 32 := Scalar.remsi v21 v23
  let c0_i32_12 : BitVec 32 := 0#32
  let v26 : BitVec 1 := Scalar.cmpi .slt v24 c0_i32_12
  let c0_i32_13 : BitVec 32 := 0#32
  let v27 : BitVec 1 := Scalar.cmpi .slt v23 c0_i32_13
  let v28 : BitVec 1 := Scalar.xori v26 v27
  let c0_i32_11 : BitVec 32 := 0#32
  let v25 : BitVec 1 := Scalar.cmpi .ne v24 c0_i32_11
  let v29 : BitVec 1 := Scalar.andi v28 v25
  let v30 : BitVec 32 := Scalar.addi v24 v23
  let v31 : BitVec 32 := Scalar.select v29 v30 v24
  let v900 : Index := Scalar.indexCast v31
  let c896_439 : Index := 896#32
  let c384_440 : Index := 384#32
  ![v900.toNat, 896, 384]
def k0_off78 (i : grid0.Coords) : Fin 3 → Nat :=
  let arg0 : BitVec 32 := BitVec.ofNat 32 (i 0).val
  let c1_i32 : BitVec 32 := 1#32
  let v21 : BitVec 32 := Scalar.subi arg0 c1_i32
  let c2_i32 : BitVec 32 := 2#32
  let c0_i32_9 : BitVec 32 := 0#32
  let v22 : BitVec 1 := Scalar.cmpi .eq c2_i32 c0_i32_9
  let c1_i32_10 : BitVec 32 := 1#32
  let v23 : BitVec 32 := Scalar.select v22 c1_i32_10 c2_i32
  let v24 : BitVec 32 := Scalar.remsi v21 v23
  let c0_i32_12 : BitVec 32 := 0#32
  let v26 : BitVec 1 := Scalar.cmpi .slt v24 c0_i32_12
  let c0_i32_13 : BitVec 32 := 0#32
  let v27 : BitVec 1 := Scalar.cmpi .slt v23 c0_i32_13
  let v28 : BitVec 1 := Scalar.xori v26 v27
  let c0_i32_11 : BitVec 32 := 0#32
  let v25 : BitVec 1 := Scalar.cmpi .ne v24 c0_i32_11
  let v29 : BitVec 1 := Scalar.andi v28 v25
  let v30 : BitVec 32 := Scalar.addi v24 v23
  let v31 : BitVec 32 := Scalar.select v29 v30 v24
  let v913 : Index := Scalar.indexCast v31
  let c1024_446 : Index := 1024#32
  let c384_447 : Index := 384#32
  ![v913.toNat, 1024, 384]
def k0_off79 (i : grid0.Coords) : Fin 3 → Nat :=
  let arg0 : BitVec 32 := BitVec.ofNat 32 (i 0).val
  let c1_i32 : BitVec 32 := 1#32
  let v21 : BitVec 32 := Scalar.subi arg0 c1_i32
  let c2_i32 : BitVec 32 := 2#32
  let c0_i32_9 : BitVec 32 := 0#32
  let v22 : BitVec 1 := Scalar.cmpi .eq c2_i32 c0_i32_9
  let c1_i32_10 : BitVec 32 := 1#32
  let v23 : BitVec 32 := Scalar.select v22 c1_i32_10 c2_i32
  let v24 : BitVec 32 := Scalar.remsi v21 v23
  let c0_i32_12 : BitVec 32 := 0#32
  let v26 : BitVec 1 := Scalar.cmpi .slt v24 c0_i32_12
  let c0_i32_13 : BitVec 32 := 0#32
  let v27 : BitVec 1 := Scalar.cmpi .slt v23 c0_i32_13
  let v28 : BitVec 1 := Scalar.xori v26 v27
  let c0_i32_11 : BitVec 32 := 0#32
  let v25 : BitVec 1 := Scalar.cmpi .ne v24 c0_i32_11
  let v29 : BitVec 1 := Scalar.andi v28 v25
  let v30 : BitVec 32 := Scalar.addi v24 v23
  let v31 : BitVec 32 := Scalar.select v29 v30 v24
  let v926 : Index := Scalar.indexCast v31
  let c1152_453 : Index := 1152#32
  let c384_454 : Index := 384#32
  ![v926.toNat, 1152, 384]
def k0_off80 (i : grid0.Coords) : Fin 3 → Nat :=
  let arg0 : BitVec 32 := BitVec.ofNat 32 (i 0).val
  let c1_i32 : BitVec 32 := 1#32
  let v21 : BitVec 32 := Scalar.subi arg0 c1_i32
  let c2_i32 : BitVec 32 := 2#32
  let c0_i32_9 : BitVec 32 := 0#32
  let v22 : BitVec 1 := Scalar.cmpi .eq c2_i32 c0_i32_9
  let c1_i32_10 : BitVec 32 := 1#32
  let v23 : BitVec 32 := Scalar.select v22 c1_i32_10 c2_i32
  let v24 : BitVec 32 := Scalar.remsi v21 v23
  let c0_i32_12 : BitVec 32 := 0#32
  let v26 : BitVec 1 := Scalar.cmpi .slt v24 c0_i32_12
  let c0_i32_13 : BitVec 32 := 0#32
  let v27 : BitVec 1 := Scalar.cmpi .slt v23 c0_i32_13
  let v28 : BitVec 1 := Scalar.xori v26 v27
  let c0_i32_11 : BitVec 32 := 0#32
  let v25 : BitVec 1 := Scalar.cmpi .ne v24 c0_i32_11
  let v29 : BitVec 1 := Scalar.andi v28 v25
  let v30 : BitVec 32 := Scalar.addi v24 v23
  let v31 : BitVec 32 := Scalar.select v29 v30 v24
  let v939 : Index := Scalar.indexCast v31
  let c1280_460 : Index := 1280#32
  let c384_461 : Index := 384#32
  ![v939.toNat, 1280, 384]
def k0_off81 (i : grid0.Coords) : Fin 3 → Nat :=
  let arg0 : BitVec 32 := BitVec.ofNat 32 (i 0).val
  let c1_i32 : BitVec 32 := 1#32
  let v21 : BitVec 32 := Scalar.subi arg0 c1_i32
  let c2_i32 : BitVec 32 := 2#32
  let c0_i32_9 : BitVec 32 := 0#32
  let v22 : BitVec 1 := Scalar.cmpi .eq c2_i32 c0_i32_9
  let c1_i32_10 : BitVec 32 := 1#32
  let v23 : BitVec 32 := Scalar.select v22 c1_i32_10 c2_i32
  let v24 : BitVec 32 := Scalar.remsi v21 v23
  let c0_i32_12 : BitVec 32 := 0#32
  let v26 : BitVec 1 := Scalar.cmpi .slt v24 c0_i32_12
  let c0_i32_13 : BitVec 32 := 0#32
  let v27 : BitVec 1 := Scalar.cmpi .slt v23 c0_i32_13
  let v28 : BitVec 1 := Scalar.xori v26 v27
  let c0_i32_11 : BitVec 32 := 0#32
  let v25 : BitVec 1 := Scalar.cmpi .ne v24 c0_i32_11
  let v29 : BitVec 1 := Scalar.andi v28 v25
  let v30 : BitVec 32 := Scalar.addi v24 v23
  let v31 : BitVec 32 := Scalar.select v29 v30 v24
  let v952 : Index := Scalar.indexCast v31
  let c1408_467 : Index := 1408#32
  let c384_468 : Index := 384#32
  ![v952.toNat, 1408, 384]
def k0_off82 (i : grid0.Coords) : Fin 3 → Nat :=
  let arg0 : BitVec 32 := BitVec.ofNat 32 (i 0).val
  let c1_i32 : BitVec 32 := 1#32
  let v21 : BitVec 32 := Scalar.subi arg0 c1_i32
  let c2_i32 : BitVec 32 := 2#32
  let c0_i32_9 : BitVec 32 := 0#32
  let v22 : BitVec 1 := Scalar.cmpi .eq c2_i32 c0_i32_9
  let c1_i32_10 : BitVec 32 := 1#32
  let v23 : BitVec 32 := Scalar.select v22 c1_i32_10 c2_i32
  let v24 : BitVec 32 := Scalar.remsi v21 v23
  let c0_i32_12 : BitVec 32 := 0#32
  let v26 : BitVec 1 := Scalar.cmpi .slt v24 c0_i32_12
  let c0_i32_13 : BitVec 32 := 0#32
  let v27 : BitVec 1 := Scalar.cmpi .slt v23 c0_i32_13
  let v28 : BitVec 1 := Scalar.xori v26 v27
  let c0_i32_11 : BitVec 32 := 0#32
  let v25 : BitVec 1 := Scalar.cmpi .ne v24 c0_i32_11
  let v29 : BitVec 1 := Scalar.andi v28 v25
  let v30 : BitVec 32 := Scalar.addi v24 v23
  let v31 : BitVec 32 := Scalar.select v29 v30 v24
  let v965 : Index := Scalar.indexCast v31
  let c1536_474 : Index := 1536#32
  let c384_475 : Index := 384#32
  ![v965.toNat, 1536, 384]
def k0_off83 (i : grid0.Coords) : Fin 3 → Nat :=
  let arg0 : BitVec 32 := BitVec.ofNat 32 (i 0).val
  let c1_i32 : BitVec 32 := 1#32
  let v21 : BitVec 32 := Scalar.subi arg0 c1_i32
  let c2_i32 : BitVec 32 := 2#32
  let c0_i32_9 : BitVec 32 := 0#32
  let v22 : BitVec 1 := Scalar.cmpi .eq c2_i32 c0_i32_9
  let c1_i32_10 : BitVec 32 := 1#32
  let v23 : BitVec 32 := Scalar.select v22 c1_i32_10 c2_i32
  let v24 : BitVec 32 := Scalar.remsi v21 v23
  let c0_i32_12 : BitVec 32 := 0#32
  let v26 : BitVec 1 := Scalar.cmpi .slt v24 c0_i32_12
  let c0_i32_13 : BitVec 32 := 0#32
  let v27 : BitVec 1 := Scalar.cmpi .slt v23 c0_i32_13
  let v28 : BitVec 1 := Scalar.xori v26 v27
  let c0_i32_11 : BitVec 32 := 0#32
  let v25 : BitVec 1 := Scalar.cmpi .ne v24 c0_i32_11
  let v29 : BitVec 1 := Scalar.andi v28 v25
  let v30 : BitVec 32 := Scalar.addi v24 v23
  let v31 : BitVec 32 := Scalar.select v29 v30 v24
  let v978 : Index := Scalar.indexCast v31
  let c1664_481 : Index := 1664#32
  let c384_482 : Index := 384#32
  ![v978.toNat, 1664, 384]
def k0_off84 (i : grid0.Coords) : Fin 3 → Nat :=
  let arg0 : BitVec 32 := BitVec.ofNat 32 (i 0).val
  let c1_i32 : BitVec 32 := 1#32
  let v21 : BitVec 32 := Scalar.subi arg0 c1_i32
  let c2_i32 : BitVec 32 := 2#32
  let c0_i32_9 : BitVec 32 := 0#32
  let v22 : BitVec 1 := Scalar.cmpi .eq c2_i32 c0_i32_9
  let c1_i32_10 : BitVec 32 := 1#32
  let v23 : BitVec 32 := Scalar.select v22 c1_i32_10 c2_i32
  let v24 : BitVec 32 := Scalar.remsi v21 v23
  let c0_i32_12 : BitVec 32 := 0#32
  let v26 : BitVec 1 := Scalar.cmpi .slt v24 c0_i32_12
  let c0_i32_13 : BitVec 32 := 0#32
  let v27 : BitVec 1 := Scalar.cmpi .slt v23 c0_i32_13
  let v28 : BitVec 1 := Scalar.xori v26 v27
  let c0_i32_11 : BitVec 32 := 0#32
  let v25 : BitVec 1 := Scalar.cmpi .ne v24 c0_i32_11
  let v29 : BitVec 1 := Scalar.andi v28 v25
  let v30 : BitVec 32 := Scalar.addi v24 v23
  let v31 : BitVec 32 := Scalar.select v29 v30 v24
  let v991 : Index := Scalar.indexCast v31
  let c1792_488 : Index := 1792#32
  let c384_489 : Index := 384#32
  ![v991.toNat, 1792, 384]
def k0_off85 (i : grid0.Coords) : Fin 3 → Nat :=
  let arg0 : BitVec 32 := BitVec.ofNat 32 (i 0).val
  let c1_i32 : BitVec 32 := 1#32
  let v21 : BitVec 32 := Scalar.subi arg0 c1_i32
  let c2_i32 : BitVec 32 := 2#32
  let c0_i32_9 : BitVec 32 := 0#32
  let v22 : BitVec 1 := Scalar.cmpi .eq c2_i32 c0_i32_9
  let c1_i32_10 : BitVec 32 := 1#32
  let v23 : BitVec 32 := Scalar.select v22 c1_i32_10 c2_i32
  let v24 : BitVec 32 := Scalar.remsi v21 v23
  let c0_i32_12 : BitVec 32 := 0#32
  let v26 : BitVec 1 := Scalar.cmpi .slt v24 c0_i32_12
  let c0_i32_13 : BitVec 32 := 0#32
  let v27 : BitVec 1 := Scalar.cmpi .slt v23 c0_i32_13
  let v28 : BitVec 1 := Scalar.xori v26 v27
  let c0_i32_11 : BitVec 32 := 0#32
  let v25 : BitVec 1 := Scalar.cmpi .ne v24 c0_i32_11
  let v29 : BitVec 1 := Scalar.andi v28 v25
  let v30 : BitVec 32 := Scalar.addi v24 v23
  let v31 : BitVec 32 := Scalar.select v29 v30 v24
  let v1004 : Index := Scalar.indexCast v31
  let c1920_495 : Index := 1920#32
  let c384_496 : Index := 384#32
  ![v1004.toNat, 1920, 384]
def cc0_transform_0 (i : grid0.Coords) : Fin 2 → Nat :=
  let arg0 : BitVec 32 := BitVec.ofNat 32 (i 0).val
  let c99_i32 : BitVec 32 := 99#32
  let v0 : BitVec 32 := Scalar.minsi arg0 c99_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c99_i32 : BitVec 32 := 99#32
  let v0 : BitVec 32 := Scalar.minsi arg0 c99_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c99_i32 : BitVec 32 := 99#32
  let v0 : BitVec 32 := Scalar.minsi arg0 c99_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x512 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S409x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S20x2560x2048 : Shape := ⟨3, ![20, 2560, 2048]⟩
abbrev S9 : Shape := ⟨1, ![9]⟩
abbrev S51200x2048 : Shape := ⟨2, ![51200, 2048]⟩
abbrev S51200x16x128 : Shape := ⟨3, ![51200, 16, 128]⟩
abbrev S_ : Shape := ⟨0, ![]⟩
abbrev S51200x16 : Shape := ⟨2, ![51200, 16]⟩
abbrev S254 : Shape := ⟨1, ![254]⟩
abbrev S51200x16x1 : Shape := ⟨3, ![51200, 16, 1]⟩
abbrev S1x1x254 : Shape := ⟨3, ![1, 1, 254]⟩
abbrev S51200x16x254 : Shape := ⟨3, ![51200, 16, 254]⟩
abbrev S51200 : Shape := ⟨1, ![51200]⟩
abbrev S51200x1 : Shape := ⟨2, ![51200, 1]⟩
abbrev S1x9 : Shape := ⟨2, ![1, 9]⟩
abbrev S51200x9 : Shape := ⟨2, ![51200, 9]⟩
abbrev S409 : Shape := ⟨1, ![409]⟩
abbrev S1x409 : Shape := ⟨2, ![1, 409]⟩
abbrev S51200x409 : Shape := ⟨2, ![51200, 409]⟩
abbrev S51200x409x1 : Shape := ⟨3, ![51200, 409, 1]⟩
abbrev S51200x1x2048 : Shape := ⟨3, ![51200, 1, 2048]⟩
abbrev S51200x409x2048 : Shape := ⟨3, ![51200, 409, 2048]⟩
abbrev S409x2048 : Shape := ⟨2, ![409, 2048]⟩
abbrev S409x1 : Shape := ⟨2, ![409, 1]⟩
abbrev S409x2048x1 : Shape := ⟨3, ![409, 2048, 1]⟩
abbrev S409x2048x254 : Shape := ⟨3, ![409, 2048, 254]⟩
abbrev S2048x409 : Shape := ⟨2, ![2048, 409]⟩
abbrev S2048x51200 : Shape := ⟨2, ![2048, 51200]⟩

abbrev nBuf : Space → Nat
  | .hbm => 191
  | .vmem => 4
  | .smem => 0
  | _ => 0

abbrev hbmTy0_0 (i : Nat) : BufTy := match i % 128 with
  | 0 => ⟨S20x2560x2048, .bf16⟩
  | 1 => ⟨S9, .i32⟩
  | 2 => ⟨S51200x2048, .bf16⟩
  | 3 => ⟨S51200x2048, .f32⟩
  | 4 => ⟨S51200x16x128, .f32⟩
  | 5 => ⟨S51200x16x128, .f32⟩
  | 6 => ⟨S_, .f32⟩
  | 7 => ⟨S51200x16, .f32⟩
  | 8 => ⟨S254, .i32⟩
  | 9 => ⟨S_, .i32⟩
  | 10 => ⟨S254, .i32⟩
  | 11 => ⟨S254, .i32⟩
  | 12 => ⟨S254, .f32⟩
  | 13 => ⟨S_, .f32⟩
  | 14 => ⟨S254, .f32⟩
  | 15 => ⟨S254, .f32⟩
  | 16 => ⟨S_, .f32⟩
  | 17 => ⟨S51200x16, .f32⟩
  | 18 => ⟨S51200x16, .f32⟩
  | 19 => ⟨S51200x16x1, .f32⟩
  | 20 => ⟨S1x1x254, .f32⟩
  | 21 => ⟨S51200x16x254, .f32⟩
  | 22 => ⟨S51200x16x254, .f32⟩
  | 23 => ⟨S51200x16x254, .i1⟩
  | 24 => ⟨S51200x16x254, .i32⟩
  | 25 => ⟨S_, .i32⟩
  | 26 => ⟨S51200x16, .i32⟩
  | 27 => ⟨S_, .i32⟩
  | 28 => ⟨S51200x16, .i32⟩
  | 29 => ⟨S51200x16, .i1⟩
  | 30 => ⟨S_, .i32⟩
  | 31 => ⟨S51200x16, .i32⟩
  | 32 => ⟨S51200x16, .i32⟩
  | 33 => ⟨S_, .i32⟩
  | 34 => ⟨S_, .i32⟩
  | 35 => ⟨S51200x16, .i32⟩
  | 36 => ⟨S51200x16, .i32⟩
  | 37 => ⟨S51200x16, .f32⟩
  | 38 => ⟨S_, .f32⟩
  | 39 => ⟨S51200x16, .f32⟩
  | 40 => ⟨S51200x16, .f32⟩
  | 41 => ⟨S51200x16, .i32⟩
  | 42 => ⟨S51200x16, .f32⟩
  | 43 => ⟨S_, .f32⟩
  | 44 => ⟨S51200x16, .f32⟩
  | 45 => ⟨S51200x16, .f32⟩
  | 46 => ⟨S51200x16x1, .f32⟩
  | 47 => ⟨S51200x16x128, .f32⟩
  | 48 => ⟨S51200x16x128, .f32⟩
  | 49 => ⟨S_, .f32⟩
  | 50 => ⟨S_, .f32⟩
  | 51 => ⟨S_, .f32⟩
  | 52 => ⟨S51200x16x128, .f32⟩
  | 53 => ⟨S51200x16x128, .f32⟩
  | 54 => ⟨S_, .f32⟩
  | 55 => ⟨S51200x16x128, .f32⟩
  | 56 => ⟨S51200x16x128, .f32⟩
  | 57 => ⟨S51200x2048, .f32⟩
  | 58 => ⟨S_, .i32⟩
  | 59 => ⟨S_, .i32⟩
  | 60 => ⟨S9, .i32⟩
  | 61 => ⟨S9, .i32⟩
  | 62 => ⟨S_, .i32⟩
  | 63 => ⟨S9, .i32⟩
  | 64 => ⟨S9, .i32⟩
  | 65 => ⟨S_, .i32⟩
  | 66 => ⟨S9, .i32⟩
  | 67 => ⟨S9, .i32⟩
  | 68 => ⟨S_, .i32⟩
  | 69 => ⟨S_, .i32⟩
  | 70 => ⟨S9, .i32⟩
  | 71 => ⟨S9, .i32⟩
  | 72 => ⟨S_, .i32⟩
  | 73 => ⟨S_, .i32⟩
  | 74 => ⟨S51200, .i32⟩
  | 75 => ⟨S51200x1, .i32⟩
  | 76 => ⟨S1x9, .i32⟩
  | 77 => ⟨S51200x9, .i32⟩
  | 78 => ⟨S51200x9, .i32⟩
  | 79 => ⟨S51200x9, .i1⟩
  | 80 => ⟨S1x9, .i32⟩
  | 81 => ⟨S51200x9, .i32⟩
  | 82 => ⟨S51200x9, .i32⟩
  | 83 => ⟨S51200x9, .i1⟩
  | 84 => ⟨S51200x9, .i1⟩
  | 85 => ⟨S1x9, .i32⟩
  | 86 => ⟨S51200x9, .i32⟩
  | 87 => ⟨S51200x9, .i32⟩
  | 88 => ⟨S51200x9, .i32⟩
  | 89 => ⟨S_, .i32⟩
  | 90 => ⟨S51200x9, .i32⟩
  | 91 => ⟨S51200x9, .i32⟩
  | 92 => ⟨S1x9, .i32⟩
  | 93 => ⟨S51200x9, .i32⟩
  | 94 => ⟨S51200x9, .i32⟩
  | 95 => ⟨S_, .i32⟩
  | 96 => ⟨S_, .i32⟩
  | 97 => ⟨S51200x9, .i32⟩
  | 98 => ⟨S51200x9, .i32⟩
  | 99 => ⟨S_, .i32⟩
  | 100 => ⟨S51200, .i32⟩
  | 101 => ⟨S409, .i32⟩
  | 102 => ⟨S51200x1, .i32⟩
  | 103 => ⟨S1x409, .i32⟩
  | 104 => ⟨S51200x409, .i32⟩
  | 105 => ⟨S51200x409, .i32⟩
  | 106 => ⟨S51200x409, .i1⟩
  | 107 => ⟨S51200x409x1, .i1⟩
  | 108 => ⟨S51200x2048, .f32⟩
  | 109 => ⟨S51200x1x2048, .f32⟩
  | 110 => ⟨S_, .f32⟩
  | 111 => ⟨S_, .f32⟩
  | 112 => ⟨S51200x409x2048, .i1⟩
  | 113 => ⟨S51200x409x2048, .f32⟩
  | 114 => ⟨S51200x409x2048, .f32⟩
  | 115 => ⟨S51200x409x2048, .f32⟩
  | 116 => ⟨S_, .f32⟩
  | 117 => ⟨S409x2048, .f32⟩
  | 118 => ⟨S409, .i32⟩
  | 119 => ⟨S409, .i1⟩
  | 120 => ⟨S409x1, .i1⟩
  | 121 => ⟨S_, .f32⟩
  | 122 => ⟨S_, .f32⟩
  | 123 => ⟨S409x2048, .i1⟩
  | 124 => ⟨S409x2048, .f32⟩
  | 125 => ⟨S409x2048, .f32⟩
  | 126 => ⟨S254, .i32⟩
  | 127 => ⟨S_, .i32⟩
  | _ => ⟨S20x2560x2048, .bf16⟩

abbrev hbmTy0_1 (i : Nat) : BufTy := match i % 128 with
  | 0 => ⟨S254, .i32⟩
  | 1 => ⟨S254, .i32⟩
  | 2 => ⟨S254, .f32⟩
  | 3 => ⟨S_, .f32⟩
  | 4 => ⟨S254, .f32⟩
  | 5 => ⟨S254, .f32⟩
  | 6 => ⟨S_, .f32⟩
  | 7 => ⟨S409x2048, .f32⟩
  | 8 => ⟨S409x2048, .f32⟩
  | 9 => ⟨S409x2048x1, .f32⟩
  | 10 => ⟨S1x1x254, .f32⟩
  | 11 => ⟨S409x2048x254, .f32⟩
  | 12 => ⟨S409x2048x254, .f32⟩
  | 13 => ⟨S409x2048x254, .i1⟩
  | 14 => ⟨S409x2048x254, .i32⟩
  | 15 => ⟨S_, .i32⟩
  | 16 => ⟨S409x2048, .i32⟩
  | 17 => ⟨S_, .i32⟩
  | 18 => ⟨S409x2048, .i32⟩
  | 19 => ⟨S409x2048, .i1⟩
  | 20 => ⟨S_, .i32⟩
  | 21 => ⟨S409x2048, .i32⟩
  | 22 => ⟨S409x2048, .i32⟩
  | 23 => ⟨S_, .i32⟩
  | 24 => ⟨S_, .i32⟩
  | 25 => ⟨S409x2048, .i32⟩
  | 26 => ⟨S409x2048, .i32⟩
  | 27 => ⟨S409x2048, .f32⟩
  | 28 => ⟨S_, .f32⟩
  | 29 => ⟨S409x2048, .f32⟩
  | 30 => ⟨S409x2048, .f32⟩
  | 31 => ⟨S_, .f32⟩
  | 32 => ⟨S_, .f32⟩
  | 33 => ⟨S409x2048, .i1⟩
  | 34 => ⟨S409x2048, .f32⟩
  | 35 => ⟨S409x2048, .f32⟩
  | 36 => ⟨S2048x409, .f32⟩
  | 37 => ⟨S409x2048, .i32⟩
  | 38 => ⟨S409x2048, .f32⟩
  | 39 => ⟨S_, .f32⟩
  | 40 => ⟨S409x2048, .f32⟩
  | 41 => ⟨S409x2048, .f32⟩
  | 42 => ⟨S_, .i32⟩
  | 43 => ⟨S51200, .i32⟩
  | 44 => ⟨S51200, .i1⟩
  | 45 => ⟨S_, .i32⟩
  | 46 => ⟨S51200, .i32⟩
  | 47 => ⟨S51200, .i32⟩
  | 48 => ⟨S51200, .i32⟩
  | 49 => ⟨S51200x1, .i32⟩
  | 50 => ⟨S51200x2048, .f32⟩
  | 51 => ⟨S51200x2048, .f32⟩
  | 52 => ⟨S_, .f32⟩
  | 53 => ⟨S_, .f32⟩
  | 54 => ⟨S_, .f32⟩
  | 55 => ⟨S51200x2048, .f32⟩
  | 56 => ⟨S51200x2048, .f32⟩
  | 57 => ⟨S_, .f32⟩
  | 58 => ⟨S51200x2048, .f32⟩
  | 59 => ⟨S51200x2048, .f32⟩
  | 60 => ⟨S2048x51200, .f32⟩
  | 61 => ⟨S51200x2048, .fp8e4m3⟩
  | 62 => ⟨S2048x51200, .fp8e4m3⟩
  | _ => ⟨S20x2560x2048, .bf16⟩

abbrev hbmTy (i : Nat) : BufTy := match i / 128 with
  | 0 => hbmTy0_0 i
  | 1 => hbmTy0_1 i
  | _ => ⟨S20x2560x2048, .bf16⟩

abbrev bufTy : (tb : Table) → Fin (tcTables nBuf tb) → BufTy
  | .hbm, ⟨i, _⟩ => hbmTy i
  | .local _ .vmem, ⟨0, _⟩ => ⟨S51200x2048, .f32⟩
  | .local _ .vmem, ⟨1, _⟩ => ⟨S2048x51200, .f32⟩
  | .local _ .vmem, ⟨2, _⟩ => ⟨S51200x2048, .fp8e4m3⟩
  | .local _ .vmem, ⟨3, _⟩ => ⟨S2048x51200, .fp8e4m3⟩
  | _, _ => ⟨S20x2560x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c_2 : Ref sig .tc := ⟨.hbm, 25, rfl⟩
abbrev main_v19 : Ref sig .tc := ⟨.hbm, 26, rfl⟩
abbrev main_c_3 : Ref sig .tc := ⟨.hbm, 27, rfl⟩
abbrev main_v20 : Ref sig .tc := ⟨.hbm, 28, rfl⟩
abbrev main_v21 : Ref sig .tc := ⟨.hbm, 29, rfl⟩
abbrev main_c_4 : Ref sig .tc := ⟨.hbm, 30, rfl⟩
abbrev main_v22 : Ref sig .tc := ⟨.hbm, 31, rfl⟩
abbrev main_v23 : Ref sig .tc := ⟨.hbm, 32, rfl⟩
abbrev main_c_5 : Ref sig .tc := ⟨.hbm, 33, rfl⟩
abbrev main_call0_v0 : Ref sig .tc := ⟨.hbm, 34, rfl⟩
abbrev main_call0_v1 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_8 : Ref sig .tc := ⟨.hbm, 49, rfl⟩
abbrev main_cst_9 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_v35 : Ref sig .tc := ⟨.hbm, 56, rfl⟩
abbrev main_v36 : Ref sig .tc := ⟨.hbm, 57, rfl⟩
abbrev main_call2_call0_c : Ref sig .tc := ⟨.hbm, 58, rfl⟩
abbrev main_call2_call0_v0 : Ref sig .tc := ⟨.hbm, 59, rfl⟩
abbrev main_v37 : Ref sig .tc := ⟨.hbm, 60, rfl⟩
abbrev main_v38 : Ref sig .tc := ⟨.hbm, 61, rfl⟩
abbrev main_c_10 : Ref sig .tc := ⟨.hbm, 62, rfl⟩
abbrev main_v39 : Ref sig .tc := ⟨.hbm, 63, rfl⟩
abbrev main_v40 : Ref sig .tc := ⟨.hbm, 64, rfl⟩
abbrev main_c_11 : Ref sig .tc := ⟨.hbm, 65, rfl⟩
abbrev main_v41 : Ref sig .tc := ⟨.hbm, 66, rfl⟩
abbrev main_v42 : Ref sig .tc := ⟨.hbm, 67, rfl⟩
abbrev main_call3_call0_c : Ref sig .tc := ⟨.hbm, 68, rfl⟩
abbrev main_call3_call0_v0 : Ref sig .tc := ⟨.hbm, 69, rfl⟩
abbrev main_v43 : Ref sig .tc := ⟨.hbm, 70, rfl⟩
abbrev main_v44 : Ref sig .tc := ⟨.hbm, 71, rfl⟩
abbrev main_c_12 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_c_13 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_c_14 : Ref sig .tc := ⟨.hbm, 95, rfl⟩
abbrev main_call4_v0 : Ref sig .tc := ⟨.hbm, 96, rfl⟩
abbrev main_call4_v1 : Ref sig .tc := ⟨.hbm, 97, rfl⟩
abbrev main_v66 : Ref sig .tc := ⟨.hbm, 98, rfl⟩
abbrev main_c_15 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_cst_16 : Ref sig .tc := ⟨.hbm, 110, rfl⟩
abbrev main_call5_v0 : Ref sig .tc := ⟨.hbm, 111, rfl⟩
abbrev main_call5_v1 : Ref sig .tc := ⟨.hbm, 112, rfl⟩
abbrev main_call5_v2 : Ref sig .tc := ⟨.hbm, 113, rfl⟩
abbrev main_call5_v3 : Ref sig .tc := ⟨.hbm, 114, rfl⟩
abbrev main_v77 : Ref sig .tc := ⟨.hbm, 115, rfl⟩
abbrev main_cst_17 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_cst_18 : Ref sig .tc := ⟨.hbm, 121, rfl⟩
abbrev main_call6_v0 : Ref sig .tc := ⟨.hbm, 122, rfl⟩
abbrev main_call6_v1 : Ref sig .tc := ⟨.hbm, 123, rfl⟩
abbrev main_call6_v2 : Ref sig .tc := ⟨.hbm, 124, rfl⟩
abbrev main_v82 : Ref sig .tc := ⟨.hbm, 125, rfl⟩
abbrev main_v83 : Ref sig .tc := ⟨.hbm, 126, rfl⟩
abbrev main_c_19 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_cst_20 : Ref sig .tc := ⟨.hbm, 131, rfl⟩
abbrev main_v87 : Ref sig .tc := ⟨.hbm, 132, rfl⟩
abbrev main_v88 : Ref sig .tc := ⟨.hbm, 133, rfl⟩
abbrev main_cst_21 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_c_22 : Ref sig .tc := ⟨.hbm, 143, rfl⟩
abbrev main_v97 : Ref sig .tc := ⟨.hbm, 144, rfl⟩
abbrev main_c_23 : Ref sig .tc := ⟨.hbm, 145, rfl⟩
abbrev main_v98 : Ref sig .tc := ⟨.hbm, 146, rfl⟩
abbrev main_v99 : Ref sig .tc := ⟨.hbm, 147, rfl⟩
abbrev main_c_24 : Ref sig .tc := ⟨.hbm, 148, rfl⟩
abbrev main_v100 : Ref sig .tc := ⟨.hbm, 149, rfl⟩
abbrev main_v101 : Ref sig .tc := ⟨.hbm, 150, rfl⟩
abbrev main_c_25 : Ref sig .tc := ⟨.hbm, 151, rfl⟩
abbrev main_call7_v0 : Ref sig .tc := ⟨.hbm, 152, rfl⟩
abbrev main_call7_v1 : Ref sig .tc := ⟨.hbm, 153, rfl⟩
abbrev main_v102 : Ref sig .tc := ⟨.hbm, 154, rfl⟩
abbrev main_v103 : Ref sig .tc := ⟨.hbm, 155, rfl⟩
abbrev main_cst_26 : Ref sig .tc := ⟨.hbm, 156, rfl⟩
abbrev main_v104 : Ref sig .tc := ⟨.hbm, 157, rfl⟩
abbrev main_v105 : Ref sig .tc := ⟨.hbm, 158, rfl⟩
abbrev main_cst_27 : Ref sig .tc := ⟨.hbm, 159, rfl⟩
abbrev main_call8_v0 : Ref sig .tc := ⟨.hbm, 160, rfl⟩
abbrev main_call8_v1 : Ref sig .tc := ⟨.hbm, 161, rfl⟩
abbrev main_call8_v2 : Ref sig .tc := ⟨.hbm, 162, rfl⟩
abbrev main_v106 : Ref sig .tc := ⟨.hbm, 163, rfl⟩
abbrev main_v107 : Ref sig .tc := ⟨.hbm, 164, rfl⟩
abbrev main_v108 : Ref sig .tc := ⟨.hbm, 165, rfl⟩
abbrev main_v109 : Ref sig .tc := ⟨.hbm, 166, rfl⟩
abbrev main_cst_28 : Ref sig .tc := ⟨.hbm, 167, rfl⟩
abbrev main_v110 : Ref sig .tc := ⟨.hbm, 168, rfl⟩
abbrev main_v111 : Ref sig .tc := ⟨.hbm, 169, rfl⟩
abbrev main_c_29 : Ref sig .tc := ⟨.hbm, 170, rfl⟩
abbrev main_v112 : Ref sig .tc := ⟨.hbm, 171, rfl⟩
abbrev main_v113 : Ref sig .tc := ⟨.hbm, 172, rfl⟩
abbrev main_c_30 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩
abbrev main_v119 : Ref sig .tc := ⟨.hbm, 179, rfl⟩
abbrev main_cst_31 : Ref sig .tc := ⟨.hbm, 180, rfl⟩
abbrev main_cst_32 : Ref sig .tc := ⟨.hbm, 181, rfl⟩
abbrev main_call9_v0 : Ref sig .tc := ⟨.hbm, 182, rfl⟩
abbrev main_call9_v1 : Ref sig .tc := ⟨.hbm, 183, rfl⟩
abbrev main_call9_v2 : Ref sig .tc := ⟨.hbm, 184, rfl⟩
abbrev main_call9_v3 : Ref sig .tc := ⟨.hbm, 185, rfl⟩
abbrev main_call9_v4 : Ref sig .tc := ⟨.hbm, 186, rfl⟩
abbrev main_v120 : Ref sig .tc := ⟨.hbm, 187, rfl⟩
abbrev main_v121 : Ref sig .tc := ⟨.hbm, 188, rfl⟩
abbrev main_v122_0 : Ref sig .tc := ⟨.hbm, 189, rfl⟩
abbrev main_v122_1 : Ref sig .tc := ⟨.hbm, 190, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S51200x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x51200 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S51200x2048 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x51200 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.P.Common.lean ====
/-
  Shared definitions for the proofs about `Kernel`: the resource algebra, the launch memory, and the spelling of a buffer held
  whole.
-/
module

public import proofs.«01_k».proof.Kernel
public import Idealize.ShloMosaic.Lib.Pipeline.Sound
public import Idealize.ShloMosaic.Lib.Tactic
public import proofs.«01_k».proof.Proof.Gen.Kernel
public import proofs.«01_k».proof.Proof.Gen.Kernel.Skeleton
public import proofs.«01_k».proof.Proof.Gen.Kernel.Launch

@[expose] public section

noncomputable section

namespace Cert.Proof.P

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf kernel pipe)

variable {F : FTy → Type} [FloatOps F]

/-- The ghost algebra: the rounds library's over the machine's cells, duties named by `Unit`. -/
abbrev UR (nD : Nat) (τ : Topo) : Type := URounds (GSem nD τ sig) Unit

local notation "𝕄" => MT nD τ sig Unit (Elt F) ℕ (UR nD τ) ℕ

/-- Its embedding into the machine's algebra. -/
def EP : Emb (UR nD τ) (MT nD τ sig Unit (Elt F) ℕ (UR nD τ) ℕ) :=
  (Emb.refl _).trans (uEmb (nD := nD) (sig := sig) (Ix := Unit) (Val := Elt F) (Name := ℕ) (U := UR nD τ) (Lvl := ℕ)).toEmb

instance EP_landsIn : (EP : Emb (UR nD τ) 𝕄).LandsIn (upEmb : UEmb _ 𝕄) := by unfold EP; infer_instance

/-- The kernel's variants: the naturals, the whiles' trips still to run. -/
abbrev 𝒱₀ : Variants := Variants.nat

/-- The contents of memref `M`'s buffer on core `c`. -/
abbrev Bf (c : Dev nD) {sp : Space} {S : Shape} {e : EltTy} (M : Memref sig .tc sp S e) : Type := Buf (Elt F) (M.view.loc (c : Thread nD τ))

/-- Memref `M`'s buffer on core `c`, held whole at contents `f`. -/
abbrev pt (c : Dev nD) {sp : Space} {S : Shape} {e : EltTy} (M : Memref sig .tc sp S e) (f : Bf (F := F) c M) : sProp 𝕄 :=
  M.view.loc (c : Thread nD τ) ↦{fullShare} f

/-- The prefetched table `M`'s buffer on core `c`, at the half share the kernel's body is handed, at contents `f`. -/
abbrev tb (c : Dev nD) {sp : Space} {S : Shape} {e : EltTy} (M : Memref sig .tc sp S e) (f : Bf (F := F) c M) : sProp 𝕄 :=
  M.view.loc (c : Thread nD τ) ↦{fullShare.right} f

end Cert.Proof.P

end
-- ==== Proof.P.Loops.lean ====
module

public import proofs.«01_k».proof.Proof.P.Common
public import Idealize.ShloMosaic.Lib.VecWindow

@[expose] public section

noncomputable section

namespace Cert.Proof.P

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR nD τ) ℕ

open Idealize.ShloMosaic.VecWindow (window put)

/-! ## The inner loop: the group a token lies in -/

/-- The entry of the group table at the word `g + 1` (zero where the table has none). -/
def gsNext (gs : S9.Idx → BitVec 32) (g : BitVec 32) : BitVec 32 :=
  if h : k0_chk1 g then
    (window gs (k0_off17 g) S1.size (k0_off17_inb g h)) (Shape.Idx.first (Nat.lt_of_lt_of_eq Nat.one_pos numel1_S1.symm)) else 0#32

/-- The inner loop from group `g` with end `ge` finishes within `n` trips, every table read inside the table. -/
def AdvOk (gs : S9.Idx → BitVec 32) (s : BitVec 32) : ℕ → BitVec 32 → BitVec 32 → Prop
  | 0, _, ge => ¬ Scalar.cmpi .sle ge s = 1#1
  | n + 1, g, ge => Scalar.cmpi .sle ge s = 1#1 → k0_chk1 g ∧ AdvOk gs s n (Scalar.addi g 1#32) (Scalar.addi ge (gsNext gs g))

/-- The group and its end that the inner loop leaves after at most `n` trips. -/
def adv (gs : S9.Idx → BitVec 32) (s : BitVec 32) : ℕ → BitVec 32 → BitVec 32 → BitVec 32 × BitVec 32
  | 0, g, ge => (g, ge)
  | n + 1, g, ge => if Scalar.cmpi .sle ge s = 1#1 then adv gs s n (Scalar.addi g 1#32) (Scalar.addi ge (gsNext gs g)) else (g, ge)

section Inner

variable (c : Dev nD) (i : grid0.Coords) (s : BitVec 32) (M1 : Memref sig .tc .smem S9 .i32) (h1 : M1.IsWhole) (f1 : Bf (F := F) c M1)

/-- The inner loop's specification: the table is returned as it was, the result is the model's. -/
def spec2 (n : ℕ) (g ge : BitVec 32) : sWPT 𝕄 (BitVec 32 × BitVec 32) := do
  sWPT.consume (tb c M1 f1)
  sWPT.produce (tb c M1 f1)
  pure (adv (M1.view.read (Elt F) f1) s n g ge)

theorem spec2_apply (n : ℕ) (g ge : BitVec 32) (K : BitVec 32 × BitVec 32 → sProp 𝕄) :
    spec2 c s M1 f1 n g ge K = iprop(tb c M1 f1 ∗ (tb c M1 f1 -∗ K (adv (M1.view.read (Elt F) f1) s n g ge))) := rfl

/-- The inner loop meets its specification. -/
theorem spec2_le (E : Set ℕ) : ∀ n g ge, AdvOk (M1.view.read (Elt F) f1) s n g ge → ∀ K, spec2 c s M1 f1 n g ge K
    ⊢ wp frame (wpE (defs₀ (F := F)) 𝒱₀ (c : Thread nD τ) (some n)) E (defs₀ (F := F) .tc 2 ⟨i, s, M1, h1, g, ge⟩) K := by
  intro n
  induction n with
  | zero =>
    intro g ge hok K
    rw [spec2_apply]
    show _ ⊢ wp frame (wpE (defs₀ (F := F)) 𝒱₀ (c : Thread nD τ) (some 0)) E (cc0_while2 i s M1 h1 g ge) K
    simp only [cc0_while2_eq_skeleton]; unfold cc0_while2_skel
    have ht : ¬ Scalar.cmpi .sle ge s = 1#1 := hok
    simp only [ht, ↓reduceIte, Prog.pure_eq_ret, adv]
    iintro ⟨H, Hk⟩
    rw [wp_ret]; imodintro
    iapply Hk; iexact H
  | succ n ih =>
    intro g ge hok K
    rw [spec2_apply]
    show _ ⊢ wp frame (wpE (defs₀ (F := F)) 𝒱₀ (c : Thread nD τ) (some (n+1))) E (cc0_while2 i s M1 h1 g ge) K
    simp only [cc0_while2_eq_skeleton]; unfold cc0_while2_skel
    by_cases ht : Scalar.cmpi .sle ge s = 1#1
    · obtain ⟨hc, hok'⟩ := hok ht
      simp only [ht, ↓reduceIte, adv]
      iintro ⟨H, Hk⟩
      sl_exec
      iapply (wp_call_spec 𝒱₀ (c : Thread nD τ) (some (n + 1)) E (spec2 c s M1 f1 n (Scalar.addi g 1#32) (Scalar.addi ge (gsNext (M1.view.read (Elt F) f1) g))) n
        (fun u hu => by cases hu; exact Nat.lt_succ_self n) ?_)
      · have e : gsNext (M1.view.read (Elt F) f1) g = (M1.view.readAt (Elt F) (Rect.unit (s := S9) (k0_off17 g) S1.size (k0_off17_inb g hc)).toLoadRect f1) (Shape.Idx.first (Nat.lt_of_lt_of_eq Nat.one_pos numel1_S1.symm)) := by
          unfold gsNext; rw [dif_pos hc]; rfl
        have := ih (Scalar.addi g 1#32) (Scalar.addi ge (gsNext (M1.view.read (Elt F) f1) g)) hok'
        rw [e] at this ⊢
        exact this
      rw [spec2_apply]
      isplitl [H]; · iexact H
      iintro H
      rw [wp_ret]; imodintro
      iapply Hk; iexact H
    · simp only [ht, ↓reduceIte, Prog.pure_eq_ret, adv]
      iintro ⟨H, Hk⟩
      rw [wp_ret]; imodintro
      iapply Hk; iexact H

end Inner

/-! ## The outer loop: the token blocks met in one strip -/

/-- What the outer loop carries: the group, the block's first token, the group's end, the block's number, whether the last block ended in the
    strip; the running maxima of the 32 block slots, the slots' first and last tokens, and the block scales. -/
@[ext] structure LS (F : FTy → Type) where
  g : BitVec 32
  s : BitVec 32
  ge : BitVec 32
  k : BitVec 32
  fl : BitVec 1
  am : S32x2048.Idx → F .f32
  lo : S32x128.Idx → BitVec 32
  hi : S32x128.Idx → BitVec 32
  cs : S409x2048.Idx → F .f32

section Model

variable (i : grid0.Coords) (gs : S9.Idx → BitVec 32) (X : S512x2048.Idx → F .bf16)

/-- The strip's first token. -/
def base : BitVec 32 := Scalar.muli (BitVec.ofNat 32 (i 0).val) 512#32

/-- The loop's test: the last block ended in the strip and the next one starts before the strip's end. -/
def testW (s : BitVec 32) (fl : BitVec 1) : BitVec 1 :=
  Scalar.andi fl (Scalar.cmpi .slt s (Scalar.minsi (Scalar.addi (base i) 512#32) 51200#32))

/-- The trip's block: its group and the group's end. -/
def advW (σ : LS F) : BitVec 32 × BitVec 32 := adv gs σ.s 16 σ.g σ.ge

/-- The trip's block end. -/
def endW (s ge : BitVec 32) : BitVec 32 := Scalar.minsi (Scalar.addi s 128#32) ge

/-- Whether the block ends in the strip. -/
def doneW (e : BitVec 32) : BitVec 1 := Scalar.cmpi .sle e (Scalar.addi (base i) 512#32)

/-- The side conditions of a trip whose block lies in the group `r.1` ending at `r.2`: every access inside its array. -/
def ChkR (r : BitVec 32 × BitVec 32) (σ : LS F) : Prop := k0_chk3 σ.k ∧ k0_chk2 i σ.s ∧ k0_chk4 i σ.s σ.k r.2

/-- The side conditions of a trip. -/
def Chk (σ : LS F) : Prop := ChkR i (advW gs σ) σ

/-- Sixteen rows of the strip, the `r`-th sixteen of the trip's window. -/
def win (s : BitVec 32) (h : k0_chk2 i s) (r : Fin 9) : S16x2048.Idx → F .bf16 :=
  window X (k0_off18 i s (BitVec.ofNat 32 (16 * r.val))) S16x2048.size (k0_off18_inb i s h r)

/-- The row maxima of the trip's block so far, eight of the window's nine pieces in. -/
def acc8 (s e : BitVec 32) (h : k0_chk2 i s) : FVec F S16x2048 .f32 :=
  let a := Scalar.subi s (base i)
  let b := Scalar.subi e (base i)
  let w := k0_mult1 i s
  let v91 := k0_pay222 a b w (iota .tc S16x2048 32 [0] iota_S16x2048_d0_w32) (k0_pay221 s (base i)) (win i X s h 0) (win i X s h 1)
  let v108 := k0_pay223 a b w (win i X s h 2)
  let v145 := k0_pay224 a b w v91 v108 (win i X s h 3) (win i X s h 4)
  k0_pay229 a b w v145 (k0_pay225 w) (k0_pay226 (win i X s h 5)) (k0_pay227 a w) (k0_pay228 b) (win i X s h 6) (win i X s h 7)

/-- The slot's row of running maxima. -/
def amRow (am : S32x2048.Idx → F .f32) (k : BitVec 32) (h : k0_chk3 k) : S1x2048.Idx → F .f32 :=
  window am (k0_off19 k) S1x2048.size (k0_off19_inb k h)

/-- The block's running maxima after the trip. -/
def amNew (s e k : BitVec 32) (am : S32x2048.Idx → F .f32) (h2 : k0_chk2 i s) (h3 : k0_chk3 k) : FVec F S1x2048 .f32 :=
  k0_pay8 (Scalar.subi s (base i)) (Scalar.subi e (base i)) (acc8 i X s e h2) (k0_pay230 (k0_mult1 i s)) (win i X s h2 8) (amRow am k h3)

/-- The row of block scales of the maxima `v`. -/
def csNew (v : FVec F S1x2048 .f32) : FVec F S1x2048 .f32 :=
  k0_pay12 (k0_pay220 v (k0_pay217 v) (k0_pay218 v) (k0_pay219 v))

/-- One trip of the outer loop on a block of the group `r.1` ending at `r.2`. -/
def tripR (r : BitVec 32 × BitVec 32) (σ : LS F) (h : ChkR i r σ) : LS F :=
  let e := endW σ.s r.2
  { g := r.1
    s := Scalar.select (doneW i e) e σ.s
    ge := r.2
    k := Scalar.select (doneW i e) (Scalar.addi σ.k 1#32) σ.k
    fl := doneW i e
    am := put σ.am (k0_off19 σ.k) S1x2048.size (k0_pay9 (Scalar.subi σ.s (base i)) (Scalar.subi e (base i)) (acc8 i X σ.s e h.2.1) (k0_pay230 (k0_mult1 i σ.s))
      (win i X σ.s h.2.1 8) (amRow σ.am σ.k h.1))
    lo := put σ.lo (k0_off20 σ.k) S1x128.size (k0_pay10 σ.s)
    hi := put σ.hi (k0_off20 σ.k) S1x128.size (k0_pay11 e)
    cs := if k0_cond3 i σ.s r.2 = 1#1 then put σ.cs (k0_off21 σ.k) S1x2048.size (csNew (amNew i X σ.s e σ.k σ.am h.2.1 h.1)) else σ.cs }

/-- One trip of the outer loop. -/
def trip (σ : LS F) (h : Chk i gs σ) : LS F := tripR i X (advW gs σ) σ h

/-- The outer loop from `σ` finishes within `n` trips, every access inside its array. -/
def Ok : ℕ → LS F → Prop
  | 0, σ => ¬ testW i σ.s σ.fl = 1#1
  | n + 1, σ => testW i σ.s σ.fl = 1#1 → AdvOk gs σ.s 16 σ.g σ.ge ∧ ∃ h : Chk i gs σ, Ok n (trip i gs X σ h)

open Classical in
/-- What the outer loop leaves after at most `n` trips. -/
def loop : ℕ → LS F → LS F
  | 0, σ => σ
  | n + 1, σ => if testW i σ.s σ.fl = 1#1 then (if h : Chk i gs σ then loop n (trip i gs X σ h) else σ) else σ

end Model

section Outer

variable (c : Dev nD) (i : grid0.Coords)
    (M1 : Memref sig .tc .smem S9 .i32) (h1 : M1.IsWhole) (M2 : Memref sig .tc .vmem S512x2048 .bf16) (h2 : M2.IsWhole)
    (M6 : Memref sig .tc .vmem S409x2048 .f32) (h6 : M6.IsWhole)
    (M9 : Memref sig .tc .vmem S32x2048 .f32) (h9 : M9.IsWhole) (M10 : Memref sig .tc .vmem S32x128 .i32) (h10 : M10.IsWhole)
    (M11 : Memref sig .tc .vmem S32x128 .i32) (h11 : M11.IsWhole)
    (f1 : Bf (F := F) c M1) (f2 : Bf (F := F) c M2)

/-- Memref `M`'s buffer held whole at contents that read as `X`. -/
def rd (c : Dev nD) {sp : Space} {S : Shape} {e : EltTy} (M : Memref sig .tc sp S e) (X : S.Idx → Elt F e) : sProp 𝕄 :=
  iprop(∃ f : Bf (F := F) c M, ⌜M.view.read (Elt F) f = X⌝ ∗ pt c M f)

theorem rd_intro (c : Dev nD) {sp : Space} {S : Shape} {e : EltTy} (M : Memref sig .tc sp S e) (f : Bf (F := F) c M) (X : S.Idx → Elt F e)
    (h : M.view.read (Elt F) f = X) : pt c M f ⊢ rd c M X := by
  unfold rd
  iintro H
  iexists f
  isplitr; · ipureintro; exact h
  iexact H

/-- What the outer loop holds: the table and the strip, and the four arrays it updates. -/
def held1 (σ : LS F) : sProp 𝕄 :=
  iprop(tb c M1 f1 ∗ pt c M2 f2 ∗ rd c M6 σ.cs ∗ rd c M9 σ.am ∗ rd c M10 σ.lo ∗ rd c M11 σ.hi)

/-- The outer loop's specification: from the state `σ`, it leaves the model's state. -/
def spec1 (n : ℕ) (σ : LS F) : sWPT 𝕄 (BitVec 32 × BitVec 32 × BitVec 32 × BitVec 32 × BitVec 1) := do
  let τ := loop i (M1.view.read (Elt F) f1) (M2.view.read (Elt F) f2) n σ
  sWPT.consume (held1 c M1 M2 M6 M9 M10 M11 f1 f2 σ)
  sWPT.produce (held1 c M1 M2 M6 M9 M10 M11 f1 f2 τ)
  pure (τ.g, τ.s, τ.ge, τ.k, τ.fl)

/-- The state the outer loop leaves. -/
abbrev fin1 (n : ℕ) (σ : LS F) : LS F := loop i (M1.view.read (Elt F) f1) (M2.view.read (Elt F) f2) n σ

theorem spec1_apply (n : ℕ) (σ : LS F) (K : _ → sProp 𝕄) :
    spec1 c i M1 M2 M6 M9 M10 M11 f1 f2 n σ K = iprop(held1 c M1 M2 M6 M9 M10 M11 f1 f2 σ
      ∗ (held1 c M1 M2 M6 M9 M10 M11 f1 f2 (fin1 c i M1 M2 f1 f2 n σ)
        -∗ K ((fin1 c i M1 M2 f1 f2 n σ).g, (fin1 c i M1 M2 f1 f2 n σ).s, (fin1 c i M1 M2 f1 f2 n σ).ge, (fin1 c i M1 M2 f1 f2 n σ).k, (fin1 c i M1 M2 f1 f2 n σ).fl))) := rfl

/-- A call of the inner loop that returns the table as it was and the pair `r`. -/
def specR (r : BitVec 32 × BitVec 32) : sWPT 𝕄 (BitVec 32 × BitVec 32) := do
  sWPT.consume (tb c M1 f1)
  sWPT.produce (tb c M1 f1)
  pure r

theorem specR_apply (r : BitVec 32 × BitVec 32) (K : BitVec 32 × BitVec 32 → sProp 𝕄) :
    specR c M1 f1 r K = iprop(tb c M1 f1 ∗ (tb c M1 f1 -∗ K r)) := rfl

/-- One trip of the outer loop, up to its own call, the inner loop's answer `(r1, r2)` given. -/
theorem trip_le (E : Set ℕ) (n : ℕ) (g s ge k : BitVec 32) (fl : BitVec 1) (am : S32x2048.Idx → F .f32) (lo hi : S32x128.Idx → BitVec 32)
    (cs : S409x2048.Idx → F .f32) (r1 r2 : BitVec 32)
    (hin : ∀ K, specR c M1 f1 (r1, r2) K ⊢ wp frame (wpE (defs₀ (F := F)) 𝒱₀ (c : Thread nD τ) (some 16)) E (defs₀ (F := F) .tc 2 ⟨i, s, M1, h1, g, ge⟩) K)
    (ht : testW i s fl = 1#1) (hchk : ChkR i (r1, r2) (⟨g, s, ge, k, fl, am, lo, hi, cs⟩ : LS F)) (K : _ → sProp 𝕄) :
    iprop(held1 c M1 M2 M6 M9 M10 M11 f1 f2 ⟨g, s, ge, k, fl, am, lo, hi, cs⟩
      ∗ (held1 c M1 M2 M6 M9 M10 M11 f1 f2 (tripR i (M2.view.read (Elt F) f2) (r1, r2) ⟨g, s, ge, k, fl, am, lo, hi, cs⟩ hchk)
        -∗ wp frame (wpE (defs₀ (F := F)) 𝒱₀ (c : Thread nD τ) (some (n + 1 + 17))) E
            (Prog.op (TpuEff.call (1 : (Λ₀ F).Label) ⟨i, M1, h1, M2, h2, M9, h9, M10, h10, M11, h11, M6, h6, r1,
              Scalar.select (doneW i (endW s r2)) (endW s r2) s, r2, Scalar.select (doneW i (endW s r2)) (Scalar.addi k 1#32) k, doneW i (endW s r2)⟩) Prog.ret) K))
    ⊢ wp frame (wpE (defs₀ (F := F)) 𝒱₀ (c : Thread nD τ) (some (n + 1 + 17))) E
        (cc0_while1 i M1 h1 M2 h2 M9 h9 M10 h10 M11 h11 M6 h6 g s ge k fl) K := by
  simp only [cc0_while1_eq_skeleton]; unfold cc0_while1_skel
  have ht' : Scalar.andi fl (Scalar.cmpi .slt s (Scalar.minsi (Scalar.addi (Scalar.muli (BitVec.ofNat 32 (i 0).val) 512#32) 512#32) 51200#32)) = 1#1 := ht
  have q3 : k0_chk3 k := hchk.1
  have q2 : k0_chk2 i s := hchk.2.1
  have q4 : k0_chk4 i s k r2 := hchk.2.2
  simp only [ht', ↓reduceIte, k0_part55_eq_skeleton]
  unfold k0_part55_skel held1 rd
  iintro ⟨⟨H1, H2, ⟨%f6, %e6, H6⟩, ⟨%f9, %e9, H9⟩, ⟨%f10, %e10, H10⟩, ⟨%f11, %e11, H11⟩⟩, Hk⟩
  sl_exec
  iapply (wp_call_spec 𝒱₀ (c : Thread nD τ) (some (n + 1 + 17)) E (specR c M1 f1 (r1, r2)) 16
    (fun u hu => by cases hu; show 16 < n + 1 + 17; omega) hin)
  rw [specR_apply]
  isplitl [H1]; · iexact H1
  iintro H1
  sl_exec
  have e7 : trip_le.sl.r_7 c i M2 f2 s k r1 r2 q3 q2 q4 = acc8 i (M2.view.read (Elt F) f2) s (endW s r2) q2 := rfl
  have e8 : k0_pay8 (trip_le.sl.v34 i s) (trip_le.sl.v35 i s r2) (trip_le.sl.r_7 c i M2 f2 s k r1 r2 q3 q2 q4) (trip_le.sl.r_8 i s)
      (View.readAt (Elt F) M2.view (Rect.unit (s := S512x2048) (k0_off18 i s 128#32) S16x2048.size (k0_off18_inb i s q2 8)).toLoadRect f2)
      (View.readAt (Elt F) M9.view (Rect.unit (s := S32x2048) (k0_off19 k) S1x2048.size (k0_off19_inb k q3)).toLoadRect f9)
      = amNew i (M2.view.read (Elt F) f2) s (endW s r2) k (M9.view.read (Elt F) f9) q2 q3 := by
    rw [e7]; rfl
  have e12 : k0_pay12 (F := F) (trip_le.sl.r_12 c i M2 M9 f2 s k r1 r2 q3 q2 q4 f9)
      = csNew (amNew i (M2.view.read (Elt F) f2) s (endW s r2) k (M9.view.read (Elt F) f9) q2 q3) := by
    unfold trip_le.sl.r_12 trip_le.sl.r_9 trip_le.sl.r_10 trip_le.sl.r_11 csNew
    rw [← e8]
  have e91 : trip_le.sl.H9_1 c i M2 M9 f2 s k r1 r2 q3 q2 q4 f9
      = [⟨Rect.unit (k0_off19 k) S1x2048.size (k0_off19_inb k q3), k0_pay9 (Scalar.subi s (base i)) (Scalar.subi (endW s r2) (base i))
        (acc8 i (M2.view.read (Elt F) f2) s (endW s r2) q2) (k0_pay230 (k0_mult1 i s))
        (win i (M2.view.read (Elt F) f2) s q2 8) (amRow (M9.view.read (Elt F) f9) k q3)⟩] := by
    unfold trip_le.sl.H9_1; rw [e7]; rfl
  iapply Hk
  isplitl [H1]; · iexact H1
  isplitl [H2]; · iexact H2
  isplitl [H6]
  · iexists _
    isplitr [H6]
    rotate_left
    · iexact H6
    ipureintro
    dsimp only at e6 e9
    subst e6 e9
    dsimp only [tripR]
    split
    · rw [View.read_writes_cons_put _ _ _ _ _ rfl, View.writes_nil, e12]
    · rfl
  isplitl [H9]
  · iexists _
    isplitr [H9]
    rotate_left
    · iexact H9
    ipureintro
    dsimp only at e9
    subst e9
    dsimp only [tripR]
    rw [e91, View.read_writes_cons_put _ _ _ _ _ rfl, View.writes_nil]
  isplitl [H10]
  · iexists _
    isplitr [H10]
    rotate_left
    · iexact H10
    ipureintro
    dsimp only at e10
    subst e10
    refine (View.read_writes_cons_put _ _ _ _ _ rfl).trans ?_
    rw [View.writes_nil]; rfl
  · iexists _
    isplitr [H11]
    rotate_left
    · iexact H11
    ipureintro
    dsimp only at e11
    subst e11
    refine (View.read_writes_cons_put _ _ _ _ _ rfl).trans ?_
    rw [View.writes_nil]; rfl

/-- The outer loop meets its specification. -/
theorem spec1_le (E : Set ℕ) : ∀ n σ, Ok i (M1.view.read (Elt F) f1) (M2.view.read (Elt F) f2) n σ → ∀ K,
    spec1 c i M1 M2 M6 M9 M10 M11 f1 f2 n σ K
    ⊢ wp frame (wpE (defs₀ (F := F)) 𝒱₀ (c : Thread nD τ) (some (n + 17))) E
      (defs₀ (F := F) .tc 1 ⟨i, M1, h1, M2, h2, M9, h9, M10, h10, M11, h11, M6, h6, σ.g, σ.s, σ.ge, σ.k, σ.fl⟩) K := by
  intro n
  induction n with
  | zero =>
    intro σ hok K
    rw [spec1_apply]
    show _ ⊢ wp frame (wpE (defs₀ (F := F)) 𝒱₀ (c : Thread nD τ) (some 17)) E (cc0_while1 i M1 h1 M2 h2 M9 h9 M10 h10 M11 h11 M6 h6 σ.g σ.s σ.ge σ.k σ.fl) K
    simp only [cc0_while1_eq_skeleton]; unfold cc0_while1_skel
    have ht : ¬ Scalar.andi σ.fl (Scalar.cmpi .slt σ.s (Scalar.minsi (Scalar.addi (Scalar.muli (BitVec.ofNat 32 (i 0).val) 512#32) 512#32) 51200#32)) = 1#1 := hok
    simp only [ht, ↓reduceIte, Prog.pure_eq_ret, fin1, loop]
    iintro ⟨H, Hk⟩
    rw [wp_ret]; imodintro
    iapply Hk; iexact H
  | succ n ih =>
    intro σ hok K
    rw [spec1_apply]
    show _ ⊢ wp frame (wpE (defs₀ (F := F)) 𝒱₀ (c : Thread nD τ) (some (n + 1 + 17))) E (cc0_while1 i M1 h1 M2 h2 M9 h9 M10 h10 M11 h11 M6 h6 σ.g σ.s σ.ge σ.k σ.fl) K
    by_cases ht : testW i σ.s σ.fl = 1#1
    · obtain ⟨hadv, hchk, hok'⟩ := hok ht
      have hl : fin1 c i M1 M2 f1 f2 (n + 1) σ = fin1 c i M1 M2 f1 f2 n (trip i (M1.view.read (Elt F) f1) (M2.view.read (Elt F) f2) σ hchk) := by
        show loop _ _ _ (n + 1) σ = _
        rw [loop, if_pos ht, dif_pos hchk]
      rw [hl]
      have hin := fun K => spec2_le c i σ.s M1 h1 f1 E 16 σ.g σ.ge hadv K
      have T := (trip_le c i M1 h1 M2 h2 M6 h6 M9 h9 M10 h10 M11 h11 f1 f2 E n σ.g σ.s σ.ge σ.k σ.fl σ.am σ.lo σ.hi σ.cs
        (advW (M1.view.read (Elt F) f1) σ).1 (advW (M1.view.read (Elt F) f1) σ).2 hin ht hchk K)
      iintro ⟨H, Hk⟩
      iapply T
      isplitl [H]; · iexact H
      iintro H
      iapply (wp_call_spec 𝒱₀ (c : Thread nD τ) (some (n + 1 + 17)) E
        (spec1 c i M1 M2 M6 M9 M10 M11 f1 f2 n (trip i (M1.view.read (Elt F) f1) (M2.view.read (Elt F) f2) σ hchk)) (n + 17)
        (fun u hu => by cases hu; show n + 17 < n + 1 + 17; omega) (ih _ hok'))
      rw [spec1_apply]
      isplitl [H]; · iexact H
      iintro H
      rw [wp_ret]; imodintro
      iapply Hk; iexact H
    · have hl : fin1 c i M1 M2 f1 f2 (n + 1) σ = σ := by
        show loop _ _ _ (n + 1) σ = _
        rw [loop, if_neg ht]
      rw [hl]
      have ht' : ¬ Scalar.andi σ.fl (Scalar.cmpi .slt σ.s (Scalar.minsi (Scalar.addi (Scalar.muli (BitVec.ofNat 32 (i 0).val) 512#32) 512#32) 51200#32)) = 1#1 := ht
      simp only [cc0_while1_eq_skeleton]; unfold cc0_while1_skel
      simp only [ht', ↓reduceIte, Prog.pure_eq_ret]
      iintro ⟨H, Hk⟩
      rw [wp_ret]; imodintro
      iapply Hk; iexact H

end Outer

end Cert.Proof.P

end
-- ==== Proof.P.Tiles.lean ====
module

public import proofs.«01_k».proof.Proof.P.Loops
public import Idealize.ShloMosaic.Lib.VecWindow
public import Idealize.ShloMosaic.Lib.Pointwise.Index

@[expose] public section

noncomputable section

namespace Cert.Proof.P

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR nD τ) ℕ

open Idealize.ShloMosaic.VecWindow (window put)
open Idealize.ShloMosaic (ix2 ix3)

/-! ## The block computations of one strip, tile by tile -/

/-! ### The power-of-two scale of a maximum -/

/-- One step of the search for the exponent field of `p`: `c + b` if the word of that field reads at most `p`, else `c`. -/
def fieldStep {S : Shape} (p : FVec F S .f32) (b : BitVec 32) (c : IVec S 32) : IVec S 32 :=
  select (cmpf .ole (bitcastToFloat .f32 (shli (addi c (broadcast S b)) (broadcast S 23#32)) : FVec F S .f32) p) (addi c (broadcast S b)) c

/-- The exponent field of `p`. -/
def field {S : Shape} (p : FVec F S .f32) : IVec S 32 :=
  fieldStep p 1#32 (fieldStep p 2#32 (fieldStep p 4#32 (fieldStep p 8#32 (fieldStep p 16#32 (fieldStep p 32#32 (fieldStep p 64#32
    (fieldStep p 128#32 (broadcast S 0#32))))))))

/-- The exponent of the scale of the maximum `a`. -/
def expo {S : Shape} (a : FVec F S .f32) : IVec S 32 :=
  let f := field (mulf a (broadcast S (Scalar.ofBits .f32 0x3B124925#32)))
  select (cmpf .oeq a (broadcast S (Scalar.ofBits .f32 0x00000000#32))) (broadcast S 0#32)
    (select (ori (cmpi .eq f (broadcast S 0#32)) (cmpi .eq f (broadcast S 255#32))) (broadcast S 0#32) (subi f (broadcast S 126#32)))

/-- The power of two of the exponent `e`. -/
def pow2 {S : Shape} (e : IVec S 32) : FVec F S .f32 :=
  bitcastToFloat .f32 (shli (addi e (broadcast S 127#32)) (broadcast S 23#32))

/-- The reciprocal scale of the maximum `a`. -/
def invScale {S : Shape} (a : FVec F S .f32) : FVec F S .bf16 :=
  truncf .bf16 (pow2 (subi (broadcast S 0#32) (expo a))) bitsLt_bf16_f32

/-- The codes of the scaled values `v`. -/
def codes {S : Shape} (v : FVec F S .bf16) : FVec F S .fp8e4m3 :=
  truncf .fp8e4m3 (minimumf (broadcast S (Scalar.ofBits .bf16 0x43E0#16)) (maximumf (broadcast S (Scalar.ofBits .bf16 0xC3E0#16)) v)) bitsLt_fp8e4m3_bf16

/-! ### The row direction -/

/-- Column group `g` of the strip. -/
def grp (X : S512x2048.Idx → F .bf16) (g : Fin 16) : S512x128.Idx → F .bf16 :=
  window X ![0, 128 * g.val] S512x128.size (fun a => by revert a; revert g; decide)

/-- The row maxima of the strip, one row of sixteen per column group. -/
def raBlk (X : S512x2048.Idx → F .bf16) : FVec F S16x512 .f32 :=
  fun y => k0_pay15 (grp X (y 0)) (ix2 0 (y 1))

/-- The row scales of the strip. -/
def rsBlk (X : S512x2048.Idx → F .bf16) : FVec F S16x512 .f32 := pow2 (expo (raBlk X))

/-- The indicator of column group `i` over the columns. -/
def sel : FVec F S16x2048 .bf16 :=
  k0_pay77 (iota .tc S16x2048 32 [0] iota_S16x2048_d0_w32) (iota .tc S16x2048 32 [1] iota_S16x2048_d1_w32) 128#32 k0_pay75 k0_pay76 1#32 0#1

theorem slices_inv (r : Fin 4) : S16x512.Slices ![0, 128 * r.val] S16x128 := by revert r; decide
theorem slices_sel (c : Fin 8) : S16x2048.Slices ![0, 256 * c.val] S16x256 := by revert c; decide

/-- Tile `(r, c)` of the row codes. -/
def rcTile (iv : FVec F S16x512 .bf16) (X : S512x2048.Idx → F .bf16) (r : Fin 4) (c : Fin 8) : FVec F S128x256 .fp8e4m3 :=
  codes (mulf (shapeCast S128x256 (window X ![128 * r.val, 256 * c.val] S128x256.size (fun a => by revert a; revert r c; decide)) shapeCasts_S128x256_S128x256)
    (truncf .bf16 (matmul dot_S16x128_S16x256_S128x256_0_0_1_1_n_n none (extractStridedSlice S16x128 ![0, 128 * r.val] iv (slices_inv r))
      (extractStridedSlice S16x256 ![0, 256 * c.val] sel (slices_sel c)) (constant S128x256 .f32 0x00000000#32)) bitsLt_bf16_f32))

/-- The row codes of the strip. -/
def rcBlk (X : S512x2048.Idx → F .bf16) : FVec F S512x2048 .fp8e4m3 :=
  fun y => rcTile (invScale (raBlk X)) X ⟨(y 0).val / 128, by have := (y 0).isLt; simp at this ⊢; omega⟩ ⟨(y 1).val / 256, by have := (y 1).isLt; simp at this ⊢; omega⟩
    (ix2 ⟨(y 0).val % 128, Nat.mod_lt _ (by decide)⟩ ⟨(y 1).val % 256, Nat.mod_lt _ (by decide)⟩)

/-- The strip's transpose over its half of the two-strip buffer. -/
def xtBlk (i : grid0.Coords) (X : S512x2048.Idx → F .bf16) (old : S2x2048x512.Idx → F .bf16) : S2x2048x512.Idx → F .bf16 :=
  fun y => if (y 0).val = k0_off1 i 0 then k0_pay14 (grp X ⟨(y 1).val / 128, by have := (y 1).isLt; simp at this ⊢; omega⟩)
      (ix3 0 ⟨(y 1).val % 128, Nat.mod_lt _ (by decide)⟩ (y 2))
    else old y

/-! ### The column direction -/

theorem slices_col (c : Fin 16) : S32x2048.Slices ![0, 128 * c.val] S32x128 := by revert c; decide

/-- Which slot's block each of the 128 tokens from `t` lies in. -/
def hot (t : BitVec 32) (lo hi : S32x128.Idx → BitVec 32) : FVec F S32x128 .bf16 :=
  let u : IVec S32x128 32 := addi (broadcast S32x128 t) (iota .tc S32x128 32 [1] iota_S32x128_d1_w32)
  truncf .bf16 (select (andi (cmpi .sge u lo) (cmpi .slt u hi)) (broadcast S32x128 (Scalar.ofBits .f32 0x3F800000#32))
    (broadcast S32x128 (Scalar.ofBits .f32 0x00000000#32)) : FVec F S32x128 .f32) bitsLt_bf16_f32

/-- The first token of the strip before point `i`'s. -/
def prevBase (i : grid0.Coords) : BitVec 32 := Scalar.muli (Scalar.subi (BitVec.ofNat 32 (i 0).val) 1#32) 512#32

theorem slot_inb (i : grid0.Coords) (h : k0_cond4 i = 1#1) (c : Fin 16) (r : Fin 4) :
    ∀ a, (![k0_off22 i 0, 128 * c.val, 128 * r.val] : Fin 3 → ℕ) a + S1x128x128.size a ≤ S2x2048x512.size a := by
  intro a
  have h0 := k0_off22_inb i h
  fin_cases a
  · exact h0 0
  · show 128 * c.val + 128 ≤ 2048
    omega
  · show 128 * r.val + 128 ≤ 512
    omega

/-- Tile `(c, r)` of the column codes. -/
def ccTile (iv : FVec F S32x2048 .bf16) (ht : FVec F S32x128 .bf16) (c : Fin 16) (v : S1x128x128.Idx → F .bf16) : FVec F S128x128 .fp8e4m3 :=
  codes (mulf (shapeCast S128x128 v shapeCasts_S1x128x128_S128x128)
    (truncf .bf16 (matmul dot_S32x128_S32x128_S128x128_0_0_1_1_n_n none (extractStridedSlice S32x128 ![0, 128 * c.val] iv (slices_col c)) ht
      (constant S128x128 .f32 0x00000000#32)) bitsLt_bf16_f32))

/-- Tile `(c, r)` of the column codes of the strip before point `i`'s. -/
def ccT (i : grid0.Coords) (h : k0_cond4 i = 1#1) (xt : S2x2048x512.Idx → F .bf16) (am : S32x2048.Idx → F .f32) (lo hi : S32x128.Idx → BitVec 32)
    (c : Fin 16) (r : Fin 4) : FVec F S128x128 .fp8e4m3 :=
  ccTile (invScale am) (hot (Scalar.addi (prevBase i) (BitVec.ofNat 32 (128 * r.val))) lo hi) c
    (window xt ![k0_off22 i 0, 128 * c.val, 128 * r.val] S1x128x128.size (slot_inb i h c r))

/-- The column codes of the strip before point `i`'s. -/
def ccBlk (i : grid0.Coords) (h : k0_cond4 i = 1#1) (xt : S2x2048x512.Idx → F .bf16) (am : S32x2048.Idx → F .f32) (lo hi : S32x128.Idx → BitVec 32) :
    FVec F S2048x512 .fp8e4m3 :=
  fun y => ccT i h xt am lo hi ⟨(y 0).val / 128, by have := (y 0).isLt; simp at this ⊢; omega⟩ ⟨(y 1).val / 128, by have := (y 1).isLt; simp at this ⊢; omega⟩
    (ix2 ⟨(y 0).val % 128, Nat.mod_lt _ (by decide)⟩ ⟨(y 1).val % 128, Nat.mod_lt _ (by decide)⟩)

/-! ## The state a point starts from -/

/-- Whether the point is the first. -/
def isFirst (i : grid0.Coords) : BitVec 1 := Scalar.cmpi .ne (Scalar.extui (Scalar.cmpi .eq (BitVec.ofNat 32 (i 0).val) 0#32)) 0#32

/-- The four words the loop's state is kept in between points. -/
def words (g s ge k : BitVec 32) : S4.Idx → BitVec 32 := fun y => (![g, s, ge, k] : Fin 4 → BitVec 32) (y 0)

/-- The loop's state as the body starts it: cleared at the first point, else as the point before left it. -/
def start (i : grid0.Coords) (gs : S9.Idx → BitVec 32) (st : S4.Idx → BitVec 32) (am : S32x2048.Idx → F .f32) (lo hi : S32x128.Idx → BitVec 32)
    (cs : S409x2048.Idx → F .f32) : LS F :=
  if isFirst i = 1#1 then ⟨0#32, 0#32, gs (ix1 0), 0#32, 1#1, k0_pay1, k0_pay2, k0_pay3, k0_pay4⟩
  else ⟨st (ix1 0), st (ix1 1), st (ix1 2), st (ix1 3), 1#1, am, lo, hi, cs⟩

end Cert.Proof.P

end
-- ==== Proof.P.Pieces.lean ====
module

public import proofs.«01_k».proof.Proof.P.Tiles
public import Idealize.ShloMosaic.Lib.VecWindow

@[expose] public section

noncomputable section

namespace Cert.Proof.P

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR nD τ) ℕ

open VecWindow (window put)

/-! ## What a list of tile stores leaves -/

section Generic

variable {sp : Space} {S : Shape} {e : EltTy}

/-- Stores that each hold the values of one array `G`, and between them every place where `G` differs from the old contents, leave `G`. -/
theorem read_tiles (v : View sig .tc sp S e) (f : v.ty.Contents (Elt F)) (L : List (View.Piece (Elt F) S e)) (G : S.Idx → Elt F e)
    (hG : ∀ p ∈ L, ∀ x : p.1.shape.Idx, p.2 x = G (p.1.emb x)) (hc : ∀ y, (∃ p ∈ L, y ∈ p.1.set) ∨ G y = v.read (Elt F) f y) :
    v.read (Elt F) (v.writes (Elt F) f L) = G := by
  funext y
  by_cases h : ∃ p ∈ L, y ∈ p.1.set
  · exact View.read_writes_apply_of_pieces v f G L hG y h
  · rw [View.read_writes_apply_of_forall_not_mem v f y L (fun p hp hy => h ⟨p, hp, hy⟩)]
    rcases hc y with h' | h'
    · exact absurd h' h
    · exact h'.symm

end Generic

/-! ### The four words -/

theorem read_words (M : Memref sig .tc .smem S4 .i32) (f : M.view.ty.Contents (Elt F)) (a b c d : BitVec 32) (h0 h1 h2 h3) :
    M.view.read (Elt F) (M.view.writes (Elt F) f [⟨Rect.unit (s := S4) ![3] S1.size h3, fun _ => d⟩, ⟨Rect.unit (s := S4) ![2] S1.size h2, fun _ => c⟩,
      ⟨Rect.unit (s := S4) ![1] S1.size h1, fun _ => b⟩, ⟨Rect.unit (s := S4) ![0] S1.size h0, fun _ => a⟩]) = words a b c d := by
  refine read_tiles _ _ _ _ ?_ ?_
  · simp only [List.forall_mem_cons]
    have hx : ∀ x : S1.Idx, x = ix1 0 := fun x => (ix1_eta x).symm.trans (congrArg ix1 (Subsingleton.elim _ _))
    refine ⟨fun x => ?_, fun x => ?_, fun x => ?_, fun x => ?_, fun p hp => nomatch hp⟩ <;> rw [show x = ix1 0 from hx x] <;> rfl
  · intro y
    left
    have hy : y = ix1 (y 0) := (ix1_eta y).symm
    have l : (y 0).val < 4 := (y 0).isLt
    have h4 : (y 0).val = 0 ∨ (y 0).val = 1 ∨ (y 0).val = 2 ∨ (y 0).val = 3 := by omega
    rcases h4 with h | h | h | h
    · refine ⟨_, List.mem_cons_of_mem _ (List.mem_cons_of_mem _ (List.mem_cons_of_mem _ List.mem_cons_self)), (Rect.mem_set_unit (inb := h0)).2 fun a => ?_⟩
      fin_cases a; exact ⟨Nat.zero_le _, by show (y 0).val < 0 + 1; rw [h]; omega⟩
    · refine ⟨_, List.mem_cons_of_mem _ (List.mem_cons_of_mem _ List.mem_cons_self), (Rect.mem_set_unit (inb := h1)).2 fun a => ?_⟩
      fin_cases a; exact ⟨by show 1 ≤ (y 0).val; rw [h], by show (y 0).val < 1 + 1; rw [h]; omega⟩
    · refine ⟨_, List.mem_cons_of_mem _ List.mem_cons_self, (Rect.mem_set_unit (inb := h2)).2 fun a => ?_⟩
      fin_cases a; exact ⟨by show 2 ≤ (y 0).val; rw [h], by show (y 0).val < 2 + 1; rw [h]; omega⟩
    · refine ⟨_, List.mem_cons_self, (Rect.mem_set_unit (inb := h3)).2 fun a => ?_⟩
      fin_cases a; exact ⟨by show 3 ≤ (y 0).val; rw [h], by show (y 0).val < 3 + 1; rw [h]; omega⟩

/-- A word loaded is the array's at its place. -/
theorem word_at (M : Memref sig .tc .smem S4 .i32) (f : M.view.ty.Contents (Elt F)) (m : ℕ) (n : Fin 4) (hm : m = n.val) (inb) (x : S1.Idx) :
    M.view.readAt (Elt F) (Rect.unit (s := S4) ![m] S1.size inb).toLoadRect f x = M.view.read (Elt F) f (ix1 n) := by
  have hx : x = ix1 0 := (ix1_eta x).symm.trans (congrArg ix1 (Subsingleton.elim _ _))
  subst hm hx
  refine congrArg (M.view.read (Elt F) f) (funext fun a => ?_)
  fin_cases a
  exact Fin.ext rfl

/-- A size loaded is the table's at its place. -/
theorem table_at (M : Memref sig .tc .smem S9 .i32) (f : M.view.ty.Contents (Elt F)) (m : ℕ) (n : Fin 9) (hm : m = n.val) (inb) (x : S1.Idx) :
    M.view.readAt (Elt F) (Rect.unit (s := S9) ![m] S1.size inb).toLoadRect f x = M.view.read (Elt F) f (ix1 n) := by
  have hx : x = ix1 0 := (ix1_eta x).symm.trans (congrArg ix1 (Subsingleton.elim _ _))
  subst hm hx
  refine congrArg (M.view.read (Elt F) f) (funext fun a => ?_)
  fin_cases a
  exact Fin.ext rfl

/-! ### The row maxima -/

theorem raP_inb (g : Fin 16) : ∀ a, (![g.val, 0] : Fin 2 → ℕ) a + S1x512.size a ≤ S16x512.size a := by revert g; decide

/-- The store of row `w g` of an array of sixteen rows. -/
def rowP (w : Fin 16 → FVec F S1x512 .f32) (g : Fin 16) : View.Piece (Elt F) S16x512 .f32 :=
  ⟨Rect.unit (s := S16x512) ![g.val, 0] S1x512.size (raP_inb g), w g⟩

/-- The store of the maxima of column group `g`. -/
def raP (X : S512x2048.Idx → F .bf16) (g : Fin 16) : View.Piece (Elt F) S16x512 .f32 := rowP (fun g => k0_pay15 (grp X g)) g

/-- The sixteen stores, newest first. -/
def groups : List (Fin 16) := [15, 14, 13, 12, 11, 10, 9, 8, 7, 6, 5, 4, 3, 2, 1, 0]

theorem mem_groups (g : Fin 16) : g ∈ groups := by revert g; decide

theorem read_rows (v : View sig .tc .vmem S16x512 .f32) (f : v.ty.Contents (Elt F)) (w : Fin 16 → FVec F S1x512 .f32) :
    v.read (Elt F) (v.writes (Elt F) f (groups.map (rowP w))) = fun y => w (y 0) (ix2 0 (y 1)) := by
  refine read_tiles _ _ _ _ ?_ ?_
  · intro p hp x
    obtain ⟨g, -, rfl⟩ := List.mem_map.1 hp
    have e0 : ((rowP w g).1.emb x) 0 = g := Fin.ext (by
      have h : (x 0).val < 1 := (x 0).isLt
      show g.val + 1 * (x 0).val = g.val
      omega)
    have e1 : ((rowP w g).1.emb x) 1 = x 1 := Fin.ext (by show 0 + 1 * (x 1).val = (x 1).val; omega)
    have ex : x = (ix2 0 (x 1) : S1x512.Idx) := by
      have e00 : @Eq (Fin 1) (x 0) 0 := Fin.ext (by have : (x 0).val < 1 := (x 0).isLt; show (x 0).val = 0; omega)
      exact (ix2_eta (n0 := 1) (n1 := 512) x).symm.trans (congrArg (fun z => ix2 z (x 1)) e00)
    exact (congrArg (w g) ex).trans (congrArg₂ (fun (a : Fin 16) (b : Fin 512) => w a (ix2 0 b)) e0 e1).symm
  · intro y
    left
    refine ⟨rowP w (y 0), List.mem_map_of_mem (mem_groups _), (Rect.mem_set_unit (inb := raP_inb _)).2 fun a => ?_⟩
    fin_cases a
    · exact ⟨Nat.le_refl _, Nat.lt_succ_self _⟩
    · exact ⟨Nat.zero_le _, by have : (y 1).val < 512 := (y 1).isLt; show (y 1).val < 0 + 512; omega⟩

theorem read_ra (v : View sig .tc .vmem S16x512 .f32) (f : v.ty.Contents (Elt F)) (X : S512x2048.Idx → F .bf16) :
    v.read (Elt F) (v.writes (Elt F) f (groups.map (raP X))) = raBlk X := read_rows v f _

/-! ### The strip's transpose -/

theorem xtP_inb (i : grid0.Coords) (hc : k0_cond2 i = 1#1) (g : Fin 16) :
    ∀ a, (![k0_off1 i 0, 128 * g.val, 0] : Fin 3 → ℕ) a + S1x128x512.size a ≤ S2x2048x512.size a := by
  intro a
  have h0 := k0_off1_inb i hc
  fin_cases a
  · exact h0 0
  · show 128 * g.val + 128 ≤ 2048
    omega
  · show 0 + 512 ≤ 512
    omega

/-- The store of the transpose of column group `g`. -/
def xtP (i : grid0.Coords) (hc : k0_cond2 i = 1#1) (X : S512x2048.Idx → F .bf16) (g : Fin 16) : View.Piece (Elt F) S2x2048x512 .bf16 :=
  ⟨Rect.unit (s := S2x2048x512) ![k0_off1 i 0, 128 * g.val, 0] S1x128x512.size (xtP_inb i hc g), k0_pay14 (grp X g)⟩

theorem read_xt (v : View sig .tc .vmem S2x2048x512 .bf16) (f : v.ty.Contents (Elt F)) (i : grid0.Coords) (hc : k0_cond2 i = 1#1)
    (X : S512x2048.Idx → F .bf16) :
    v.read (Elt F) (v.writes (Elt F) f (groups.map (xtP i hc X))) = xtBlk i X (v.read (Elt F) f) := by
  refine read_tiles _ _ _ _ ?_ ?_
  · intro p hp x
    obtain ⟨g, -, rfl⟩ := List.mem_map.1 hp
    have l0 : (x 0).val < 1 := (x 0).isLt
    have l1 : (x 1).val < 128 := (x 1).isLt
    have v0 : (((xtP i hc X g).1.emb x) 0).val = k0_off1 i 0 := by show k0_off1 i 0 + 1 * (x 0).val = _; omega
    have v1 : (((xtP i hc X g).1.emb x) 1).val = 128 * g.val + (x 1).val := by show 128 * g.val + 1 * (x 1).val = _; omega
    have e2 : ((xtP i hc X g).1.emb x) 2 = x 2 := Fin.ext (by show 0 + 1 * (x 2).val = (x 2).val; omega)
    have eg : ∀ h, (⟨(((xtP i hc X g).1.emb x) 1).val / 128, h⟩ : Fin 16) = g := fun h => Fin.ext (by show _ / 128 = g.val; rw [v1]; omega)
    have er : ∀ h, (⟨(((xtP i hc X g).1.emb x) 1).val % 128, h⟩ : Fin 128) = x 1 := fun h => Fin.ext (by show _ % 128 = (x 1).val; rw [v1]; omega)
    have ex : x = (ix3 0 (x 1) (x 2) : S1x128x512.Idx) := by
      have e00 : @Eq (Fin 1) (x 0) 0 := Fin.ext (by show (x 0).val = 0; omega)
      exact (ix3_eta (n0 := 1) (n1 := 128) (n2 := 512) x).symm.trans (congrArg (fun z => ix3 z (x 1) (x 2)) e00)
    show k0_pay14 (grp X g) x = xtBlk i X (v.read (Elt F) f) ((xtP i hc X g).1.emb x)
    rw [xtBlk, if_pos v0, eg, er, e2]
    exact congrArg _ ex
  · intro y
    by_cases h : (y 0).val = k0_off1 i 0
    · left
      have l1 : (y 1).val < 2048 := (y 1).isLt
      refine ⟨xtP i hc X ⟨(y 1).val / 128, by omega⟩, List.mem_map_of_mem (mem_groups _), (Rect.mem_set_unit (inb := xtP_inb i hc _)).2 fun a => ?_⟩
      fin_cases a
      · exact ⟨Nat.le_of_eq h.symm, Nat.lt_succ_of_le (Nat.le_of_eq h)⟩
      · exact ⟨by show 128 * ((y 1).val / 128) ≤ (y 1).val; omega, by show (y 1).val < 128 * ((y 1).val / 128) + 128; omega⟩
      · exact ⟨Nat.zero_le _, by have : (y 2).val < 512 := (y 2).isLt; show (y 2).val < 0 + 512; omega⟩
    · right
      rw [xtBlk, if_neg h]

/-! ### The row codes -/

theorem rcP_inb (t : Fin 4 × Fin 8) : ∀ a, (![128 * t.1.val, 256 * t.2.val] : Fin 2 → ℕ) a + S128x256.size a ≤ S512x2048.size a := by revert t; decide

/-- The store of tile `(r, c)` of the row codes. -/
def rcP (iv : FVec F S16x512 .bf16) (X : S512x2048.Idx → F .bf16) (t : Fin 4 × Fin 8) : View.Piece (Elt F) S512x2048 .fp8e4m3 :=
  ⟨Rect.unit (s := S512x2048) ![128 * t.1.val, 256 * t.2.val] S128x256.size (rcP_inb t), rcTile iv X t.1 t.2⟩

/-- The 32 stores, newest first. -/
def rcTiles : List (Fin 4 × Fin 8) :=
  [(3, 7), (3, 6), (3, 5), (3, 4), (3, 3), (3, 2), (3, 1), (3, 0), (2, 7), (2, 6), (2, 5), (2, 4), (2, 3), (2, 2), (2, 1), (2, 0),
   (1, 7), (1, 6), (1, 5), (1, 4), (1, 3), (1, 2), (1, 1), (1, 0), (0, 7), (0, 6), (0, 5), (0, 4), (0, 3), (0, 2), (0, 1), (0, 0)]

theorem mem_rcTiles (t : Fin 4 × Fin 8) : t ∈ rcTiles := by revert t; decide

theorem read_rc (v : View sig .tc .vmem S512x2048 .fp8e4m3) (f : v.ty.Contents (Elt F)) (X : S512x2048.Idx → F .bf16) :
    v.read (Elt F) (v.writes (Elt F) f (rcTiles.map (rcP (invScale (raBlk X)) X))) = rcBlk X := by
  refine read_tiles _ _ _ _ ?_ ?_
  · intro p hp x
    obtain ⟨t, -, rfl⟩ := List.mem_map.1 hp
    have l0 : (x 0).val < 128 := (x 0).isLt
    have l1 : (x 1).val < 256 := (x 1).isLt
    have v0 : (((rcP (invScale (raBlk X)) X t).1.emb x) 0).val = 128 * t.1.val + (x 0).val := by show 128 * t.1.val + 1 * (x 0).val = _; omega
    have v1 : (((rcP (invScale (raBlk X)) X t).1.emb x) 1).val = 256 * t.2.val + (x 1).val := by show 256 * t.2.val + 1 * (x 1).val = _; omega
    have er : ∀ h, (⟨(((rcP (invScale (raBlk X)) X t).1.emb x) 0).val / 128, h⟩ : Fin 4) = t.1 := fun h => Fin.ext (by show _ / 128 = t.1.val; rw [v0]; omega)
    have ec : ∀ h, (⟨(((rcP (invScale (raBlk X)) X t).1.emb x) 1).val / 256, h⟩ : Fin 8) = t.2 := fun h => Fin.ext (by show _ / 256 = t.2.val; rw [v1]; omega)
    have e0 : ∀ h, (⟨(((rcP (invScale (raBlk X)) X t).1.emb x) 0).val % 128, h⟩ : Fin 128) = x 0 := fun h => Fin.ext (by show _ % 128 = (x 0).val; rw [v0]; omega)
    have e1 : ∀ h, (⟨(((rcP (invScale (raBlk X)) X t).1.emb x) 1).val % 256, h⟩ : Fin 256) = x 1 := fun h => Fin.ext (by show _ % 256 = (x 1).val; rw [v1]; omega)
    show rcTile _ X t.1 t.2 x = rcBlk X ((rcP (invScale (raBlk X)) X t).1.emb x)
    rw [rcBlk, er, ec, e0, e1]
    exact congrArg _ (ix2_eta (n0 := 128) (n1 := 256) x).symm
  · intro y
    left
    have l0 : (y 0).val < 512 := (y 0).isLt
    have l1 : (y 1).val < 2048 := (y 1).isLt
    refine ⟨rcP (invScale (raBlk X)) X (⟨(y 0).val / 128, by omega⟩, ⟨(y 1).val / 256, by omega⟩), List.mem_map_of_mem (mem_rcTiles _),
      (Rect.mem_set_unit (inb := rcP_inb _)).2 fun a => ?_⟩
    fin_cases a
    · exact ⟨by show 128 * ((y 0).val / 128) ≤ (y 0).val; omega, by show (y 0).val < 128 * ((y 0).val / 128) + 128; omega⟩
    · exact ⟨by show 256 * ((y 1).val / 256) ≤ (y 1).val; omega, by show (y 1).val < 256 * ((y 1).val / 256) + 256; omega⟩

/-! ### The column codes -/

theorem ccP_inb (t : Fin 4 × Fin 16) : ∀ a, (![128 * t.2.val, 128 * t.1.val] : Fin 2 → ℕ) a + S128x128.size a ≤ S2048x512.size a := by
  intro a
  fin_cases a
  · show 128 * t.2.val + 128 ≤ 2048
    omega
  · show 128 * t.1.val + 128 ≤ 512
    omega

/-- The store of tile `(c, r)` of the column codes, from the reciprocal scales and the slots' indicators. -/
def ccG (i : grid0.Coords) (h : k0_cond4 i = 1#1) (xt : S2x2048x512.Idx → F .bf16) (iv : FVec F S32x2048 .bf16) (ht : Fin 4 → FVec F S32x128 .bf16)
    (t : Fin 4 × Fin 16) : View.Piece (Elt F) S2048x512 .fp8e4m3 :=
  ⟨Rect.unit (s := S2048x512) ![128 * t.2.val, 128 * t.1.val] S128x128.size (ccP_inb t), ccTile iv (ht t.1) t.2
    (window xt ![k0_off22 i 0, 128 * t.2.val, 128 * t.1.val] S1x128x128.size (slot_inb i h t.2 t.1))⟩

/-- The store of tile `(c, r)` of the column codes. -/
def ccP (i : grid0.Coords) (h : k0_cond4 i = 1#1) (xt : S2x2048x512.Idx → F .bf16) (am : S32x2048.Idx → F .f32) (lo hi : S32x128.Idx → BitVec 32)
    (t : Fin 4 × Fin 16) : View.Piece (Elt F) S2048x512 .fp8e4m3 :=
  ccG i h xt (invScale am) (fun r => hot (Scalar.addi (prevBase i) (BitVec.ofNat 32 (128 * r.val))) lo hi) t

/-- The 64 stores, newest first: a group of 128 tokens at a time. -/
def ccTiles : List (Fin 4 × Fin 16) := (groups.map fun g => (3, g)) ++ (groups.map fun g => (2, g)) ++ (groups.map fun g => (1, g)) ++ (groups.map fun g => (0, g))

theorem mem_ccTiles (t : Fin 4 × Fin 16) : t ∈ ccTiles := by revert t; decide

theorem read_cc (v : View sig .tc .vmem S2048x512 .fp8e4m3) (f : v.ty.Contents (Elt F)) (i : grid0.Coords) (h : k0_cond4 i = 1#1)
    (xt : S2x2048x512.Idx → F .bf16) (am : S32x2048.Idx → F .f32) (lo hi : S32x128.Idx → BitVec 32) :
    v.read (Elt F) (v.writes (Elt F) f (ccTiles.map (ccP i h xt am lo hi))) = ccBlk i h xt am lo hi := by
  refine read_tiles _ _ _ _ ?_ ?_
  · intro p hp x
    obtain ⟨t, -, rfl⟩ := List.mem_map.1 hp
    have l0 : (x 0).val < 128 := (x 0).isLt
    have l1 : (x 1).val < 128 := (x 1).isLt
    have v0 : (((ccP i h xt am lo hi t).1.emb x) 0).val = 128 * t.2.val + (x 0).val := by show 128 * t.2.val + 1 * (x 0).val = _; omega
    have v1 : (((ccP i h xt am lo hi t).1.emb x) 1).val = 128 * t.1.val + (x 1).val := by show 128 * t.1.val + 1 * (x 1).val = _; omega
    have ec : ∀ h', (⟨(((ccP i h xt am lo hi t).1.emb x) 0).val / 128, h'⟩ : Fin 16) = t.2 := fun h => Fin.ext (by show _ / 128 = t.2.val; rw [v0]; omega)
    have er : ∀ h', (⟨(((ccP i h xt am lo hi t).1.emb x) 1).val / 128, h'⟩ : Fin 4) = t.1 := fun h => Fin.ext (by show _ / 128 = t.1.val; rw [v1]; omega)
    have e0 : ∀ h', (⟨(((ccP i h xt am lo hi t).1.emb x) 0).val % 128, h'⟩ : Fin 128) = x 0 := fun h => Fin.ext (by show _ % 128 = (x 0).val; rw [v0]; omega)
    have e1 : ∀ h', (⟨(((ccP i h xt am lo hi t).1.emb x) 1).val % 128, h'⟩ : Fin 128) = x 1 := fun h => Fin.ext (by show _ % 128 = (x 1).val; rw [v1]; omega)
    show ccT i h xt am lo hi t.2 t.1 x = ccBlk i h xt am lo hi ((ccP i h xt am lo hi t).1.emb x)
    rw [ccBlk, ec, er, e0, e1]
    exact congrArg _ (ix2_eta (n0 := 128) (n1 := 128) x).symm
  · intro y
    left
    have l0 : (y 0).val < 2048 := (y 0).isLt
    have l1 : (y 1).val < 512 := (y 1).isLt
    refine ⟨ccP i h xt am lo hi (⟨(y 1).val / 128, by omega⟩, ⟨(y 0).val / 128, by omega⟩), List.mem_map_of_mem (mem_ccTiles _),
      (Rect.mem_set_unit (inb := ccP_inb _)).2 fun a => ?_⟩
    fin_cases a
    · exact ⟨by show 128 * ((y 0).val / 128) ≤ (y 0).val; omega, by show (y 0).val < 128 * ((y 0).val / 128) + 128; omega⟩
    · exact ⟨by show 128 * ((y 1).val / 128) ≤ (y 1).val; omega, by show (y 1).val < 128 * ((y 1).val / 128) + 128; omega⟩

end Cert.Proof.P

end
-- ==== Proof.P.Body.lean ====
module

public import proofs.«01_k».proof.Proof.P.Pieces
public import Idealize.ShloMosaic.Lib.VecWindow

@[expose] public section

noncomputable section

namespace Cert.Proof.P

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR nD τ) ℕ

open VecWindow (window put)

/-! ## One run of the kernel's body -/

theorem body_le (c : Dev nD) (i : grid0.Coords)
    (M1 : Memref sig .tc .smem S9 .i32) (h1 : M1.IsWhole) (M2 : Memref sig .tc .vmem S512x2048 .bf16) (h2 : M2.IsWhole)
    (M3 : Memref sig .tc .vmem S512x2048 .fp8e4m3) (h3 : M3.IsWhole) (M4 : Memref sig .tc .vmem S16x512 .f32) (h4 : M4.IsWhole)
    (M5 : Memref sig .tc .vmem S2048x512 .fp8e4m3) (h5 : M5.IsWhole) (M6 : Memref sig .tc .vmem S409x2048 .f32) (h6 : M6.IsWhole)
    (M7 : Memref sig .tc .vmem S2x2048x512 .bf16) (h7 : M7.IsWhole) (M8 : Memref sig .tc .vmem S16x512 .f32) (h8 : M8.IsWhole)
    (M9 : Memref sig .tc .vmem S32x2048 .f32) (h9 : M9.IsWhole) (M10 : Memref sig .tc .vmem S32x128 .i32) (h10 : M10.IsWhole)
    (M11 : Memref sig .tc .vmem S32x128 .i32) (h11 : M11.IsWhole) (M12 : Memref sig .tc .smem S4 .i32) (h12 : M12.IsWhole)
    (f1 : Bf (F := F) c M1) (f2 : Bf (F := F) c M2) (f3 : Bf (F := F) c M3) (f4 : Bf (F := F) c M4) (f5 : Bf (F := F) c M5)
    (f6 : Bf (F := F) c M6) (f7 : Bf (F := F) c M7) (f8 : Bf (F := F) c M8) (f9 : Bf (F := F) c M9) (f10 : Bf (F := F) c M10)
    (f11 : Bf (F := F) c M11) (f12 : Bf (F := F) c M12) (E : Set ℕ) (Q : PUnit → sProp 𝕄)
    (σ0 : LS F) (hσ : σ0 = start i (M1.view.read (Elt F) f1) (M12.view.read (Elt F) f12) (M9.view.read (Elt F) f9) (M10.view.read (Elt F) f10)
      (M11.view.read (Elt F) f11) (M6.view.read (Elt F) f6))
    (hok : Ok i (M1.view.read (Elt F) f1) (M2.view.read (Elt F) f2) 600 σ0)
    (σ : LS F) (hσ1 : σ = fin1 c i M1 M2 f1 f2 600 σ0)
    (xt : S2x2048x512.Idx → F .bf16)
    (hxt : xt = if k0_cond2 i = 1#1 then xtBlk i (M2.view.read (Elt F) f2) (M7.view.read (Elt F) f7) else M7.view.read (Elt F) f7)
    (R : sProp 𝕄) (hR : iprop(tb c M1 f1 ∗ pt c M2 f2
          ∗ rd c M3 (if k0_cond2 i = 1#1 then rcBlk (M2.view.read (Elt F) f2) else M3.view.read (Elt F) f3)
          ∗ rd c M4 (if k0_cond2 i = 1#1 then rsBlk (M2.view.read (Elt F) f2) else M4.view.read (Elt F) f4)
          ∗ rd c M5 (if h : k0_cond4 i = 1#1 then ccBlk i h xt σ.am σ.lo σ.hi else M5.view.read (Elt F) f5)
          ∗ rd c M6 σ.cs ∗ rd c M7 xt ∗ (∃ g : Bf (F := F) c M8, pt c M8 g) ∗ rd c M9 σ.am ∗ rd c M10 σ.lo ∗ rd c M11 σ.hi
          ∗ rd c M12 (words σ.g σ.s σ.ge σ.k)) ⊢ R) :
    iprop(tb c M1 f1 ∗ pt c M2 f2 ∗ pt c M3 f3 ∗ pt c M4 f4 ∗ pt c M5 f5 ∗ pt c M6 f6 ∗ pt c M7 f7 ∗ pt c M8 f8 ∗ pt c M9 f9 ∗ pt c M10 f10
        ∗ pt c M11 f11 ∗ pt c M12 f12
        ∗ (R -∗ Q ⟨⟩))
      ⊢ wp frame (wpE (defs₀ (F := F)) 𝒱₀ c none) E
          (cc0_two_way_quant i M1 h1 M2 h2 M3 h3 M4 h4 M5 h5 M6 h6 M7 h7 M8 h8 M9 h9 M10 h10 M11 h11 M12 h12) Q := by
  simp only [cc0_two_way_quant_eq_skeleton]; unfold cc0_two_way_quant_skel
  iintro ⟨H1, H2, H3, H4, H5, H6, H7, H8, H9, H10, H11, H12, HQ⟩
  sl_exec_parts!
  have hl := spec1_le c i M1 h1 M2 h2 M6 h6 M9 h9 M10 h10 M11 h11 f1 f2 E 600 σ0 hok
  have e43 : body_le.sl.r_43 c i M1 M12 f1 f12 = σ0.g := by
    unfold body_le.sl.r_43 body_le.sl.f_3
    by_cases hc : isFirst i = 1#1
    · rw [dif_pos (show body_le.sl.v2 i = 1#1 from hc), hσ, start, if_pos hc]
      rw [word_at M12 _ 0 0 rfl, read_words]; rfl
    · rw [dif_neg (show ¬ body_le.sl.v2 i = 1#1 from hc), hσ, start, if_neg hc, word_at M12 _ 0 0 rfl]
  have e44 : body_le.sl.r_44 c i M1 M12 f1 f12 = σ0.s := by
    unfold body_le.sl.r_44 body_le.sl.f_4
    by_cases hc : isFirst i = 1#1
    · rw [dif_pos (show body_le.sl.v2 i = 1#1 from hc), hσ, start, if_pos hc]
      rw [word_at M12 _ 1 1 rfl, read_words]; rfl
    · rw [dif_neg (show ¬ body_le.sl.v2 i = 1#1 from hc), hσ, start, if_neg hc, word_at M12 _ 1 1 rfl]
  have e45 : body_le.sl.r_45 c i M1 M12 f1 f12 = σ0.ge := by
    unfold body_le.sl.r_45 body_le.sl.f_5
    by_cases hc : isFirst i = 1#1
    · rw [dif_pos (show body_le.sl.v2 i = 1#1 from hc), hσ, start, if_pos hc]
      rw [word_at M12 _ 2 2 rfl, read_words]; exact table_at M1 f1 0 0 rfl _ _
    · rw [dif_neg (show ¬ body_le.sl.v2 i = 1#1 from hc), hσ, start, if_neg hc, word_at M12 _ 2 2 rfl]
  have e46 : body_le.sl.r_46 c i M1 M12 f1 f12 = σ0.k := by
    unfold body_le.sl.r_46 body_le.sl.f_6
    by_cases hc : isFirst i = 1#1
    · rw [dif_pos (show body_le.sl.v2 i = 1#1 from hc), hσ, start, if_pos hc]
      rw [word_at M12 _ 3 3 rfl, read_words]; rfl
    · rw [dif_neg (show ¬ body_le.sl.v2 i = 1#1 from hc), hσ, start, if_neg hc, word_at M12 _ 3 3 rfl]
  have efl : (1#1 : BitVec 1) = σ0.fl := by
    rw [hσ, start]; split <;> rfl
  iapply (wp_call_spec 𝒱₀ (c : Thread nD τ) none E (spec1 c i M1 M2 M6 M9 M10 M11 f1 f2 600 σ0) 617
    (fun u hu => nomatch hu) ?_)
  · intro K
    have h := hl K
    rw [← e43, ← e44, ← e45, ← e46, ← efl] at h
    exact h
  clear hl
  rw [spec1_apply]
  unfold held1
  isplitl [H1 H2 H6 H9 H10 H11]
  · isplitl [H1]; · iexact H1
    isplitl [H2]; · iexact H2
    isplitl [H6]
    · iapply (rd_intro c M6 _ _ ?_); rotate_left
      · iexact H6
      by_cases hc : isFirst i = 1#1
      · rw [dif_pos (show body_le.sl.v2 i = 1#1 from hc), hσ, start, if_pos hc]; exact View.read_writes_full _ _ _ _ _
      · rw [dif_neg (show ¬ body_le.sl.v2 i = 1#1 from hc), hσ, start, if_neg hc]
    isplitl [H9]
    · iapply (rd_intro c M9 _ _ ?_); rotate_left
      · iexact H9
      by_cases hc : isFirst i = 1#1
      · rw [dif_pos (show body_le.sl.v2 i = 1#1 from hc), hσ, start, if_pos hc]; exact View.read_writes_full _ _ _ _ _
      · rw [dif_neg (show ¬ body_le.sl.v2 i = 1#1 from hc), hσ, start, if_neg hc]
    isplitl [H10]
    · iapply (rd_intro c M10 _ _ ?_); rotate_left
      · iexact H10
      by_cases hc : isFirst i = 1#1
      · rw [dif_pos (show body_le.sl.v2 i = 1#1 from hc), hσ, start, if_pos hc]; exact View.read_writes_full _ _ _ _ _
      · rw [dif_neg (show ¬ body_le.sl.v2 i = 1#1 from hc), hσ, start, if_neg hc]
    · iapply (rd_intro c M11 _ _ ?_); rotate_left
      · iexact H11
      by_cases hc : isFirst i = 1#1
      · rw [dif_pos (show body_le.sl.v2 i = 1#1 from hc), hσ, start, if_pos hc]; exact View.read_writes_full _ _ _ _ _
      · rw [dif_neg (show ¬ body_le.sl.v2 i = 1#1 from hc), hσ, start, if_neg hc]
  rw [← hσ1]
  unfold rd
  iintro ⟨H1, H2, ⟨%f6', %e6, H6⟩, ⟨%f9', %e9, H9⟩, ⟨%f10', %e10, H10⟩, ⟨%f11', %e11, H11⟩⟩
  clear e43 e44 e45 e46 efl hσ hok
  sl_exec_parts!
  rw [wp_ret]; imodintro
  iapply HQ
  iapply hR
  have ev607 : body_le.sl.v607 c M2 M8 f2 = raBlk (M2.view.read (Elt F) f2) := by
    have e8 : body_le.sl.H8_16 c M2 f2 = groups.map (raP (M2.view.read (Elt F) f2)) := by
      unfold body_le.sl.H8_16
      rfl
    unfold body_le.sl.v607
    rw [e8]
    refine Eq.trans ?_ (read_ra M8.view M8.view.junk (M2.view.read (Elt F) f2))
    exact View.readAt_full _ _ _
  have e28 : body_le.sl.r_28 c M2 M8 f2 = invScale (raBlk (M2.view.read (Elt F) f2)) := by
    unfold body_le.sl.r_28 body_le.sl.r_27 body_le.sl.r_26 body_le.sl.r_25
    rw [ev607]; rfl
  have es : k0_pay73 (body_le.sl.v607 c M2 M8 f2) (body_le.sl.r_27 c M2 M8 f2) = rsBlk (M2.view.read (Elt F) f2) := by
    unfold body_le.sl.r_27 body_le.sl.r_26 body_le.sl.r_25
    rw [ev607]; rfl
  isplitl [H1]; · iexact H1
  isplitl [H2]; · iexact H2
  isplitl [H3]
  · iapply (rd_intro c M3 _ _ ?_); rotate_left
    · iexact H3
    by_cases hc : k0_cond2 i = 1#1
    · rw [dif_pos hc, if_pos hc]
      refine Eq.trans (congrArg (fun L => M3.view.read (Elt F) (M3.view.writes (Elt F) f3 L)) ?_) (read_rc M3.view f3 (M2.view.read (Elt F) f2))
      rw [← e28]
      rfl
    · rw [dif_neg hc, if_neg hc]
  isplitl [H4]
  · iapply (rd_intro c M4 _ _ ?_); rotate_left
    · iexact H4
    by_cases hc : k0_cond2 i = 1#1
    · rw [dif_pos hc, if_pos hc]
      unfold body_le.sl.H4_1
      rw [es]
      exact View.read_writes_full _ _ _ _ _
    · rw [dif_neg hc, if_neg hc]
  have e7 : M7.view.read (Elt F) (if hc : k0_cond2 i = 1#1 then M7.view.writes (Elt F) f7 (body_le.sl.H7_16 c i M2 f2 hc) else f7) = xt := by
    by_cases hc : k0_cond2 i = 1#1
    · rw [dif_pos hc, hxt, if_pos hc]
      exact read_xt M7.view f7 i hc (M2.view.read (Elt F) f2)
    · rw [dif_neg hc, hxt, if_neg hc]
  isplitl [H5]
  · iapply (rd_intro c M5 _ _ ?_); rotate_left
    · iexact H5
    by_cases hc : k0_cond4 i = 1#1
    · rw [dif_pos hc, dif_pos hc]
      have e57 : body_le.sl.r_57 c M9 f9' = invScale σ.am := by
        rw [← e9]
        refine Eq.trans ?_ (congrArg invScale (View.readAt_full M9.view f9' inb_S32x2048_S32x2048_0_0))
        rfl
      refine Eq.trans (congrArg (fun L => M5.view.read (Elt F) (M5.view.writes (Elt F) f5 L)) ?_) (read_cc M5.view f5 i hc xt σ.am σ.lo σ.hi)
      show _ = ccTiles.map (ccG i hc xt (invScale σ.am) (fun r => hot (Scalar.addi (prevBase i) (BitVec.ofNat 32 (128 * r.val))) σ.lo σ.hi))
      rw [← e57, ← e7, ← e10, ← e11, ← View.readAt_full M10.view f10' inb_S32x128_S32x128_0_0, ← View.readAt_full M11.view f11' inb_S32x128_S32x128_0_0]
      rfl
    · rw [dif_neg hc, dif_neg hc]
  isplitl [H6]; · iapply (rd_intro c M6 _ _ e6); iexact H6
  isplitl [H7]; · iapply (rd_intro c M7 _ _ e7); iexact H7
  isplitl [H8]; · iexists _; iexact H8
  isplitl [H9]; · iapply (rd_intro c M9 _ _ e9); iexact H9
  isplitl [H10]; · iapply (rd_intro c M10 _ _ e10); iexact H10
  isplitl [H11]; · iapply (rd_intro c M11 _ _ e11); iexact H11
  iapply (rd_intro c M12 _ _ ?_); rotate_left
  · iexact H12
  exact read_words M12 M12.view.junk σ.g σ.s σ.ge σ.k _ _ _ _

end Cert.Proof.P

end
-- ==== Proof.P.Data.lean ====
/-
  The loop's state of `Kernel` before and after every grid point.
-/
module

public import proofs.«01_k».proof.Proof.P.Body
public import Idealize.ShloMosaic.Lib.Pipeline.FrameBody
public import Idealize.ShloMosaic.Lib.Pipeline.FrameSuffix
public import Idealize.ShloMosaic.Lib.VecWindow

@[expose] public section

set_option maxRecDepth 16384

noncomputable section

namespace Cert.Proof.P

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Idealize.ShloMosaic (ix1 ix2 ix3)

variable {F : FTy → Type} [FloatOps F]

local notation "𝕄" => MT nD τ sig Unit (Elt F) ℕ (UR nD τ) ℕ

/-! ## The grid's coordinates -/

/-- The grid's coordinates at the point numbered `n`, for any number (clamped past the last point). -/
def co (n : ℕ) : grid0.Coords := grid0.coords ⟨min n 100, by rw [N_0]; omega⟩

theorem co_eq (t : Fin grid0.N) : co t.val = grid0.coords t := by
  have h : t.val < 101 := lt_of_lt_of_eq t.isLt N_0
  exact congrArg grid0.coords (Fin.ext (show min t.val 100 = t.val by omega))

theorem coords_val (t : Fin grid0.N) : (grid0.coords t 0).val = t.val := by
  have h : t.val < 101 := lt_of_lt_of_eq t.isLt N_0
  show t.val / _ % 101 = t.val
  have e : grid0.stride 0 = 1 := by decide
  rw [e, Nat.div_one]; omega

theorem co_val (n : ℕ) (h : n ≤ 100) : (co n 0).val = n := by
  unfold co; rw [coords_val]; exact Nat.min_eq_left h

theorem cond2_tab : ∀ n : Fin 101, (Scalar.cmpi .ne (Scalar.extui (Scalar.cmpi .slt (BitVec.ofNat 32 n.val) 100#32)) 0#32 = 1#1) ↔ n.val < 100 := by decide
theorem cond4_tab : ∀ n : Fin 101, (Scalar.cmpi .ne (Scalar.extui (Scalar.cmpi .sgt (BitVec.ofNat 32 n.val) 0#32)) 0#32 = 1#1) ↔ 0 < n.val := by decide
theorem first_tab : ∀ n : Fin 101, (Scalar.cmpi .ne (Scalar.extui (Scalar.cmpi .eq (BitVec.ofNat 32 n.val) 0#32)) 0#32 = 1#1) ↔ n.val = 0 := by decide

theorem cond2_iff (i : grid0.Coords) : k0_cond2 i = 1#1 ↔ (i 0).val < 100 := cond2_tab ⟨(i 0).val, (i 0).isLt⟩
theorem cond4_iff (i : grid0.Coords) : k0_cond4 i = 1#1 ↔ 0 < (i 0).val := cond4_tab ⟨(i 0).val, (i 0).isLt⟩
theorem first_iff (i : grid0.Coords) : isFirst i = 1#1 ↔ (i 0).val = 0 := first_tab ⟨(i 0).val, (i 0).isLt⟩

/-! ## The loop's state along the grid -/

/-- The state the first point starts from. -/
def init0 (gs : S9.Idx → BitVec 32) : LS F := ⟨0#32, 0#32, gs (ix1 0), 0#32, 1#1, k0_pay1, k0_pay2, k0_pay3, k0_pay4⟩

/-- The state point `n` starts from, the strips being `X`. -/
def lsB (gs : S9.Idx → BitVec 32) (X : ℕ → S512x2048.Idx → F .bf16) : ℕ → LS F
  | 0 => init0 gs
  | n + 1 => { loop (co n) gs (X n) 600 (lsB gs X n) with fl := 1#1 }

/-- The state point `n` leaves. -/
def lsA (gs : S9.Idx → BitVec 32) (X : ℕ → S512x2048.Idx → F .bf16) (n : ℕ) : LS F := loop (co n) gs (X n) 600 (lsB gs X n)

/-- The two-strip buffer before point `n`, if it holds `x` at the start. -/
def xtB (X : ℕ → S512x2048.Idx → F .bf16) (x : S2x2048x512.Idx → F .bf16) : ℕ → S2x2048x512.Idx → F .bf16
  | 0 => x
  | n + 1 => if k0_cond2 (co n) = 1#1 then xtBlk (co n) (X n) (xtB X x n) else xtB X x n

theorem off1_tab : ∀ n : Fin 101, k0_off1 (co n.val) 0 = n.val % 2 := by
  have e : ∀ n : Fin 101, (co n.val 0).val = n.val := fun n => co_val _ (by omega)
  intro n
  unfold k0_off1
  simp only [e]
  revert n
  decide

/-- After two points the two-strip buffer no longer depends on what it held at the start. -/
theorem xtB_indep (X : ℕ → S512x2048.Idx → F .bf16) (x x' : S2x2048x512.Idx → F .bf16) : ∀ n, xtB X x (n + 2) = xtB X x' (n + 2)
  | 0 => by
    have h0 : k0_cond2 (co 0) = 1#1 := (cond2_iff _).mpr (by rw [co_val] <;> omega)
    have h1 : k0_cond2 (co 1) = 1#1 := (cond2_iff _).mpr (by rw [co_val] <;> omega)
    have o0 : k0_off1 (co 0) 0 = 0 := off1_tab 0
    have o1 : k0_off1 (co 1) 0 = 1 := off1_tab 1
    funext y
    simp only [xtB, if_pos h0, if_pos h1, xtBlk, o0, o1]
    have hy : (y 0).val < 2 := (y 0).isLt
    by_cases c1 : (y 0).val = 1
    · rw [if_pos c1, if_pos c1]
    · have c0 : (y 0).val = 0 := by omega
      rw [if_neg c1, if_neg c1, if_pos c0, if_pos c0]
  | n + 1 => by
    rw [xtB, xtB_indep X x x' n]; rfl

/-- A strip's worth of zeros, where nothing is read. -/
def xt0 : S2x2048x512.Idx → F .bf16 := fun _ => FloatOps.ofBits .bf16 0

theorem start_first (gs : S9.Idx → BitVec 32) (X : ℕ → S512x2048.Idx → F .bf16) (st : S4.Idx → BitVec 32) (am : S32x2048.Idx → F .f32)
    (lo hi : S32x128.Idx → BitVec 32) (cs : S409x2048.Idx → F .f32) : start (co 0) gs st am lo hi cs = lsB gs X 0 := by
  rw [start, if_pos ((first_iff _).mpr (co_val 0 (by omega)))]; rfl

theorem start_next (gs : S9.Idx → BitVec 32) (X : ℕ → S512x2048.Idx → F .bf16) (n : ℕ) (hn : n + 1 ≤ 100) :
    start (co (n + 1)) gs (words (lsA gs X n).g (lsA gs X n).s (lsA gs X n).ge (lsA gs X n).k) (lsA gs X n).am (lsA gs X n).lo (lsA gs X n).hi (lsA gs X n).cs
      = lsB gs X (n + 1) := by
  rw [start, if_neg (fun h => by have := (first_iff _).mp h; rw [co_val _ hn] at this; omega)]; rfl

end Cert.Proof.P

end
-- ==== Proof.P.Sched.lean ====
/-
  The schedule of `Kernel`'s loops: a partition of the tokens keeps every trip within its bounds.
-/
module

public import proofs.«01_k».proof.Proof.P.Data
public import Idealize.ShloMosaic.Lib.WordCmp

@[expose] public section

set_option maxRecDepth 16384

noncomputable section

namespace Cert.Proof.P

open Cert.Kernel Cert.Kernel.Gen

open Idealize.ShloMosaic
open Idealize.ShloMosaic.TcCoe
open Idealize.ShloMosaic (ix1 ix2 ix3)

variable {F : FTy → Type} [FloatOps F]

/-! ## Words as numbers -/

theorem sle_iff (a b : BitVec 32) (ha : a.toNat < 2 ^ 31) (hb : b.toNat < 2 ^ 31) : Scalar.cmpi .sle a b = 1#1 ↔ a.toNat ≤ b.toNat := by
  unfold Scalar.cmpi
  rw [WordCmp.cmpi_sle_eq, WordCmp.ofBool_decide_eq_one_iff, WordCmp.toInt_eq_toNat_of_lt_half (w := 32) (by simpa using ha), WordCmp.toInt_eq_toNat_of_lt_half (w := 32) (by simpa using hb)]
  omega

theorem slt_iff (a b : BitVec 32) (ha : a.toNat < 2 ^ 31) (hb : b.toNat < 2 ^ 31) : Scalar.cmpi .slt a b = 1#1 ↔ a.toNat < b.toNat := by
  unfold Scalar.cmpi
  rw [WordCmp.cmpi_slt_eq, WordCmp.ofBool_decide_eq_one_iff, WordCmp.toInt_eq_toNat_of_lt_half (w := 32) (by simpa using ha), WordCmp.toInt_eq_toNat_of_lt_half (w := 32) (by simpa using hb)]
  omega

theorem toInt_small (a : BitVec 32) (ha : a.toNat < 2 ^ 31) : a.toInt = (a.toNat : ℤ) := WordCmp.toInt_eq_toNat_of_lt_half (w := 32) (by simpa using ha)

theorem minsi_nat (a b : BitVec 32) (ha : a.toNat < 2 ^ 31) (hb : b.toNat < 2 ^ 31) : (Scalar.minsi a b).toNat = min a.toNat b.toNat := by
  unfold Scalar.minsi IntOp.minsi
  simp only [BitVec.slt, toInt_small a ha, toInt_small b hb, decide_eq_true_eq]
  split <;> omega

theorem addi_nat (a b : BitVec 32) (h : a.toNat + b.toNat < 2 ^ 32) : (Scalar.addi a b).toNat = a.toNat + b.toNat := by
  show (a + b).toNat = _
  rw [BitVec.toNat_add]; omega

theorem andi_one (a b : BitVec 1) : Scalar.andi a b = 1#1 ↔ a = 1#1 ∧ b = 1#1 := by
  revert a b; decide

theorem base_nat (n : ℕ) (hn : n ≤ 100) : (base (co n)).toNat = 512 * n := by
  unfold base
  rw [co_val n hn]
  show (BitVec.ofNat 32 n * 512#32).toNat = _
  simp only [BitVec.toNat_mul, BitVec.toNat_ofNat]; omega

theorem clip (v : BitVec 32) : 16 ∣ (Scalar.minsi 368#32 (Scalar.maxsi 0#32 (Scalar.muli v 16#32))).toNat
    ∧ (Scalar.minsi 368#32 (Scalar.maxsi 0#32 (Scalar.muli v 16#32))).toNat ≤ 368 := by
  have hm : 16 ∣ (Scalar.muli v 16#32).toNat := by
    show 16 ∣ (v * 16#32).toNat
    simp only [BitVec.toNat_mul, BitVec.toNat_ofNat]; omega
  generalize Scalar.muli v 16#32 = u at hm ⊢
  have h1 : 16 ∣ (Scalar.maxsi 0#32 u).toNat ∧ (Scalar.maxsi 0#32 u).toNat < 2 ^ 31 := by
    unfold Scalar.maxsi IntOp.maxsi
    by_cases hc : u.toNat < 2 ^ 31
    · simp only [BitVec.slt, toInt_small u hc, decide_eq_true_eq]
      split
      · exact ⟨⟨0, rfl⟩, by decide⟩
      · exact ⟨hm, hc⟩
    · have hi : u.toInt < 0 := by have := u.isLt; rw [BitVec.toInt_eq_toNat_cond]; split <;> omega
      have hs : u.slt 0#32 = true := by simpa [BitVec.slt] using hi
      rw [if_pos hs]
      exact ⟨⟨0, rfl⟩, by decide⟩
  rw [minsi_nat _ _ (by decide) h1.2]
  have : (368#32).toNat = 368 := rfl
  omega

/-! ## The accesses of a trip -/

theorem chk2_all (i : grid0.Coords) (s : BitVec 32) : k0_chk2 i s := by
  have h : 16 ∣ (k0_mult1 i s).toNat ∧ (k0_mult1 i s).toNat ≤ 368 := clip _
  refine ⟨h.1, fun r a => ?_⟩
  have e : k0_off18 i s (BitVec.ofNat 32 (16 * r.val)) = ![(Scalar.addi (k0_mult1 i s) (BitVec.ofNat 32 (16 * r.val))).toNat, 0] := rfl
  have hr : (BitVec.ofNat 32 (16 * r.val)).toNat = 16 * r.val := by rw [BitVec.toNat_ofNat]; have := r.isLt; omega
  rw [e]
  match a with
  | 0 =>
    show (Scalar.addi (k0_mult1 i s) (BitVec.ofNat 32 (16 * r.val))).toNat + 16 ≤ 512
    have := r.isLt
    rw [addi_nat _ _ (by omega), hr]; omega
  | 1 => show 0 + 2048 ≤ 2048; omega

theorem chk3_tab : ∀ k : Fin 512, k0_chk3 (BitVec.ofNat 32 k.val) := by decide +kernel

theorem chk3_of (k : BitVec 32) (h : k.toNat < 512) : k0_chk3 k := by
  have := chk3_tab ⟨k.toNat, h⟩
  rwa [BitVec.ofNat_toNat, BitVec.setWidth_eq] at this

theorem chk4_of (i : grid0.Coords) (s k ge : BitVec 32) (h : k.toNat ≤ 408) : k0_chk4 i s k ge := by
  intro _ a
  match a with
  | 0 => show k.toNat + 1 ≤ 409; omega
  | 1 => show 0 + 2048 ≤ 2048; omega

/-! ## The partition -/

/-- The size of group `g`, zero past the table. -/
def gsz (gs : S9.Idx → BitVec 32) (g : ℕ) : ℕ := if h : g < 9 then (gs (ix1 ⟨g, h⟩)).toNat else 0

/-- The first token of group `g`. -/
def gst (gs : S9.Idx → BitVec 32) (g : ℕ) : ℕ := ∑ i ∈ Finset.range g, gsz gs i

/-- The groups' sizes add up to the number of tokens. -/
def Part (gs : S9.Idx → BitVec 32) : Prop := gst gs 9 = 51200

variable {gs : S9.Idx → BitVec 32}

theorem gst_succ (g : ℕ) : gst gs (g + 1) = gst gs g + gsz gs g := Finset.sum_range_succ _ _

theorem gst_mono : Monotone (gst gs) := monotone_nat_of_le_succ fun g => by rw [gst_succ]; omega

theorem gst_le (hp : Part gs) (g : ℕ) (h : g ≤ 9) : gst gs g ≤ 51200 := hp ▸ gst_mono h

theorem gsNext_eq (g : BitVec 32) (h : g.toNat < 8) : k0_chk1 g ∧ (gsNext gs g).toNat = gsz gs (g.toNat + 1) := by
  have e0 : (Scalar.addi g 1#32).toNat = g.toNat + 1 := addi_nat g 1#32 (by show _ + 1 < _; omega)
  have hc : k0_chk1 g := fun a => by
    match a with
    | 0 => show (Scalar.addi g 1#32).toNat + 1 ≤ 9; omega
  refine ⟨hc, ?_⟩
  unfold gsNext gsz
  rw [dif_pos hc, dif_pos (by omega)]
  unfold VecWindow.window
  congr 2
  funext a
  match a with
  | 0 =>
    apply Fin.ext
    show (Scalar.addi g 1#32).toNat + 1 * 0 = _
    rw [e0]; rfl

/-- The words of the outer loop's state: the current group, its end, the position in it, and the number of blocks written. -/
structure Sch (gs : S9.Idx → BitVec 32) (g s ge k : BitVec 32) : Prop where
  hg : g.toNat ≤ 8
  hge : ge.toNat = gst gs (g.toNat + 1)
  hlo : gst gs g.toNat ≤ s.toNat
  hhi : s.toNat ≤ ge.toNat
  hk : 128 * k.toNat ≤ s.toNat + 127 * g.toNat + if s.toNat = ge.toNat then 127 else 0

theorem Sch.ge_le (hp : Part gs) {g s ge k : BitVec 32} (h : Sch gs g s ge k) : ge.toNat ≤ 51200 := by
  rw [h.hge]; exact gst_le hp _ (by have := h.hg; omega)

theorem Sch.k_le (hp : Part gs) {g s ge k : BitVec 32} (h : Sch gs g s ge k) : k.toNat ≤ 408 := by
  have := h.ge_le hp; have h1 := h.hk; have := h.hg; have := h.hhi
  split at h1 <;> omega

/-- The inner loop stops at the group the position lies in. -/
theorem adv_ok (hp : Part gs) {s k : BitVec 32} (hs : s.toNat < 51200) : ∀ (n : ℕ) (g ge : BitVec 32), Sch gs g s ge k → 9 - g.toNat ≤ n →
    AdvOk gs s n g ge ∧ Sch gs (adv gs s n g ge).1 s (adv gs s n g ge).2 k ∧ s.toNat < (adv gs s n g ge).2.toNat
  | 0, g, ge, h, hn => by have := h.hg; omega
  | n + 1, g, ge, h, hn => by
    have hge := h.ge_le hp
    have hi := sle_iff ge s (by omega) (by omega)
    unfold AdvOk adv
    by_cases hc : Scalar.cmpi .sle ge s = 1#1
    · rw [if_pos hc]
      have e : s.toNat = ge.toNat := by have := hi.mp hc; have := h.hhi; omega
      have hg8 : g.toNat < 8 := by
        by_contra hg
        have h8 : g.toNat = 8 := by have := h.hg; omega
        have h9 := h.hge
        rw [h8, show gst gs (8 + 1) = 51200 from hp] at h9
        omega
      obtain ⟨hc1, hnx⟩ := gsNext_eq (gs := gs) g hg8
      have e1 : (Scalar.addi g 1#32).toNat = g.toNat + 1 := addi_nat g 1#32 (by show _ + 1 < _; omega)
      have hle : gst gs (g.toNat + 1 + 1) ≤ 51200 := gst_le hp _ (by omega)
      have hsu := gst_succ (gs := gs) (g.toNat + 1)
      have hg0 := h.hge
      have e2 : (Scalar.addi ge (gsNext gs g)).toNat = gst gs (g.toNat + 1 + 1) := by
        rw [addi_nat _ _ (by omega)]; omega
      have hk := h.hk
      rw [if_pos e] at hk
      have h' : Sch gs (Scalar.addi g 1#32) s (Scalar.addi ge (gsNext gs g)) k :=
        ⟨by omega, by rw [e1, e2], by rw [e1]; omega, by rw [e2]; omega, by rw [e1]; omega⟩
      have ih := adv_ok hp hs n _ _ h' (by omega)
      exact ⟨fun _ => ⟨hc1, ih.1⟩, ih.2⟩
    · rw [if_neg hc]
      exact ⟨fun h' => absurd h' hc, h, by have : ¬ ge.toNat ≤ s.toNat := fun h' => hc (hi.mpr h'); show s.toNat < ge.toNat; omega⟩

/-! ## The loop -/

/-- The state's words satisfy the schedule. -/
def SchL (gs : S9.Idx → BitVec 32) (σ : LS F) : Prop := Sch gs σ.g σ.s σ.ge σ.k

theorem testW_iff (n : ℕ) (hn : n ≤ 100) (s : BitVec 32) (hs : s.toNat < 2 ^ 31) (fl : BitVec 1) :
    testW (co n) s fl = 1#1 ↔ fl = 1#1 ∧ s.toNat < min (512 * n + 512) 51200 := by
  unfold testW
  have e1 : (Scalar.addi (base (co n)) 512#32).toNat = 512 * n + 512 := by
    rw [addi_nat _ _ (by rw [base_nat n hn]; show _ + 512 < _; omega), base_nat n hn]; rfl
  have e2 : (Scalar.minsi (Scalar.addi (base (co n)) 512#32) 51200#32).toNat = min (512 * n + 512) 51200 := by
    rw [minsi_nat _ _ (by omega) (by decide), e1]; rfl
  rw [andi_one, slt_iff _ _ hs (by omega), e2]

theorem endW_nat (s ge : BitVec 32) (hs : s.toNat ≤ 51200) (hge : ge.toNat ≤ 51200) : (endW s ge).toNat = min (s.toNat + 128) ge.toNat := by
  unfold endW
  have e1 : (Scalar.addi s 128#32).toNat = s.toNat + 128 := by rw [addi_nat _ _ (by show _ + 128 < _; omega)]; rfl
  rw [minsi_nat _ _ (by omega) (by omega), e1]

theorem doneW_iff (n : ℕ) (hn : n ≤ 100) (e : BitVec 32) (he : e.toNat ≤ 51200) : doneW (co n) e = 1#1 ↔ e.toNat ≤ 512 * n + 512 := by
  unfold doneW
  have e1 : (Scalar.addi (base (co n)) 512#32).toNat = 512 * n + 512 := by
    rw [addi_nat _ _ (by rw [base_nat n hn]; show _ + 512 < _; omega), base_nat n hn]; rfl
  rw [sle_iff _ _ (by omega) (by omega), e1]

/-- A trip's accesses are within their bounds. -/
theorem chk_ok (hp : Part gs) (n : ℕ) (σ : LS F) (h : SchL gs σ) : Chk (co n) gs σ :=
  ⟨chk3_of _ (by have := Sch.k_le hp h; omega), chk2_all _ _, chk4_of _ _ _ _ (Sch.k_le hp h)⟩

/-- A trip's words keep the schedule; the block number goes up when the block ends in the strip. -/
theorem step_sch (hp : Part gs) (r : BitVec 32 × BitVec 32) (s k e : BitVec 32) (d : BitVec 1) (ha : Sch gs r.1 s r.2 k) (hlt : s.toNat < r.2.toNat)
    (he : e.toNat = min (s.toNat + 128) r.2.toNat) :
    Sch gs r.1 (Scalar.select d e s) r.2 (Scalar.select d (Scalar.addi k 1#32) k) ∧ (d = 1#1 → (Scalar.select d (Scalar.addi k 1#32) k).toNat = k.toNat + 1) := by
  have hge := ha.ge_le hp
  have hk := ha.hk
  have hk8 := ha.k_le hp
  rw [if_neg (by omega)] at hk
  have e1 : (Scalar.addi k 1#32).toNat = k.toNat + 1 := by rw [addi_nat _ _ (by show _ + 1 < _; omega)]; rfl
  by_cases hd : d = 1#1
  · subst hd
    show Sch gs r.1 e r.2 (Scalar.addi k 1#32) ∧ (1#1 = 1#1 → (Scalar.addi k 1#32).toNat = _)
    refine ⟨⟨ha.hg, ha.hge, by have := ha.hlo; omega, by omega, ?_⟩, fun _ => e1⟩
    rw [e1, he]
    split <;> omega
  · have e0 : d = 0#1 := by revert hd; revert d; decide
    subst e0
    exact ⟨ha, fun h' => absurd h' (by decide)⟩

theorem trip_g (i : grid0.Coords) (X : S512x2048.Idx → F .bf16) (σ : LS F) (h : Chk i gs σ) : (trip i gs X σ h).g = (advW gs σ).1 := rfl

theorem trip_ge (i : grid0.Coords) (X : S512x2048.Idx → F .bf16) (σ : LS F) (h : Chk i gs σ) : (trip i gs X σ h).ge = (advW gs σ).2 := rfl

theorem trip_s (i : grid0.Coords) (X : S512x2048.Idx → F .bf16) (σ : LS F) (h : Chk i gs σ) :
    (trip i gs X σ h).s = Scalar.select (doneW i (endW σ.s (advW gs σ).2)) (endW σ.s (advW gs σ).2) σ.s := rfl

theorem trip_k (i : grid0.Coords) (X : S512x2048.Idx → F .bf16) (σ : LS F) (h : Chk i gs σ) :
    (trip i gs X σ h).k = Scalar.select (doneW i (endW σ.s (advW gs σ).2)) (Scalar.addi σ.k 1#32) σ.k := rfl

theorem trip_fl (i : grid0.Coords) (X : S512x2048.Idx → F .bf16) (σ : LS F) (h : Chk i gs σ) :
    (trip i gs X σ h).fl = doneW i (endW σ.s (advW gs σ).2) := rfl

theorem trip_sch (hp : Part gs) (i : grid0.Coords) (X : S512x2048.Idx → F .bf16) (σ : LS F) (h : SchL gs σ) (hs : σ.s.toNat < 51200) (hc : Chk i gs σ) :
    SchL gs (trip i gs X σ hc) ∧ ((trip i gs X σ hc).fl = 1#1 → (trip i gs X σ hc).k.toNat = σ.k.toNat + 1) := by
  have ha := (adv_ok hp hs 16 σ.g σ.ge h (by omega)).2
  change Sch gs (advW gs σ).1 σ.s (advW gs σ).2 σ.k ∧ σ.s.toNat < (advW gs σ).2.toNat at ha
  unfold SchL
  rw [trip_g, trip_ge, trip_s, trip_k, trip_fl]
  generalize advW gs σ = r at ha ⊢
  exact step_sch hp r σ.s σ.k _ _ ha.1 ha.2 (endW_nat _ _ (by omega) (ha.1.ge_le hp))

theorem ok_of (hp : Part gs) (n : ℕ) (hn : n ≤ 100) (X : S512x2048.Idx → F .bf16) : ∀ (m : ℕ) (σ : LS F), SchL gs σ → (σ.fl = 1#1 → 412 ≤ m + σ.k.toNat) → Ok (co n) gs X m σ
  | 0, σ, h, hm => fun ht => by
    have := (testW_iff n hn σ.s (by have := Sch.ge_le hp h; have := h.hhi; omega) σ.fl).mp ht
    have := hm this.1; have := Sch.k_le hp h; omega
  | m + 1, σ, h, hm => fun ht => by
    have ht' := (testW_iff n hn σ.s (by have := Sch.ge_le hp h; have := h.hhi; omega) σ.fl).mp ht
    have hs : σ.s.toNat < 51200 := by omega
    have hc := chk_ok hp n σ h
    have ht2 := trip_sch hp (co n) X σ h hs hc
    refine ⟨(adv_ok hp hs 16 σ.g σ.ge h (by omega)).1, hc, ok_of hp n hn X m _ ht2.1 fun hf => ?_⟩
    rw [ht2.2 hf]; have := hm ht'.1; omega

theorem loop_sch (hp : Part gs) (n : ℕ) (hn : n ≤ 100) (X : S512x2048.Idx → F .bf16) : ∀ (m : ℕ) (σ : LS F), SchL gs σ → SchL gs (loop (co n) gs X m σ)
  | 0, σ, h => h
  | m + 1, σ, h => by
    unfold loop
    split
    · rename_i ht
      have ht' := (testW_iff n hn σ.s (by have := Sch.ge_le hp h; have := h.hhi; omega) σ.fl).mp ht
      rw [dif_pos (chk_ok hp n σ h)]
      exact loop_sch hp n hn X m _ (trip_sch hp (co n) X σ h (by omega) _).1
    · exact h

theorem lsB_sch (hp : Part gs) (X : ℕ → S512x2048.Idx → F .bf16) : ∀ n, n ≤ 101 → SchL gs (lsB gs X n)
  | 0, _ => by
    have e : gst gs 1 = (gs (ix1 0)).toNat := (Finset.sum_range_one _).trans rfl
    exact ⟨show 0 ≤ 8 by omega, e.symm, show gst gs 0 ≤ 0 from le_rfl, Nat.zero_le _, Nat.zero_le _⟩
  | n + 1, hn => loop_sch hp n (by omega) (X n) 600 _ (lsB_sch hp X n (by omega))

theorem lsB_ok (hp : Part gs) (X : ℕ → S512x2048.Idx → F .bf16) (n : ℕ) (hn : n ≤ 100) : Ok (co n) gs (X n) 600 (lsB gs X n) :=
  ok_of hp n hn (X n) 600 _ (lsB_sch hp X n (by omega)) fun _ => by omega

end Cert.Proof.P

end
-- ==== Proof.P.Region.lean ====
/-
  The proof data of `Kernel`'s pipeline: what each window's buffer holds after the body at every grid point, the invariant
  over the scratch buffers, and the body obligation.
-/
module

public import proofs.«01_k».proof.Proof.P.Data
public import Idealize.ShloMosaic.Lib.Pipeline.FrameBody
public import Idealize.ShloMosaic.Lib.Pipeline.FrameSuffix
public import Idealize.ShloMosaic.Lib.VecWindow

@[expose] public section

set_option maxRecDepth 16384

noncomputable section

namespace Cert.Proof.P

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Idealize.ShloMosaic (ix1 ix2 ix3)

variable {F : FTy → Type} [FloatOps F]

local notation "𝕄" => MT nD τ sig Unit (Elt F) ℕ (UR nD τ) ℕ

variable (V : (c : Dev nD) → (b : Ref sig .tc) → Buf (Elt F) ((c : Thread nD τ).loc b)) (pf : pre0.Contents (Elt F))

/-- The prefetched table's contents, admissible whatever they are. -/
abbrev adm : (p : Fin 1) → (pcfgs (F := F) p).Adm := fun _ => ⟨pf, trivial⟩

/-- The pipeline at the table's contents. -/
abbrev cfgP : Cfg sig (Λ₀ F) := cfg0 (F := F) (adm pf 0)

/-- The table's words. -/
def gsOf : S9.Idx → BitVec 32 := (Memref.whole main_arg1).view.read (Elt F) (pf 0)

/-- Window `w`'s block at point `t`, read off its array as the region finds it. -/
def iblk (c : Dev nD) (w : Fin (cfgP pf).W) (t : Fin (cfgP pf).N) : (((cfgP pf).win w).xblock ((cfgP pf).grid.coords t)).Idx → Elt F ((cfgP pf).win w).elt :=
  (((cfgP pf).win w).blk t).view.read (Elt F) (V c (Pipeline.arrRef spec0 w))

/-- The strip point `t` reads. -/
def strip0 (c : Dev nD) (t : Fin grid0.N) : S512x2048.Idx → F .bf16 := iblk V pf c 0 t

/-- The strip the point numbered `n` reads (clamped past the last point). -/
def strip (c : Dev nD) (n : ℕ) : S512x2048.Idx → F .bf16 := strip0 V pf c ⟨min n 100, by rw [N_0]; omega⟩

theorem strip_eq (c : Dev nD) (t : Fin grid0.N) : strip V pf c t.val = strip0 V pf c t := by
  have h : t.val < 101 := lt_of_lt_of_eq t.isLt N_0
  exact congrArg (strip0 V pf c) (Fin.ext (show min t.val 100 = t.val by omega))

/-- What the column codes' buffer holds after point `t`. -/
def ccA (c : Dev nD) (n : ℕ) : S2048x512.Idx → F .fp8e4m3 :=
  if h : k0_cond4 (co n) = 1#1 then
    ccBlk (co n) h (xtB (strip V pf c) xt0 (n + 1)) (lsA (gsOf pf) (strip V pf c) n).am (lsA (gsOf pf) (strip V pf c) n).lo (lsA (gsOf pf) (strip V pf c) n).hi
  else fun _ => FloatOps.ofBits .fp8e4m3 0

/-- The loop's state in the scratch buffers before point `n`, if the two-strip buffer held `x` at the start. -/
def held (c : Dev nD) (x : S2x2048x512.Idx → F .bf16) : ℕ → sProp 𝕄
  | 0 => iprop((∃ X, rd c (Memref.whole cc0_scratch2) X) ∗ (∃ X, rd c (Memref.whole cc0_scratch3) X) ∗ (∃ X, rd c (Memref.whole cc0_scratch4) X) ∗ (∃ X, rd c (Memref.whole cc0_scratch5) X))
  | n + 1 => iprop(rd c (Memref.whole cc0_scratch2) (lsA (gsOf pf) (strip V pf c) n).am ∗ rd c (Memref.whole cc0_scratch3) (lsA (gsOf pf) (strip V pf c) n).lo
      ∗ rd c (Memref.whole cc0_scratch4) (lsA (gsOf pf) (strip V pf c) n).hi
      ∗ rd c (Memref.whole cc0_scratch5) (words (lsA (gsOf pf) (strip V pf c) n).g (lsA (gsOf pf) (strip V pf c) n).s (lsA (gsOf pf) (strip V pf c) n).ge (lsA (gsOf pf) (strip V pf c) n).k))

/-- The invariant before point `n`: the scratch buffers, the table's half share and the generator register. -/
def Inv (c : Dev nD) (n : ℕ) : sProp 𝕄 :=
  iprop((∃ x, rd c (Memref.whole cc0_scratch0) (xtB (strip V pf c) x n) ∗ held V pf c x n) ∗ (∃ g, pt c (Memref.whole cc0_scratch1) g)
    ∗ tb c (Memref.whole main_arg1) (pf 0) ∗ ∃ r, prngReg c r)

/-- The proof data: the arrays as the region finds them; the input's buffer at its strip, the row windows' at the strip's
    codes and scales, the column codes' at the strip before, the column scales' as the loop leaves them. -/
def dat (c : Dev nD) : Dat τ (Elt F) Unit ℕ (UR nD τ) ℕ (cfgP (F := F) pf) c where
  A w := V c (Pipeline.arrRef spec0 w)
  after w t := match w with
    | ⟨0, _⟩ => iblk V pf c 0 t
    | ⟨1, _⟩ => rcBlk (strip V pf c t.val)
    | ⟨2, _⟩ => rsBlk (strip V pf c t.val)
    | ⟨3, _⟩ => ccA V pf c t.val
    | ⟨4, _⟩ => (lsA (gsOf pf) (strip V pf c) t.val).cs
    | ⟨n + 5, h⟩ => absurd h (Nat.not_lt.2 (Nat.le_add_left _ _))
  Φ t := Inv V pf c t.val
  q _ := fullShare
  owed _ := 0

theorem A_eq (c : Dev nD) (w : Fin (cfgP (F := F) pf).W) : (dat V pf c).A w = V c (Pipeline.arrRef spec0 w) := rfl
theorem after_0 (c : Dev nD) (t : Fin (cfgP (F := F) pf).N) : (dat V pf c).after 0 t = iblk V pf c 0 t := rfl
theorem after_1 (c : Dev nD) (t : Fin (cfgP (F := F) pf).N) : (dat V pf c).after 1 t = rcBlk (strip V pf c t.val) := rfl
theorem after_2 (c : Dev nD) (t : Fin (cfgP (F := F) pf).N) : (dat V pf c).after 2 t = rsBlk (strip V pf c t.val) := rfl
theorem after_3 (c : Dev nD) (t : Fin (cfgP (F := F) pf).N) : (dat V pf c).after 3 t = ccA V pf c t.val := rfl
theorem after_4 (c : Dev nD) (t : Fin (cfgP (F := F) pf).N) : (dat V pf c).after 4 t = (lsA (gsOf pf) (strip V pf c) t.val).cs := rfl

/-- The input's buffer holds its strip at every point. -/
theorem before_0 (c : Dev nD) (t : Fin (cfgP (F := F) pf).N) (d) : (dat V pf c).before 0 t d = strip V pf c t.val := by
  rw [show strip V pf c t.val = iblk V pf c 0 t from strip_eq V pf c t]
  exact ((dat V pf c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)

/-! ## The windows that are not written at every point -/

theorem co_pred (t : Fin (cfgP (F := F) pf).N) : (cfgP (F := F) pf).grid.coords t = co t.val := (co_eq t).symm

theorem ix0_last : cc0_transform_0 (co 100) = cc0_transform_0 (co 99) := by
  unfold cc0_transform_0
  simp only [co_val 100 (by omega), co_val 99 (by omega)]
  decide

/-- The last two points read one strip. -/
theorem strip_last (c : Dev nD) : strip V pf c 100 = strip V pf c 99 := by
  have h1 : (100 : ℕ) < grid0.N := by rw [N_0]; omega
  have h2 : (99 : ℕ) < grid0.N := by rw [N_0]; omega
  have e := (dat V pf c).fetched_congr 0 (t := ⟨100, h1⟩) (t' := ⟨99, h2⟩) ix0_last rfl (fun _ => FloatOps.ofBits .bf16 0)
  have e1 : ∀ t : Fin grid0.N, (dat V pf c).fetched 0 t (fun _ => FloatOps.ofBits .bf16 0) = strip0 V pf c t := fun t => by
    unfold Dat.fetched Dat.blockOf strip0 iblk; rw [A_eq]; try rfl
  rw [e1, e1] at e
  exact e

theorem flush_eq (w : Fin (cfgP (F := F) pf).W) (t : Fin (cfgP (F := F) pf).N) (h : t.val < 100) (e : ix0 pf w (co (t.val + 1)) = ix0 pf w (co t.val)) :
    ((cfgP (F := F) pf).win w).flush t = false := by
  have hN : (cfgP (F := F) pf).grid.N = 101 := N_0
  unfold Window.flush
  rw [Bool.and_eq_false_iff]; right
  rw [Bool.or_eq_false_iff]
  refine ⟨decide_eq_false (fun h' => ?_), decide_eq_false ?_⟩
  · have := h'.trans hN; omega
  rintro ⟨h', hne⟩
  refine hne ?_
  have := e
  have e1 := co_eq ⟨t.val + 1, h'⟩
  have e2 := co_eq t
  rw [show co (t.val + 1) = _ from e1, e2] at this
  exact this

theorem not_cond2 (t : Fin grid0.N) (h : ¬ k0_cond2 (co t.val) = 1#1) : t.val = 100 := by
  have ht : t.val < 101 := lt_of_lt_of_eq t.isLt N_0
  by_contra hne
  exact h ((cond2_iff _).mpr (by rw [co_val _ (by omega)]; omega))

theorem idle_row (w : Fin (cfgP (F := F) pf).W) (hw : w = 1 ∨ w = 2) (t : Fin grid0.N) :
    (cfgP (F := F) pf).idle w ((cfgP (F := F) pf).grid.coords t) = !(k0_cond2 (co t.val) == 1#1) := by
  rw [co_eq]; rcases hw with rfl | rfl <;> rfl

theorem idle_col (t : Fin grid0.N) : (cfgP (F := F) pf).idle 3 ((cfgP (F := F) pf).grid.coords t) = !(k0_cond4 (co t.val) == 1#1) := by
  rw [co_eq]; rfl

theorem cond2_99 : k0_cond2 (co 99) = 1#1 := (cond2_iff _).mpr (by rw [co_val _ (by omega)]; omega)

/-- The point before `t`. -/
abbrev prev (t : Fin (cfgP (F := F) pf).N) : Fin (cfgP (F := F) pf).N := ⟨t.val - 1, Nat.lt_of_le_of_lt (Nat.sub_le _ _) t.isLt⟩

theorem ix2_last : cc0_transform_2 (co 100) = cc0_transform_2 (co 99) := by
  unfold cc0_transform_2
  simp only [co_val 100 (by omega), co_val 99 (by omega)]
  decide

/-- The row windows' buffers hold the last strip's results at the point past it. -/
theorem before_1 (c : Dev nD) (t : Fin (cfgP (F := F) pf).N) (h : ¬ k0_cond2 (co t.val) = 1#1) (d) : (dat V pf c).before 1 t d = rcBlk (strip V pf c t.val) := by
  have h100 : t.val = 100 := not_cond2 t h
  have hf : ((cfgP (F := F) pf).win 1).flush (prev pf t) = false := by
    refine flush_eq pf 1 _ (by show t.val - 1 < 100; omega) ?_
    show cc0_transform_1 (co (t.val - 1 + 1)) = cc0_transform_1 (co (t.val - 1))
    rw [h100]
    exact ix0_last
  have hi : (cfgP (F := F) pf).idle 1 ((cfgP (F := F) pf).grid.coords (prev pf t)) = false := by
    rw [idle_row pf 1 (.inl rfl)]
    show (!(k0_cond2 (co (t.val - 1)) == 1#1)) = false
    rw [h100, cond2_99]; rfl
  rw [(dat V pf c).before_of_pos 1 t (by omega) rfl, hf, if_neg Bool.false_ne_true]
  unfold Dat.left
  rw [hi, show rcBlk (strip V pf c t.val) = rcBlk (strip V pf c (t.val - 1)) by rw [h100, strip_last]]
  exact after_1 V pf c _

theorem before_2 (c : Dev nD) (t : Fin (cfgP (F := F) pf).N) (h : ¬ k0_cond2 (co t.val) = 1#1) (d) : (dat V pf c).before 2 t d = rsBlk (strip V pf c t.val) := by
  have h100 : t.val = 100 := not_cond2 t h
  have hf : ((cfgP (F := F) pf).win 2).flush (prev pf t) = false := by
    refine flush_eq pf 2 _ (by show t.val - 1 < 100; omega) ?_
    show cc0_transform_2 (co (t.val - 1 + 1)) = cc0_transform_2 (co (t.val - 1))
    rw [h100]
    exact ix2_last
  have hi : (cfgP (F := F) pf).idle 2 ((cfgP (F := F) pf).grid.coords (prev pf t)) = false := by
    rw [idle_row pf 2 (.inr rfl)]
    show (!(k0_cond2 (co (t.val - 1)) == 1#1)) = false
    rw [h100, cond2_99]; rfl
  rw [(dat V pf c).before_of_pos 2 t (by omega) rfl, hf, if_neg Bool.false_ne_true]
  unfold Dat.left
  rw [hi, show rsBlk (strip V pf c t.val) = rsBlk (strip V pf c (t.val - 1)) by rw [h100, strip_last]]
  exact after_2 V pf c _

/-- The column scales' buffer holds what the point before left. -/
theorem before_4 (c : Dev nD) (t : Fin (cfgP (F := F) pf).N) (n : ℕ) (h : t.val = n + 1) (d) :
    (dat V pf c).before 4 t d = (lsA (gsOf pf) (strip V pf c) n).cs := by
  have ht : t.val < 101 := lt_of_lt_of_eq t.isLt N_0
  have hf : ((cfgP (F := F) pf).win 4).flush (prev pf t) = false := flush_eq pf 4 _ (by show t.val - 1 < 100; omega) rfl
  rw [(dat V pf c).before_of_pos 4 t (by omega) rfl, hf, if_neg Bool.false_ne_true]
  rw [show n = (prev pf t).val by show n = t.val - 1; omega]
  exact after_4 V pf c _

/-! ## The body obligation -/

theorem owns_rd (c : Dev nD) {sp : Space} {S : Shape} {e : EltTy} (M : Memref sig .tc sp S e) (h : M.IsWhole) (X : S.Idx → Elt F e) :
    (owns (Ix := Unit) (Name := ℕ) (U := UR nD τ) (Lvl := ℕ) (c : Thread nD τ) M fullShare X : sProp 𝕄) = rd c M X := by
  unfold owns rd pt
  rw [h.set_eq_univ]

theorem leaves_1 (c : Dev nD) (t : Fin (cfgP (F := F) pf).N) (d) (Y : S512x2048.Idx → F .fp8e4m3)
    (hY : k0_cond2 (co t.val) = 1#1 → Y = rcBlk (strip V pf c t.val)) (hN : ¬k0_cond2 (co t.val) = 1#1 → Y = (dat V pf c).before 1 t d) :
    owns (c : Thread nD τ) (((cfgP (F := F) pf).win 1).stage ((cfgP (F := F) pf).slots t 1)) fullShare Y ⊢ (dat V pf c).leavesExact 1 t := by
  unfold Dat.leavesExact
  by_cases hc : k0_cond2 (co t.val) = 1#1
  · have e := hY hc
    rw [idle_row pf 1 (.inl rfl), hc]
    subst e
    exact .rfl
  · have e := hN hc
    rw [idle_row pf 1 (.inl rfl), show (!(k0_cond2 (co t.val) == 1#1)) = true by simpa using hc]
    dsimp only
    subst e
    cases ((cfgP (F := F) pf).win 1).flush t
    · iintro H; iexists d; iexact H
    · rw [before_1 V pf c t hc]; exact .rfl

theorem leaves_2 (c : Dev nD) (t : Fin (cfgP (F := F) pf).N) (d) (Y : S16x512.Idx → F .f32)
    (hY : k0_cond2 (co t.val) = 1#1 → Y = rsBlk (strip V pf c t.val)) (hN : ¬k0_cond2 (co t.val) = 1#1 → Y = (dat V pf c).before 2 t d) :
    owns (c : Thread nD τ) (((cfgP (F := F) pf).win 2).stage ((cfgP (F := F) pf).slots t 2)) fullShare Y ⊢ (dat V pf c).leavesExact 2 t := by
  unfold Dat.leavesExact
  by_cases hc : k0_cond2 (co t.val) = 1#1
  · have e := hY hc
    rw [idle_row pf 2 (.inr rfl), hc]
    subst e
    exact .rfl
  · have e := hN hc
    rw [idle_row pf 2 (.inr rfl), show (!(k0_cond2 (co t.val) == 1#1)) = true by simpa using hc]
    dsimp only
    subst e
    cases ((cfgP (F := F) pf).win 2).flush t
    · iintro H; iexists d; iexact H
    · rw [before_2 V pf c t hc]; exact .rfl

theorem ix3_first : cc0_transform_3 (co 1) = cc0_transform_3 (co 0) := by
  unfold cc0_transform_3
  simp only [co_val 1 (by omega), co_val 0 (by omega)]
  decide

theorem leaves_3 (c : Dev nD) (t : Fin (cfgP (F := F) pf).N) (d) (Y : S2048x512.Idx → F .fp8e4m3)
    (hY : k0_cond4 (co t.val) = 1#1 → Y = ccA V pf c t.val) (hN : ¬k0_cond4 (co t.val) = 1#1 → Y = (dat V pf c).before 3 t d) :
    owns (c : Thread nD τ) (((cfgP (F := F) pf).win 3).stage ((cfgP (F := F) pf).slots t 3)) fullShare Y ⊢ (dat V pf c).leavesExact 3 t := by
  unfold Dat.leavesExact
  by_cases hc : k0_cond4 (co t.val) = 1#1
  · have e := hY hc
    rw [idle_col pf, hc]
    subst e
    exact .rfl
  · have e := hN hc
    have ht : t.val < 101 := lt_of_lt_of_eq t.isLt N_0
    have h0 : t.val = 0 := by
      by_contra hne
      exact hc ((cond4_iff _).mpr (by rw [co_val _ (by omega)]; omega))
    rw [idle_col pf, show (!(k0_cond4 (co t.val) == 1#1)) = true by simpa using hc,
      flush_eq pf 3 t (by omega) (by show cc0_transform_3 _ = cc0_transform_3 _; rw [h0]; exact ix3_first)]
    dsimp only
    subst e
    iintro H; iexists d; iexact H

/-- The two-strip buffer's part read at a point past the first does not depend on what it held at the start. -/
theorem xtB_zero (X : ℕ → S512x2048.Idx → F .bf16) (x : S2x2048x512.Idx → F .bf16) (n : ℕ) (h : 0 < n) : xtB X x (n + 1) = xtB X xt0 (n + 1) := by
  obtain ⟨k, rfl⟩ : ∃ k, n = k + 1 := ⟨n - 1, by omega⟩
  exact xtB_indep X x xt0 k

/-- Every point's run keeps within the loops' bounds. -/
def AllOk (c : Dev nD) : Prop := ∀ n, n ≤ 100 → Ok (co n) (gsOf pf) (strip V pf c n) 600 (lsB (gsOf pf) (strip V pf c) n)

/-- The body at point `t` on any buffers, from the contents a point finds to those it leaves. -/
theorem sound_point (c : Dev nD) (hok : AllOk V pf c) (t : ℕ) (ht : t ≤ 100)
    (M2 : Memref sig .tc .vmem S512x2048 .bf16) (h2 : M2.IsWhole) (M3 : Memref sig .tc .vmem S512x2048 .fp8e4m3) (h3 : M3.IsWhole)
    (M4 : Memref sig .tc .vmem S16x512 .f32) (h4 : M4.IsWhole) (M5 : Memref sig .tc .vmem S2048x512 .fp8e4m3) (h5 : M5.IsWhole)
    (M6 : Memref sig .tc .vmem S409x2048 .f32) (h6 : M6.IsWhole) (x3 : S512x2048.Idx → F .fp8e4m3) (x4 : S16x512.Idx → F .f32)
    (x5 : S2048x512.Idx → F .fp8e4m3) (x6 : S409x2048.Idx → F .f32) (hx6 : ∀ n, t = n + 1 → x6 = (lsA (gsOf pf) (strip V pf c) n).cs)
    (Q : PUnit → sProp 𝕄) (R : sProp 𝕄)
    (hR : iprop(Inv V pf c (t + 1) ∗ rd c M2 (strip V pf c t)
        ∗ rd c M3 (if k0_cond2 (co t) = 1#1 then rcBlk (strip V pf c t) else x3) ∗ rd c M4 (if k0_cond2 (co t) = 1#1 then rsBlk (strip V pf c t) else x4)
        ∗ rd c M5 (if k0_cond4 (co t) = 1#1 then ccA V pf c t else x5) ∗ rd c M6 (lsA (gsOf pf) (strip V pf c) t).cs) ⊢ R) :
    iprop(Inv V pf c t ∗ rd c M2 (strip V pf c t) ∗ rd c M3 x3 ∗ rd c M4 x4 ∗ rd c M5 x5 ∗ rd c M6 x6
      ∗ (R -∗ Q ⟨⟩))
    ⊢ wp frame (wpE (defs₀ (F := F)) 𝒱₀ c none) Set.univ (cc0_two_way_quant (co t) (Memref.whole main_arg1) (Memref.isWhole_whole _) M2 h2 M3 h3 M4 h4 M5 h5 M6 h6
      (Memref.whole cc0_scratch0) (Memref.isWhole_whole _) (Memref.whole cc0_scratch1) (Memref.isWhole_whole _) (Memref.whole cc0_scratch2) (Memref.isWhole_whole _)
      (Memref.whole cc0_scratch3) (Memref.isWhole_whole _) (Memref.whole cc0_scratch4) (Memref.isWhole_whole _) (Memref.whole cc0_scratch5) (Memref.isWhole_whole _)) Q := by
  have hscr : ∀ x, (held V pf c x t : sProp 𝕄) ⊢ iprop(∃ am lo hi st, ⌜start (co t) (gsOf pf) st am lo hi x6 = lsB (gsOf pf) (strip V pf c) t⌝
      ∗ rd c (Memref.whole cc0_scratch2) am ∗ rd c (Memref.whole cc0_scratch3) lo ∗ rd c (Memref.whole cc0_scratch4) hi ∗ rd c (Memref.whole cc0_scratch5) st) := by
    intro x
    cases t with
    | zero =>
      unfold held
      iintro ⟨⟨%am, H1⟩, ⟨%lo, H2⟩, ⟨%hi, H3⟩, ⟨%st, H4⟩⟩
      iexists am; iexists lo; iexists hi; iexists st
      isplitr; · ipureintro; exact start_first _ _ _ _ _ _ _
      isplitl [H1]; · iexact H1
      isplitl [H2]; · iexact H2
      isplitl [H3]; · iexact H3
      iexact H4
    | succ n =>
      rw [hx6 n rfl]
      unfold held
      iintro ⟨H1, H2, H3, H4⟩
      iexists _; iexists _; iexists _; iexists _
      isplitr; rotate_left
      · isplitl [H1]; · iexact H1
        isplitl [H2]; · iexact H2
        isplitl [H3]; · iexact H3
        iexact H4
      ipureintro
      exact start_next _ _ n ht
  unfold Inv
  iintro ⟨⟨⟨%x, Hx, Hh⟩, ⟨%g8, H8⟩, H1, Hr⟩, H2, H3, H4, H5, H6, HQ⟩
  ihave Hh' := hscr x $$ Hh
  icases Hh' with ⟨%am, %lo, %hi, %st, %hst, H9, H10, H11, H12⟩
  unfold rd
  icases Hx with ⟨%f7, %e7, H7⟩
  icases H2 with ⟨%f2, %e2, H2⟩
  icases H3 with ⟨%f3, %e3, H3⟩
  icases H4 with ⟨%f4, %e4, H4⟩
  icases H5 with ⟨%f5, %e5, H5⟩
  icases H6 with ⟨%f6, %e6, H6⟩
  icases H9 with ⟨%f9, %e9, H9⟩
  icases H10 with ⟨%f10, %e10, H10⟩
  icases H11 with ⟨%f11, %e11, H11⟩
  icases H12 with ⟨%f12, %e12, H12⟩
  subst e3 e4 e5 e6 e9 e10 e11 e12
  have hok' : Ok (co t) (gsOf pf) (M2.view.read (Elt F) f2) 600 (lsB (gsOf pf) (strip V pf c) t) := by rw [e2]; exact hok t ht
  have hfin : lsA (gsOf pf) (strip V pf c) t = fin1 c (co t) (Memref.whole main_arg1) M2 (pf 0) f2 600 (lsB (gsOf pf) (strip V pf c) t) := by
    unfold fin1 lsA; rw [e2]; rfl
  have hxt : xtB (strip V pf c) x (t + 1) = if k0_cond2 (co t) = 1#1 then xtBlk (co t) (M2.view.read (Elt F) f2) ((Memref.whole cc0_scratch0).view.read (Elt F) f7)
      else (Memref.whole cc0_scratch0).view.read (Elt F) f7 := by
    rw [e2, e7]; rfl
  iapply (body_le c (co t) (Memref.whole main_arg1) (Memref.isWhole_whole _) M2 h2 M3 h3 M4 h4 M5 h5 M6 h6 (Memref.whole cc0_scratch0) (Memref.isWhole_whole _)
    (Memref.whole cc0_scratch1) (Memref.isWhole_whole _) (Memref.whole cc0_scratch2) (Memref.isWhole_whole _) (Memref.whole cc0_scratch3) (Memref.isWhole_whole _)
    (Memref.whole cc0_scratch4) (Memref.isWhole_whole _) (Memref.whole cc0_scratch5) (Memref.isWhole_whole _) (pf 0) f2 f3 f4 f5 f6 f7 g8 f9 f10 f11 f12 Set.univ Q
    (lsB (gsOf pf) (strip V pf c) t) hst.symm hok' (lsA (gsOf pf) (strip V pf c) t) hfin (xtB (strip V pf c) x (t + 1)) hxt _ .rfl)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iintro ⟨H1, H2, H3, H4, H5, H6, H7, ⟨%g, H8⟩, H9, H10, H11, H12⟩
  iapply HQ
  iapply hR
  isplitl [H7 H9 H10 H11 H12 H8 H1 Hr]
  · unfold Inv
    isplitl [H7 H9 H10 H11 H12]
    · iexists x
      isplitl [H7]; · iexact H7
      unfold held
      isplitl [H9]; · iexact H9
      isplitl [H10]; · iexact H10
      isplitl [H11]; · iexact H11
      iexact H12
    isplitl [H8]; · iexists g; iexact H8
    isplitl [H1]; · iexact H1
    iexact Hr
  isplitl [H2]
  · unfold rd; iexists f2; isplitr; · ipureintro; exact e2
    iexact H2
  rw [e2]
  isplitl [H3]; · iexact H3
  isplitl [H4]; · iexact H4
  isplitl [H5]
  · have e5 : (if h : k0_cond4 (co t) = 1#1 then ccBlk (co t) h (xtB (strip V pf c) x (t + 1)) (lsA (gsOf pf) (strip V pf c) t).am
        (lsA (gsOf pf) (strip V pf c) t).lo (lsA (gsOf pf) (strip V pf c) t).hi else M5.view.read (Elt F) f5)
        = (if k0_cond4 (co t) = 1#1 then ccA V pf c t else M5.view.read (Elt F) f5) := by
      by_cases hc : k0_cond4 (co t) = 1#1
      · have hpos : 0 < t := by have := (cond4_iff _).mp hc; rwa [co_val _ ht] at this
        rw [dif_pos hc, if_pos hc, ccA, dif_pos hc, xtB_zero _ x t hpos]
      · rw [dif_neg hc, if_neg hc]
    rw [← e5]; iexact H5
  iexact H6

/-- The body table's row at point `t`'s slots is the kernel on the windows' current buffers. -/
theorem defs₀_row (t : Fin (cfgP (F := F) pf).N) :
    defs₀ (F := F) .tc (cfgP (F := F) pf).body ((cfgP (F := F) pf).bodyArgs t ((cfgP (F := F) pf).slots t))
      = cc0_two_way_quant (co t.val) (Memref.whole main_arg1) (Memref.isWhole_whole _) (stage0_0 ((cfgP (F := F) pf).slots t 0)) (hstage0_0 _)
        (stage0_1 ((cfgP (F := F) pf).slots t 1)) (hstage0_1 _) (stage0_2 ((cfgP (F := F) pf).slots t 2)) (hstage0_2 _)
        (stage0_3 ((cfgP (F := F) pf).slots t 3)) (hstage0_3 _) (stage0_4 ((cfgP (F := F) pf).slots t 4)) (hstage0_4 _)
        (Memref.whole cc0_scratch0) (Memref.isWhole_whole _) (Memref.whole cc0_scratch1) (Memref.isWhole_whole _) (Memref.whole cc0_scratch2) (Memref.isWhole_whole _)
        (Memref.whole cc0_scratch3) (Memref.isWhole_whole _) (Memref.whole cc0_scratch4) (Memref.isWhole_whole _) (Memref.whole cc0_scratch5) (Memref.isWhole_whole _) := by
  rw [co_eq]; unfold defs₀; rw [Defs.onTc_tc]

theorem leaves_0 (c : Dev nD) (t : Fin (cfgP (F := F) pf).N) :
    owns (c : Thread nD τ) (((cfgP (F := F) pf).win 0).stage ((cfgP (F := F) pf).slots t 0)) fullShare (strip V pf c t.val) ⊢ (dat V pf c).leavesExact 0 t := by
  rw [show strip V pf c t.val = iblk V pf c 0 t from strip_eq V pf c t]
  exact .rfl

theorem leaves_4 (c : Dev nD) (t : Fin (cfgP (F := F) pf).N) :
    owns (c : Thread nD τ) (((cfgP (F := F) pf).win 4).stage ((cfgP (F := F) pf).slots t 4)) fullShare (lsA (gsOf pf) (strip V pf c) t.val).cs ⊢ (dat V pf c).leavesExact 4 t := .rfl

/-- A buffer owned by its contents is one held at a buffer that reads as them. -/
theorem to_eq {A B : sProp 𝕄} (h : A = B) : A ⊢ B := h ▸ .rfl

/-- And back. -/
theorem of_eq {A B C : sProp 𝕄} (h : A = B) (k : A ⊢ C) : B ⊢ C := h ▸ k

theorem rd_0 (c : Dev nD) (t : Fin (cfgP (F := F) pf).N) (Y : S512x2048.Idx → F .bf16) :
    (owns (Ix := Unit) (Name := ℕ) (U := UR nD τ) (Lvl := ℕ) (c : Thread nD τ) (((cfgP (F := F) pf).win 0).stage ((cfgP (F := F) pf).slots t 0)) fullShare Y : sProp 𝕄)
      = rd c (stage0_0 ((cfgP (F := F) pf).slots t 0)) Y := owns_rd c (stage0_0 ((cfgP (F := F) pf).slots t 0)) (hstage0_0 _) Y
theorem rd_1 (c : Dev nD) (t : Fin (cfgP (F := F) pf).N) (Y : S512x2048.Idx → F .fp8e4m3) :
    (owns (Ix := Unit) (Name := ℕ) (U := UR nD τ) (Lvl := ℕ) (c : Thread nD τ) (((cfgP (F := F) pf).win 1).stage ((cfgP (F := F) pf).slots t 1)) fullShare Y : sProp 𝕄)
      = rd c (stage0_1 ((cfgP (F := F) pf).slots t 1)) Y := owns_rd c (stage0_1 ((cfgP (F := F) pf).slots t 1)) (hstage0_1 _) Y
theorem rd_2 (c : Dev nD) (t : Fin (cfgP (F := F) pf).N) (Y : S16x512.Idx → F .f32) :
    (owns (Ix := Unit) (Name := ℕ) (U := UR nD τ) (Lvl := ℕ) (c : Thread nD τ) (((cfgP (F := F) pf).win 2).stage ((cfgP (F := F) pf).slots t 2)) fullShare Y : sProp 𝕄)
      = rd c (stage0_2 ((cfgP (F := F) pf).slots t 2)) Y := owns_rd c (stage0_2 ((cfgP (F := F) pf).slots t 2)) (hstage0_2 _) Y
theorem rd_3 (c : Dev nD) (t : Fin (cfgP (F := F) pf).N) (Y : S2048x512.Idx → F .fp8e4m3) :
    (owns (Ix := Unit) (Name := ℕ) (U := UR nD τ) (Lvl := ℕ) (c : Thread nD τ) (((cfgP (F := F) pf).win 3).stage ((cfgP (F := F) pf).slots t 3)) fullShare Y : sProp 𝕄)
      = rd c (stage0_3 ((cfgP (F := F) pf).slots t 3)) Y := owns_rd c (stage0_3 ((cfgP (F := F) pf).slots t 3)) (hstage0_3 _) Y
theorem rd_4 (c : Dev nD) (t : Fin (cfgP (F := F) pf).N) (Y : S409x2048.Idx → F .f32) :
    (owns (Ix := Unit) (Name := ℕ) (U := UR nD τ) (Lvl := ℕ) (c : Thread nD τ) (((cfgP (F := F) pf).win 4).stage ((cfgP (F := F) pf).slots t 4)) fullShare Y : sProp 𝕄)
      = rd c (stage0_4 ((cfgP (F := F) pf).slots t 4)) Y := owns_rd c (stage0_4 ((cfgP (F := F) pf).slots t 4)) (hstage0_4 _) Y

/-- The body at any point. -/
theorem sound_body (c : Dev nD) (hok : AllOk V pf c) (t : Fin (cfgP (F := F) pf).N) :
    iprop((dat V pf c).Φ t.castSucc ∗ (dat V pf c).owesAt () t.castSucc
    ∗ (∃ d, owns (c : Thread nD τ) (((cfgP (F := F) pf).win 0).stage ((cfgP (F := F) pf).slots t 0)) fullShare ((dat V pf c).before 0 t d))
    ∗ (∃ d, owns (c : Thread nD τ) (((cfgP (F := F) pf).win 1).stage ((cfgP (F := F) pf).slots t 1)) fullShare ((dat V pf c).before 1 t d))
    ∗ (∃ d, owns (c : Thread nD τ) (((cfgP (F := F) pf).win 2).stage ((cfgP (F := F) pf).slots t 2)) fullShare ((dat V pf c).before 2 t d))
    ∗ (∃ d, owns (c : Thread nD τ) (((cfgP (F := F) pf).win 3).stage ((cfgP (F := F) pf).slots t 3)) fullShare ((dat V pf c).before 3 t d))
    ∗ (∃ d, owns (c : Thread nD τ) (((cfgP (F := F) pf).win 4).stage ((cfgP (F := F) pf).slots t 4)) fullShare ((dat V pf c).before 4 t d)))
    ⊢ wp frame (wpE (defs₀ (F := F)) 𝒱₀ c none) Set.univ (defs₀ (F := F) .tc (cfgP (F := F) pf).body ((cfgP (F := F) pf).bodyArgs t ((cfgP (F := F) pf).slots t)))
      (fun _ => iprop((dat V pf c).Φ t.succ ∗ (dat V pf c).owesAt () t.succ
        ∗ (dat V pf c).leavesExact 0 t ∗ (dat V pf c).leavesExact 1 t ∗ (dat V pf c).leavesExact 2 t ∗ (dat V pf c).leavesExact 3 t ∗ (dat V pf c).leavesExact 4 t)) := by
  rw [defs₀_row]
  have ht : t.val ≤ 100 := by have : t.val < 101 := lt_of_lt_of_eq t.isLt N_0; omega
  rw [show (dat V pf c).Φ t.castSucc = Inv V pf c t.val from rfl, show (dat V pf c).Φ t.succ = Inv V pf c (t.val + 1) from rfl,
    show (dat V pf c).owesAt () t.succ = (dat V pf c).owesAt () t.castSucc from rfl]
  simp only [before_0]
  iintro ⟨HI, Ho, ⟨%d0, H0⟩, ⟨%d1, H1⟩, ⟨%d2, H2⟩, ⟨%d3, H3⟩, ⟨%d4, H4⟩⟩
  iapply (sound_point V pf c hok t.val ht (stage0_0 ((cfgP (F := F) pf).slots t 0)) (hstage0_0 _)
        (stage0_1 ((cfgP (F := F) pf).slots t 1)) (hstage0_1 _) (stage0_2 ((cfgP (F := F) pf).slots t 2)) (hstage0_2 _)
        (stage0_3 ((cfgP (F := F) pf).slots t 3)) (hstage0_3 _) (stage0_4 ((cfgP (F := F) pf).slots t 4)) (hstage0_4 _)
        ((dat V pf c).before 1 t d1) ((dat V pf c).before 2 t d2) ((dat V pf c).before 3 t d3) ((dat V pf c).before 4 t d4)
        (fun n hn => before_4 V pf c t n hn d4) _ _ .rfl)
  isplitl [HI]; · iexact HI
  isplitl [H0]; · rw [← rd_0]; iexact H0
  isplitl [H1]; · iapply (to_eq (rd_1 pf c t ((dat V pf c).before 1 t d1))); iexact H1
  isplitl [H2]; · iapply (to_eq (rd_2 pf c t ((dat V pf c).before 2 t d2))); iexact H2
  isplitl [H3]; · iapply (to_eq (rd_3 pf c t ((dat V pf c).before 3 t d3))); iexact H3
  isplitl [H4]; · iapply (to_eq (rd_4 pf c t ((dat V pf c).before 4 t d4))); iexact H4
  iintro ⟨HI, H0, H1, H2, H3, H4⟩
  isplitl [HI]; · iexact HI
  isplitl [Ho]; · iexact Ho
  isplitl [H0]; · iapply (of_eq (rd_0 pf c t _) (leaves_0 V pf c t)); iexact H0
  isplitl [H1]; · iapply (of_eq (rd_1 pf c t _) (leaves_1 V pf c t d1 _ (fun h => if_pos h) (fun h => if_neg h))); iexact H1
  isplitl [H2]; · iapply (of_eq (rd_2 pf c t _) (leaves_2 V pf c t d2 _ (fun h => if_pos h) (fun h => if_neg h))); iexact H2
  isplitl [H3]; · iapply (of_eq (rd_3 pf c t _) (leaves_3 V pf c t d3 _ (fun h => if_pos h) (fun h => if_neg h))); iexact H3
  iapply (of_eq (rd_4 pf c t _) (leaves_4 V pf c t)); iexact H4

/-- The library's body obligation, at every point. -/
theorem body_obligation (c : Dev nD) (hok : AllOk V pf c) : BodyObligation (dat V pf c) (defs₀ (F := F)) 𝒱₀ () Set.univ := fun t => by
  rw [bigSep_W0, bigSep_W0]
  exact triple_restated (sound_body V pf c hok t) rfl .rfl fun _ => .rfl

end Cert.Proof.P

end
-- ==== Proof.P.Run.lean ====
/-
  The run of `Kernel`, from the launch to the return.
-/
module

public import proofs.«01_k».proof.Proof.P.Region

@[expose] public section

set_option maxRecDepth 16384

noncomputable section

namespace Cert.Proof.P

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR nD τ) ℕ

variable (m : (ℓ : Loc nD τ sig) → Buf (Elt F) ℓ)

/-- The table as the memory holds it at the start. -/
def tab : pre0.Contents (Elt F) := fun k => m ((0 : Dev nD), Proc.devRef .tc (pre0.ref k))

/-- The buffers as the pipeline finds them: the input reshaped, the others as at the start. -/
abbrev V0 (c : Dev nD) : Valuation τ sig (Elt F) := StableHlo.after [hostOps0 (F := F)].flatten (fun b => m (c, b))

abbrev V0r (c : Dev nD) (b : Ref sig .tc) : Buf (Elt F) ((c : Thread nD τ).loc b) := V0 m c (Proc.devRef .tc b)

/-- The proof data of the program's one pipeline. -/
abbrev dats (p : Fin 1) (c : Dev nD) : Dat τ (Elt F) Unit ℕ (UR nD τ) ℕ (Pipeline.pin (pcfgs (F := F)) (adm (tab m)) p) c := dat (V0r m) (tab m) c

theorem hpf (c : Dev nD) (k) : V0 m c (Proc.devRef .tc ((pcfgs (F := F) 0).pre.ref k)) = (adm (tab m) 0).1 k := by
  obtain rfl : c = 0 := Subsingleton.elim _ _
  obtain rfl : k = (0 : Fin 1) := Subsingleton.elim _ _
  rfl

/-- A whole buffer at some contents reads as some contents. -/
theorem rd_of (c : Dev nD) {sp : Space} {S : Shape} {e : EltTy} (M : Memref sig .tc sp S e) (f : Bf (F := F) c M) : pt c M f ⊢ iprop(∃ X, rd c M X) := by
  unfold rd
  iintro H
  iexists _; iexists f
  isplitr; · ipureintro; rfl
  iexact H

theorem pref_eq (c : Dev nD) : (Pipeline.ΦT pre0 (tab m) c : sProp 𝕄) = tb c (Memref.whole main_arg1) (tab m 0) := by
  unfold Pipeline.ΦT Pipeline.prefHeld
  rw [show (Finset.univ : Finset (Fin pre0.K)) = {0} from rfl, bigSep_singleton]
  rfl

theorem hin (c : Dev nD) : iprop(Pipeline.ΦA spec0 c ∗ Pipeline.ΦT pre0 (tab m) c : sProp 𝕄) ⊢ (dats m 0 c).Φ 0 := by
  show _ ⊢ Inv (V0r m) (tab m) c 0
  rw [pref_eq]
  unfold Pipeline.ΦA Inv held
  rw [scopedRest0_eq]
  iintro ⟨⟨⟨⟨%x0, H0⟩, ⟨%x1, H1⟩, ⟨%x2, H2⟩, ⟨%x3, H3⟩, ⟨%x4, H4⟩, ⟨%x5, H5⟩⟩, Hp⟩, Ht⟩
  isplitl [H0 H2 H3 H4 H5]
  · iexists (Memref.whole cc0_scratch0).view.read (Elt F) x0
    isplitl [H0]
    · iapply (rd_intro c (Memref.whole cc0_scratch0) x0 _ rfl); iexact H0
    isplitl [H2]
    · iapply (rd_of c (Memref.whole cc0_scratch2) x2); iexact H2
    isplitl [H3]
    · iapply (rd_of c (Memref.whole cc0_scratch3) x3); iexact H3
    isplitl [H4]
    · iapply (rd_of c (Memref.whole cc0_scratch4) x4); iexact H4
    iapply (rd_of c (Memref.whole cc0_scratch5) x5); iexact H5
  isplitl [H1]; · iexists x1; iexact H1
  isplitl [Ht]; · iexact Ht
  iexact Hp

theorem hout (c : Dev nD) : (dats m 0 c).Φ (Fin.last (Pipeline.pin (pcfgs (F := F)) (adm (tab m)) 0).N) ⊢ (Pipeline.ΦA spec0 c : sProp 𝕄) := by
  show Inv (V0r m) (tab m) c grid0.N ⊢ _
  rw [N_0]
  unfold Pipeline.ΦA Inv held rd
  rw [scopedRest0_eq]
  dsimp only
  iintro ⟨⟨%x, ⟨%f0, -, H0⟩, ⟨%f2, -, H2⟩, ⟨%f3, -, H3⟩, ⟨%f4, -, H4⟩, ⟨%f5, -, H5⟩⟩, ⟨%f1, H1⟩, -, Hp⟩
  isplitr [Hp]
  · isplitl [H0]; · iexists f0; iexact H0
    isplitl [H1]; · iexists f1; iexact H1
    isplitl [H2]; · iexists f2; iexact H2
    isplitl [H3]; · iexists f3; iexact H3
    isplitl [H4]; · iexists f4; iexact H4
    iexists f5; iexact H5
  iexact Hp

theorem sfx_sub : ∀ ops ∈ ([hostOps1] : List (List (HloOp τ sig (Elt F)))), ∀ op ∈ ops, op.bufs ⊆ Pipeline.tailRefs sig pre0 spec0 := by
  intro ops hops op hop
  simp only [List.mem_cons, List.mem_nil_iff, or_false] at hops
  subst hops
  refine Pipeline.sub_tailRefs pre0 spec0 op ((List.forall_iff_forall_mem.mp hostOps1_sub) op hop) ?_
  simp only [hostOps1, List.mem_cons, List.mem_nil_iff, or_false] at hop
  rcases hop with rfl | rfl
  all_goals intro j; fin_cases j <;> simp only [StableHlo.unary_bufs, Finset.mem_insert, Finset.mem_singleton, not_or] <;> and_intros <;> exact StableHlo.devRef_ne_of_ne (by decide)

theorem sfx_fresh : ∀ ops ∈ ([hostOps1] : List (List (HloOp τ sig (Elt F)))), ∀ op ∈ ops, op.fresh = ∅ := by
  intro ops hops op hop
  simp only [List.mem_cons, List.mem_nil_iff, or_false] at hops
  subst hops
  simp only [hostOps1, List.mem_cons, List.mem_nil_iff, or_false] at hop
  rcases hop with rfl | rfl <;> rfl

theorem sfx_keeps : ∀ ops ∈ ([hostOps1] : List (List (HloOp τ sig (Elt F)))), ∀ op ∈ ops, ∀ w, Proc.devRef .tc (Pipeline.arrRef spec0 w) ∉ op.writes := by
  intro ops hops op hop
  simp only [List.mem_cons, List.mem_nil_iff, or_false] at hops
  subst hops
  simp only [hostOps1, List.mem_cons, List.mem_nil_iff, or_false] at hop
  rcases hop with rfl | rfl
  all_goals intro w; fin_cases w <;> simp only [StableHlo.unary_writes, Finset.mem_singleton] <;> exact StableHlo.devRef_ne_of_ne (by decide)

theorem hmain : Pipeline.HMainPK (Ix := Unit) (Name := ℕ) (U := UR nD τ) (Lvl := ℕ) (pcfgs (F := F)) 0 defs₀ 𝒱₀ m main
    (fun c b => V0 m c (Proc.devRef .tc b)) (fun _ => Pipeline.chain ([hostOps1].map StableHlo.seq)) :=
  Pipeline.hmainP_around pcfgs 0 defs₀ 𝒱₀ m main [hostOps0] [hostOps1] (by simp only [List.Forall]; exact hostOps0_sub)
    (by simp only [List.Forall]; rfl) main_chain

/-- The run: the windows' arrays end as the pipeline leaves them, every other array as the host operations after it leave it, and every semaphore at zero. -/
theorem run (g : Dev nD → PrngReg) (hok : ∀ c, AllOk (V0r m) (tab m) c) :
    θ_run (Cert.Kernel.defs (F := F)) (onTc (τ := τ) (Cert.Kernel.main (F := F))) ⟨m, fun _ => 0, g⟩
      (fun r => Pipeline.FramePost (Pipeline.pin (pcfgs (F := F)) (adm (tab m))) (dats m) 0 (Pipeline.afterTail (pcfgs (F := F)) (adm (tab m)) (dats m) 0 (V0 m) [hostOps1]) r
        ∧ r.2.sem = fun _ => 0) :=
  Pipeline.θ_run_frameP_around_track pcfgs (adm (tab m)) (dats m) 0 launch0 defs₀ 𝒱₀ m g main
    (fun c => (body_obligation (V0r m) (tab m) c (hok c)).loose) (fun c w => by unfold Dat.share; split <;> rfl) (fun c t => rfl) (V0 m) [hostOps1]
    sfx_sub sfx_fresh sfx_keeps (hmain m) (fun c w => rfl) (hpf m) (hin m) (hout m) _ (fun r h => h)

/-- An argument array ends as it was. -/
theorem arg_tail (c : Dev nD) (b : Ref sig .tc) (hb : b ∈ [main_arg0, main_arg1]) :
    Pipeline.afterTail (pcfgs (F := F)) (adm (tab m)) (dats m) 0 (V0 m) [hostOps1] c b = m ((c : Thread nD τ).loc b) := by
  have hw : ∀ w, Pipeline.arrRef spec0 w ≠ b := by
    simp only [List.mem_cons, List.mem_nil_iff, or_false] at hb
    rcases hb with rfl | rfl <;> decide
  unfold Pipeline.afterTail
  rw [StableHlo.after_of_forall_not_mem _ _ fun op hop hw => ?_, Pipeline.withArrays_of_ne spec0 c (V0 m c) _ b hw]
  · simp only [List.mem_cons, List.mem_nil_iff, or_false] at hb
    rcases hb with rfl | rfl <;> rfl
  · simp only [List.flatten_cons, List.flatten_nil, List.append_nil, hostOps1, List.mem_cons, List.mem_nil_iff, or_false] at hop hb
    rcases hop with rfl | rfl <;> rcases hb with rfl | rfl <;> simp only [StableHlo.unary_writes, Finset.mem_singleton] at hw <;>
      exact StableHlo.devRef_ne_of_ne (by decide) hw

/-- The frame: the program ends with its arguments as they were and every semaphore at zero. -/
theorem frame (g : Dev nD → PrngReg) (hok : ∀ c, AllOk (V0r m) (tab m) c) :
    θ_run (Cert.Kernel.defs (F := F)) (onTc (τ := τ) (Cert.Kernel.main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run _ _ _).mono (fun r h => ⟨fun c => ⟨((h.1 c).2 main_arg0 (show main_arg0 ∈ Pipeline.restRefs sig spec0 by decide)).trans (arg_tail m c _ (by simp)), ((h.1 c).2 main_arg1 (show main_arg1 ∈ Pipeline.restRefs sig spec0 by decide)).trans (arg_tail m c _ (by simp))⟩, h.2⟩)
    (run m g hok)

end Cert.Proof.P

end
-- ==== Proof.P.Part.lean ====
/-
  The precondition gives a partition of the tokens, and with it `Kernel`'s frame.
-/
module

public import proofs.«01_k».proof.Proof.P.Sched
public import proofs.«01_k».proof.Proof.P.Run
public import proofs.«01_k».proof.Proof.Gen.Pre_finite_and_partition
public import Idealize.ShloMosaic.Lib.ReduceAll
public import Idealize.ShloMosaic.Lib.Routing.Ops

@[expose] public section

set_option maxRecDepth 16384

noncomputable section

namespace Cert.Proof.P

open Cert.Kernel Cert.Kernel.Gen

open Idealize.ShloMosaic Idealize.SL.Sem
open Idealize.ShloMosaic.TcCoe
open Idealize.ShloMosaic (ix1 ix2 ix3)

variable {F : FTy → Type} [FloatOps F]

theorem sum_range9 (f : ℕ → ℕ) : ((List.range 9).map f).sum = ∑ i ∈ Finset.range 9, f i := rfl

/-- The precondition on the inputs makes the sizes a partition of the tokens. -/
theorem part_of (x : FVec F Cert.Pre_finite_and_partition.S20x2560x2048 .bf16) (gs : IVec Cert.Pre_finite_and_partition.S9 32)
    (h : Cert.Pre_finite_and_partition.fn x gs = fun _ => 1#1) : Part gs := by
  have h0 := congrFun h ix0
  obtain ⟨h1, h2⟩ := (andi_one _ _).mp h0
  obtain ⟨-, h3⟩ := (andi_one _ _).mp h1
  have hb : ∀ i, (gs i).toNat ≤ 51200 := fun i => by
    have h4 := Host.reduce_andi_all _ _ _ _ _ h3 i
    obtain ⟨h5, h6⟩ := (andi_one _ _).mp h4
    have h5' : (0#32).toInt ≤ (gs i).toInt := (WordCmp.ofBool_decide_eq_one_iff _).mp h5
    have h6' : (gs i).toInt ≤ (51200#32).toInt := (WordCmp.ofBool_decide_eq_one_iff _).mp h6
    have e0 : (0#32).toInt = 0 := rfl
    have e1 : (51200#32).toInt = 51200 := rfl
    have := (gs i).isLt
    rw [e0, BitVec.toInt_eq_toNat_cond] at h5'; rw [e1, BitVec.toInt_eq_toNat_cond] at h6'
    split at h6' <;> omega
  have hsum := Routing.reduce_sum (N := 9) gs (gsz gs) (fun i => by
    have e : gsz gs i.val = (gs (ix1 i)).toNat := dif_pos i.isLt
    rw [e]
    have e1 : (ValueIdx.ix1 i : S9.Idx) = ix1 i := by funext a; match a with | 0 => rfl
    simp [e1]) Cert.Pre_finite_and_partition.Gen.facts.reducesTo_S9_S_d0 Cert.Pre_finite_and_partition.Gen.facts.h_S_
  have h7 : Host.reduce IntOp.addi gs (constantI Cert.Pre_finite_and_partition.S_ 32 0#32) Cert.Pre_finite_and_partition.Gen.facts.reducesTo_S9_S_d0 Cert.Pre_finite_and_partition.Gen.facts.h_S_ ix0 = 51200#32 :=
    (WordCmp.ofBool_decide_eq_one_iff _).mp ((WordCmp.cmpi_eq_eq _ _).symm.trans h2)
  have h8 := congrArg BitVec.toNat (hsum.symm.trans h7)
  rw [sum_range9, BitVec.toNat_ofNat] at h8
  have hle : gst gs 9 ≤ 9 * 51200 := by
    refine (Finset.sum_le_card_nsmul (Finset.range 9) (gsz gs) 51200 fun i _ => ?_).trans (by simp)
    unfold gsz
    split
    · exact hb _
    · omega
  show gst gs 9 = 51200
  have h9 : gst gs 9 % 2 ^ 32 = 51200 := h8
  omega

/-- The table the loops read is the one the memory holds. -/
theorem gsOf_tab (m : (ℓ : Loc nD τ sig) → Buf (Elt F) ℓ) : gsOf (tab m) = m ((0 : Dev nD).tc.loc main_arg1) := rfl

/-- Every trip of the run is within its bounds under the precondition. -/
theorem allOk (m : (ℓ : Loc nD τ sig) → Buf (Elt F) ℓ) (c : Dev nD)
    (h : Cert.Pre_finite_and_partition.fn (m ((0 : Dev nD).tc.loc main_arg0)) (m ((0 : Dev nD).tc.loc main_arg1)) = fun _ => 1#1) : AllOk (V0r m) (tab m) c :=
  fun n hn => lsB_ok (by rw [gsOf_tab]; exact part_of _ _ h) _ n hn

end Cert.Proof.P

end
-- ==== Proof.PI.Common.lean ====
/-
  Shared definitions for the proofs about `KernelIdeal`: the resource algebra, the launch memory, and the spelling of a buffer held
  whole.
-/
module

public import proofs.«01_k».proof.KernelIdeal
public import Idealize.ShloMosaic.Lib.Pipeline.Sound
public import Idealize.ShloMosaic.Lib.Tactic
public import proofs.«01_k».proof.Proof.Gen.KernelIdeal
public import proofs.«01_k».proof.Proof.Gen.KernelIdeal.Skeleton
public import proofs.«01_k».proof.Proof.Gen.KernelIdeal.Launch

@[expose] public section

noncomputable section

namespace Cert.Proof.PI

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf kernel pipe)

variable {F : FTy → Type} [FloatOps F]

/-- The ghost algebra: the rounds library's over the machine's cells, duties named by `Unit`. -/
abbrev UR (nD : Nat) (τ : Topo) : Type := URounds (GSem nD τ sig) Unit

local notation "𝕄" => MT nD τ sig Unit (Elt F) ℕ (UR nD τ) ℕ

/-- Its embedding into the machine's algebra. -/
def EP : Emb (UR nD τ) (MT nD τ sig Unit (Elt F) ℕ (UR nD τ) ℕ) :=
  (Emb.refl _).trans (uEmb (nD := nD) (sig := sig) (Ix := Unit) (Val := Elt F) (Name := ℕ) (U := UR nD τ) (Lvl := ℕ)).toEmb

instance EP_landsIn : (EP : Emb (UR nD τ) 𝕄).LandsIn (upEmb : UEmb _ 𝕄) := by unfold EP; infer_instance

/-- The kernel's variants: the naturals, the whiles' trips still to run. -/
abbrev 𝒱₀ : Variants := Variants.nat

/-- The contents of memref `M`'s buffer on core `c`. -/
abbrev Bf (c : Dev nD) {sp : Space} {S : Shape} {e : EltTy} (M : Memref sig .tc sp S e) : Type := Buf (Elt F) (M.view.loc (c : Thread nD τ))

/-- Memref `M`'s buffer on core `c`, held whole at contents `f`. -/
abbrev pt (c : Dev nD) {sp : Space} {S : Shape} {e : EltTy} (M : Memref sig .tc sp S e) (f : Bf (F := F) c M) : sProp 𝕄 :=
  M.view.loc (c : Thread nD τ) ↦{fullShare} f

/-- The prefetched table `M`'s buffer on core `c`, at the half share the kernel's body is handed, at contents `f`. -/
abbrev tb (c : Dev nD) {sp : Space} {S : Shape} {e : EltTy} (M : Memref sig .tc sp S e) (f : Bf (F := F) c M) : sProp 𝕄 :=
  M.view.loc (c : Thread nD τ) ↦{fullShare.right} f

end Cert.Proof.PI

end
-- ==== Proof.PI.Loops.lean ====
module

public import proofs.«01_k».proof.Proof.PI.Common
public import Idealize.ShloMosaic.Lib.VecWindow

@[expose] public section

noncomputable section

namespace Cert.Proof.PI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR nD τ) ℕ

open Idealize.ShloMosaic.VecWindow (window put)

/-! ## The inner loop: the group a token lies in -/

/-- The entry of the group table at the word `g + 1` (zero where the table has none). -/
def gsNext (gs : S9.Idx → BitVec 32) (g : BitVec 32) : BitVec 32 :=
  if h : k0_chk1 g then
    (window gs (k0_off17 g) S1.size (k0_off17_inb g h)) (Shape.Idx.first (Nat.lt_of_lt_of_eq Nat.one_pos numel1_S1.symm)) else 0#32

/-- The inner loop from group `g` with end `ge` finishes within `n` trips, every table read inside the table. -/
def AdvOk (gs : S9.Idx → BitVec 32) (s : BitVec 32) : ℕ → BitVec 32 → BitVec 32 → Prop
  | 0, _, ge => ¬ Scalar.cmpi .sle ge s = 1#1
  | n + 1, g, ge => Scalar.cmpi .sle ge s = 1#1 → k0_chk1 g ∧ AdvOk gs s n (Scalar.addi g 1#32) (Scalar.addi ge (gsNext gs g))

/-- The group and its end that the inner loop leaves after at most `n` trips. -/
def adv (gs : S9.Idx → BitVec 32) (s : BitVec 32) : ℕ → BitVec 32 → BitVec 32 → BitVec 32 × BitVec 32
  | 0, g, ge => (g, ge)
  | n + 1, g, ge => if Scalar.cmpi .sle ge s = 1#1 then adv gs s n (Scalar.addi g 1#32) (Scalar.addi ge (gsNext gs g)) else (g, ge)

section Inner

variable (c : Dev nD) (i : grid0.Coords) (s : BitVec 32) (M1 : Memref sig .tc .smem S9 .i32) (h1 : M1.IsWhole) (f1 : Bf (F := F) c M1)

/-- The inner loop's specification: the table is returned as it was, the result is the model's. -/
def spec2 (n : ℕ) (g ge : BitVec 32) : sWPT 𝕄 (BitVec 32 × BitVec 32) := do
  sWPT.consume (tb c M1 f1)
  sWPT.produce (tb c M1 f1)
  pure (adv (M1.view.read (Elt F) f1) s n g ge)

theorem spec2_apply (n : ℕ) (g ge : BitVec 32) (K : BitVec 32 × BitVec 32 → sProp 𝕄) :
    spec2 c s M1 f1 n g ge K = iprop(tb c M1 f1 ∗ (tb c M1 f1 -∗ K (adv (M1.view.read (Elt F) f1) s n g ge))) := rfl

/-- The inner loop meets its specification. -/
theorem spec2_le (E : Set ℕ) : ∀ n g ge, AdvOk (M1.view.read (Elt F) f1) s n g ge → ∀ K, spec2 c s M1 f1 n g ge K
    ⊢ wp frame (wpE (defs₀ (F := F)) 𝒱₀ (c : Thread nD τ) (some n)) E (defs₀ (F := F) .tc 2 ⟨i, s, M1, h1, g, ge⟩) K := by
  intro n
  induction n with
  | zero =>
    intro g ge hok K
    rw [spec2_apply]
    show _ ⊢ wp frame (wpE (defs₀ (F := F)) 𝒱₀ (c : Thread nD τ) (some 0)) E (cc0_while2 i s M1 h1 g ge) K
    simp only [cc0_while2_eq_skeleton]; unfold cc0_while2_skel
    have ht : ¬ Scalar.cmpi .sle ge s = 1#1 := hok
    simp only [ht, ↓reduceIte, Prog.pure_eq_ret, adv]
    iintro ⟨H, Hk⟩
    rw [wp_ret]; imodintro
    iapply Hk; iexact H
  | succ n ih =>
    intro g ge hok K
    rw [spec2_apply]
    show _ ⊢ wp frame (wpE (defs₀ (F := F)) 𝒱₀ (c : Thread nD τ) (some (n+1))) E (cc0_while2 i s M1 h1 g ge) K
    simp only [cc0_while2_eq_skeleton]; unfold cc0_while2_skel
    by_cases ht : Scalar.cmpi .sle ge s = 1#1
    · obtain ⟨hc, hok'⟩ := hok ht
      simp only [ht, ↓reduceIte, adv]
      iintro ⟨H, Hk⟩
      sl_exec
      iapply (wp_call_spec 𝒱₀ (c : Thread nD τ) (some (n + 1)) E (spec2 c s M1 f1 n (Scalar.addi g 1#32) (Scalar.addi ge (gsNext (M1.view.read (Elt F) f1) g))) n
        (fun u hu => by cases hu; exact Nat.lt_succ_self n) ?_)
      · have e : gsNext (M1.view.read (Elt F) f1) g = (M1.view.readAt (Elt F) (Rect.unit (s := S9) (k0_off17 g) S1.size (k0_off17_inb g hc)).toLoadRect f1) (Shape.Idx.first (Nat.lt_of_lt_of_eq Nat.one_pos numel1_S1.symm)) := by
          unfold gsNext; rw [dif_pos hc]; rfl
        have := ih (Scalar.addi g 1#32) (Scalar.addi ge (gsNext (M1.view.read (Elt F) f1) g)) hok'
        rw [e] at this ⊢
        exact this
      rw [spec2_apply]
      isplitl [H]; · iexact H
      iintro H
      rw [wp_ret]; imodintro
      iapply Hk; iexact H
    · simp only [ht, ↓reduceIte, Prog.pure_eq_ret, adv]
      iintro ⟨H, Hk⟩
      rw [wp_ret]; imodintro
      iapply Hk; iexact H

end Inner

/-! ## The outer loop: the token blocks met in one strip -/

/-- What the outer loop carries: the group, the block's first token, the group's end, the block's number, whether the last block ended in the
    strip; the running maxima of the 32 block slots, the slots' first and last tokens, and the block scales. -/
@[ext] structure LS (F : FTy → Type) where
  g : BitVec 32
  s : BitVec 32
  ge : BitVec 32
  k : BitVec 32
  fl : BitVec 1
  am : S32x2048.Idx → F .f32
  lo : S32x128.Idx → BitVec 32
  hi : S32x128.Idx → BitVec 32
  cs : S409x2048.Idx → F .f32

section Model

variable (i : grid0.Coords) (gs : S9.Idx → BitVec 32) (X : S512x2048.Idx → F .bf16)

/-- The strip's first token. -/
def base : BitVec 32 := Scalar.muli (BitVec.ofNat 32 (i 0).val) 512#32

/-- The loop's test: the last block ended in the strip and the next one starts before the strip's end. -/
def testW (s : BitVec 32) (fl : BitVec 1) : BitVec 1 :=
  Scalar.andi fl (Scalar.cmpi .slt s (Scalar.minsi (Scalar.addi (base i) 512#32) 51200#32))

/-- The trip's block: its group and the group's end. -/
def advW (σ : LS F) : BitVec 32 × BitVec 32 := adv gs σ.s 16 σ.g σ.ge

/-- The trip's block end. -/
def endW (s ge : BitVec 32) : BitVec 32 := Scalar.minsi (Scalar.addi s 128#32) ge

/-- Whether the block ends in the strip. -/
def doneW (e : BitVec 32) : BitVec 1 := Scalar.cmpi .sle e (Scalar.addi (base i) 512#32)

/-- The side conditions of a trip whose block lies in the group `r.1` ending at `r.2`: every access inside its array. -/
def ChkR (r : BitVec 32 × BitVec 32) (σ : LS F) : Prop := k0_chk3 σ.k ∧ k0_chk2 i σ.s ∧ k0_chk4 i σ.s σ.k r.2

/-- The side conditions of a trip. -/
def Chk (σ : LS F) : Prop := ChkR i (advW gs σ) σ

/-- Sixteen rows of the strip, the `r`-th sixteen of the trip's window. -/
def win (s : BitVec 32) (h : k0_chk2 i s) (r : Fin 9) : S16x2048.Idx → F .bf16 :=
  window X (k0_off18 i s (BitVec.ofNat 32 (16 * r.val))) S16x2048.size (k0_off18_inb i s h r)

/-- The row maxima of the trip's block so far, eight of the window's nine pieces in. -/
def acc8 (s e : BitVec 32) (h : k0_chk2 i s) : FVec F S16x2048 .f32 :=
  let a := Scalar.subi s (base i)
  let b := Scalar.subi e (base i)
  let w := k0_mult1 i s
  let v91 := k0_pay222 a b w (iota .tc S16x2048 32 [0] iota_S16x2048_d0_w32) (k0_pay221 s (base i)) (win i X s h 0) (win i X s h 1)
  let v108 := k0_pay223 a b w (win i X s h 2)
  let v145 := k0_pay224 a b w v91 v108 (win i X s h 3) (win i X s h 4)
  k0_pay229 a b w v145 (k0_pay225 w) (k0_pay226 (win i X s h 5)) (k0_pay227 a w) (k0_pay228 b) (win i X s h 6) (win i X s h 7)

/-- The slot's row of running maxima. -/
def amRow (am : S32x2048.Idx → F .f32) (k : BitVec 32) (h : k0_chk3 k) : S1x2048.Idx → F .f32 :=
  window am (k0_off19 k) S1x2048.size (k0_off19_inb k h)

/-- The block's running maxima after the trip. -/
def amNew (s e k : BitVec 32) (am : S32x2048.Idx → F .f32) (h2 : k0_chk2 i s) (h3 : k0_chk3 k) : FVec F S1x2048 .f32 :=
  k0_pay8 (Scalar.subi s (base i)) (Scalar.subi e (base i)) (acc8 i X s e h2) (k0_pay230 (k0_mult1 i s)) (win i X s h2 8) (amRow am k h3)

/-- The row of block scales of the maxima `v`. -/
def csNew (v : FVec F S1x2048 .f32) : FVec F S1x2048 .f32 :=
  k0_pay12 (k0_pay220 v (k0_pay217 v) (k0_pay218 v) (k0_pay219 v))

/-- One trip of the outer loop on a block of the group `r.1` ending at `r.2`. -/
def tripR (r : BitVec 32 × BitVec 32) (σ : LS F) (h : ChkR i r σ) : LS F :=
  let e := endW σ.s r.2
  { g := r.1
    s := Scalar.select (doneW i e) e σ.s
    ge := r.2
    k := Scalar.select (doneW i e) (Scalar.addi σ.k 1#32) σ.k
    fl := doneW i e
    am := put σ.am (k0_off19 σ.k) S1x2048.size (k0_pay9 (Scalar.subi σ.s (base i)) (Scalar.subi e (base i)) (acc8 i X σ.s e h.2.1) (k0_pay230 (k0_mult1 i σ.s))
      (win i X σ.s h.2.1 8) (amRow σ.am σ.k h.1))
    lo := put σ.lo (k0_off20 σ.k) S1x128.size (k0_pay10 σ.s)
    hi := put σ.hi (k0_off20 σ.k) S1x128.size (k0_pay11 e)
    cs := if k0_cond3 i σ.s r.2 = 1#1 then put σ.cs (k0_off21 σ.k) S1x2048.size (csNew (amNew i X σ.s e σ.k σ.am h.2.1 h.1)) else σ.cs }

/-- One trip of the outer loop. -/
def trip (σ : LS F) (h : Chk i gs σ) : LS F := tripR i X (advW gs σ) σ h

/-- The outer loop from `σ` finishes within `n` trips, every access inside its array. -/
def Ok : ℕ → LS F → Prop
  | 0, σ => ¬ testW i σ.s σ.fl = 1#1
  | n + 1, σ => testW i σ.s σ.fl = 1#1 → AdvOk gs σ.s 16 σ.g σ.ge ∧ ∃ h : Chk i gs σ, Ok n (trip i gs X σ h)

open Classical in
/-- What the outer loop leaves after at most `n` trips. -/
def loop : ℕ → LS F → LS F
  | 0, σ => σ
  | n + 1, σ => if testW i σ.s σ.fl = 1#1 then (if h : Chk i gs σ then loop n (trip i gs X σ h) else σ) else σ

end Model

section Outer

variable (c : Dev nD) (i : grid0.Coords)
    (M1 : Memref sig .tc .smem S9 .i32) (h1 : M1.IsWhole) (M2 : Memref sig .tc .vmem S512x2048 .bf16) (h2 : M2.IsWhole)
    (M6 : Memref sig .tc .vmem S409x2048 .f32) (h6 : M6.IsWhole)
    (M9 : Memref sig .tc .vmem S32x2048 .f32) (h9 : M9.IsWhole) (M10 : Memref sig .tc .vmem S32x128 .i32) (h10 : M10.IsWhole)
    (M11 : Memref sig .tc .vmem S32x128 .i32) (h11 : M11.IsWhole)
    (f1 : Bf (F := F) c M1) (f2 : Bf (F := F) c M2)

/-- Memref `M`'s buffer held whole at contents that read as `X`. -/
def rd (c : Dev nD) {sp : Space} {S : Shape} {e : EltTy} (M : Memref sig .tc sp S e) (X : S.Idx → Elt F e) : sProp 𝕄 :=
  iprop(∃ f : Bf (F := F) c M, ⌜M.view.read (Elt F) f = X⌝ ∗ pt c M f)

theorem rd_intro (c : Dev nD) {sp : Space} {S : Shape} {e : EltTy} (M : Memref sig .tc sp S e) (f : Bf (F := F) c M) (X : S.Idx → Elt F e)
    (h : M.view.read (Elt F) f = X) : pt c M f ⊢ rd c M X := by
  unfold rd
  iintro H
  iexists f
  isplitr; · ipureintro; exact h
  iexact H

/-- What the outer loop holds: the table and the strip, and the four arrays it updates. -/
def held1 (σ : LS F) : sProp 𝕄 :=
  iprop(tb c M1 f1 ∗ pt c M2 f2 ∗ rd c M6 σ.cs ∗ rd c M9 σ.am ∗ rd c M10 σ.lo ∗ rd c M11 σ.hi)

/-- The outer loop's specification: from the state `σ`, it leaves the model's state. -/
def spec1 (n : ℕ) (σ : LS F) : sWPT 𝕄 (BitVec 32 × BitVec 32 × BitVec 32 × BitVec 32 × BitVec 1) := do
  let τ := loop i (M1.view.read (Elt F) f1) (M2.view.read (Elt F) f2) n σ
  sWPT.consume (held1 c M1 M2 M6 M9 M10 M11 f1 f2 σ)
  sWPT.produce (held1 c M1 M2 M6 M9 M10 M11 f1 f2 τ)
  pure (τ.g, τ.s, τ.ge, τ.k, τ.fl)

/-- The state the outer loop leaves. -/
abbrev fin1 (n : ℕ) (σ : LS F) : LS F := loop i (M1.view.read (Elt F) f1) (M2.view.read (Elt F) f2) n σ

theorem spec1_apply (n : ℕ) (σ : LS F) (K : _ → sProp 𝕄) :
    spec1 c i M1 M2 M6 M9 M10 M11 f1 f2 n σ K = iprop(held1 c M1 M2 M6 M9 M10 M11 f1 f2 σ
      ∗ (held1 c M1 M2 M6 M9 M10 M11 f1 f2 (fin1 c i M1 M2 f1 f2 n σ)
        -∗ K ((fin1 c i M1 M2 f1 f2 n σ).g, (fin1 c i M1 M2 f1 f2 n σ).s, (fin1 c i M1 M2 f1 f2 n σ).ge, (fin1 c i M1 M2 f1 f2 n σ).k, (fin1 c i M1 M2 f1 f2 n σ).fl))) := rfl

/-- A call of the inner loop that returns the table as it was and the pair `r`. -/
def specR (r : BitVec 32 × BitVec 32) : sWPT 𝕄 (BitVec 32 × BitVec 32) := do
  sWPT.consume (tb c M1 f1)
  sWPT.produce (tb c M1 f1)
  pure r

theorem specR_apply (r : BitVec 32 × BitVec 32) (K : BitVec 32 × BitVec 32 → sProp 𝕄) :
    specR c M1 f1 r K = iprop(tb c M1 f1 ∗ (tb c M1 f1 -∗ K r)) := rfl

/-- One trip of the outer loop, up to its own call, the inner loop's answer `(r1, r2)` given. -/
theorem trip_le (E : Set ℕ) (n : ℕ) (g s ge k : BitVec 32) (fl : BitVec 1) (am : S32x2048.Idx → F .f32) (lo hi : S32x128.Idx → BitVec 32)
    (cs : S409x2048.Idx → F .f32) (r1 r2 : BitVec 32)
    (hin : ∀ K, specR c M1 f1 (r1, r2) K ⊢ wp frame (wpE (defs₀ (F := F)) 𝒱₀ (c : Thread nD τ) (some 16)) E (defs₀ (F := F) .tc 2 ⟨i, s, M1, h1, g, ge⟩) K)
    (ht : testW i s fl = 1#1) (hchk : ChkR i (r1, r2) (⟨g, s, ge, k, fl, am, lo, hi, cs⟩ : LS F)) (K : _ → sProp 𝕄) :
    iprop(held1 c M1 M2 M6 M9 M10 M11 f1 f2 ⟨g, s, ge, k, fl, am, lo, hi, cs⟩
      ∗ (held1 c M1 M2 M6 M9 M10 M11 f1 f2 (tripR i (M2.view.read (Elt F) f2) (r1, r2) ⟨g, s, ge, k, fl, am, lo, hi, cs⟩ hchk)
        -∗ wp frame (wpE (defs₀ (F := F)) 𝒱₀ (c : Thread nD τ) (some (n + 1 + 17))) E
            (Prog.op (TpuEff.call (1 : (Λ₀ F).Label) ⟨i, M1, h1, M2, h2, M9, h9, M10, h10, M11, h11, M6, h6, r1,
              Scalar.select (doneW i (endW s r2)) (endW s r2) s, r2, Scalar.select (doneW i (endW s r2)) (Scalar.addi k 1#32) k, doneW i (endW s r2)⟩) Prog.ret) K))
    ⊢ wp frame (wpE (defs₀ (F := F)) 𝒱₀ (c : Thread nD τ) (some (n + 1 + 17))) E
        (cc0_while1 i M1 h1 M2 h2 M9 h9 M10 h10 M11 h11 M6 h6 g s ge k fl) K := by
  simp only [cc0_while1_eq_skeleton]; unfold cc0_while1_skel
  have ht' : Scalar.andi fl (Scalar.cmpi .slt s (Scalar.minsi (Scalar.addi (Scalar.muli (BitVec.ofNat 32 (i 0).val) 512#32) 512#32) 51200#32)) = 1#1 := ht
  have q3 : k0_chk3 k := hchk.1
  have q2 : k0_chk2 i s := hchk.2.1
  have q4 : k0_chk4 i s k r2 := hchk.2.2
  simp only [ht', ↓reduceIte, k0_part55_eq_skeleton]
  unfold k0_part55_skel held1 rd
  iintro ⟨⟨H1, H2, ⟨%f6, %e6, H6⟩, ⟨%f9, %e9, H9⟩, ⟨%f10, %e10, H10⟩, ⟨%f11, %e11, H11⟩⟩, Hk⟩
  sl_exec
  iapply (wp_call_spec 𝒱₀ (c : Thread nD τ) (some (n + 1 + 17)) E (specR c M1 f1 (r1, r2)) 16
    (fun u hu => by cases hu; show 16 < n + 1 + 17; omega) hin)
  rw [specR_apply]
  isplitl [H1]; · iexact H1
  iintro H1
  sl_exec
  have e7 : trip_le.sl.r_7 c i M2 f2 s k r1 r2 q3 q2 q4 = acc8 i (M2.view.read (Elt F) f2) s (endW s r2) q2 := rfl
  have e8 : k0_pay8 (trip_le.sl.v34 i s) (trip_le.sl.v35 i s r2) (trip_le.sl.r_7 c i M2 f2 s k r1 r2 q3 q2 q4) (trip_le.sl.r_8 i s)
      (View.readAt (Elt F) M2.view (Rect.unit (s := S512x2048) (k0_off18 i s 128#32) S16x2048.size (k0_off18_inb i s q2 8)).toLoadRect f2)
      (View.readAt (Elt F) M9.view (Rect.unit (s := S32x2048) (k0_off19 k) S1x2048.size (k0_off19_inb k q3)).toLoadRect f9)
      = amNew i (M2.view.read (Elt F) f2) s (endW s r2) k (M9.view.read (Elt F) f9) q2 q3 := by
    rw [e7]; rfl
  have e12 : k0_pay12 (F := F) (trip_le.sl.r_12 c i M2 M9 f2 s k r1 r2 q3 q2 q4 f9)
      = csNew (amNew i (M2.view.read (Elt F) f2) s (endW s r2) k (M9.view.read (Elt F) f9) q2 q3) := by
    unfold trip_le.sl.r_12 trip_le.sl.r_9 trip_le.sl.r_10 trip_le.sl.r_11 csNew
    rw [← e8]
  have e91 : trip_le.sl.H9_1 c i M2 M9 f2 s k r1 r2 q3 q2 q4 f9
      = [⟨Rect.unit (k0_off19 k) S1x2048.size (k0_off19_inb k q3), k0_pay9 (Scalar.subi s (base i)) (Scalar.subi (endW s r2) (base i))
        (acc8 i (M2.view.read (Elt F) f2) s (endW s r2) q2) (k0_pay230 (k0_mult1 i s))
        (win i (M2.view.read (Elt F) f2) s q2 8) (amRow (M9.view.read (Elt F) f9) k q3)⟩] := by
    unfold trip_le.sl.H9_1; rw [e7]; rfl
  iapply Hk
  isplitl [H1]; · iexact H1
  isplitl [H2]; · iexact H2
  isplitl [H6]
  · iexists _
    isplitr [H6]
    rotate_left
    · iexact H6
    ipureintro
    dsimp only at e6 e9
    subst e6 e9
    dsimp only [tripR]
    split
    · rw [View.read_writes_cons_put _ _ _ _ _ rfl, View.writes_nil, e12]
    · rfl
  isplitl [H9]
  · iexists _
    isplitr [H9]
    rotate_left
    · iexact H9
    ipureintro
    dsimp only at e9
    subst e9
    dsimp only [tripR]
    rw [e91, View.read_writes_cons_put _ _ _ _ _ rfl, View.writes_nil]
  isplitl [H10]
  · iexists _
    isplitr [H10]
    rotate_left
    · iexact H10
    ipureintro
    dsimp only at e10
    subst e10
    refine (View.read_writes_cons_put _ _ _ _ _ rfl).trans ?_
    rw [View.writes_nil]; rfl
  · iexists _
    isplitr [H11]
    rotate_left
    · iexact H11
    ipureintro
    dsimp only at e11
    subst e11
    refine (View.read_writes_cons_put _ _ _ _ _ rfl).trans ?_
    rw [View.writes_nil]; rfl

/-- The outer loop meets its specification. -/
theorem spec1_le (E : Set ℕ) : ∀ n σ, Ok i (M1.view.read (Elt F) f1) (M2.view.read (Elt F) f2) n σ → ∀ K,
    spec1 c i M1 M2 M6 M9 M10 M11 f1 f2 n σ K
    ⊢ wp frame (wpE (defs₀ (F := F)) 𝒱₀ (c : Thread nD τ) (some (n + 17))) E
      (defs₀ (F := F) .tc 1 ⟨i, M1, h1, M2, h2, M9, h9, M10, h10, M11, h11, M6, h6, σ.g, σ.s, σ.ge, σ.k, σ.fl⟩) K := by
  intro n
  induction n with
  | zero =>
    intro σ hok K
    rw [spec1_apply]
    show _ ⊢ wp frame (wpE (defs₀ (F := F)) 𝒱₀ (c : Thread nD τ) (some 17)) E (cc0_while1 i M1 h1 M2 h2 M9 h9 M10 h10 M11 h11 M6 h6 σ.g σ.s σ.ge σ.k σ.fl) K
    simp only [cc0_while1_eq_skeleton]; unfold cc0_while1_skel
    have ht : ¬ Scalar.andi σ.fl (Scalar.cmpi .slt σ.s (Scalar.minsi (Scalar.addi (Scalar.muli (BitVec.ofNat 32 (i 0).val) 512#32) 512#32) 51200#32)) = 1#1 := hok
    simp only [ht, ↓reduceIte, Prog.pure_eq_ret, fin1, loop]
    iintro ⟨H, Hk⟩
    rw [wp_ret]; imodintro
    iapply Hk; iexact H
  | succ n ih =>
    intro σ hok K
    rw [spec1_apply]
    show _ ⊢ wp frame (wpE (defs₀ (F := F)) 𝒱₀ (c : Thread nD τ) (some (n + 1 + 17))) E (cc0_while1 i M1 h1 M2 h2 M9 h9 M10 h10 M11 h11 M6 h6 σ.g σ.s σ.ge σ.k σ.fl) K
    by_cases ht : testW i σ.s σ.fl = 1#1
    · obtain ⟨hadv, hchk, hok'⟩ := hok ht
      have hl : fin1 c i M1 M2 f1 f2 (n + 1) σ = fin1 c i M1 M2 f1 f2 n (trip i (M1.view.read (Elt F) f1) (M2.view.read (Elt F) f2) σ hchk) := by
        show loop _ _ _ (n + 1) σ = _
        rw [loop, if_pos ht, dif_pos hchk]
      rw [hl]
      have hin := fun K => spec2_le c i σ.s M1 h1 f1 E 16 σ.g σ.ge hadv K
      have T := (trip_le c i M1 h1 M2 h2 M6 h6 M9 h9 M10 h10 M11 h11 f1 f2 E n σ.g σ.s σ.ge σ.k σ.fl σ.am σ.lo σ.hi σ.cs
        (advW (M1.view.read (Elt F) f1) σ).1 (advW (M1.view.read (Elt F) f1) σ).2 hin ht hchk K)
      iintro ⟨H, Hk⟩
      iapply T
      isplitl [H]; · iexact H
      iintro H
      iapply (wp_call_spec 𝒱₀ (c : Thread nD τ) (some (n + 1 + 17)) E
        (spec1 c i M1 M2 M6 M9 M10 M11 f1 f2 n (trip i (M1.view.read (Elt F) f1) (M2.view.read (Elt F) f2) σ hchk)) (n + 17)
        (fun u hu => by cases hu; show n + 17 < n + 1 + 17; omega) (ih _ hok'))
      rw [spec1_apply]
      isplitl [H]; · iexact H
      iintro H
      rw [wp_ret]; imodintro
      iapply Hk; iexact H
    · have hl : fin1 c i M1 M2 f1 f2 (n + 1) σ = σ := by
        show loop _ _ _ (n + 1) σ = _
        rw [loop, if_neg ht]
      rw [hl]
      have ht' : ¬ Scalar.andi σ.fl (Scalar.cmpi .slt σ.s (Scalar.minsi (Scalar.addi (Scalar.muli (BitVec.ofNat 32 (i 0).val) 512#32) 512#32) 51200#32)) = 1#1 := ht
      simp only [cc0_while1_eq_skeleton]; unfold cc0_while1_skel
      simp only [ht', ↓reduceIte, Prog.pure_eq_ret]
      iintro ⟨H, Hk⟩
      rw [wp_ret]; imodintro
      iapply Hk; iexact H

end Outer

end Cert.Proof.PI

end
-- ==== Proof.PI.Tiles.lean ====
module

public import proofs.«01_k».proof.Proof.PI.Loops
public import Idealize.ShloMosaic.Lib.VecWindow
public import Idealize.ShloMosaic.Lib.Pointwise.Index

@[expose] public section

noncomputable section

namespace Cert.Proof.PI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR nD τ) ℕ

open Idealize.ShloMosaic.VecWindow (window put)
open Idealize.ShloMosaic (ix2 ix3)

/-! ## The block computations of one strip, tile by tile -/

/-! ### The power-of-two scale of a maximum -/

/-- One step of the search for the exponent field of `p`: `c + b` if the word of that field reads at most `p`, else `c`. -/
def fieldStep {S : Shape} (p : FVec F S .f32) (b : BitVec 32) (c : IVec S 32) : IVec S 32 :=
  select (cmpf .ole (bitcastToFloat .f32 (shli (addi c (broadcast S b)) (broadcast S 23#32)) : FVec F S .f32) p) (addi c (broadcast S b)) c

/-- The exponent field of `p`. -/
def field {S : Shape} (p : FVec F S .f32) : IVec S 32 :=
  fieldStep p 1#32 (fieldStep p 2#32 (fieldStep p 4#32 (fieldStep p 8#32 (fieldStep p 16#32 (fieldStep p 32#32 (fieldStep p 64#32
    (fieldStep p 128#32 (broadcast S 0#32))))))))

/-- The exponent of the scale of the maximum `a`. -/
def expo {S : Shape} (a : FVec F S .f32) : IVec S 32 :=
  let f := field (mulf a (broadcast S (Scalar.ofBits .f32 0x3B124925#32)))
  select (cmpf .oeq a (broadcast S (Scalar.ofBits .f32 0x00000000#32))) (broadcast S 0#32)
    (select (ori (cmpi .eq f (broadcast S 0#32)) (cmpi .eq f (broadcast S 255#32))) (broadcast S 0#32) (subi f (broadcast S 126#32)))

/-- The power of two of the exponent `e`. -/
def pow2 {S : Shape} (e : IVec S 32) : FVec F S .f32 :=
  bitcastToFloat .f32 (shli (addi e (broadcast S 127#32)) (broadcast S 23#32))

/-- The reciprocal scale of the maximum `a`. -/
def invScale {S : Shape} (a : FVec F S .f32) : FVec F S .bf16 :=
  truncf .bf16 (pow2 (subi (broadcast S 0#32) (expo a))) bitsLt_bf16_f32

/-- The codes of the scaled values `v`. -/
def codes {S : Shape} (v : FVec F S .bf16) : FVec F S .fp8e4m3 :=
  truncf .fp8e4m3 (minimumf (broadcast S (Scalar.ofBits .bf16 0x43E0#16)) (maximumf (broadcast S (Scalar.ofBits .bf16 0xC3E0#16)) v)) bitsLt_fp8e4m3_bf16

/-! ### The row direction -/

/-- Column group `g` of the strip. -/
def grp (X : S512x2048.Idx → F .bf16) (g : Fin 16) : S512x128.Idx → F .bf16 :=
  window X ![0, 128 * g.val] S512x128.size (fun a => by revert a; revert g; decide)

/-- The row maxima of the strip, one row of sixteen per column group. -/
def raBlk (X : S512x2048.Idx → F .bf16) : FVec F S16x512 .f32 :=
  fun y => k0_pay15 (grp X (y 0)) (ix2 0 (y 1))

/-- The row scales of the strip. -/
def rsBlk (X : S512x2048.Idx → F .bf16) : FVec F S16x512 .f32 := pow2 (expo (raBlk X))

/-- The indicator of column group `i` over the columns. -/
def sel : FVec F S16x2048 .bf16 :=
  k0_pay77 (iota .tc S16x2048 32 [0] iota_S16x2048_d0_w32) (iota .tc S16x2048 32 [1] iota_S16x2048_d1_w32) 128#32 k0_pay75 k0_pay76 1#32 0#1

theorem slices_inv (r : Fin 4) : S16x512.Slices ![0, 128 * r.val] S16x128 := by revert r; decide
theorem slices_sel (c : Fin 8) : S16x2048.Slices ![0, 256 * c.val] S16x256 := by revert c; decide

/-- Tile `(r, c)` of the row codes. -/
def rcTile (iv : FVec F S16x512 .bf16) (X : S512x2048.Idx → F .bf16) (r : Fin 4) (c : Fin 8) : FVec F S128x256 .fp8e4m3 :=
  codes (mulf (shapeCast S128x256 (window X ![128 * r.val, 256 * c.val] S128x256.size (fun a => by revert a; revert r c; decide)) shapeCasts_S128x256_S128x256)
    (truncf .bf16 (matmul dot_S16x128_S16x256_S128x256_0_0_1_1_n_n none (extractStridedSlice S16x128 ![0, 128 * r.val] iv (slices_inv r))
      (extractStridedSlice S16x256 ![0, 256 * c.val] sel (slices_sel c)) (constant S128x256 .f32 0x00000000#32)) bitsLt_bf16_f32))

/-- The row codes of the strip. -/
def rcBlk (X : S512x2048.Idx → F .bf16) : FVec F S512x2048 .fp8e4m3 :=
  fun y => rcTile (invScale (raBlk X)) X ⟨(y 0).val / 128, by have := (y 0).isLt; simp at this ⊢; omega⟩ ⟨(y 1).val / 256, by have := (y 1).isLt; simp at this ⊢; omega⟩
    (ix2 ⟨(y 0).val % 128, Nat.mod_lt _ (by decide)⟩ ⟨(y 1).val % 256, Nat.mod_lt _ (by decide)⟩)

/-- The strip's transpose over its half of the two-strip buffer. -/
def xtBlk (i : grid0.Coords) (X : S512x2048.Idx → F .bf16) (old : S2x2048x512.Idx → F .bf16) : S2x2048x512.Idx → F .bf16 :=
  fun y => if (y 0).val = k0_off1 i 0 then k0_pay14 (grp X ⟨(y 1).val / 128, by have := (y 1).isLt; simp at this ⊢; omega⟩)
      (ix3 0 ⟨(y 1).val % 128, Nat.mod_lt _ (by decide)⟩ (y 2))
    else old y

/-! ### The column direction -/

theorem slices_col (c : Fin 16) : S32x2048.Slices ![0, 128 * c.val] S32x128 := by revert c; decide

/-- Which slot's block each of the 128 tokens from `t` lies in. -/
def hot (t : BitVec 32) (lo hi : S32x128.Idx → BitVec 32) : FVec F S32x128 .bf16 :=
  let u : IVec S32x128 32 := addi (broadcast S32x128 t) (iota .tc S32x128 32 [1] iota_S32x128_d1_w32)
  truncf .bf16 (select (andi (cmpi .sge u lo) (cmpi .slt u hi)) (broadcast S32x128 (Scalar.ofBits .f32 0x3F800000#32))
    (broadcast S32x128 (Scalar.ofBits .f32 0x00000000#32)) : FVec F S32x128 .f32) bitsLt_bf16_f32

/-- The first token of the strip before point `i`'s. -/
def prevBase (i : grid0.Coords) : BitVec 32 := Scalar.muli (Scalar.subi (BitVec.ofNat 32 (i 0).val) 1#32) 512#32

theorem slot_inb (i : grid0.Coords) (h : k0_cond4 i = 1#1) (c : Fin 16) (r : Fin 4) :
    ∀ a, (![k0_off22 i 0, 128 * c.val, 128 * r.val] : Fin 3 → ℕ) a + S1x128x128.size a ≤ S2x2048x512.size a := by
  intro a
  have h0 := k0_off22_inb i h
  fin_cases a
  · exact h0 0
  · show 128 * c.val + 128 ≤ 2048
    omega
  · show 128 * r.val + 128 ≤ 512
    omega

/-- Tile `(c, r)` of the column codes. -/
def ccTile (iv : FVec F S32x2048 .bf16) (ht : FVec F S32x128 .bf16) (c : Fin 16) (v : S1x128x128.Idx → F .bf16) : FVec F S128x128 .fp8e4m3 :=
  codes (mulf (shapeCast S128x128 v shapeCasts_S1x128x128_S128x128)
    (truncf .bf16 (matmul dot_S32x128_S32x128_S128x128_0_0_1_1_n_n none (extractStridedSlice S32x128 ![0, 128 * c.val] iv (slices_col c)) ht
      (constant S128x128 .f32 0x00000000#32)) bitsLt_bf16_f32))

/-- Tile `(c, r)` of the column codes of the strip before point `i`'s. -/
def ccT (i : grid0.Coords) (h : k0_cond4 i = 1#1) (xt : S2x2048x512.Idx → F .bf16) (am : S32x2048.Idx → F .f32) (lo hi : S32x128.Idx → BitVec 32)
    (c : Fin 16) (r : Fin 4) : FVec F S128x128 .fp8e4m3 :=
  ccTile (invScale am) (hot (Scalar.addi (prevBase i) (BitVec.ofNat 32 (128 * r.val))) lo hi) c
    (window xt ![k0_off22 i 0, 128 * c.val, 128 * r.val] S1x128x128.size (slot_inb i h c r))

/-- The column codes of the strip before point `i`'s. -/
def ccBlk (i : grid0.Coords) (h : k0_cond4 i = 1#1) (xt : S2x2048x512.Idx → F .bf16) (am : S32x2048.Idx → F .f32) (lo hi : S32x128.Idx → BitVec 32) :
    FVec F S2048x512 .fp8e4m3 :=
  fun y => ccT i h xt am lo hi ⟨(y 0).val / 128, by have := (y 0).isLt; simp at this ⊢; omega⟩ ⟨(y 1).val / 128, by have := (y 1).isLt; simp at this ⊢; omega⟩
    (ix2 ⟨(y 0).val % 128, Nat.mod_lt _ (by decide)⟩ ⟨(y 1).val % 128, Nat.mod_lt _ (by decide)⟩)

/-! ## The state a point starts from -/

/-- Whether the point is the first. -/
def isFirst (i : grid0.Coords) : BitVec 1 := Scalar.cmpi .ne (Scalar.extui (Scalar.cmpi .eq (BitVec.ofNat 32 (i 0).val) 0#32)) 0#32

/-- The four words the loop's state is kept in between points. -/
def words (g s ge k : BitVec 32) : S4.Idx → BitVec 32 := fun y => (![g, s, ge, k] : Fin 4 → BitVec 32) (y 0)

/-- The loop's state as the body starts it: cleared at the first point, else as the point before left it. -/
def start (i : grid0.Coords) (gs : S9.Idx → BitVec 32) (st : S4.Idx → BitVec 32) (am : S32x2048.Idx → F .f32) (lo hi : S32x128.Idx → BitVec 32)
    (cs : S409x2048.Idx → F .f32) : LS F :=
  if isFirst i = 1#1 then ⟨0#32, 0#32, gs (ix1 0), 0#32, 1#1, k0_pay1, k0_pay2, k0_pay3, k0_pay4⟩
  else ⟨st (ix1 0), st (ix1 1), st (ix1 2), st (ix1 3), 1#1, am, lo, hi, cs⟩

end Cert.Proof.PI

end
-- ==== Proof.PI.Pieces.lean ====
module

public import proofs.«01_k».proof.Proof.PI.Tiles
public import Idealize.ShloMosaic.Lib.VecWindow

@[expose] public section

noncomputable section

namespace Cert.Proof.PI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR nD τ) ℕ

open VecWindow (window put)

/-! ## What a list of tile stores leaves -/

section Generic

variable {sp : Space} {S : Shape} {e : EltTy}

/-- Stores that each hold the values of one array `G`, and between them every place where `G` differs from the old contents, leave `G`. -/
theorem read_tiles (v : View sig .tc sp S e) (f : v.ty.Contents (Elt F)) (L : List (View.Piece (Elt F) S e)) (G : S.Idx → Elt F e)
    (hG : ∀ p ∈ L, ∀ x : p.1.shape.Idx, p.2 x = G (p.1.emb x)) (hc : ∀ y, (∃ p ∈ L, y ∈ p.1.set) ∨ G y = v.read (Elt F) f y) :
    v.read (Elt F) (v.writes (Elt F) f L) = G := by
  funext y
  by_cases h : ∃ p ∈ L, y ∈ p.1.set
  · exact View.read_writes_apply_of_pieces v f G L hG y h
  · rw [View.read_writes_apply_of_forall_not_mem v f y L (fun p hp hy => h ⟨p, hp, hy⟩)]
    rcases hc y with h' | h'
    · exact absurd h' h
    · exact h'.symm

end Generic

/-! ### The four words -/

theorem read_words (M : Memref sig .tc .smem S4 .i32) (f : M.view.ty.Contents (Elt F)) (a b c d : BitVec 32) (h0 h1 h2 h3) :
    M.view.read (Elt F) (M.view.writes (Elt F) f [⟨Rect.unit (s := S4) ![3] S1.size h3, fun _ => d⟩, ⟨Rect.unit (s := S4) ![2] S1.size h2, fun _ => c⟩,
      ⟨Rect.unit (s := S4) ![1] S1.size h1, fun _ => b⟩, ⟨Rect.unit (s := S4) ![0] S1.size h0, fun _ => a⟩]) = words a b c d := by
  refine read_tiles _ _ _ _ ?_ ?_
  · simp only [List.forall_mem_cons]
    have hx : ∀ x : S1.Idx, x = ix1 0 := fun x => (ix1_eta x).symm.trans (congrArg ix1 (Subsingleton.elim _ _))
    refine ⟨fun x => ?_, fun x => ?_, fun x => ?_, fun x => ?_, fun p hp => nomatch hp⟩ <;> rw [show x = ix1 0 from hx x] <;> rfl
  · intro y
    left
    have hy : y = ix1 (y 0) := (ix1_eta y).symm
    have l : (y 0).val < 4 := (y 0).isLt
    have h4 : (y 0).val = 0 ∨ (y 0).val = 1 ∨ (y 0).val = 2 ∨ (y 0).val = 3 := by omega
    rcases h4 with h | h | h | h
    · refine ⟨_, List.mem_cons_of_mem _ (List.mem_cons_of_mem _ (List.mem_cons_of_mem _ List.mem_cons_self)), (Rect.mem_set_unit (inb := h0)).2 fun a => ?_⟩
      fin_cases a; exact ⟨Nat.zero_le _, by show (y 0).val < 0 + 1; rw [h]; omega⟩
    · refine ⟨_, List.mem_cons_of_mem _ (List.mem_cons_of_mem _ List.mem_cons_self), (Rect.mem_set_unit (inb := h1)).2 fun a => ?_⟩
      fin_cases a; exact ⟨by show 1 ≤ (y 0).val; rw [h], by show (y 0).val < 1 + 1; rw [h]; omega⟩
    · refine ⟨_, List.mem_cons_of_mem _ List.mem_cons_self, (Rect.mem_set_unit (inb := h2)).2 fun a => ?_⟩
      fin_cases a; exact ⟨by show 2 ≤ (y 0).val; rw [h], by show (y 0).val < 2 + 1; rw [h]; omega⟩
    · refine ⟨_, List.mem_cons_self, (Rect.mem_set_unit (inb := h3)).2 fun a => ?_⟩
      fin_cases a; exact ⟨by show 3 ≤ (y 0).val; rw [h], by show (y 0).val < 3 + 1; rw [h]; omega⟩

/-- A word loaded is the array's at its place. -/
theorem word_at (M : Memref sig .tc .smem S4 .i32) (f : M.view.ty.Contents (Elt F)) (m : ℕ) (n : Fin 4) (hm : m = n.val) (inb) (x : S1.Idx) :
    M.view.readAt (Elt F) (Rect.unit (s := S4) ![m] S1.size inb).toLoadRect f x = M.view.read (Elt F) f (ix1 n) := by
  have hx : x = ix1 0 := (ix1_eta x).symm.trans (congrArg ix1 (Subsingleton.elim _ _))
  subst hm hx
  refine congrArg (M.view.read (Elt F) f) (funext fun a => ?_)
  fin_cases a
  exact Fin.ext rfl

/-- A size loaded is the table's at its place. -/
theorem table_at (M : Memref sig .tc .smem S9 .i32) (f : M.view.ty.Contents (Elt F)) (m : ℕ) (n : Fin 9) (hm : m = n.val) (inb) (x : S1.Idx) :
    M.view.readAt (Elt F) (Rect.unit (s := S9) ![m] S1.size inb).toLoadRect f x = M.view.read (Elt F) f (ix1 n) := by
  have hx : x = ix1 0 := (ix1_eta x).symm.trans (congrArg ix1 (Subsingleton.elim _ _))
  subst hm hx
  refine congrArg (M.view.read (Elt F) f) (funext fun a => ?_)
  fin_cases a
  exact Fin.ext rfl

/-! ### The row maxima -/

theorem raP_inb (g : Fin 16) : ∀ a, (![g.val, 0] : Fin 2 → ℕ) a + S1x512.size a ≤ S16x512.size a := by revert g; decide

/-- The store of row `w g` of an array of sixteen rows. -/
def rowP (w : Fin 16 → FVec F S1x512 .f32) (g : Fin 16) : View.Piece (Elt F) S16x512 .f32 :=
  ⟨Rect.unit (s := S16x512) ![g.val, 0] S1x512.size (raP_inb g), w g⟩

/-- The store of the maxima of column group `g`. -/
def raP (X : S512x2048.Idx → F .bf16) (g : Fin 16) : View.Piece (Elt F) S16x512 .f32 := rowP (fun g => k0_pay15 (grp X g)) g

/-- The sixteen stores, newest first. -/
def groups : List (Fin 16) := [15, 14, 13, 12, 11, 10, 9, 8, 7, 6, 5, 4, 3, 2, 1, 0]

theorem mem_groups (g : Fin 16) : g ∈ groups := by revert g; decide

theorem read_rows (v : View sig .tc .vmem S16x512 .f32) (f : v.ty.Contents (Elt F)) (w : Fin 16 → FVec F S1x512 .f32) :
    v.read (Elt F) (v.writes (Elt F) f (groups.map (rowP w))) = fun y => w (y 0) (ix2 0 (y 1)) := by
  refine read_tiles _ _ _ _ ?_ ?_
  · intro p hp x
    obtain ⟨g, -, rfl⟩ := List.mem_map.1 hp
    have e0 : ((rowP w g).1.emb x) 0 = g := Fin.ext (by
      have h : (x 0).val < 1 := (x 0).isLt
      show g.val + 1 * (x 0).val = g.val
      omega)
    have e1 : ((rowP w g).1.emb x) 1 = x 1 := Fin.ext (by show 0 + 1 * (x 1).val = (x 1).val; omega)
    have ex : x = (ix2 0 (x 1) : S1x512.Idx) := by
      have e00 : @Eq (Fin 1) (x 0) 0 := Fin.ext (by have : (x 0).val < 1 := (x 0).isLt; show (x 0).val = 0; omega)
      exact (ix2_eta (n0 := 1) (n1 := 512) x).symm.trans (congrArg (fun z => ix2 z (x 1)) e00)
    exact (congrArg (w g) ex).trans (congrArg₂ (fun (a : Fin 16) (b : Fin 512) => w a (ix2 0 b)) e0 e1).symm
  · intro y
    left
    refine ⟨rowP w (y 0), List.mem_map_of_mem (mem_groups _), (Rect.mem_set_unit (inb := raP_inb _)).2 fun a => ?_⟩
    fin_cases a
    · exact ⟨Nat.le_refl _, Nat.lt_succ_self _⟩
    · exact ⟨Nat.zero_le _, by have : (y 1).val < 512 := (y 1).isLt; show (y 1).val < 0 + 512; omega⟩

theorem read_ra (v : View sig .tc .vmem S16x512 .f32) (f : v.ty.Contents (Elt F)) (X : S512x2048.Idx → F .bf16) :
    v.read (Elt F) (v.writes (Elt F) f (groups.map (raP X))) = raBlk X := read_rows v f _

/-! ### The strip's transpose -/

theorem xtP_inb (i : grid0.Coords) (hc : k0_cond2 i = 1#1) (g : Fin 16) :
    ∀ a, (![k0_off1 i 0, 128 * g.val, 0] : Fin 3 → ℕ) a + S1x128x512.size a ≤ S2x2048x512.size a := by
  intro a
  have h0 := k0_off1_inb i hc
  fin_cases a
  · exact h0 0
  · show 128 * g.val + 128 ≤ 2048
    omega
  · show 0 + 512 ≤ 512
    omega

/-- The store of the transpose of column group `g`. -/
def xtP (i : grid0.Coords) (hc : k0_cond2 i = 1#1) (X : S512x2048.Idx → F .bf16) (g : Fin 16) : View.Piece (Elt F) S2x2048x512 .bf16 :=
  ⟨Rect.unit (s := S2x2048x512) ![k0_off1 i 0, 128 * g.val, 0] S1x128x512.size (xtP_inb i hc g), k0_pay14 (grp X g)⟩

theorem read_xt (v : View sig .tc .vmem S2x2048x512 .bf16) (f : v.ty.Contents (Elt F)) (i : grid0.Coords) (hc : k0_cond2 i = 1#1)
    (X : S512x2048.Idx → F .bf16) :
    v.read (Elt F) (v.writes (Elt F) f (groups.map (xtP i hc X))) = xtBlk i X (v.read (Elt F) f) := by
  refine read_tiles _ _ _ _ ?_ ?_
  · intro p hp x
    obtain ⟨g, -, rfl⟩ := List.mem_map.1 hp
    have l0 : (x 0).val < 1 := (x 0).isLt
    have l1 : (x 1).val < 128 := (x 1).isLt
    have v0 : (((xtP i hc X g).1.emb x) 0).val = k0_off1 i 0 := by show k0_off1 i 0 + 1 * (x 0).val = _; omega
    have v1 : (((xtP i hc X g).1.emb x) 1).val = 128 * g.val + (x 1).val := by show 128 * g.val + 1 * (x 1).val = _; omega
    have e2 : ((xtP i hc X g).1.emb x) 2 = x 2 := Fin.ext (by show 0 + 1 * (x 2).val = (x 2).val; omega)
    have eg : ∀ h, (⟨(((xtP i hc X g).1.emb x) 1).val / 128, h⟩ : Fin 16) = g := fun h => Fin.ext (by show _ / 128 = g.val; rw [v1]; omega)
    have er : ∀ h, (⟨(((xtP i hc X g).1.emb x) 1).val % 128, h⟩ : Fin 128) = x 1 := fun h => Fin.ext (by show _ % 128 = (x 1).val; rw [v1]; omega)
    have ex : x = (ix3 0 (x 1) (x 2) : S1x128x512.Idx) := by
      have e00 : @Eq (Fin 1) (x 0) 0 := Fin.ext (by show (x 0).val = 0; omega)
      exact (ix3_eta (n0 := 1) (n1 := 128) (n2 := 512) x).symm.trans (congrArg (fun z => ix3 z (x 1) (x 2)) e00)
    show k0_pay14 (grp X g) x = xtBlk i X (v.read (Elt F) f) ((xtP i hc X g).1.emb x)
    rw [xtBlk, if_pos v0, eg, er, e2]
    exact congrArg _ ex
  · intro y
    by_cases h : (y 0).val = k0_off1 i 0
    · left
      have l1 : (y 1).val < 2048 := (y 1).isLt
      refine ⟨xtP i hc X ⟨(y 1).val / 128, by omega⟩, List.mem_map_of_mem (mem_groups _), (Rect.mem_set_unit (inb := xtP_inb i hc _)).2 fun a => ?_⟩
      fin_cases a
      · exact ⟨Nat.le_of_eq h.symm, Nat.lt_succ_of_le (Nat.le_of_eq h)⟩
      · exact ⟨by show 128 * ((y 1).val / 128) ≤ (y 1).val; omega, by show (y 1).val < 128 * ((y 1).val / 128) + 128; omega⟩
      · exact ⟨Nat.zero_le _, by have : (y 2).val < 512 := (y 2).isLt; show (y 2).val < 0 + 512; omega⟩
    · right
      rw [xtBlk, if_neg h]

/-! ### The row codes -/

theorem rcP_inb (t : Fin 4 × Fin 8) : ∀ a, (![128 * t.1.val, 256 * t.2.val] : Fin 2 → ℕ) a + S128x256.size a ≤ S512x2048.size a := by revert t; decide

/-- The store of tile `(r, c)` of the row codes. -/
def rcP (iv : FVec F S16x512 .bf16) (X : S512x2048.Idx → F .bf16) (t : Fin 4 × Fin 8) : View.Piece (Elt F) S512x2048 .fp8e4m3 :=
  ⟨Rect.unit (s := S512x2048) ![128 * t.1.val, 256 * t.2.val] S128x256.size (rcP_inb t), rcTile iv X t.1 t.2⟩

/-- The 32 stores, newest first. -/
def rcTiles : List (Fin 4 × Fin 8) :=
  [(3, 7), (3, 6), (3, 5), (3, 4), (3, 3), (3, 2), (3, 1), (3, 0), (2, 7), (2, 6), (2, 5), (2, 4), (2, 3), (2, 2), (2, 1), (2, 0),
   (1, 7), (1, 6), (1, 5), (1, 4), (1, 3), (1, 2), (1, 1), (1, 0), (0, 7), (0, 6), (0, 5), (0, 4), (0, 3), (0, 2), (0, 1), (0, 0)]

theorem mem_rcTiles (t : Fin 4 × Fin 8) : t ∈ rcTiles := by revert t; decide

theorem read_rc (v : View sig .tc .vmem S512x2048 .fp8e4m3) (f : v.ty.Contents (Elt F)) (X : S512x2048.Idx → F .bf16) :
    v.read (Elt F) (v.writes (Elt F) f (rcTiles.map (rcP (invScale (raBlk X)) X))) = rcBlk X := by
  refine read_tiles _ _ _ _ ?_ ?_
  · intro p hp x
    obtain ⟨t, -, rfl⟩ := List.mem_map.1 hp
    have l0 : (x 0).val < 128 := (x 0).isLt
    have l1 : (x 1).val < 256 := (x 1).isLt
    have v0 : (((rcP (invScale (raBlk X)) X t).1.emb x) 0).val = 128 * t.1.val + (x 0).val := by show 128 * t.1.val + 1 * (x 0).val = _; omega
    have v1 : (((rcP (invScale (raBlk X)) X t).1.emb x) 1).val = 256 * t.2.val + (x 1).val := by show 256 * t.2.val + 1 * (x 1).val = _; omega
    have er : ∀ h, (⟨(((rcP (invScale (raBlk X)) X t).1.emb x) 0).val / 128, h⟩ : Fin 4) = t.1 := fun h => Fin.ext (by show _ / 128 = t.1.val; rw [v0]; omega)
    have ec : ∀ h, (⟨(((rcP (invScale (raBlk X)) X t).1.emb x) 1).val / 256, h⟩ : Fin 8) = t.2 := fun h => Fin.ext (by show _ / 256 = t.2.val; rw [v1]; omega)
    have e0 : ∀ h, (⟨(((rcP (invScale (raBlk X)) X t).1.emb x) 0).val % 128, h⟩ : Fin 128) = x 0 := fun h => Fin.ext (by show _ % 128 = (x 0).val; rw [v0]; omega)
    have e1 : ∀ h, (⟨(((rcP (invScale (raBlk X)) X t).1.emb x) 1).val % 256, h⟩ : Fin 256) = x 1 := fun h => Fin.ext (by show _ % 256 = (x 1).val; rw [v1]; omega)
    show rcTile _ X t.1 t.2 x = rcBlk X ((rcP (invScale (raBlk X)) X t).1.emb x)
    rw [rcBlk, er, ec, e0, e1]
    exact congrArg _ (ix2_eta (n0 := 128) (n1 := 256) x).symm
  · intro y
    left
    have l0 : (y 0).val < 512 := (y 0).isLt
    have l1 : (y 1).val < 2048 := (y 1).isLt
    refine ⟨rcP (invScale (raBlk X)) X (⟨(y 0).val / 128, by omega⟩, ⟨(y 1).val / 256, by omega⟩), List.mem_map_of_mem (mem_rcTiles _),
      (Rect.mem_set_unit (inb := rcP_inb _)).2 fun a => ?_⟩
    fin_cases a
    · exact ⟨by show 128 * ((y 0).val / 128) ≤ (y 0).val; omega, by show (y 0).val < 128 * ((y 0).val / 128) + 128; omega⟩
    · exact ⟨by show 256 * ((y 1).val / 256) ≤ (y 1).val; omega, by show (y 1).val < 256 * ((y 1).val / 256) + 256; omega⟩

/-! ### The column codes -/

theorem ccP_inb (t : Fin 4 × Fin 16) : ∀ a, (![128 * t.2.val, 128 * t.1.val] : Fin 2 → ℕ) a + S128x128.size a ≤ S2048x512.size a := by
  intro a
  fin_cases a
  · show 128 * t.2.val + 128 ≤ 2048
    omega
  · show 128 * t.1.val + 128 ≤ 512
    omega

/-- The store of tile `(c, r)` of the column codes, from the reciprocal scales and the slots' indicators. -/
def ccG (i : grid0.Coords) (h : k0_cond4 i = 1#1) (xt : S2x2048x512.Idx → F .bf16) (iv : FVec F S32x2048 .bf16) (ht : Fin 4 → FVec F S32x128 .bf16)
    (t : Fin 4 × Fin 16) : View.Piece (Elt F) S2048x512 .fp8e4m3 :=
  ⟨Rect.unit (s := S2048x512) ![128 * t.2.val, 128 * t.1.val] S128x128.size (ccP_inb t), ccTile iv (ht t.1) t.2
    (window xt ![k0_off22 i 0, 128 * t.2.val, 128 * t.1.val] S1x128x128.size (slot_inb i h t.2 t.1))⟩

/-- The store of tile `(c, r)` of the column codes. -/
def ccP (i : grid0.Coords) (h : k0_cond4 i = 1#1) (xt : S2x2048x512.Idx → F .bf16) (am : S32x2048.Idx → F .f32) (lo hi : S32x128.Idx → BitVec 32)
    (t : Fin 4 × Fin 16) : View.Piece (Elt F) S2048x512 .fp8e4m3 :=
  ccG i h xt (invScale am) (fun r => hot (Scalar.addi (prevBase i) (BitVec.ofNat 32 (128 * r.val))) lo hi) t

/-- The 64 stores, newest first: a group of 128 tokens at a time. -/
def ccTiles : List (Fin 4 × Fin 16) := (groups.map fun g => (3, g)) ++ (groups.map fun g => (2, g)) ++ (groups.map fun g => (1, g)) ++ (groups.map fun g => (0, g))

theorem mem_ccTiles (t : Fin 4 × Fin 16) : t ∈ ccTiles := by revert t; decide

theorem read_cc (v : View sig .tc .vmem S2048x512 .fp8e4m3) (f : v.ty.Contents (Elt F)) (i : grid0.Coords) (h : k0_cond4 i = 1#1)
    (xt : S2x2048x512.Idx → F .bf16) (am : S32x2048.Idx → F .f32) (lo hi : S32x128.Idx → BitVec 32) :
    v.read (Elt F) (v.writes (Elt F) f (ccTiles.map (ccP i h xt am lo hi))) = ccBlk i h xt am lo hi := by
  refine read_tiles _ _ _ _ ?_ ?_
  · intro p hp x
    obtain ⟨t, -, rfl⟩ := List.mem_map.1 hp
    have l0 : (x 0).val < 128 := (x 0).isLt
    have l1 : (x 1).val < 128 := (x 1).isLt
    have v0 : (((ccP i h xt am lo hi t).1.emb x) 0).val = 128 * t.2.val + (x 0).val := by show 128 * t.2.val + 1 * (x 0).val = _; omega
    have v1 : (((ccP i h xt am lo hi t).1.emb x) 1).val = 128 * t.1.val + (x 1).val := by show 128 * t.1.val + 1 * (x 1).val = _; omega
    have ec : ∀ h', (⟨(((ccP i h xt am lo hi t).1.emb x) 0).val / 128, h'⟩ : Fin 16) = t.2 := fun h => Fin.ext (by show _ / 128 = t.2.val; rw [v0]; omega)
    have er : ∀ h', (⟨(((ccP i h xt am lo hi t).1.emb x) 1).val / 128, h'⟩ : Fin 4) = t.1 := fun h => Fin.ext (by show _ / 128 = t.1.val; rw [v1]; omega)
    have e0 : ∀ h', (⟨(((ccP i h xt am lo hi t).1.emb x) 0).val % 128, h'⟩ : Fin 128) = x 0 := fun h => Fin.ext (by show _ % 128 = (x 0).val; rw [v0]; omega)
    have e1 : ∀ h', (⟨(((ccP i h xt am lo hi t).1.emb x) 1).val % 128, h'⟩ : Fin 128) = x 1 := fun h => Fin.ext (by show _ % 128 = (x 1).val; rw [v1]; omega)
    show ccT i h xt am lo hi t.2 t.1 x = ccBlk i h xt am lo hi ((ccP i h xt am lo hi t).1.emb x)
    rw [ccBlk, ec, er, e0, e1]
    exact congrArg _ (ix2_eta (n0 := 128) (n1 := 128) x).symm
  · intro y
    left
    have l0 : (y 0).val < 2048 := (y 0).isLt
    have l1 : (y 1).val < 512 := (y 1).isLt
    refine ⟨ccP i h xt am lo hi (⟨(y 1).val / 128, by omega⟩, ⟨(y 0).val / 128, by omega⟩), List.mem_map_of_mem (mem_ccTiles _),
      (Rect.mem_set_unit (inb := ccP_inb _)).2 fun a => ?_⟩
    fin_cases a
    · exact ⟨by show 128 * ((y 0).val / 128) ≤ (y 0).val; omega, by show (y 0).val < 128 * ((y 0).val / 128) + 128; omega⟩
    · exact ⟨by show 128 * ((y 1).val / 128) ≤ (y 1).val; omega, by show (y 1).val < 128 * ((y 1).val / 128) + 128; omega⟩

end Cert.Proof.PI

end
-- ==== Proof.PI.Body.lean ====
module

public import proofs.«01_k».proof.Proof.PI.Pieces
public import Idealize.ShloMosaic.Lib.VecWindow

@[expose] public section

noncomputable section

namespace Cert.Proof.PI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR nD τ) ℕ

open VecWindow (window put)

/-! ## One run of the kernel's body -/

theorem body_le (c : Dev nD) (i : grid0.Coords)
    (M1 : Memref sig .tc .smem S9 .i32) (h1 : M1.IsWhole) (M2 : Memref sig .tc .vmem S512x2048 .bf16) (h2 : M2.IsWhole)
    (M3 : Memref sig .tc .vmem S512x2048 .fp8e4m3) (h3 : M3.IsWhole) (M4 : Memref sig .tc .vmem S16x512 .f32) (h4 : M4.IsWhole)
    (M5 : Memref sig .tc .vmem S2048x512 .fp8e4m3) (h5 : M5.IsWhole) (M6 : Memref sig .tc .vmem S409x2048 .f32) (h6 : M6.IsWhole)
    (M7 : Memref sig .tc .vmem S2x2048x512 .bf16) (h7 : M7.IsWhole) (M8 : Memref sig .tc .vmem S16x512 .f32) (h8 : M8.IsWhole)
    (M9 : Memref sig .tc .vmem S32x2048 .f32) (h9 : M9.IsWhole) (M10 : Memref sig .tc .vmem S32x128 .i32) (h10 : M10.IsWhole)
    (M11 : Memref sig .tc .vmem S32x128 .i32) (h11 : M11.IsWhole) (M12 : Memref sig .tc .smem S4 .i32) (h12 : M12.IsWhole)
    (f1 : Bf (F := F) c M1) (f2 : Bf (F := F) c M2) (f3 : Bf (F := F) c M3) (f4 : Bf (F := F) c M4) (f5 : Bf (F := F) c M5)
    (f6 : Bf (F := F) c M6) (f7 : Bf (F := F) c M7) (f8 : Bf (F := F) c M8) (f9 : Bf (F := F) c M9) (f10 : Bf (F := F) c M10)
    (f11 : Bf (F := F) c M11) (f12 : Bf (F := F) c M12) (E : Set ℕ) (Q : PUnit → sProp 𝕄)
    (σ0 : LS F) (hσ : σ0 = start i (M1.view.read (Elt F) f1) (M12.view.read (Elt F) f12) (M9.view.read (Elt F) f9) (M10.view.read (Elt F) f10)
      (M11.view.read (Elt F) f11) (M6.view.read (Elt F) f6))
    (hok : Ok i (M1.view.read (Elt F) f1) (M2.view.read (Elt F) f2) 600 σ0)
    (σ : LS F) (hσ1 : σ = fin1 c i M1 M2 f1 f2 600 σ0)
    (xt : S2x2048x512.Idx → F .bf16)
    (hxt : xt = if k0_cond2 i = 1#1 then xtBlk i (M2.view.read (Elt F) f2) (M7.view.read (Elt F) f7) else M7.view.read (Elt F) f7)
    (R : sProp 𝕄) (hR : iprop(tb c M1 f1 ∗ pt c M2 f2
          ∗ rd c M3 (if k0_cond2 i = 1#1 then rcBlk (M2.view.read (Elt F) f2) else M3.view.read (Elt F) f3)
          ∗ rd c M4 (if k0_cond2 i = 1#1 then rsBlk (M2.view.read (Elt F) f2) else M4.view.read (Elt F) f4)
          ∗ rd c M5 (if h : k0_cond4 i = 1#1 then ccBlk i h xt σ.am σ.lo σ.hi else M5.view.read (Elt F) f5)
          ∗ rd c M6 σ.cs ∗ rd c M7 xt ∗ (∃ g : Bf (F := F) c M8, pt c M8 g) ∗ rd c M9 σ.am ∗ rd c M10 σ.lo ∗ rd c M11 σ.hi
          ∗ rd c M12 (words σ.g σ.s σ.ge σ.k)) ⊢ R) :
    iprop(tb c M1 f1 ∗ pt c M2 f2 ∗ pt c M3 f3 ∗ pt c M4 f4 ∗ pt c M5 f5 ∗ pt c M6 f6 ∗ pt c M7 f7 ∗ pt c M8 f8 ∗ pt c M9 f9 ∗ pt c M10 f10
        ∗ pt c M11 f11 ∗ pt c M12 f12
        ∗ (R -∗ Q ⟨⟩))
      ⊢ wp frame (wpE (defs₀ (F := F)) 𝒱₀ c none) E
          (cc0_two_way_quant i M1 h1 M2 h2 M3 h3 M4 h4 M5 h5 M6 h6 M7 h7 M8 h8 M9 h9 M10 h10 M11 h11 M12 h12) Q := by
  simp only [cc0_two_way_quant_eq_skeleton]; unfold cc0_two_way_quant_skel
  iintro ⟨H1, H2, H3, H4, H5, H6, H7, H8, H9, H10, H11, H12, HQ⟩
  sl_exec_parts!
  have hl := spec1_le c i M1 h1 M2 h2 M6 h6 M9 h9 M10 h10 M11 h11 f1 f2 E 600 σ0 hok
  have e43 : body_le.sl.r_43 c i M1 M12 f1 f12 = σ0.g := by
    unfold body_le.sl.r_43 body_le.sl.f_3
    by_cases hc : isFirst i = 1#1
    · rw [dif_pos (show body_le.sl.v2 i = 1#1 from hc), hσ, start, if_pos hc]
      rw [word_at M12 _ 0 0 rfl, read_words]; rfl
    · rw [dif_neg (show ¬ body_le.sl.v2 i = 1#1 from hc), hσ, start, if_neg hc, word_at M12 _ 0 0 rfl]
  have e44 : body_le.sl.r_44 c i M1 M12 f1 f12 = σ0.s := by
    unfold body_le.sl.r_44 body_le.sl.f_4
    by_cases hc : isFirst i = 1#1
    · rw [dif_pos (show body_le.sl.v2 i = 1#1 from hc), hσ, start, if_pos hc]
      rw [word_at M12 _ 1 1 rfl, read_words]; rfl
    · rw [dif_neg (show ¬ body_le.sl.v2 i = 1#1 from hc), hσ, start, if_neg hc, word_at M12 _ 1 1 rfl]
  have e45 : body_le.sl.r_45 c i M1 M12 f1 f12 = σ0.ge := by
    unfold body_le.sl.r_45 body_le.sl.f_5
    by_cases hc : isFirst i = 1#1
    · rw [dif_pos (show body_le.sl.v2 i = 1#1 from hc), hσ, start, if_pos hc]
      rw [word_at M12 _ 2 2 rfl, read_words]; exact table_at M1 f1 0 0 rfl _ _
    · rw [dif_neg (show ¬ body_le.sl.v2 i = 1#1 from hc), hσ, start, if_neg hc, word_at M12 _ 2 2 rfl]
  have e46 : body_le.sl.r_46 c i M1 M12 f1 f12 = σ0.k := by
    unfold body_le.sl.r_46 body_le.sl.f_6
    by_cases hc : isFirst i = 1#1
    · rw [dif_pos (show body_le.sl.v2 i = 1#1 from hc), hσ, start, if_pos hc]
      rw [word_at M12 _ 3 3 rfl, read_words]; rfl
    · rw [dif_neg (show ¬ body_le.sl.v2 i = 1#1 from hc), hσ, start, if_neg hc, word_at M12 _ 3 3 rfl]
  have efl : (1#1 : BitVec 1) = σ0.fl := by
    rw [hσ, start]; split <;> rfl
  iapply (wp_call_spec 𝒱₀ (c : Thread nD τ) none E (spec1 c i M1 M2 M6 M9 M10 M11 f1 f2 600 σ0) 617
    (fun u hu => nomatch hu) ?_)
  · intro K
    have h := hl K
    rw [← e43, ← e44, ← e45, ← e46, ← efl] at h
    exact h
  clear hl
  rw [spec1_apply]
  unfold held1
  isplitl [H1 H2 H6 H9 H10 H11]
  · isplitl [H1]; · iexact H1
    isplitl [H2]; · iexact H2
    isplitl [H6]
    · iapply (rd_intro c M6 _ _ ?_); rotate_left
      · iexact H6
      by_cases hc : isFirst i = 1#1
      · rw [dif_pos (show body_le.sl.v2 i = 1#1 from hc), hσ, start, if_pos hc]; exact View.read_writes_full _ _ _ _ _
      · rw [dif_neg (show ¬ body_le.sl.v2 i = 1#1 from hc), hσ, start, if_neg hc]
    isplitl [H9]
    · iapply (rd_intro c M9 _ _ ?_); rotate_left
      · iexact H9
      by_cases hc : isFirst i = 1#1
      · rw [dif_pos (show body_le.sl.v2 i = 1#1 from hc), hσ, start, if_pos hc]; exact View.read_writes_full _ _ _ _ _
      · rw [dif_neg (show ¬ body_le.sl.v2 i = 1#1 from hc), hσ, start, if_neg hc]
    isplitl [H10]
    · iapply (rd_intro c M10 _ _ ?_); rotate_left
      · iexact H10
      by_cases hc : isFirst i = 1#1
      · rw [dif_pos (show body_le.sl.v2 i = 1#1 from hc), hσ, start, if_pos hc]; exact View.read_writes_full _ _ _ _ _
      · rw [dif_neg (show ¬ body_le.sl.v2 i = 1#1 from hc), hσ, start, if_neg hc]
    · iapply (rd_intro c M11 _ _ ?_); rotate_left
      · iexact H11
      by_cases hc : isFirst i = 1#1
      · rw [dif_pos (show body_le.sl.v2 i = 1#1 from hc), hσ, start, if_pos hc]; exact View.read_writes_full _ _ _ _ _
      · rw [dif_neg (show ¬ body_le.sl.v2 i = 1#1 from hc), hσ, start, if_neg hc]
  rw [← hσ1]
  unfold rd
  iintro ⟨H1, H2, ⟨%f6', %e6, H6⟩, ⟨%f9', %e9, H9⟩, ⟨%f10', %e10, H10⟩, ⟨%f11', %e11, H11⟩⟩
  clear e43 e44 e45 e46 efl hσ hok
  sl_exec_parts!
  rw [wp_ret]; imodintro
  iapply HQ
  iapply hR
  have ev607 : body_le.sl.v607 c M2 M8 f2 = raBlk (M2.view.read (Elt F) f2) := by
    have e8 : body_le.sl.H8_16 c M2 f2 = groups.map (raP (M2.view.read (Elt F) f2)) := by
      unfold body_le.sl.H8_16
      rfl
    unfold body_le.sl.v607
    rw [e8]
    refine Eq.trans ?_ (read_ra M8.view M8.view.junk (M2.view.read (Elt F) f2))
    exact View.readAt_full _ _ _
  have e28 : body_le.sl.r_28 c M2 M8 f2 = invScale (raBlk (M2.view.read (Elt F) f2)) := by
    unfold body_le.sl.r_28 body_le.sl.r_27 body_le.sl.r_26 body_le.sl.r_25
    rw [ev607]; rfl
  have es : k0_pay73 (body_le.sl.v607 c M2 M8 f2) (body_le.sl.r_27 c M2 M8 f2) = rsBlk (M2.view.read (Elt F) f2) := by
    unfold body_le.sl.r_27 body_le.sl.r_26 body_le.sl.r_25
    rw [ev607]; rfl
  isplitl [H1]; · iexact H1
  isplitl [H2]; · iexact H2
  isplitl [H3]
  · iapply (rd_intro c M3 _ _ ?_); rotate_left
    · iexact H3
    by_cases hc : k0_cond2 i = 1#1
    · rw [dif_pos hc, if_pos hc]
      refine Eq.trans (congrArg (fun L => M3.view.read (Elt F) (M3.view.writes (Elt F) f3 L)) ?_) (read_rc M3.view f3 (M2.view.read (Elt F) f2))
      rw [← e28]
      rfl
    · rw [dif_neg hc, if_neg hc]
  isplitl [H4]
  · iapply (rd_intro c M4 _ _ ?_); rotate_left
    · iexact H4
    by_cases hc : k0_cond2 i = 1#1
    · rw [dif_pos hc, if_pos hc]
      unfold body_le.sl.H4_1
      rw [es]
      exact View.read_writes_full _ _ _ _ _
    · rw [dif_neg hc, if_neg hc]
  have e7 : M7.view.read (Elt F) (if hc : k0_cond2 i = 1#1 then M7.view.writes (Elt F) f7 (body_le.sl.H7_16 c i M2 f2 hc) else f7) = xt := by
    by_cases hc : k0_cond2 i = 1#1
    · rw [dif_pos hc, hxt, if_pos hc]
      exact read_xt M7.view f7 i hc (M2.view.read (Elt F) f2)
    · rw [dif_neg hc, hxt, if_neg hc]
  isplitl [H5]
  · iapply (rd_intro c M5 _ _ ?_); rotate_left
    · iexact H5
    by_cases hc : k0_cond4 i = 1#1
    · rw [dif_pos hc, dif_pos hc]
      have e57 : body_le.sl.r_57 c M9 f9' = invScale σ.am := by
        rw [← e9]
        refine Eq.trans ?_ (congrArg invScale (View.readAt_full M9.view f9' inb_S32x2048_S32x2048_0_0))
        rfl
      refine Eq.trans (congrArg (fun L => M5.view.read (Elt F) (M5.view.writes (Elt F) f5 L)) ?_) (read_cc M5.view f5 i hc xt σ.am σ.lo σ.hi)
      show _ = ccTiles.map (ccG i hc xt (invScale σ.am) (fun r => hot (Scalar.addi (prevBase i) (BitVec.ofNat 32 (128 * r.val))) σ.lo σ.hi))
      rw [← e57, ← e7, ← e10, ← e11, ← View.readAt_full M10.view f10' inb_S32x128_S32x128_0_0, ← View.readAt_full M11.view f11' inb_S32x128_S32x128_0_0]
      rfl
    · rw [dif_neg hc, dif_neg hc]
  isplitl [H6]; · iapply (rd_intro c M6 _ _ e6); iexact H6
  isplitl [H7]; · iapply (rd_intro c M7 _ _ e7); iexact H7
  isplitl [H8]; · iexists _; iexact H8
  isplitl [H9]; · iapply (rd_intro c M9 _ _ e9); iexact H9
  isplitl [H10]; · iapply (rd_intro c M10 _ _ e10); iexact H10
  isplitl [H11]; · iapply (rd_intro c M11 _ _ e11); iexact H11
  iapply (rd_intro c M12 _ _ ?_); rotate_left
  · iexact H12
  exact read_words M12 M12.view.junk σ.g σ.s σ.ge σ.k _ _ _ _

end Cert.Proof.PI

end
-- ==== Proof.PI.Data.lean ====
/-
  The loop's state of `KernelIdeal` before and after every grid point.
-/
module

public import proofs.«01_k».proof.Proof.PI.Body
public import Idealize.ShloMosaic.Lib.Pipeline.FrameBody
public import Idealize.ShloMosaic.Lib.Pipeline.FrameSuffix
public import Idealize.ShloMosaic.Lib.VecWindow

@[expose] public section

set_option maxRecDepth 16384

noncomputable section

namespace Cert.Proof.PI

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Idealize.ShloMosaic (ix1 ix2 ix3)

variable {F : FTy → Type} [FloatOps F]

local notation "𝕄" => MT nD τ sig Unit (Elt F) ℕ (UR nD τ) ℕ

/-! ## The grid's coordinates -/

/-- The grid's coordinates at the point numbered `n`, for any number (clamped past the last point). -/
def co (n : ℕ) : grid0.Coords := grid0.coords ⟨min n 100, by rw [N_0]; omega⟩

theorem co_eq (t : Fin grid0.N) : co t.val = grid0.coords t := by
  have h : t.val < 101 := lt_of_lt_of_eq t.isLt N_0
  exact congrArg grid0.coords (Fin.ext (show min t.val 100 = t.val by omega))

theorem coords_val (t : Fin grid0.N) : (grid0.coords t 0).val = t.val := by
  have h : t.val < 101 := lt_of_lt_of_eq t.isLt N_0
  show t.val / _ % 101 = t.val
  have e : grid0.stride 0 = 1 := by decide
  rw [e, Nat.div_one]; omega

theorem co_val (n : ℕ) (h : n ≤ 100) : (co n 0).val = n := by
  unfold co; rw [coords_val]; exact Nat.min_eq_left h

theorem cond2_tab : ∀ n : Fin 101, (Scalar.cmpi .ne (Scalar.extui (Scalar.cmpi .slt (BitVec.ofNat 32 n.val) 100#32)) 0#32 = 1#1) ↔ n.val < 100 := by decide
theorem cond4_tab : ∀ n : Fin 101, (Scalar.cmpi .ne (Scalar.extui (Scalar.cmpi .sgt (BitVec.ofNat 32 n.val) 0#32)) 0#32 = 1#1) ↔ 0 < n.val := by decide
theorem first_tab : ∀ n : Fin 101, (Scalar.cmpi .ne (Scalar.extui (Scalar.cmpi .eq (BitVec.ofNat 32 n.val) 0#32)) 0#32 = 1#1) ↔ n.val = 0 := by decide

theorem cond2_iff (i : grid0.Coords) : k0_cond2 i = 1#1 ↔ (i 0).val < 100 := cond2_tab ⟨(i 0).val, (i 0).isLt⟩
theorem cond4_iff (i : grid0.Coords) : k0_cond4 i = 1#1 ↔ 0 < (i 0).val := cond4_tab ⟨(i 0).val, (i 0).isLt⟩
theorem first_iff (i : grid0.Coords) : isFirst i = 1#1 ↔ (i 0).val = 0 := first_tab ⟨(i 0).val, (i 0).isLt⟩

/-! ## The loop's state along the grid -/

/-- The state the first point starts from. -/
def init0 (gs : S9.Idx → BitVec 32) : LS F := ⟨0#32, 0#32, gs (ix1 0), 0#32, 1#1, k0_pay1, k0_pay2, k0_pay3, k0_pay4⟩

/-- The state point `n` starts from, the strips being `X`. -/
def lsB (gs : S9.Idx → BitVec 32) (X : ℕ → S512x2048.Idx → F .bf16) : ℕ → LS F
  | 0 => init0 gs
  | n + 1 => { loop (co n) gs (X n) 600 (lsB gs X n) with fl := 1#1 }

/-- The state point `n` leaves. -/
def lsA (gs : S9.Idx → BitVec 32) (X : ℕ → S512x2048.Idx → F .bf16) (n : ℕ) : LS F := loop (co n) gs (X n) 600 (lsB gs X n)

/-- The two-strip buffer before point `n`, if it holds `x` at the start. -/
def xtB (X : ℕ → S512x2048.Idx → F .bf16) (x : S2x2048x512.Idx → F .bf16) : ℕ → S2x2048x512.Idx → F .bf16
  | 0 => x
  | n + 1 => if k0_cond2 (co n) = 1#1 then xtBlk (co n) (X n) (xtB X x n) else xtB X x n

theorem off1_tab : ∀ n : Fin 101, k0_off1 (co n.val) 0 = n.val % 2 := by
  have e : ∀ n : Fin 101, (co n.val 0).val = n.val := fun n => co_val _ (by omega)
  intro n
  unfold k0_off1
  simp only [e]
  revert n
  decide

/-- After two points the two-strip buffer no longer depends on what it held at the start. -/
theorem xtB_indep (X : ℕ → S512x2048.Idx → F .bf16) (x x' : S2x2048x512.Idx → F .bf16) : ∀ n, xtB X x (n + 2) = xtB X x' (n + 2)
  | 0 => by
    have h0 : k0_cond2 (co 0) = 1#1 := (cond2_iff _).mpr (by rw [co_val] <;> omega)
    have h1 : k0_cond2 (co 1) = 1#1 := (cond2_iff _).mpr (by rw [co_val] <;> omega)
    have o0 : k0_off1 (co 0) 0 = 0 := off1_tab 0
    have o1 : k0_off1 (co 1) 0 = 1 := off1_tab 1
    funext y
    simp only [xtB, if_pos h0, if_pos h1, xtBlk, o0, o1]
    have hy : (y 0).val < 2 := (y 0).isLt
    by_cases c1 : (y 0).val = 1
    · rw [if_pos c1, if_pos c1]
    · have c0 : (y 0).val = 0 := by omega
      rw [if_neg c1, if_neg c1, if_pos c0, if_pos c0]
  | n + 1 => by
    rw [xtB, xtB_indep X x x' n]; rfl

/-- A strip's worth of zeros, where nothing is read. -/
def xt0 : S2x2048x512.Idx → F .bf16 := fun _ => FloatOps.ofBits .bf16 0

theorem start_first (gs : S9.Idx → BitVec 32) (X : ℕ → S512x2048.Idx → F .bf16) (st : S4.Idx → BitVec 32) (am : S32x2048.Idx → F .f32)
    (lo hi : S32x128.Idx → BitVec 32) (cs : S409x2048.Idx → F .f32) : start (co 0) gs st am lo hi cs = lsB gs X 0 := by
  rw [start, if_pos ((first_iff _).mpr (co_val 0 (by omega)))]; rfl

theorem start_next (gs : S9.Idx → BitVec 32) (X : ℕ → S512x2048.Idx → F .bf16) (n : ℕ) (hn : n + 1 ≤ 100) :
    start (co (n + 1)) gs (words (lsA gs X n).g (lsA gs X n).s (lsA gs X n).ge (lsA gs X n).k) (lsA gs X n).am (lsA gs X n).lo (lsA gs X n).hi (lsA gs X n).cs
      = lsB gs X (n + 1) := by
  rw [start, if_neg (fun h => by have := (first_iff _).mp h; rw [co_val _ hn] at this; omega)]; rfl

end Cert.Proof.PI

end
-- ==== Proof.PI.Sched.lean ====
/-
  The schedule of `KernelIdeal`'s loops: a partition of the tokens keeps every trip within its bounds.
-/
module

public import proofs.«01_k».proof.Proof.PI.Data
public import Idealize.ShloMosaic.Lib.WordCmp

@[expose] public section

set_option maxRecDepth 16384

noncomputable section

namespace Cert.Proof.PI

open Cert.KernelIdeal Cert.KernelIdeal.Gen

open Idealize.ShloMosaic
open Idealize.ShloMosaic.TcCoe
open Idealize.ShloMosaic (ix1 ix2 ix3)

variable {F : FTy → Type} [FloatOps F]

/-! ## Words as numbers -/

theorem sle_iff (a b : BitVec 32) (ha : a.toNat < 2 ^ 31) (hb : b.toNat < 2 ^ 31) : Scalar.cmpi .sle a b = 1#1 ↔ a.toNat ≤ b.toNat := by
  unfold Scalar.cmpi
  rw [WordCmp.cmpi_sle_eq, WordCmp.ofBool_decide_eq_one_iff, WordCmp.toInt_eq_toNat_of_lt_half (w := 32) (by simpa using ha), WordCmp.toInt_eq_toNat_of_lt_half (w := 32) (by simpa using hb)]
  omega

theorem slt_iff (a b : BitVec 32) (ha : a.toNat < 2 ^ 31) (hb : b.toNat < 2 ^ 31) : Scalar.cmpi .slt a b = 1#1 ↔ a.toNat < b.toNat := by
  unfold Scalar.cmpi
  rw [WordCmp.cmpi_slt_eq, WordCmp.ofBool_decide_eq_one_iff, WordCmp.toInt_eq_toNat_of_lt_half (w := 32) (by simpa using ha), WordCmp.toInt_eq_toNat_of_lt_half (w := 32) (by simpa using hb)]
  omega

theorem toInt_small (a : BitVec 32) (ha : a.toNat < 2 ^ 31) : a.toInt = (a.toNat : ℤ) := WordCmp.toInt_eq_toNat_of_lt_half (w := 32) (by simpa using ha)

theorem minsi_nat (a b : BitVec 32) (ha : a.toNat < 2 ^ 31) (hb : b.toNat < 2 ^ 31) : (Scalar.minsi a b).toNat = min a.toNat b.toNat := by
  unfold Scalar.minsi IntOp.minsi
  simp only [BitVec.slt, toInt_small a ha, toInt_small b hb, decide_eq_true_eq]
  split <;> omega

theorem addi_nat (a b : BitVec 32) (h : a.toNat + b.toNat < 2 ^ 32) : (Scalar.addi a b).toNat = a.toNat + b.toNat := by
  show (a + b).toNat = _
  rw [BitVec.toNat_add]; omega

theorem andi_one (a b : BitVec 1) : Scalar.andi a b = 1#1 ↔ a = 1#1 ∧ b = 1#1 := by
  revert a b; decide

theorem base_nat (n : ℕ) (hn : n ≤ 100) : (base (co n)).toNat = 512 * n := by
  unfold base
  rw [co_val n hn]
  show (BitVec.ofNat 32 n * 512#32).toNat = _
  simp only [BitVec.toNat_mul, BitVec.toNat_ofNat]; omega

theorem clip (v : BitVec 32) : 16 ∣ (Scalar.minsi 368#32 (Scalar.maxsi 0#32 (Scalar.muli v 16#32))).toNat
    ∧ (Scalar.minsi 368#32 (Scalar.maxsi 0#32 (Scalar.muli v 16#32))).toNat ≤ 368 := by
  have hm : 16 ∣ (Scalar.muli v 16#32).toNat := by
    show 16 ∣ (v * 16#32).toNat
    simp only [BitVec.toNat_mul, BitVec.toNat_ofNat]; omega
  generalize Scalar.muli v 16#32 = u at hm ⊢
  have h1 : 16 ∣ (Scalar.maxsi 0#32 u).toNat ∧ (Scalar.maxsi 0#32 u).toNat < 2 ^ 31 := by
    unfold Scalar.maxsi IntOp.maxsi
    by_cases hc : u.toNat < 2 ^ 31
    · simp only [BitVec.slt, toInt_small u hc, decide_eq_true_eq]
      split
      · exact ⟨⟨0, rfl⟩, by decide⟩
      · exact ⟨hm, hc⟩
    · have hi : u.toInt < 0 := by have := u.isLt; rw [BitVec.toInt_eq_toNat_cond]; split <;> omega
      have hs : u.slt 0#32 = true := by simpa [BitVec.slt] using hi
      rw [if_pos hs]
      exact ⟨⟨0, rfl⟩, by decide⟩
  rw [minsi_nat _ _ (by decide) h1.2]
  have : (368#32).toNat = 368 := rfl
  omega

/-! ## The accesses of a trip -/

theorem chk2_all (i : grid0.Coords) (s : BitVec 32) : k0_chk2 i s := by
  have h : 16 ∣ (k0_mult1 i s).toNat ∧ (k0_mult1 i s).toNat ≤ 368 := clip _
  refine ⟨h.1, fun r a => ?_⟩
  have e : k0_off18 i s (BitVec.ofNat 32 (16 * r.val)) = ![(Scalar.addi (k0_mult1 i s) (BitVec.ofNat 32 (16 * r.val))).toNat, 0] := rfl
  have hr : (BitVec.ofNat 32 (16 * r.val)).toNat = 16 * r.val := by rw [BitVec.toNat_ofNat]; have := r.isLt; omega
  rw [e]
  match a with
  | 0 =>
    show (Scalar.addi (k0_mult1 i s) (BitVec.ofNat 32 (16 * r.val))).toNat + 16 ≤ 512
    have := r.isLt
    rw [addi_nat _ _ (by omega), hr]; omega
  | 1 => show 0 + 2048 ≤ 2048; omega

theorem chk3_tab : ∀ k : Fin 512, k0_chk3 (BitVec.ofNat 32 k.val) := by decide +kernel

theorem chk3_of (k : BitVec 32) (h : k.toNat < 512) : k0_chk3 k := by
  have := chk3_tab ⟨k.toNat, h⟩
  rwa [BitVec.ofNat_toNat, BitVec.setWidth_eq] at this

theorem chk4_of (i : grid0.Coords) (s k ge : BitVec 32) (h : k.toNat ≤ 408) : k0_chk4 i s k ge := by
  intro _ a
  match a with
  | 0 => show k.toNat + 1 ≤ 409; omega
  | 1 => show 0 + 2048 ≤ 2048; omega

/-! ## The partition -/

/-- The size of group `g`, zero past the table. -/
def gsz (gs : S9.Idx → BitVec 32) (g : ℕ) : ℕ := if h : g < 9 then (gs (ix1 ⟨g, h⟩)).toNat else 0

/-- The first token of group `g`. -/
def gst (gs : S9.Idx → BitVec 32) (g : ℕ) : ℕ := ∑ i ∈ Finset.range g, gsz gs i

/-- The groups' sizes add up to the number of tokens. -/
def Part (gs : S9.Idx → BitVec 32) : Prop := gst gs 9 = 51200

variable {gs : S9.Idx → BitVec 32}

theorem gst_succ (g : ℕ) : gst gs (g + 1) = gst gs g + gsz gs g := Finset.sum_range_succ _ _

theorem gst_mono : Monotone (gst gs) := monotone_nat_of_le_succ fun g => by rw [gst_succ]; omega

theorem gst_le (hp : Part gs) (g : ℕ) (h : g ≤ 9) : gst gs g ≤ 51200 := hp ▸ gst_mono h

theorem gsNext_eq (g : BitVec 32) (h : g.toNat < 8) : k0_chk1 g ∧ (gsNext gs g).toNat = gsz gs (g.toNat + 1) := by
  have e0 : (Scalar.addi g 1#32).toNat = g.toNat + 1 := addi_nat g 1#32 (by show _ + 1 < _; omega)
  have hc : k0_chk1 g := fun a => by
    match a with
    | 0 => show (Scalar.addi g 1#32).toNat + 1 ≤ 9; omega
  refine ⟨hc, ?_⟩
  unfold gsNext gsz
  rw [dif_pos hc, dif_pos (by omega)]
  unfold VecWindow.window
  congr 2
  funext a
  match a with
  | 0 =>
    apply Fin.ext
    show (Scalar.addi g 1#32).toNat + 1 * 0 = _
    rw [e0]; rfl

/-- The words of the outer loop's state: the current group, its end, the position in it, and the number of blocks written. -/
structure Sch (gs : S9.Idx → BitVec 32) (g s ge k : BitVec 32) : Prop where
  hg : g.toNat ≤ 8
  hge : ge.toNat = gst gs (g.toNat + 1)
  hlo : gst gs g.toNat ≤ s.toNat
  hhi : s.toNat ≤ ge.toNat
  hk : 128 * k.toNat ≤ s.toNat + 127 * g.toNat + if s.toNat = ge.toNat then 127 else 0

theorem Sch.ge_le (hp : Part gs) {g s ge k : BitVec 32} (h : Sch gs g s ge k) : ge.toNat ≤ 51200 := by
  rw [h.hge]; exact gst_le hp _ (by have := h.hg; omega)

theorem Sch.k_le (hp : Part gs) {g s ge k : BitVec 32} (h : Sch gs g s ge k) : k.toNat ≤ 408 := by
  have := h.ge_le hp; have h1 := h.hk; have := h.hg; have := h.hhi
  split at h1 <;> omega

/-- The inner loop stops at the group the position lies in. -/
theorem adv_ok (hp : Part gs) {s k : BitVec 32} (hs : s.toNat < 51200) : ∀ (n : ℕ) (g ge : BitVec 32), Sch gs g s ge k → 9 - g.toNat ≤ n →
    AdvOk gs s n g ge ∧ Sch gs (adv gs s n g ge).1 s (adv gs s n g ge).2 k ∧ s.toNat < (adv gs s n g ge).2.toNat
  | 0, g, ge, h, hn => by have := h.hg; omega
  | n + 1, g, ge, h, hn => by
    have hge := h.ge_le hp
    have hi := sle_iff ge s (by omega) (by omega)
    unfold AdvOk adv
    by_cases hc : Scalar.cmpi .sle ge s = 1#1
    · rw [if_pos hc]
      have e : s.toNat = ge.toNat := by have := hi.mp hc; have := h.hhi; omega
      have hg8 : g.toNat < 8 := by
        by_contra hg
        have h8 : g.toNat = 8 := by have := h.hg; omega
        have h9 := h.hge
        rw [h8, show gst gs (8 + 1) = 51200 from hp] at h9
        omega
      obtain ⟨hc1, hnx⟩ := gsNext_eq (gs := gs) g hg8
      have e1 : (Scalar.addi g 1#32).toNat = g.toNat + 1 := addi_nat g 1#32 (by show _ + 1 < _; omega)
      have hle : gst gs (g.toNat + 1 + 1) ≤ 51200 := gst_le hp _ (by omega)
      have hsu := gst_succ (gs := gs) (g.toNat + 1)
      have hg0 := h.hge
      have e2 : (Scalar.addi ge (gsNext gs g)).toNat = gst gs (g.toNat + 1 + 1) := by
        rw [addi_nat _ _ (by omega)]; omega
      have hk := h.hk
      rw [if_pos e] at hk
      have h' : Sch gs (Scalar.addi g 1#32) s (Scalar.addi ge (gsNext gs g)) k :=
        ⟨by omega, by rw [e1, e2], by rw [e1]; omega, by rw [e2]; omega, by rw [e1]; omega⟩
      have ih := adv_ok hp hs n _ _ h' (by omega)
      exact ⟨fun _ => ⟨hc1, ih.1⟩, ih.2⟩
    · rw [if_neg hc]
      exact ⟨fun h' => absurd h' hc, h, by have : ¬ ge.toNat ≤ s.toNat := fun h' => hc (hi.mpr h'); show s.toNat < ge.toNat; omega⟩

/-! ## The loop -/

/-- The state's words satisfy the schedule. -/
def SchL (gs : S9.Idx → BitVec 32) (σ : LS F) : Prop := Sch gs σ.g σ.s σ.ge σ.k

theorem testW_iff (n : ℕ) (hn : n ≤ 100) (s : BitVec 32) (hs : s.toNat < 2 ^ 31) (fl : BitVec 1) :
    testW (co n) s fl = 1#1 ↔ fl = 1#1 ∧ s.toNat < min (512 * n + 512) 51200 := by
  unfold testW
  have e1 : (Scalar.addi (base (co n)) 512#32).toNat = 512 * n + 512 := by
    rw [addi_nat _ _ (by rw [base_nat n hn]; show _ + 512 < _; omega), base_nat n hn]; rfl
  have e2 : (Scalar.minsi (Scalar.addi (base (co n)) 512#32) 51200#32).toNat = min (512 * n + 512) 51200 := by
    rw [minsi_nat _ _ (by omega) (by decide), e1]; rfl
  rw [andi_one, slt_iff _ _ hs (by omega), e2]

theorem endW_nat (s ge : BitVec 32) (hs : s.toNat ≤ 51200) (hge : ge.toNat ≤ 51200) : (endW s ge).toNat = min (s.toNat + 128) ge.toNat := by
  unfold endW
  have e1 : (Scalar.addi s 128#32).toNat = s.toNat + 128 := by rw [addi_nat _ _ (by show _ + 128 < _; omega)]; rfl
  rw [minsi_nat _ _ (by omega) (by omega), e1]

theorem doneW_iff (n : ℕ) (hn : n ≤ 100) (e : BitVec 32) (he : e.toNat ≤ 51200) : doneW (co n) e = 1#1 ↔ e.toNat ≤ 512 * n + 512 := by
  unfold doneW
  have e1 : (Scalar.addi (base (co n)) 512#32).toNat = 512 * n + 512 := by
    rw [addi_nat _ _ (by rw [base_nat n hn]; show _ + 512 < _; omega), base_nat n hn]; rfl
  rw [sle_iff _ _ (by omega) (by omega), e1]

/-- A trip's accesses are within their bounds. -/
theorem chk_ok (hp : Part gs) (n : ℕ) (σ : LS F) (h : SchL gs σ) : Chk (co n) gs σ :=
  ⟨chk3_of _ (by have := Sch.k_le hp h; omega), chk2_all _ _, chk4_of _ _ _ _ (Sch.k_le hp h)⟩

/-- A trip's words keep the schedule; the block number goes up when the block ends in the strip. -/
theorem step_sch (hp : Part gs) (r : BitVec 32 × BitVec 32) (s k e : BitVec 32) (d : BitVec 1) (ha : Sch gs r.1 s r.2 k) (hlt : s.toNat < r.2.toNat)
    (he : e.toNat = min (s.toNat + 128) r.2.toNat) :
    Sch gs r.1 (Scalar.select d e s) r.2 (Scalar.select d (Scalar.addi k 1#32) k) ∧ (d = 1#1 → (Scalar.select d (Scalar.addi k 1#32) k).toNat = k.toNat + 1) := by
  have hge := ha.ge_le hp
  have hk := ha.hk
  have hk8 := ha.k_le hp
  rw [if_neg (by omega)] at hk
  have e1 : (Scalar.addi k 1#32).toNat = k.toNat + 1 := by rw [addi_nat _ _ (by show _ + 1 < _; omega)]; rfl
  by_cases hd : d = 1#1
  · subst hd
    show Sch gs r.1 e r.2 (Scalar.addi k 1#32) ∧ (1#1 = 1#1 → (Scalar.addi k 1#32).toNat = _)
    refine ⟨⟨ha.hg, ha.hge, by have := ha.hlo; omega, by omega, ?_⟩, fun _ => e1⟩
    rw [e1, he]
    split <;> omega
  · have e0 : d = 0#1 := by revert hd; revert d; decide
    subst e0
    exact ⟨ha, fun h' => absurd h' (by decide)⟩

theorem trip_g (i : grid0.Coords) (X : S512x2048.Idx → F .bf16) (σ : LS F) (h : Chk i gs σ) : (trip i gs X σ h).g = (advW gs σ).1 := rfl

theorem trip_ge (i : grid0.Coords) (X : S512x2048.Idx → F .bf16) (σ : LS F) (h : Chk i gs σ) : (trip i gs X σ h).ge = (advW gs σ).2 := rfl

theorem trip_s (i : grid0.Coords) (X : S512x2048.Idx → F .bf16) (σ : LS F) (h : Chk i gs σ) :
    (trip i gs X σ h).s = Scalar.select (doneW i (endW σ.s (advW gs σ).2)) (endW σ.s (advW gs σ).2) σ.s := rfl

theorem trip_k (i : grid0.Coords) (X : S512x2048.Idx → F .bf16) (σ : LS F) (h : Chk i gs σ) :
    (trip i gs X σ h).k = Scalar.select (doneW i (endW σ.s (advW gs σ).2)) (Scalar.addi σ.k 1#32) σ.k := rfl

theorem trip_fl (i : grid0.Coords) (X : S512x2048.Idx → F .bf16) (σ : LS F) (h : Chk i gs σ) :
    (trip i gs X σ h).fl = doneW i (endW σ.s (advW gs σ).2) := rfl

theorem trip_sch (hp : Part gs) (i : grid0.Coords) (X : S512x2048.Idx → F .bf16) (σ : LS F) (h : SchL gs σ) (hs : σ.s.toNat < 51200) (hc : Chk i gs σ) :
    SchL gs (trip i gs X σ hc) ∧ ((trip i gs X σ hc).fl = 1#1 → (trip i gs X σ hc).k.toNat = σ.k.toNat + 1) := by
  have ha := (adv_ok hp hs 16 σ.g σ.ge h (by omega)).2
  change Sch gs (advW gs σ).1 σ.s (advW gs σ).2 σ.k ∧ σ.s.toNat < (advW gs σ).2.toNat at ha
  unfold SchL
  rw [trip_g, trip_ge, trip_s, trip_k, trip_fl]
  generalize advW gs σ = r at ha ⊢
  exact step_sch hp r σ.s σ.k _ _ ha.1 ha.2 (endW_nat _ _ (by omega) (ha.1.ge_le hp))

theorem ok_of (hp : Part gs) (n : ℕ) (hn : n ≤ 100) (X : S512x2048.Idx → F .bf16) : ∀ (m : ℕ) (σ : LS F), SchL gs σ → (σ.fl = 1#1 → 412 ≤ m + σ.k.toNat) → Ok (co n) gs X m σ
  | 0, σ, h, hm => fun ht => by
    have := (testW_iff n hn σ.s (by have := Sch.ge_le hp h; have := h.hhi; omega) σ.fl).mp ht
    have := hm this.1; have := Sch.k_le hp h; omega
  | m + 1, σ, h, hm => fun ht => by
    have ht' := (testW_iff n hn σ.s (by have := Sch.ge_le hp h; have := h.hhi; omega) σ.fl).mp ht
    have hs : σ.s.toNat < 51200 := by omega
    have hc := chk_ok hp n σ h
    have ht2 := trip_sch hp (co n) X σ h hs hc
    refine ⟨(adv_ok hp hs 16 σ.g σ.ge h (by omega)).1, hc, ok_of hp n hn X m _ ht2.1 fun hf => ?_⟩
    rw [ht2.2 hf]; have := hm ht'.1; omega

theorem loop_sch (hp : Part gs) (n : ℕ) (hn : n ≤ 100) (X : S512x2048.Idx → F .bf16) : ∀ (m : ℕ) (σ : LS F), SchL gs σ → SchL gs (loop (co n) gs X m σ)
  | 0, σ, h => h
  | m + 1, σ, h => by
    unfold loop
    split
    · rename_i ht
      have ht' := (testW_iff n hn σ.s (by have := Sch.ge_le hp h; have := h.hhi; omega) σ.fl).mp ht
      rw [dif_pos (chk_ok hp n σ h)]
      exact loop_sch hp n hn X m _ (trip_sch hp (co n) X σ h (by omega) _).1
    · exact h

theorem lsB_sch (hp : Part gs) (X : ℕ → S512x2048.Idx → F .bf16) : ∀ n, n ≤ 101 → SchL gs (lsB gs X n)
  | 0, _ => by
    have e : gst gs 1 = (gs (ix1 0)).toNat := (Finset.sum_range_one _).trans rfl
    exact ⟨show 0 ≤ 8 by omega, e.symm, show gst gs 0 ≤ 0 from le_rfl, Nat.zero_le _, Nat.zero_le _⟩
  | n + 1, hn => loop_sch hp n (by omega) (X n) 600 _ (lsB_sch hp X n (by omega))

theorem lsB_ok (hp : Part gs) (X : ℕ → S512x2048.Idx → F .bf16) (n : ℕ) (hn : n ≤ 100) : Ok (co n) gs (X n) 600 (lsB gs X n) :=
  ok_of hp n hn (X n) 600 _ (lsB_sch hp X n (by omega)) fun _ => by omega

end Cert.Proof.PI

end
-- ==== Proof.PI.Region.lean ====
/-
  The proof data of `KernelIdeal`'s pipeline: what each window's buffer holds after the body at every grid point, the invariant
  over the scratch buffers, and the body obligation.
-/
module

public import proofs.«01_k».proof.Proof.PI.Data
public import Idealize.ShloMosaic.Lib.Pipeline.FrameBody
public import Idealize.ShloMosaic.Lib.Pipeline.FrameSuffix
public import Idealize.ShloMosaic.Lib.VecWindow

@[expose] public section

set_option maxRecDepth 16384

noncomputable section

namespace Cert.Proof.PI

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Idealize.ShloMosaic (ix1 ix2 ix3)

variable {F : FTy → Type} [FloatOps F]

local notation "𝕄" => MT nD τ sig Unit (Elt F) ℕ (UR nD τ) ℕ

variable (V : (c : Dev nD) → (b : Ref sig .tc) → Buf (Elt F) ((c : Thread nD τ).loc b)) (pf : pre0.Contents (Elt F))

/-- The prefetched table's contents, admissible whatever they are. -/
abbrev adm : (p : Fin 1) → (pcfgs (F := F) p).Adm := fun _ => ⟨pf, trivial⟩

/-- The pipeline at the table's contents. -/
abbrev cfgP : Cfg sig (Λ₀ F) := cfg0 (F := F) (adm pf 0)

/-- The table's words. -/
def gsOf : S9.Idx → BitVec 32 := (Memref.whole main_arg1).view.read (Elt F) (pf 0)

/-- Window `w`'s block at point `t`, read off its array as the region finds it. -/
def iblk (c : Dev nD) (w : Fin (cfgP pf).W) (t : Fin (cfgP pf).N) : (((cfgP pf).win w).xblock ((cfgP pf).grid.coords t)).Idx → Elt F ((cfgP pf).win w).elt :=
  (((cfgP pf).win w).blk t).view.read (Elt F) (V c (Pipeline.arrRef spec0 w))

/-- The strip point `t` reads. -/
def strip0 (c : Dev nD) (t : Fin grid0.N) : S512x2048.Idx → F .bf16 := iblk V pf c 0 t

/-- The strip the point numbered `n` reads (clamped past the last point). -/
def strip (c : Dev nD) (n : ℕ) : S512x2048.Idx → F .bf16 := strip0 V pf c ⟨min n 100, by rw [N_0]; omega⟩

theorem strip_eq (c : Dev nD) (t : Fin grid0.N) : strip V pf c t.val = strip0 V pf c t := by
  have h : t.val < 101 := lt_of_lt_of_eq t.isLt N_0
  exact congrArg (strip0 V pf c) (Fin.ext (show min t.val 100 = t.val by omega))

/-- What the column codes' buffer holds after point `t`. -/
def ccA (c : Dev nD) (n : ℕ) : S2048x512.Idx → F .fp8e4m3 :=
  if h : k0_cond4 (co n) = 1#1 then
    ccBlk (co n) h (xtB (strip V pf c) xt0 (n + 1)) (lsA (gsOf pf) (strip V pf c) n).am (lsA (gsOf pf) (strip V pf c) n).lo (lsA (gsOf pf) (strip V pf c) n).hi
  else fun _ => FloatOps.ofBits .fp8e4m3 0

/-- The loop's state in the scratch buffers before point `n`, if the two-strip buffer held `x` at the start. -/
def held (c : Dev nD) (x : S2x2048x512.Idx → F .bf16) : ℕ → sProp 𝕄
  | 0 => iprop((∃ X, rd c (Memref.whole cc0_scratch2) X) ∗ (∃ X, rd c (Memref.whole cc0_scratch3) X) ∗ (∃ X, rd c (Memref.whole cc0_scratch4) X) ∗ (∃ X, rd c (Memref.whole cc0_scratch5) X))
  | n + 1 => iprop(rd c (Memref.whole cc0_scratch2) (lsA (gsOf pf) (strip V pf c) n).am ∗ rd c (Memref.whole cc0_scratch3) (lsA (gsOf pf) (strip V pf c) n).lo
      ∗ rd c (Memref.whole cc0_scratch4) (lsA (gsOf pf) (strip V pf c) n).hi
      ∗ rd c (Memref.whole cc0_scratch5) (words (lsA (gsOf pf) (strip V pf c) n).g (lsA (gsOf pf) (strip V pf c) n).s (lsA (gsOf pf) (strip V pf c) n).ge (lsA (gsOf pf) (strip V pf c) n).k))

/-- The invariant before point `n`: the scratch buffers, the table's half share and the generator register. -/
def Inv (c : Dev nD) (n : ℕ) : sProp 𝕄 :=
  iprop((∃ x, rd c (Memref.whole cc0_scratch0) (xtB (strip V pf c) x n) ∗ held V pf c x n) ∗ (∃ g, pt c (Memref.whole cc0_scratch1) g)
    ∗ tb c (Memref.whole main_arg1) (pf 0) ∗ ∃ r, prngReg c r)

/-- The proof data: the arrays as the region finds them; the input's buffer at its strip, the row windows' at the strip's
    codes and scales, the column codes' at the strip before, the column scales' as the loop leaves them. -/
def dat (c : Dev nD) : Dat τ (Elt F) Unit ℕ (UR nD τ) ℕ (cfgP (F := F) pf) c where
  A w := V c (Pipeline.arrRef spec0 w)
  after w t := match w with
    | ⟨0, _⟩ => iblk V pf c 0 t
    | ⟨1, _⟩ => rcBlk (strip V pf c t.val)
    | ⟨2, _⟩ => rsBlk (strip V pf c t.val)
    | ⟨3, _⟩ => ccA V pf c t.val
    | ⟨4, _⟩ => (lsA (gsOf pf) (strip V pf c) t.val).cs
    | ⟨n + 5, h⟩ => absurd h (Nat.not_lt.2 (Nat.le_add_left _ _))
  Φ t := Inv V pf c t.val
  q _ := fullShare
  owed _ := 0

theorem A_eq (c : Dev nD) (w : Fin (cfgP (F := F) pf).W) : (dat V pf c).A w = V c (Pipeline.arrRef spec0 w) := rfl
theorem after_0 (c : Dev nD) (t : Fin (cfgP (F := F) pf).N) : (dat V pf c).after 0 t = iblk V pf c 0 t := rfl
theorem after_1 (c : Dev nD) (t : Fin (cfgP (F := F) pf).N) : (dat V pf c).after 1 t = rcBlk (strip V pf c t.val) := rfl
theorem after_2 (c : Dev nD) (t : Fin (cfgP (F := F) pf).N) : (dat V pf c).after 2 t = rsBlk (strip V pf c t.val) := rfl
theorem after_3 (c : Dev nD) (t : Fin (cfgP (F := F) pf).N) : (dat V pf c).after 3 t = ccA V pf c t.val := rfl
theorem after_4 (c : Dev nD) (t : Fin (cfgP (F := F) pf).N) : (dat V pf c).after 4 t = (lsA (gsOf pf) (strip V pf c) t.val).cs := rfl

/-- The input's buffer holds its strip at every point. -/
theorem before_0 (c : Dev nD) (t : Fin (cfgP (F := F) pf).N) (d) : (dat V pf c).before 0 t d = strip V pf c t.val := by
  rw [show strip V pf c t.val = iblk V pf c 0 t from strip_eq V pf c t]
  exact ((dat V pf c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)

/-! ## The windows that are not written at every point -/

theorem co_pred (t : Fin (cfgP (F := F) pf).N) : (cfgP (F := F) pf).grid.coords t = co t.val := (co_eq t).symm

theorem ix0_last : cc0_transform_0 (co 100) = cc0_transform_0 (co 99) := by
  unfold cc0_transform_0
  simp only [co_val 100 (by omega), co_val 99 (by omega)]
  decide

/-- The last two points read one strip. -/
theorem strip_last (c : Dev nD) : strip V pf c 100 = strip V pf c 99 := by
  have h1 : (100 : ℕ) < grid0.N := by rw [N_0]; omega
  have h2 : (99 : ℕ) < grid0.N := by rw [N_0]; omega
  have e := (dat V pf c).fetched_congr 0 (t := ⟨100, h1⟩) (t' := ⟨99, h2⟩) ix0_last rfl (fun _ => FloatOps.ofBits .bf16 0)
  have e1 : ∀ t : Fin grid0.N, (dat V pf c).fetched 0 t (fun _ => FloatOps.ofBits .bf16 0) = strip0 V pf c t := fun t => by
    unfold Dat.fetched Dat.blockOf strip0 iblk; rw [A_eq]; try rfl
  rw [e1, e1] at e
  exact e

theorem flush_eq (w : Fin (cfgP (F := F) pf).W) (t : Fin (cfgP (F := F) pf).N) (h : t.val < 100) (e : ix0 pf w (co (t.val + 1)) = ix0 pf w (co t.val)) :
    ((cfgP (F := F) pf).win w).flush t = false := by
  have hN : (cfgP (F := F) pf).grid.N = 101 := N_0
  unfold Window.flush
  rw [Bool.and_eq_false_iff]; right
  rw [Bool.or_eq_false_iff]
  refine ⟨decide_eq_false (fun h' => ?_), decide_eq_false ?_⟩
  · have := h'.trans hN; omega
  rintro ⟨h', hne⟩
  refine hne ?_
  have := e
  have e1 := co_eq ⟨t.val + 1, h'⟩
  have e2 := co_eq t
  rw [show co (t.val + 1) = _ from e1, e2] at this
  exact this

theorem not_cond2 (t : Fin grid0.N) (h : ¬ k0_cond2 (co t.val) = 1#1) : t.val = 100 := by
  have ht : t.val < 101 := lt_of_lt_of_eq t.isLt N_0
  by_contra hne
  exact h ((cond2_iff _).mpr (by rw [co_val _ (by omega)]; omega))

theorem idle_row (w : Fin (cfgP (F := F) pf).W) (hw : w = 1 ∨ w = 2) (t : Fin grid0.N) :
    (cfgP (F := F) pf).idle w ((cfgP (F := F) pf).grid.coords t) = !(k0_cond2 (co t.val) == 1#1) := by
  rw [co_eq]; rcases hw with rfl | rfl <;> rfl

theorem idle_col (t : Fin grid0.N) : (cfgP (F := F) pf).idle 3 ((cfgP (F := F) pf).grid.coords t) = !(k0_cond4 (co t.val) == 1#1) := by
  rw [co_eq]; rfl

theorem cond2_99 : k0_cond2 (co 99) = 1#1 := (cond2_iff _).mpr (by rw [co_val _ (by omega)]; omega)

/-- The point before `t`. -/
abbrev prev (t : Fin (cfgP (F := F) pf).N) : Fin (cfgP (F := F) pf).N := ⟨t.val - 1, Nat.lt_of_le_of_lt (Nat.sub_le _ _) t.isLt⟩

theorem ix2_last : cc0_transform_2 (co 100) = cc0_transform_2 (co 99) := by
  unfold cc0_transform_2
  simp only [co_val 100 (by omega), co_val 99 (by omega)]
  decide

/-- The row windows' buffers hold the last strip's results at the point past it. -/
theorem before_1 (c : Dev nD) (t : Fin (cfgP (F := F) pf).N) (h : ¬ k0_cond2 (co t.val) = 1#1) (d) : (dat V pf c).before 1 t d = rcBlk (strip V pf c t.val) := by
  have h100 : t.val = 100 := not_cond2 t h
  have hf : ((cfgP (F := F) pf).win 1).flush (prev pf t) = false := by
    refine flush_eq pf 1 _ (by show t.val - 1 < 100; omega) ?_
    show cc0_transform_1 (co (t.val - 1 + 1)) = cc0_transform_1 (co (t.val - 1))
    rw [h100]
    exact ix0_last
  have hi : (cfgP (F := F) pf).idle 1 ((cfgP (F := F) pf).grid.coords (prev pf t)) = false := by
    rw [idle_row pf 1 (.inl rfl)]
    show (!(k0_cond2 (co (t.val - 1)) == 1#1)) = false
    rw [h100, cond2_99]; rfl
  rw [(dat V pf c).before_of_pos 1 t (by omega) rfl, hf, if_neg Bool.false_ne_true]
  unfold Dat.left
  rw [hi, show rcBlk (strip V pf c t.val) = rcBlk (strip V pf c (t.val - 1)) by rw [h100, strip_last]]
  exact after_1 V pf c _

theorem before_2 (c : Dev nD) (t : Fin (cfgP (F := F) pf).N) (h : ¬ k0_cond2 (co t.val) = 1#1) (d) : (dat V pf c).before 2 t d = rsBlk (strip V pf c t.val) := by
  have h100 : t.val = 100 := not_cond2 t h
  have hf : ((cfgP (F := F) pf).win 2).flush (prev pf t) = false := by
    refine flush_eq pf 2 _ (by show t.val - 1 < 100; omega) ?_
    show cc0_transform_2 (co (t.val - 1 + 1)) = cc0_transform_2 (co (t.val - 1))
    rw [h100]
    exact ix2_last
  have hi : (cfgP (F := F) pf).idle 2 ((cfgP (F := F) pf).grid.coords (prev pf t)) = false := by
    rw [idle_row pf 2 (.inr rfl)]
    show (!(k0_cond2 (co (t.val - 1)) == 1#1)) = false
    rw [h100, cond2_99]; rfl
  rw [(dat V pf c).before_of_pos 2 t (by omega) rfl, hf, if_neg Bool.false_ne_true]
  unfold Dat.left
  rw [hi, show rsBlk (strip V pf c t.val) = rsBlk (strip V pf c (t.val - 1)) by rw [h100, strip_last]]
  exact after_2 V pf c _

/-- The column scales' buffer holds what the point before left. -/
theorem before_4 (c : Dev nD) (t : Fin (cfgP (F := F) pf).N) (n : ℕ) (h : t.val = n + 1) (d) :
    (dat V pf c).before 4 t d = (lsA (gsOf pf) (strip V pf c) n).cs := by
  have ht : t.val < 101 := lt_of_lt_of_eq t.isLt N_0
  have hf : ((cfgP (F := F) pf).win 4).flush (prev pf t) = false := flush_eq pf 4 _ (by show t.val - 1 < 100; omega) rfl
  rw [(dat V pf c).before_of_pos 4 t (by omega) rfl, hf, if_neg Bool.false_ne_true]
  rw [show n = (prev pf t).val by show n = t.val - 1; omega]
  exact after_4 V pf c _

/-! ## The body obligation -/

theorem owns_rd (c : Dev nD) {sp : Space} {S : Shape} {e : EltTy} (M : Memref sig .tc sp S e) (h : M.IsWhole) (X : S.Idx → Elt F e) :
    (owns (Ix := Unit) (Name := ℕ) (U := UR nD τ) (Lvl := ℕ) (c : Thread nD τ) M fullShare X : sProp 𝕄) = rd c M X := by
  unfold owns rd pt
  rw [h.set_eq_univ]

theorem leaves_1 (c : Dev nD) (t : Fin (cfgP (F := F) pf).N) (d) (Y : S512x2048.Idx → F .fp8e4m3)
    (hY : k0_cond2 (co t.val) = 1#1 → Y = rcBlk (strip V pf c t.val)) (hN : ¬k0_cond2 (co t.val) = 1#1 → Y = (dat V pf c).before 1 t d) :
    owns (c : Thread nD τ) (((cfgP (F := F) pf).win 1).stage ((cfgP (F := F) pf).slots t 1)) fullShare Y ⊢ (dat V pf c).leavesExact 1 t := by
  unfold Dat.leavesExact
  by_cases hc : k0_cond2 (co t.val) = 1#1
  · have e := hY hc
    rw [idle_row pf 1 (.inl rfl), hc]
    subst e
    exact .rfl
  · have e := hN hc
    rw [idle_row pf 1 (.inl rfl), show (!(k0_cond2 (co t.val) == 1#1)) = true by simpa using hc]
    dsimp only
    subst e
    cases ((cfgP (F := F) pf).win 1).flush t
    · iintro H; iexists d; iexact H
    · rw [before_1 V pf c t hc]; exact .rfl

theorem leaves_2 (c : Dev nD) (t : Fin (cfgP (F := F) pf).N) (d) (Y : S16x512.Idx → F .f32)
    (hY : k0_cond2 (co t.val) = 1#1 → Y = rsBlk (strip V pf c t.val)) (hN : ¬k0_cond2 (co t.val) = 1#1 → Y = (dat V pf c).before 2 t d) :
    owns (c : Thread nD τ) (((cfgP (F := F) pf).win 2).stage ((cfgP (F := F) pf).slots t 2)) fullShare Y ⊢ (dat V pf c).leavesExact 2 t := by
  unfold Dat.leavesExact
  by_cases hc : k0_cond2 (co t.val) = 1#1
  · have e := hY hc
    rw [idle_row pf 2 (.inr rfl), hc]
    subst e
    exact .rfl
  · have e := hN hc
    rw [idle_row pf 2 (.inr rfl), show (!(k0_cond2 (co t.val) == 1#1)) = true by simpa using hc]
    dsimp only
    subst e
    cases ((cfgP (F := F) pf).win 2).flush t
    · iintro H; iexists d; iexact H
    · rw [before_2 V pf c t hc]; exact .rfl

theorem ix3_first : cc0_transform_3 (co 1) = cc0_transform_3 (co 0) := by
  unfold cc0_transform_3
  simp only [co_val 1 (by omega), co_val 0 (by omega)]
  decide

theorem leaves_3 (c : Dev nD) (t : Fin (cfgP (F := F) pf).N) (d) (Y : S2048x512.Idx → F .fp8e4m3)
    (hY : k0_cond4 (co t.val) = 1#1 → Y = ccA V pf c t.val) (hN : ¬k0_cond4 (co t.val) = 1#1 → Y = (dat V pf c).before 3 t d) :
    owns (c : Thread nD τ) (((cfgP (F := F) pf).win 3).stage ((cfgP (F := F) pf).slots t 3)) fullShare Y ⊢ (dat V pf c).leavesExact 3 t := by
  unfold Dat.leavesExact
  by_cases hc : k0_cond4 (co t.val) = 1#1
  · have e := hY hc
    rw [idle_col pf, hc]
    subst e
    exact .rfl
  · have e := hN hc
    have ht : t.val < 101 := lt_of_lt_of_eq t.isLt N_0
    have h0 : t.val = 0 := by
      by_contra hne
      exact hc ((cond4_iff _).mpr (by rw [co_val _ (by omega)]; omega))
    rw [idle_col pf, show (!(k0_cond4 (co t.val) == 1#1)) = true by simpa using hc,
      flush_eq pf 3 t (by omega) (by show cc0_transform_3 _ = cc0_transform_3 _; rw [h0]; exact ix3_first)]
    dsimp only
    subst e
    iintro H; iexists d; iexact H

/-- The two-strip buffer's part read at a point past the first does not depend on what it held at the start. -/
theorem xtB_zero (X : ℕ → S512x2048.Idx → F .bf16) (x : S2x2048x512.Idx → F .bf16) (n : ℕ) (h : 0 < n) : xtB X x (n + 1) = xtB X xt0 (n + 1) := by
  obtain ⟨k, rfl⟩ : ∃ k, n = k + 1 := ⟨n - 1, by omega⟩
  exact xtB_indep X x xt0 k

/-- Every point's run keeps within the loops' bounds. -/
def AllOk (c : Dev nD) : Prop := ∀ n, n ≤ 100 → Ok (co n) (gsOf pf) (strip V pf c n) 600 (lsB (gsOf pf) (strip V pf c) n)

/-- The body at point `t` on any buffers, from the contents a point finds to those it leaves. -/
theorem sound_point (c : Dev nD) (hok : AllOk V pf c) (t : ℕ) (ht : t ≤ 100)
    (M2 : Memref sig .tc .vmem S512x2048 .bf16) (h2 : M2.IsWhole) (M3 : Memref sig .tc .vmem S512x2048 .fp8e4m3) (h3 : M3.IsWhole)
    (M4 : Memref sig .tc .vmem S16x512 .f32) (h4 : M4.IsWhole) (M5 : Memref sig .tc .vmem S2048x512 .fp8e4m3) (h5 : M5.IsWhole)
    (M6 : Memref sig .tc .vmem S409x2048 .f32) (h6 : M6.IsWhole) (x3 : S512x2048.Idx → F .fp8e4m3) (x4 : S16x512.Idx → F .f32)
    (x5 : S2048x512.Idx → F .fp8e4m3) (x6 : S409x2048.Idx → F .f32) (hx6 : ∀ n, t = n + 1 → x6 = (lsA (gsOf pf) (strip V pf c) n).cs)
    (Q : PUnit → sProp 𝕄) (R : sProp 𝕄)
    (hR : iprop(Inv V pf c (t + 1) ∗ rd c M2 (strip V pf c t)
        ∗ rd c M3 (if k0_cond2 (co t) = 1#1 then rcBlk (strip V pf c t) else x3) ∗ rd c M4 (if k0_cond2 (co t) = 1#1 then rsBlk (strip V pf c t) else x4)
        ∗ rd c M5 (if k0_cond4 (co t) = 1#1 then ccA V pf c t else x5) ∗ rd c M6 (lsA (gsOf pf) (strip V pf c) t).cs) ⊢ R) :
    iprop(Inv V pf c t ∗ rd c M2 (strip V pf c t) ∗ rd c M3 x3 ∗ rd c M4 x4 ∗ rd c M5 x5 ∗ rd c M6 x6
      ∗ (R -∗ Q ⟨⟩))
    ⊢ wp frame (wpE (defs₀ (F := F)) 𝒱₀ c none) Set.univ (cc0_two_way_quant (co t) (Memref.whole main_arg1) (Memref.isWhole_whole _) M2 h2 M3 h3 M4 h4 M5 h5 M6 h6
      (Memref.whole cc0_scratch0) (Memref.isWhole_whole _) (Memref.whole cc0_scratch1) (Memref.isWhole_whole _) (Memref.whole cc0_scratch2) (Memref.isWhole_whole _)
      (Memref.whole cc0_scratch3) (Memref.isWhole_whole _) (Memref.whole cc0_scratch4) (Memref.isWhole_whole _) (Memref.whole cc0_scratch5) (Memref.isWhole_whole _)) Q := by
  have hscr : ∀ x, (held V pf c x t : sProp 𝕄) ⊢ iprop(∃ am lo hi st, ⌜start (co t) (gsOf pf) st am lo hi x6 = lsB (gsOf pf) (strip V pf c) t⌝
      ∗ rd c (Memref.whole cc0_scratch2) am ∗ rd c (Memref.whole cc0_scratch3) lo ∗ rd c (Memref.whole cc0_scratch4) hi ∗ rd c (Memref.whole cc0_scratch5) st) := by
    intro x
    cases t with
    | zero =>
      unfold held
      iintro ⟨⟨%am, H1⟩, ⟨%lo, H2⟩, ⟨%hi, H3⟩, ⟨%st, H4⟩⟩
      iexists am; iexists lo; iexists hi; iexists st
      isplitr; · ipureintro; exact start_first _ _ _ _ _ _ _
      isplitl [H1]; · iexact H1
      isplitl [H2]; · iexact H2
      isplitl [H3]; · iexact H3
      iexact H4
    | succ n =>
      rw [hx6 n rfl]
      unfold held
      iintro ⟨H1, H2, H3, H4⟩
      iexists _; iexists _; iexists _; iexists _
      isplitr; rotate_left
      · isplitl [H1]; · iexact H1
        isplitl [H2]; · iexact H2
        isplitl [H3]; · iexact H3
        iexact H4
      ipureintro
      exact start_next _ _ n ht
  unfold Inv
  iintro ⟨⟨⟨%x, Hx, Hh⟩, ⟨%g8, H8⟩, H1, Hr⟩, H2, H3, H4, H5, H6, HQ⟩
  ihave Hh' := hscr x $$ Hh
  icases Hh' with ⟨%am, %lo, %hi, %st, %hst, H9, H10, H11, H12⟩
  unfold rd
  icases Hx with ⟨%f7, %e7, H7⟩
  icases H2 with ⟨%f2, %e2, H2⟩
  icases H3 with ⟨%f3, %e3, H3⟩
  icases H4 with ⟨%f4, %e4, H4⟩
  icases H5 with ⟨%f5, %e5, H5⟩
  icases H6 with ⟨%f6, %e6, H6⟩
  icases H9 with ⟨%f9, %e9, H9⟩
  icases H10 with ⟨%f10, %e10, H10⟩
  icases H11 with ⟨%f11, %e11, H11⟩
  icases H12 with ⟨%f12, %e12, H12⟩
  subst e3 e4 e5 e6 e9 e10 e11 e12
  have hok' : Ok (co t) (gsOf pf) (M2.view.read (Elt F) f2) 600 (lsB (gsOf pf) (strip V pf c) t) := by rw [e2]; exact hok t ht
  have hfin : lsA (gsOf pf) (strip V pf c) t = fin1 c (co t) (Memref.whole main_arg1) M2 (pf 0) f2 600 (lsB (gsOf pf) (strip V pf c) t) := by
    unfold fin1 lsA; rw [e2]; rfl
  have hxt : xtB (strip V pf c) x (t + 1) = if k0_cond2 (co t) = 1#1 then xtBlk (co t) (M2.view.read (Elt F) f2) ((Memref.whole cc0_scratch0).view.read (Elt F) f7)
      else (Memref.whole cc0_scratch0).view.read (Elt F) f7 := by
    rw [e2, e7]; rfl
  iapply (body_le c (co t) (Memref.whole main_arg1) (Memref.isWhole_whole _) M2 h2 M3 h3 M4 h4 M5 h5 M6 h6 (Memref.whole cc0_scratch0) (Memref.isWhole_whole _)
    (Memref.whole cc0_scratch1) (Memref.isWhole_whole _) (Memref.whole cc0_scratch2) (Memref.isWhole_whole _) (Memref.whole cc0_scratch3) (Memref.isWhole_whole _)
    (Memref.whole cc0_scratch4) (Memref.isWhole_whole _) (Memref.whole cc0_scratch5) (Memref.isWhole_whole _) (pf 0) f2 f3 f4 f5 f6 f7 g8 f9 f10 f11 f12 Set.univ Q
    (lsB (gsOf pf) (strip V pf c) t) hst.symm hok' (lsA (gsOf pf) (strip V pf c) t) hfin (xtB (strip V pf c) x (t + 1)) hxt _ .rfl)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iintro ⟨H1, H2, H3, H4, H5, H6, H7, ⟨%g, H8⟩, H9, H10, H11, H12⟩
  iapply HQ
  iapply hR
  isplitl [H7 H9 H10 H11 H12 H8 H1 Hr]
  · unfold Inv
    isplitl [H7 H9 H10 H11 H12]
    · iexists x
      isplitl [H7]; · iexact H7
      unfold held
      isplitl [H9]; · iexact H9
      isplitl [H10]; · iexact H10
      isplitl [H11]; · iexact H11
      iexact H12
    isplitl [H8]; · iexists g; iexact H8
    isplitl [H1]; · iexact H1
    iexact Hr
  isplitl [H2]
  · unfold rd; iexists f2; isplitr; · ipureintro; exact e2
    iexact H2
  rw [e2]
  isplitl [H3]; · iexact H3
  isplitl [H4]; · iexact H4
  isplitl [H5]
  · have e5 : (if h : k0_cond4 (co t) = 1#1 then ccBlk (co t) h (xtB (strip V pf c) x (t + 1)) (lsA (gsOf pf) (strip V pf c) t).am
        (lsA (gsOf pf) (strip V pf c) t).lo (lsA (gsOf pf) (strip V pf c) t).hi else M5.view.read (Elt F) f5)
        = (if k0_cond4 (co t) = 1#1 then ccA V pf c t else M5.view.read (Elt F) f5) := by
      by_cases hc : k0_cond4 (co t) = 1#1
      · have hpos : 0 < t := by have := (cond4_iff _).mp hc; rwa [co_val _ ht] at this
        rw [dif_pos hc, if_pos hc, ccA, dif_pos hc, xtB_zero _ x t hpos]
      · rw [dif_neg hc, if_neg hc]
    rw [← e5]; iexact H5
  iexact H6

/-- The body table's row at point `t`'s slots is the kernel on the windows' current buffers. -/
theorem defs₀_row (t : Fin (cfgP (F := F) pf).N) :
    defs₀ (F := F) .tc (cfgP (F := F) pf).body ((cfgP (F := F) pf).bodyArgs t ((cfgP (F := F) pf).slots t))
      = cc0_two_way_quant (co t.val) (Memref.whole main_arg1) (Memref.isWhole_whole _) (stage0_0 ((cfgP (F := F) pf).slots t 0)) (hstage0_0 _)
        (stage0_1 ((cfgP (F := F) pf).slots t 1)) (hstage0_1 _) (stage0_2 ((cfgP (F := F) pf).slots t 2)) (hstage0_2 _)
        (stage0_3 ((cfgP (F := F) pf).slots t 3)) (hstage0_3 _) (stage0_4 ((cfgP (F := F) pf).slots t 4)) (hstage0_4 _)
        (Memref.whole cc0_scratch0) (Memref.isWhole_whole _) (Memref.whole cc0_scratch1) (Memref.isWhole_whole _) (Memref.whole cc0_scratch2) (Memref.isWhole_whole _)
        (Memref.whole cc0_scratch3) (Memref.isWhole_whole _) (Memref.whole cc0_scratch4) (Memref.isWhole_whole _) (Memref.whole cc0_scratch5) (Memref.isWhole_whole _) := by
  rw [co_eq]; unfold defs₀; rw [Defs.onTc_tc]

theorem leaves_0 (c : Dev nD) (t : Fin (cfgP (F := F) pf).N) :
    owns (c : Thread nD τ) (((cfgP (F := F) pf).win 0).stage ((cfgP (F := F) pf).slots t 0)) fullShare (strip V pf c t.val) ⊢ (dat V pf c).leavesExact 0 t := by
  rw [show strip V pf c t.val = iblk V pf c 0 t from strip_eq V pf c t]
  exact .rfl

theorem leaves_4 (c : Dev nD) (t : Fin (cfgP (F := F) pf).N) :
    owns (c : Thread nD τ) (((cfgP (F := F) pf).win 4).stage ((cfgP (F := F) pf).slots t 4)) fullShare (lsA (gsOf pf) (strip V pf c) t.val).cs ⊢ (dat V pf c).leavesExact 4 t := .rfl

/-- A buffer owned by its contents is one held at a buffer that reads as them. -/
theorem to_eq {A B : sProp 𝕄} (h : A = B) : A ⊢ B := h ▸ .rfl

/-- And back. -/
theorem of_eq {A B C : sProp 𝕄} (h : A = B) (k : A ⊢ C) : B ⊢ C := h ▸ k

theorem rd_0 (c : Dev nD) (t : Fin (cfgP (F := F) pf).N) (Y : S512x2048.Idx → F .bf16) :
    (owns (Ix := Unit) (Name := ℕ) (U := UR nD τ) (Lvl := ℕ) (c : Thread nD τ) (((cfgP (F := F) pf).win 0).stage ((cfgP (F := F) pf).slots t 0)) fullShare Y : sProp 𝕄)
      = rd c (stage0_0 ((cfgP (F := F) pf).slots t 0)) Y := owns_rd c (stage0_0 ((cfgP (F := F) pf).slots t 0)) (hstage0_0 _) Y
theorem rd_1 (c : Dev nD) (t : Fin (cfgP (F := F) pf).N) (Y : S512x2048.Idx → F .fp8e4m3) :
    (owns (Ix := Unit) (Name := ℕ) (U := UR nD τ) (Lvl := ℕ) (c : Thread nD τ) (((cfgP (F := F) pf).win 1).stage ((cfgP (F := F) pf).slots t 1)) fullShare Y : sProp 𝕄)
      = rd c (stage0_1 ((cfgP (F := F) pf).slots t 1)) Y := owns_rd c (stage0_1 ((cfgP (F := F) pf).slots t 1)) (hstage0_1 _) Y
theorem rd_2 (c : Dev nD) (t : Fin (cfgP (F := F) pf).N) (Y : S16x512.Idx → F .f32) :
    (owns (Ix := Unit) (Name := ℕ) (U := UR nD τ) (Lvl := ℕ) (c : Thread nD τ) (((cfgP (F := F) pf).win 2).stage ((cfgP (F := F) pf).slots t 2)) fullShare Y : sProp 𝕄)
      = rd c (stage0_2 ((cfgP (F := F) pf).slots t 2)) Y := owns_rd c (stage0_2 ((cfgP (F := F) pf).slots t 2)) (hstage0_2 _) Y
theorem rd_3 (c : Dev nD) (t : Fin (cfgP (F := F) pf).N) (Y : S2048x512.Idx → F .fp8e4m3) :
    (owns (Ix := Unit) (Name := ℕ) (U := UR nD τ) (Lvl := ℕ) (c : Thread nD τ) (((cfgP (F := F) pf).win 3).stage ((cfgP (F := F) pf).slots t 3)) fullShare Y : sProp 𝕄)
      = rd c (stage0_3 ((cfgP (F := F) pf).slots t 3)) Y := owns_rd c (stage0_3 ((cfgP (F := F) pf).slots t 3)) (hstage0_3 _) Y
theorem rd_4 (c : Dev nD) (t : Fin (cfgP (F := F) pf).N) (Y : S409x2048.Idx → F .f32) :
    (owns (Ix := Unit) (Name := ℕ) (U := UR nD τ) (Lvl := ℕ) (c : Thread nD τ) (((cfgP (F := F) pf).win 4).stage ((cfgP (F := F) pf).slots t 4)) fullShare Y : sProp 𝕄)
      = rd c (stage0_4 ((cfgP (F := F) pf).slots t 4)) Y := owns_rd c (stage0_4 ((cfgP (F := F) pf).slots t 4)) (hstage0_4 _) Y

/-- The body at any point. -/
theorem sound_body (c : Dev nD) (hok : AllOk V pf c) (t : Fin (cfgP (F := F) pf).N) :
    iprop((dat V pf c).Φ t.castSucc ∗ (dat V pf c).owesAt () t.castSucc
    ∗ (∃ d, owns (c : Thread nD τ) (((cfgP (F := F) pf).win 0).stage ((cfgP (F := F) pf).slots t 0)) fullShare ((dat V pf c).before 0 t d))
    ∗ (∃ d, owns (c : Thread nD τ) (((cfgP (F := F) pf).win 1).stage ((cfgP (F := F) pf).slots t 1)) fullShare ((dat V pf c).before 1 t d))
    ∗ (∃ d, owns (c : Thread nD τ) (((cfgP (F := F) pf).win 2).stage ((cfgP (F := F) pf).slots t 2)) fullShare ((dat V pf c).before 2 t d))
    ∗ (∃ d, owns (c : Thread nD τ) (((cfgP (F := F) pf).win 3).stage ((cfgP (F := F) pf).slots t 3)) fullShare ((dat V pf c).before 3 t d))
    ∗ (∃ d, owns (c : Thread nD τ) (((cfgP (F := F) pf).win 4).stage ((cfgP (F := F) pf).slots t 4)) fullShare ((dat V pf c).before 4 t d)))
    ⊢ wp frame (wpE (defs₀ (F := F)) 𝒱₀ c none) Set.univ (defs₀ (F := F) .tc (cfgP (F := F) pf).body ((cfgP (F := F) pf).bodyArgs t ((cfgP (F := F) pf).slots t)))
      (fun _ => iprop((dat V pf c).Φ t.succ ∗ (dat V pf c).owesAt () t.succ
        ∗ (dat V pf c).leavesExact 0 t ∗ (dat V pf c).leavesExact 1 t ∗ (dat V pf c).leavesExact 2 t ∗ (dat V pf c).leavesExact 3 t ∗ (dat V pf c).leavesExact 4 t)) := by
  rw [defs₀_row]
  have ht : t.val ≤ 100 := by have : t.val < 101 := lt_of_lt_of_eq t.isLt N_0; omega
  rw [show (dat V pf c).Φ t.castSucc = Inv V pf c t.val from rfl, show (dat V pf c).Φ t.succ = Inv V pf c (t.val + 1) from rfl,
    show (dat V pf c).owesAt () t.succ = (dat V pf c).owesAt () t.castSucc from rfl]
  simp only [before_0]
  iintro ⟨HI, Ho, ⟨%d0, H0⟩, ⟨%d1, H1⟩, ⟨%d2, H2⟩, ⟨%d3, H3⟩, ⟨%d4, H4⟩⟩
  iapply (sound_point V pf c hok t.val ht (stage0_0 ((cfgP (F := F) pf).slots t 0)) (hstage0_0 _)
        (stage0_1 ((cfgP (F := F) pf).slots t 1)) (hstage0_1 _) (stage0_2 ((cfgP (F := F) pf).slots t 2)) (hstage0_2 _)
        (stage0_3 ((cfgP (F := F) pf).slots t 3)) (hstage0_3 _) (stage0_4 ((cfgP (F := F) pf).slots t 4)) (hstage0_4 _)
        ((dat V pf c).before 1 t d1) ((dat V pf c).before 2 t d2) ((dat V pf c).before 3 t d3) ((dat V pf c).before 4 t d4)
        (fun n hn => before_4 V pf c t n hn d4) _ _ .rfl)
  isplitl [HI]; · iexact HI
  isplitl [H0]; · rw [← rd_0]; iexact H0
  isplitl [H1]; · iapply (to_eq (rd_1 pf c t ((dat V pf c).before 1 t d1))); iexact H1
  isplitl [H2]; · iapply (to_eq (rd_2 pf c t ((dat V pf c).before 2 t d2))); iexact H2
  isplitl [H3]; · iapply (to_eq (rd_3 pf c t ((dat V pf c).before 3 t d3))); iexact H3
  isplitl [H4]; · iapply (to_eq (rd_4 pf c t ((dat V pf c).before 4 t d4))); iexact H4
  iintro ⟨HI, H0, H1, H2, H3, H4⟩
  isplitl [HI]; · iexact HI
  isplitl [Ho]; · iexact Ho
  isplitl [H0]; · iapply (of_eq (rd_0 pf c t _) (leaves_0 V pf c t)); iexact H0
  isplitl [H1]; · iapply (of_eq (rd_1 pf c t _) (leaves_1 V pf c t d1 _ (fun h => if_pos h) (fun h => if_neg h))); iexact H1
  isplitl [H2]; · iapply (of_eq (rd_2 pf c t _) (leaves_2 V pf c t d2 _ (fun h => if_pos h) (fun h => if_neg h))); iexact H2
  isplitl [H3]; · iapply (of_eq (rd_3 pf c t _) (leaves_3 V pf c t d3 _ (fun h => if_pos h) (fun h => if_neg h))); iexact H3
  iapply (of_eq (rd_4 pf c t _) (leaves_4 V pf c t)); iexact H4

/-- The library's body obligation, at every point. -/
theorem body_obligation (c : Dev nD) (hok : AllOk V pf c) : BodyObligation (dat V pf c) (defs₀ (F := F)) 𝒱₀ () Set.univ := fun t => by
  rw [bigSep_W0, bigSep_W0]
  exact triple_restated (sound_body V pf c hok t) rfl .rfl fun _ => .rfl

end Cert.Proof.PI

end
-- ==== Proof.PI.Run.lean ====
/-
  The run of `KernelIdeal`, from the launch to the return.
-/
module

public import proofs.«01_k».proof.Proof.PI.Region

@[expose] public section

set_option maxRecDepth 16384

noncomputable section

namespace Cert.Proof.PI

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR nD τ) ℕ

variable (m : (ℓ : Loc nD τ sig) → Buf (Elt F) ℓ)

/-- The table as the memory holds it at the start. -/
def tab : pre0.Contents (Elt F) := fun k => m ((0 : Dev nD), Proc.devRef .tc (pre0.ref k))

/-- The buffers as the pipeline finds them: the input reshaped, the others as at the start. -/
abbrev V0 (c : Dev nD) : Valuation τ sig (Elt F) := StableHlo.after [hostOps0 (F := F)].flatten (fun b => m (c, b))

abbrev V0r (c : Dev nD) (b : Ref sig .tc) : Buf (Elt F) ((c : Thread nD τ).loc b) := V0 m c (Proc.devRef .tc b)

/-- The proof data of the program's one pipeline. -/
abbrev dats (p : Fin 1) (c : Dev nD) : Dat τ (Elt F) Unit ℕ (UR nD τ) ℕ (Pipeline.pin (pcfgs (F := F)) (adm (tab m)) p) c := dat (V0r m) (tab m) c

theorem hpf (c : Dev nD) (k) : V0 m c (Proc.devRef .tc ((pcfgs (F := F) 0).pre.ref k)) = (adm (tab m) 0).1 k := by
  obtain rfl : c = 0 := Subsingleton.elim _ _
  obtain rfl : k = (0 : Fin 1) := Subsingleton.elim _ _
  rfl

/-- A whole buffer at some contents reads as some contents. -/
theorem rd_of (c : Dev nD) {sp : Space} {S : Shape} {e : EltTy} (M : Memref sig .tc sp S e) (f : Bf (F := F) c M) : pt c M f ⊢ iprop(∃ X, rd c M X) := by
  unfold rd
  iintro H
  iexists _; iexists f
  isplitr; · ipureintro; rfl
  iexact H

theorem pref_eq (c : Dev nD) : (Pipeline.ΦT pre0 (tab m) c : sProp 𝕄) = tb c (Memref.whole main_arg1) (tab m 0) := by
  unfold Pipeline.ΦT Pipeline.prefHeld
  rw [show (Finset.univ : Finset (Fin pre0.K)) = {0} from rfl, bigSep_singleton]
  rfl

theorem hin (c : Dev nD) : iprop(Pipeline.ΦA spec0 c ∗ Pipeline.ΦT pre0 (tab m) c : sProp 𝕄) ⊢ (dats m 0 c).Φ 0 := by
  show _ ⊢ Inv (V0r m) (tab m) c 0
  rw [pref_eq]
  unfold Pipeline.ΦA Inv held
  rw [scopedRest0_eq]
  iintro ⟨⟨⟨⟨%x0, H0⟩, ⟨%x1, H1⟩, ⟨%x2, H2⟩, ⟨%x3, H3⟩, ⟨%x4, H4⟩, ⟨%x5, H5⟩⟩, Hp⟩, Ht⟩
  isplitl [H0 H2 H3 H4 H5]
  · iexists (Memref.whole cc0_scratch0).view.read (Elt F) x0
    isplitl [H0]
    · iapply (rd_intro c (Memref.whole cc0_scratch0) x0 _ rfl); iexact H0
    isplitl [H2]
    · iapply (rd_of c (Memref.whole cc0_scratch2) x2); iexact H2
    isplitl [H3]
    · iapply (rd_of c (Memref.whole cc0_scratch3) x3); iexact H3
    isplitl [H4]
    · iapply (rd_of c (Memref.whole cc0_scratch4) x4); iexact H4
    iapply (rd_of c (Memref.whole cc0_scratch5) x5); iexact H5
  isplitl [H1]; · iexists x1; iexact H1
  isplitl [Ht]; · iexact Ht
  iexact Hp

theorem hout (c : Dev nD) : (dats m 0 c).Φ (Fin.last (Pipeline.pin (pcfgs (F := F)) (adm (tab m)) 0).N) ⊢ (Pipeline.ΦA spec0 c : sProp 𝕄) := by
  show Inv (V0r m) (tab m) c grid0.N ⊢ _
  rw [N_0]
  unfold Pipeline.ΦA Inv held rd
  rw [scopedRest0_eq]
  dsimp only
  iintro ⟨⟨%x, ⟨%f0, -, H0⟩, ⟨%f2, -, H2⟩, ⟨%f3, -, H3⟩, ⟨%f4, -, H4⟩, ⟨%f5, -, H5⟩⟩, ⟨%f1, H1⟩, -, Hp⟩
  isplitr [Hp]
  · isplitl [H0]; · iexists f0; iexact H0
    isplitl [H1]; · iexists f1; iexact H1
    isplitl [H2]; · iexists f2; iexact H2
    isplitl [H3]; · iexists f3; iexact H3
    isplitl [H4]; · iexists f4; iexact H4
    iexists f5; iexact H5
  iexact Hp

theorem sfx_sub : ∀ ops ∈ ([hostOps1] : List (List (HloOp τ sig (Elt F)))), ∀ op ∈ ops, op.bufs ⊆ Pipeline.tailRefs sig pre0 spec0 := by
  intro ops hops op hop
  simp only [List.mem_cons, List.mem_nil_iff, or_false] at hops
  subst hops
  refine Pipeline.sub_tailRefs pre0 spec0 op ((List.forall_iff_forall_mem.mp hostOps1_sub) op hop) ?_
  simp only [hostOps1, List.mem_cons, List.mem_nil_iff, or_false] at hop
  rcases hop with rfl | rfl
  all_goals intro j; fin_cases j <;> simp only [StableHlo.unary_bufs, Finset.mem_insert, Finset.mem_singleton, not_or] <;> and_intros <;> exact StableHlo.devRef_ne_of_ne (by decide)

theorem sfx_fresh : ∀ ops ∈ ([hostOps1] : List (List (HloOp τ sig (Elt F)))), ∀ op ∈ ops, op.fresh = ∅ := by
  intro ops hops op hop
  simp only [List.mem_cons, List.mem_nil_iff, or_false] at hops
  subst hops
  simp only [hostOps1, List.mem_cons, List.mem_nil_iff, or_false] at hop
  rcases hop with rfl | rfl <;> rfl

theorem sfx_keeps : ∀ ops ∈ ([hostOps1] : List (List (HloOp τ sig (Elt F)))), ∀ op ∈ ops, ∀ w, Proc.devRef .tc (Pipeline.arrRef spec0 w) ∉ op.writes := by
  intro ops hops op hop
  simp only [List.mem_cons, List.mem_nil_iff, or_false] at hops
  subst hops
  simp only [hostOps1, List.mem_cons, List.mem_nil_iff, or_false] at hop
  rcases hop with rfl | rfl
  all_goals intro w; fin_cases w <;> simp only [StableHlo.unary_writes, Finset.mem_singleton] <;> exact StableHlo.devRef_ne_of_ne (by decide)

theorem hmain : Pipeline.HMainPK (Ix := Unit) (Name := ℕ) (U := UR nD τ) (Lvl := ℕ) (pcfgs (F := F)) 0 defs₀ 𝒱₀ m main
    (fun c b => V0 m c (Proc.devRef .tc b)) (fun _ => Pipeline.chain ([hostOps1].map StableHlo.seq)) :=
  Pipeline.hmainP_around pcfgs 0 defs₀ 𝒱₀ m main [hostOps0] [hostOps1] (by simp only [List.Forall]; exact hostOps0_sub)
    (by simp only [List.Forall]; rfl) main_chain

/-- The run: the windows' arrays end as the pipeline leaves them, every other array as the host operations after it leave it, and every semaphore at zero. -/
theorem run (g : Dev nD → PrngReg) (hok : ∀ c, AllOk (V0r m) (tab m) c) :
    θ_run (Cert.KernelIdeal.defs (F := F)) (onTc (τ := τ) (Cert.KernelIdeal.main (F := F))) ⟨m, fun _ => 0, g⟩
      (fun r => Pipeline.FramePost (Pipeline.pin (pcfgs (F := F)) (adm (tab m))) (dats m) 0 (Pipeline.afterTail (pcfgs (F := F)) (adm (tab m)) (dats m) 0 (V0 m) [hostOps1]) r
        ∧ r.2.sem = fun _ => 0) :=
  Pipeline.θ_run_frameP_around_track pcfgs (adm (tab m)) (dats m) 0 launch0 defs₀ 𝒱₀ m g main
    (fun c => (body_obligation (V0r m) (tab m) c (hok c)).loose) (fun c w => by unfold Dat.share; split <;> rfl) (fun c t => rfl) (V0 m) [hostOps1]
    sfx_sub sfx_fresh sfx_keeps (hmain m) (fun c w => rfl) (hpf m) (hin m) (hout m) _ (fun r h => h)

/-- An argument array ends as it was. -/
theorem arg_tail (c : Dev nD) (b : Ref sig .tc) (hb : b ∈ [main_arg0, main_arg1]) :
    Pipeline.afterTail (pcfgs (F := F)) (adm (tab m)) (dats m) 0 (V0 m) [hostOps1] c b = m ((c : Thread nD τ).loc b) := by
  have hw : ∀ w, Pipeline.arrRef spec0 w ≠ b := by
    simp only [List.mem_cons, List.mem_nil_iff, or_false] at hb
    rcases hb with rfl | rfl <;> decide
  unfold Pipeline.afterTail
  rw [StableHlo.after_of_forall_not_mem _ _ fun op hop hw => ?_, Pipeline.withArrays_of_ne spec0 c (V0 m c) _ b hw]
  · simp only [List.mem_cons, List.mem_nil_iff, or_false] at hb
    rcases hb with rfl | rfl <;> rfl
  · simp only [List.flatten_cons, List.flatten_nil, List.append_nil, hostOps1, List.mem_cons, List.mem_nil_iff, or_false] at hop hb
    rcases hop with rfl | rfl <;> rcases hb with rfl | rfl <;> simp only [StableHlo.unary_writes, Finset.mem_singleton] at hw <;>
      exact StableHlo.devRef_ne_of_ne (by decide) hw

/-- The frame: the program ends with its arguments as they were and every semaphore at zero. -/
theorem frame (g : Dev nD → PrngReg) (hok : ∀ c, AllOk (V0r m) (tab m) c) :
    θ_run (Cert.KernelIdeal.defs (F := F)) (onTc (τ := τ) (Cert.KernelIdeal.main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run _ _ _).mono (fun r h => ⟨fun c => ⟨((h.1 c).2 main_arg0 (show main_arg0 ∈ Pipeline.restRefs sig spec0 by decide)).trans (arg_tail m c _ (by simp)), ((h.1 c).2 main_arg1 (show main_arg1 ∈ Pipeline.restRefs sig spec0 by decide)).trans (arg_tail m c _ (by simp))⟩, h.2⟩)
    (run m g hok)

end Cert.Proof.PI

end
-- ==== Proof.PI.Part.lean ====
/-
  The precondition gives a partition of the tokens, and with it `KernelIdeal`'s frame.
-/
module

public import proofs.«01_k».proof.Proof.PI.Sched
public import proofs.«01_k».proof.Proof.PI.Run
public import proofs.«01_k».proof.Proof.Gen.Pre_finite_and_partition
public import Idealize.ShloMosaic.Lib.ReduceAll
public import Idealize.ShloMosaic.Lib.Routing.Ops

@[expose] public section

set_option maxRecDepth 16384

noncomputable section

namespace Cert.Proof.PI

open Cert.KernelIdeal Cert.KernelIdeal.Gen

open Idealize.ShloMosaic Idealize.SL.Sem
open Idealize.ShloMosaic.TcCoe
open Idealize.ShloMosaic (ix1 ix2 ix3)

variable {F : FTy → Type} [FloatOps F]

theorem sum_range9 (f : ℕ → ℕ) : ((List.range 9).map f).sum = ∑ i ∈ Finset.range 9, f i := rfl

/-- The precondition on the inputs makes the sizes a partition of the tokens. -/
theorem part_of (x : FVec F Cert.Pre_finite_and_partition.S20x2560x2048 .bf16) (gs : IVec Cert.Pre_finite_and_partition.S9 32)
    (h : Cert.Pre_finite_and_partition.fn x gs = fun _ => 1#1) : Part gs := by
  have h0 := congrFun h ix0
  obtain ⟨h1, h2⟩ := (andi_one _ _).mp h0
  obtain ⟨-, h3⟩ := (andi_one _ _).mp h1
  have hb : ∀ i, (gs i).toNat ≤ 51200 := fun i => by
    have h4 := Host.reduce_andi_all _ _ _ _ _ h3 i
    obtain ⟨h5, h6⟩ := (andi_one _ _).mp h4
    have h5' : (0#32).toInt ≤ (gs i).toInt := (WordCmp.ofBool_decide_eq_one_iff _).mp h5
    have h6' : (gs i).toInt ≤ (51200#32).toInt := (WordCmp.ofBool_decide_eq_one_iff _).mp h6
    have e0 : (0#32).toInt = 0 := rfl
    have e1 : (51200#32).toInt = 51200 := rfl
    have := (gs i).isLt
    rw [e0, BitVec.toInt_eq_toNat_cond] at h5'; rw [e1, BitVec.toInt_eq_toNat_cond] at h6'
    split at h6' <;> omega
  have hsum := Routing.reduce_sum (N := 9) gs (gsz gs) (fun i => by
    have e : gsz gs i.val = (gs (ix1 i)).toNat := dif_pos i.isLt
    rw [e]
    have e1 : (ValueIdx.ix1 i : S9.Idx) = ix1 i := by funext a; match a with | 0 => rfl
    simp [e1]) Cert.Pre_finite_and_partition.Gen.facts.reducesTo_S9_S_d0 Cert.Pre_finite_and_partition.Gen.facts.h_S_
  have h7 : Host.reduce IntOp.addi gs (constantI Cert.Pre_finite_and_partition.S_ 32 0#32) Cert.Pre_finite_and_partition.Gen.facts.reducesTo_S9_S_d0 Cert.Pre_finite_and_partition.Gen.facts.h_S_ ix0 = 51200#32 :=
    (WordCmp.ofBool_decide_eq_one_iff _).mp ((WordCmp.cmpi_eq_eq _ _).symm.trans h2)
  have h8 := congrArg BitVec.toNat (hsum.symm.trans h7)
  rw [sum_range9, BitVec.toNat_ofNat] at h8
  have hle : gst gs 9 ≤ 9 * 51200 := by
    refine (Finset.sum_le_card_nsmul (Finset.range 9) (gsz gs) 51200 fun i _ => ?_).trans (by simp)
    unfold gsz
    split
    · exact hb _
    · omega
  show gst gs 9 = 51200
  have h9 : gst gs 9 % 2 ^ 32 = 51200 := h8
  omega

/-- The table the loops read is the one the memory holds. -/
theorem gsOf_tab (m : (ℓ : Loc nD τ sig) → Buf (Elt F) ℓ) : gsOf (tab m) = m ((0 : Dev nD).tc.loc main_arg1) := rfl

/-- Every trip of the run is within its bounds under the precondition. -/
theorem allOk (m : (ℓ : Loc nD τ sig) → Buf (Elt F) ℓ) (c : Dev nD)
    (h : Cert.Pre_finite_and_partition.fn (m ((0 : Dev nD).tc.loc main_arg0)) (m ((0 : Dev nD).tc.loc main_arg1)) = fun _ => 1#1) : AllOk (V0r m) (tab m) c :=
  fun n hn => lsB_ok (by rw [gsOf_tab]; exact part_of _ _ h) _ n hn

end Cert.Proof.PI

end
-- ==== Proof.PI.Scale.lean ====
/-
  The power-of-two scale over the extended reals: the search counts the powers at most `p`, and a word with that exponent
  field reads as the power.
-/
module

public import proofs.«01_k».proof.Proof.PI.Tiles
public import Idealize.ShloMosaic.Lib.WordCmp
public import Idealize.ShloMosaic.Lib.IdealHost

@[expose] public section

set_option maxRecDepth 16384

noncomputable section

namespace Cert.Proof.PI

open Idealize.ShloMosaic

/-! ## Words that are powers of two -/

theorem shl_tab : ∀ c : Fin 256, IntOp.shli .vector (BitVec.ofNat 32 c.val) 23#32 = BitVec.ofNat 32 (c.val * 2 ^ 23) := by decide +kernel
theorem sign_tab : ∀ c : Fin 256, (BitVec.ofNat 32 (c.val * 2 ^ 23)).extractLsb' 31 1 = 0#1 := by decide +kernel
theorem exp_tab : ∀ c : Fin 256, ((BitVec.ofNat 32 (c.val * 2 ^ 23)).extractLsb' 23 8).toNat = c.val := by decide +kernel
theorem frac_tab : ∀ c : Fin 256, ((BitVec.ofNat 32 (c.val * 2 ^ 23)).extractLsb' 0 23).toNat = 0 := by decide +kernel

/-- What the word with exponent field `c` and no fraction reads as. -/
def W (c : ℕ) : EReal := if c = 255 then ⊤ else if c = 0 then 0 else (((2 : ℝ) ^ ((c : ℤ) - 127) : ℝ) : EReal)

theorem word_W (c : ℕ) (hc : c < 256) : (FloatOps.ofBits .f32 (IntOp.shli .vector (BitVec.ofNat 32 c) 23#32) : Ideal .f32) = W c := by
  rw [shl_tab ⟨c, hc⟩]
  show Ideal.ieee 8 23 (BitVec.ofNat 32 (c * 2 ^ 23)) = W c
  have h1 := sign_tab ⟨c, hc⟩
  have h2 := exp_tab ⟨c, hc⟩
  have h3 := frac_tab ⟨c, hc⟩
  unfold Ideal.ieee W
  simp only [] at h1 h2 h3
  simp only [show 8 + 23 = 31 from rfl, h1, h2, h3]
  norm_num
  split
  · rfl
  · split
    · simp
    · have e : (2 : ℝ) ^ ((c : ℤ) - 127) = 8388608 * (2 : ℝ) ^ ((c : ℤ) - 127 - 23) := by
        rw [show ((c : ℤ) - 127) = 23 + ((c : ℤ) - 127 - 23) by ring, zpow_add₀ (by norm_num)]
        norm_num
      rw [e]
      exact (EReal.coe_mul _ _).symm

theorem W_mono {a b : ℕ} (h : a ≤ b) (hb : b < 256) : W a ≤ W b := by
  unfold W
  split
  · rw [if_pos (by omega)]
  · split
    · split
      · exact le_top
      · split
        · exact le_rfl
        · exact_mod_cast (zpow_pos (by norm_num : (0 : ℝ) < 2) _).le
    · split
      · exact le_top
      · rw [if_neg (by omega)]
        exact EReal.coe_le_coe_iff.mpr (zpow_le_zpow_right₀ (by norm_num : (1 : ℝ) ≤ 2) (by omega))

/-- The number of powers of two from `2 ^ -126` to `2 ^ 127` that are at most `p`. -/
def cnt (p : EReal) : ℕ := (Finset.univ.filter fun i : Fin 254 => W (i.val + 1) ≤ p).card

theorem cnt_le (p : EReal) : cnt p ≤ 254 := (Finset.card_filter_le _ _).trans (by simp)

/-- The words with fields `1 … 254` at most `p` are those up to the count. -/
theorem le_cnt (p : EReal) (hp : p ≠ ⊤) (c : ℕ) (h1 : 1 ≤ c) (h2 : c < 256) : W c ≤ p ↔ c ≤ cnt p := by
  constructor
  · intro h
    have hc : c ≠ 255 := by
      rintro rfl
      exact hp (top_le_iff.mp (by simpa [W] using h))
    have : (Finset.univ.filter fun i : Fin 254 => i.val < c).card ≤ cnt p := Finset.card_le_card fun i hi => by
      simp only [Finset.mem_filter, Finset.mem_univ, true_and] at hi ⊢
      exact (W_mono (by omega) (by omega)).trans h
    rw [Fin.card_filter_val_lt] at this
    omega
  · intro h
    by_contra hn
    have : cnt p ≤ (Finset.univ.filter fun i : Fin 254 => i.val < c - 1).card := Finset.card_le_card fun i hi => by
      simp only [Finset.mem_filter, Finset.mem_univ, true_and] at hi ⊢
      by_contra hi'
      exact hn ((W_mono (by omega) (by omega)).trans hi)
    rw [Fin.card_filter_val_lt] at this
    omega

/-! ## The exponent -/

/-- One step of the search on numbers, for the count `n`. -/
def stepN (n b c : ℕ) : ℕ := if c + b ≤ n then c + b else c

theorem search_tab : ∀ n : Fin 255, stepN n 1 (stepN n 2 (stepN n 4 (stepN n 8 (stepN n 16 (stepN n 32 (stepN n 64 (stepN n 128 0))))))) = n.val := by decide +kernel

theorem stepN_le (n b c : ℕ) (h : c ≤ n) : stepN n b c ≤ n := by unfold stepN; split <;> omega

theorem stepN_mod (n b c m : ℕ) (hb : b % m = 0) (h : c % m = 0) : stepN n b c % m = 0 := by
  unfold stepN; split
  · rw [Nat.add_mod, h, hb]; simp
  · exact h

variable {S : Shape}

theorem fieldStep_at (p : FVec Ideal S .f32) (b c : ℕ) (v : IVec S 32) (y : S.Idx) (hp : p y ≠ ⊤) (hv : v y = BitVec.ofNat 32 c)
    (hb : 1 ≤ b) (hcb : c + b < 256) : fieldStep p (BitVec.ofNat 32 b) v y = BitVec.ofNat 32 (stepN (cnt (p y)) b c) := by
  have e : addi v (broadcast S (BitVec.ofNat 32 b)) y = BitVec.ofNat 32 (c + b) := by
    show v y + BitVec.ofNat 32 b = _
    rw [hv, BitVec.ofNat_add]
  have hw : (bitcastToFloat .f32 (shli (addi v (broadcast S (BitVec.ofNat 32 b))) (broadcast S 23#32)) : FVec Ideal S .f32) y = W (c + b) := by
    show FloatOps.ofBits .f32 (IntOp.shli .vector (addi v (broadcast S (BitVec.ofNat 32 b)) y) 23#32) = _
    rw [e, word_W _ hcb]
  show (if BitVec.ofBool (decide ((bitcastToFloat .f32 (shli (addi v (broadcast S (BitVec.ofNat 32 b))) (broadcast S 23#32)) : FVec Ideal S .f32) y ≤ p y)) = 1 then _ else _) = _
  rw [hw, e, hv]
  have hc := le_cnt (p y) hp (c + b) (by omega) hcb
  have e1 : (BitVec.ofBool (decide (W (c + b) ≤ p y)) = 1) ↔ c + b ≤ cnt (p y) := (WordCmp.ofBool_decide_eq_one_iff _).trans hc
  unfold stepN
  split <;> rename_i h
  · rw [if_pos (e1.mp h)]
  · rw [if_neg (fun h' => h (e1.mpr h'))]

/-- The search finds the count. -/
theorem field_at (p : FVec Ideal S .f32) (y : S.Idx) (hp : p y ≠ ⊤) : field p y = BitVec.ofNat 32 (cnt (p y)) := by
  have hn := cnt_le (p y)
  have k : ∀ m, (∀ c, c ≤ 254 → c % m = 0 → c + m < 256 + m) := fun m c h _ => by omega
  unfold field
  set n := cnt (p y) with hn'
  have b1 := fieldStep_at p 128 0 (broadcast S 0#32) y hp rfl (by omega) (by omega)
  rw [← hn'] at b1
  have h1 : stepN n 128 0 ≤ 128 := by unfold stepN; split <;> omega
  have b2 := fieldStep_at p 64 _ _ y hp b1 (by omega) (by omega)
  rw [← hn'] at b2
  have h2 : stepN n 64 (stepN n 128 0) ≤ 128 + 64 := by generalize stepN n 128 0 = c at h1; unfold stepN; split <;> omega
  have b3 := fieldStep_at p 32 _ _ y hp b2 (by omega) (by omega)
  rw [← hn'] at b3
  have h3 : stepN n 32 (stepN n 64 (stepN n 128 0)) ≤ 128 + 64 + 32 := by generalize stepN n 64 (stepN n 128 0) = c at h2; unfold stepN; split <;> omega
  have b4 := fieldStep_at p 16 _ _ y hp b3 (by omega) (by omega)
  rw [← hn'] at b4
  have h4 : stepN n 16 (stepN n 32 (stepN n 64 (stepN n 128 0))) ≤ 128 + 64 + 32 + 16 := by
    generalize stepN n 32 (stepN n 64 (stepN n 128 0)) = c at h3; unfold stepN; split <;> omega
  have b5 := fieldStep_at p 8 _ _ y hp b4 (by omega) (by omega)
  rw [← hn'] at b5
  have h5 : stepN n 8 (stepN n 16 (stepN n 32 (stepN n 64 (stepN n 128 0)))) ≤ 128 + 64 + 32 + 16 + 8 := by
    generalize stepN n 16 (stepN n 32 (stepN n 64 (stepN n 128 0))) = c at h4; unfold stepN; split <;> omega
  have b6 := fieldStep_at p 4 _ _ y hp b5 (by omega) (by omega)
  rw [← hn'] at b6
  have h6 : stepN n 4 (stepN n 8 (stepN n 16 (stepN n 32 (stepN n 64 (stepN n 128 0))))) ≤ 128 + 64 + 32 + 16 + 8 + 4 := by
    generalize stepN n 8 (stepN n 16 (stepN n 32 (stepN n 64 (stepN n 128 0)))) = c at h5; unfold stepN; split <;> omega
  have b7 := fieldStep_at p 2 _ _ y hp b6 (by omega) (by omega)
  rw [← hn'] at b7
  have h7 : stepN n 2 (stepN n 4 (stepN n 8 (stepN n 16 (stepN n 32 (stepN n 64 (stepN n 128 0)))))) ≤ 128 + 64 + 32 + 16 + 8 + 4 + 2 := by
    generalize stepN n 4 (stepN n 8 (stepN n 16 (stepN n 32 (stepN n 64 (stepN n 128 0))))) = c at h6; unfold stepN; split <;> omega
  have b8 := fieldStep_at p 1 _ _ y hp b7 (by omega) (by omega)
  rw [← hn'] at b8
  exact b8.trans (congrArg (BitVec.ofNat 32) (search_tab ⟨n, by omega⟩))

/-- The exponent word of a count. -/
def expW (n : ℕ) : BitVec 32 := if n = 0 then 0#32 else BitVec.ofNat 32 n - 126#32

/-- The reciprocal of 448 as the programs hold it. -/
def κ : EReal := Ideal.ofBits .f32 0x3B124925#32

theorem ofNat_eq_iff (n m : ℕ) (hn : n < 2 ^ 32) (hm : m < 2 ^ 32) : BitVec.ofNat 32 n = BitVec.ofNat 32 m ↔ n = m := by
  constructor
  · intro h; have := congrArg BitVec.toNat h; simp only [BitVec.toNat_ofNat] at this; omega
  · rintro rfl; rfl

theorem cnt_zero : cnt 0 = 0 := by
  unfold cnt
  rw [Finset.card_eq_zero, Finset.filter_eq_empty_iff]
  intro i _ h
  unfold W at h
  rw [if_neg (by omega), if_neg (by omega)] at h
  exact absurd (EReal.coe_le_coe_iff.mp (by simpa using h)) (not_le.mpr (zpow_pos (by norm_num : (0 : ℝ) < 2) _))

/-- The exponent of a maximum's scale is that of the count of powers at most its part of 448. -/
theorem expo_at (a : FVec Ideal S .f32) (y : S.Idx) (hp : a y * κ ≠ ⊤) : expo a y = expW (cnt (a y * κ)) := by
  have hf := field_at (mulf a (broadcast S (Scalar.ofBits .f32 0x3B124925#32))) y hp
  have hn := cnt_le (a y * κ)
  have h0 : (Ideal.ofBits .f32 0x00000000#32) = 0 := Ideal.ofBits_zero_f32
  show (if BitVec.ofBool (decide (a y = Ideal.ofBits .f32 0x00000000#32)) = 1 then 0#32
    else if IntOp.ori (IntOp.cmpi .eq (field (mulf a (broadcast S (Scalar.ofBits .f32 0x3B124925#32))) y) 0#32)
        (IntOp.cmpi .eq (field (mulf a (broadcast S (Scalar.ofBits .f32 0x3B124925#32))) y) 255#32) = 1 then 0#32
      else field (mulf a (broadcast S (Scalar.ofBits .f32 0x3B124925#32))) y - 126#32) = _
  rw [hf, h0]
  show (if _ then _ else if IntOp.ori (IntOp.cmpi .eq (BitVec.ofNat 32 (cnt (a y * κ))) _) (IntOp.cmpi .eq (BitVec.ofNat 32 (cnt (a y * κ))) _) = 1 then _
    else BitVec.ofNat 32 (cnt (a y * κ)) - 126#32) = _
  by_cases ha : a y = 0
  · rw [if_pos (by rw [decide_eq_true ha]; rfl), ha, zero_mul, cnt_zero]; rfl
  · rw [if_neg (by simp [ha])]
    generalize cnt (a y * κ) = n at hn ⊢
    have e1 : IntOp.cmpi .eq (BitVec.ofNat 32 n) 0#32 = BitVec.ofBool (decide (n = 0)) := by
      rw [WordCmp.cmpi_eq_eq]; congr 1; exact decide_eq_decide.mpr (ofNat_eq_iff n 0 (by omega) (by omega))
    have e2 : IntOp.cmpi .eq (BitVec.ofNat 32 n) 255#32 = 0#1 := by
      rw [WordCmp.cmpi_eq_eq, decide_eq_false (fun h => by have := (ofNat_eq_iff n 255 (by omega) (by omega)).mp h; omega)]; rfl
    rw [e1, e2]
    unfold expW
    by_cases h : n = 0
    · rw [if_pos (by subst h; decide), if_pos h]
    · rw [if_neg (by rw [decide_eq_false h]; decide), if_neg h]

/-! ## The power -/

theorem exp_word (n : ℕ) (hn : n ≤ 252) : ∃ m : ℕ, 1 ≤ m ∧ m ≤ 254 ∧ expW n + 127#32 = BitVec.ofNat 32 m ∧ (expW n).toInt = (m : ℤ) - 127 := by
  have h : ∀ n : Fin 253, (1 ≤ (expW n.val + 127#32).toNat ∧ (expW n.val + 127#32).toNat ≤ 254)
      ∧ (expW n.val).toInt = ((expW n.val + 127#32).toNat : ℤ) - 127 := by decide +kernel
  obtain ⟨h1, h2⟩ := h ⟨n, by omega⟩
  exact ⟨_, h1.1, h1.2, ((BitVec.ofNat_toNat 32 _).trans (BitVec.setWidth_eq _)).symm, h2⟩

theorem exp_word_neg (n : ℕ) (hn : n ≤ 252) : ∃ m : ℕ, 1 ≤ m ∧ m ≤ 254 ∧ 0#32 - expW n + 127#32 = BitVec.ofNat 32 m ∧ (0#32 - expW n).toInt = (m : ℤ) - 127 := by
  have h : ∀ n : Fin 253, (1 ≤ (0#32 - expW n.val + 127#32).toNat ∧ (0#32 - expW n.val + 127#32).toNat ≤ 254)
      ∧ (0#32 - expW n.val).toInt = ((0#32 - expW n.val + 127#32).toNat : ℤ) - 127 := by decide +kernel
  obtain ⟨h1, h2⟩ := h ⟨n, by omega⟩
  exact ⟨_, h1.1, h1.2, ((BitVec.ofNat_toNat 32 _).trans (BitVec.setWidth_eq _)).symm, h2⟩

/-- The real power of two of a word's number. -/
def powW (e : BitVec 32) : ℝ := (2 : ℝ) ^ e.toInt

theorem pow2_at (e : IVec S 32) (y : S.Idx) (m : ℕ) (h1 : 1 ≤ m) (h2 : m ≤ 254) (h : e y + 127#32 = BitVec.ofNat 32 m) (h' : (e y).toInt = (m : ℤ) - 127) :
    (pow2 e : FVec Ideal S .f32) y = ((powW (e y) : ℝ) : EReal) := by
  show FloatOps.ofBits .f32 (IntOp.shli .vector (e y + 127#32) 23#32) = _
  rw [h, word_W m (by omega), W, if_neg (by omega), if_neg (by omega), powW, h']

/-- The host's power of two. -/
theorem host_pow (e : BitVec 32) : Ideal.pow (Ideal.ofBits .f32 0x40000000#32) (((e.toInt : ℝ)) : EReal) = ((powW e : ℝ) : EReal) := by
  have h2 : Ideal.ofBits .f32 0x40000000#32 = ((2 : ℝ) : EReal) := by
    have := word_W 128 (by omega)
    rw [W, if_neg (by omega), if_neg (by omega)] at this
    refine Eq.trans ?_ (this.trans ?_)
    · congr 1
    · norm_num
  rw [h2]
  show ((Real.rpow 2 (e.toInt : ℝ) : ℝ) : EReal) = _
  rw [powW, EReal.coe_eq_coe_iff]
  exact Real.rpow_intCast 2 e.toInt

end Cert.Proof.PI

end
-- ==== Proof.PI.Rows.lean ====
/-
  The row codes and scales of a strip at an index.
-/
module

public import proofs.«01_k».proof.Proof.PI.Scale
public import Idealize.ShloMosaic.Lib.Pointwise

@[expose] public section

set_option maxRecDepth 16384

noncomputable section

namespace Cert.Proof.PI

open Cert.KernelIdeal Cert.KernelIdeal.Gen
open Idealize.ShloMosaic
open Idealize.ShloMosaic (ix1 ix2 ix3)
open Idealize.ShloMosaic.VecWindow (window put)

/-! ## Constants -/

theorem κ_val : ∃ r : ℝ, κ = (r : EReal) ∧ 0 ≤ r ∧ r ≤ 2⁻¹ ^ 8 := by
  refine ⟨9586981 * (2 : ℝ) ^ (-32 : ℤ), ?_, by positivity, ?_⟩
  · unfold κ Ideal.ofBits Ideal.ieee
    have h1 : (0x3B124925#32).extractLsb' (8 + 23) 1 = 0#1 := by decide
    have h2 : ((0x3B124925#32).extractLsb' 23 8).toNat = 118 := by decide
    have h3 : ((0x3B124925#32).extractLsb' 0 23).toNat = 1198373 := by decide
    simp only [h1, h2, h3]
    norm_num
  · norm_num [zpow_neg]

theorem big_val : ∃ r : ℝ, Ideal.ofBits .f32 0x7F7F0000#32 = (r : EReal) ∧ 0 ≤ r ∧ r ≤ 2 ^ 128 := by
  refine ⟨16711680 * (2 : ℝ) ^ (104 : ℤ), ?_, by positivity, ?_⟩
  · unfold Ideal.ofBits Ideal.ieee
    have h1 : (0x7F7F0000#32).extractLsb' (8 + 23) 1 = 0#1 := by decide
    have h2 : ((0x7F7F0000#32).extractLsb' 23 8).toNat = 254 := by decide
    have h3 : ((0x7F7F0000#32).extractLsb' 0 23).toNat = 8323072 := by decide
    simp only [h1, h2, h3]
    norm_num
  · norm_num

/-- The bound of the inputs. -/
def big : EReal := Ideal.ofBits .f32 0x7F7F0000#32

theorem part_lt (a : EReal) (h : a ≤ big) : a * κ ≤ (((2 : ℝ) ^ 120 : ℝ) : EReal) := by
  obtain ⟨r, hr, h0, h1⟩ := κ_val
  obtain ⟨b, hb, hb0, hb1⟩ := big_val
  have e : big = (b : EReal) := hb
  refine (mul_le_mul_of_nonneg_right h (by rw [hr]; exact_mod_cast h0)).trans ?_
  rw [e, hr, ← EReal.coe_mul, EReal.coe_le_coe_iff]
  refine (mul_le_mul hb1 h1 h0 (by positivity)).trans ?_
  norm_num

theorem part_ne_top (a : EReal) (h : a ≤ big) : a * κ ≠ ⊤ := ne_top_of_le_ne_top (EReal.coe_ne_top _) (part_lt a h)

/-- Of a bounded maximum the count is at most 252. -/
theorem cnt_part (a : EReal) (h : a ≤ big) : cnt (a * κ) ≤ 252 := by
  by_contra hn
  have := ((le_cnt (a * κ) (part_ne_top a h) 253 (by omega) (by omega)).mpr (by omega)).trans (part_lt a h)
  rw [W, if_neg (by omega), if_neg (by omega), EReal.coe_le_coe_iff] at this
  norm_num at this

theorem neg_inf : Ideal.ofBits .f32 0xFF800000#32 = ⊥ := by
  unfold Ideal.ofBits Ideal.ieee
  have h1 : (0xFF800000#32).extractLsb' (8 + 23) 1 = 1#1 := by decide
  have h2 : ((0xFF800000#32).extractLsb' 23 8).toNat = 255 := by decide
  have h3 : ((0xFF800000#32).extractLsb' 0 23).toNat = 0 := by decide
  simp only [h1, h2, h3]
  norm_num

/-! ## Scales of a maximum -/

variable {S : Shape}

/-- The exponent word of the maximum `a`. -/
def eW (a : EReal) : BitVec 32 := expW (cnt (a * κ))

theorem scale_at (a : FVec Ideal S .f32) (y : S.Idx) (h : a y ≤ big) : (pow2 (expo a) : FVec Ideal S .f32) y = ((powW (eW (a y)) : ℝ) : EReal) := by
  have e := expo_at a y (part_ne_top _ h)
  obtain ⟨m, h1, h2, h3, h4⟩ := exp_word _ (cnt_part _ h)
  have := pow2_at (expo a) y m h1 h2 (by rw [e]; exact h3) (by rw [e]; exact h4)
  rw [this, e]; rfl

theorem invScale_at (a : FVec Ideal S .f32) (y : S.Idx) (h : a y ≤ big) : (invScale a : FVec Ideal S .bf16) y = ((powW (0#32 - eW (a y)) : ℝ) : EReal) := by
  have e := expo_at a y (part_ne_top _ h)
  obtain ⟨m, h1, h2, h3, h4⟩ := exp_word_neg _ (cnt_part _ h)
  have e' : subi (broadcast S 0#32) (expo a) y = 0#32 - expW (cnt (a y * κ)) := by
    show 0#32 - expo a y = _
    rw [e]
  have := pow2_at (subi (broadcast S 0#32) (expo a)) y m h1 h2 (by rw [e']; exact h3) (by rw [e']; exact h4)
  exact this.trans (by rw [e']; rfl)

/-! ## The row direction -/

variable (X : S512x2048.Idx → Ideal .bf16)

theorem grp_at (g : Fin 16) (t : Fin 512) (c : ℕ) (hc : c < 128) :
    grp X g (ix2 t ⟨c, hc⟩) = X (ix2 t ⟨128 * g.val + c, by have := g.isLt; omega⟩) := by
  unfold grp window
  congr 1
  funext a
  match a with
  | 0 => apply Fin.ext; show 0 + 1 * t.val = t.val; omega
  | 1 => apply Fin.ext; show 128 * g.val + 1 * c = _; simp

/-- The greatest absolute value among the channels of group `g` of row `t`. -/
def rowMax (t : Fin 512) (g : Fin 16) : EReal :=
  Finset.univ.sup fun c : Fin 128 => (FloatOps.absf (X (ix2 t ⟨128 * g.val + c.val, by have := g.isLt; omega⟩)) : Ideal .bf16)

theorem ra_at (g : Fin 16) (t : Fin 512) : raBlk X (ix2 g t) = rowMax X t g := by
  unfold raBlk k0_pay15 k0_pay13
  pointwise
  refine eq_of_forall_ge_iff fun z => ?_
  rw [Finset.fold_max_le, neg_inf, rowMax, Finset.sup_le_iff]
  simp only [Finset.mem_univ, true_implies, bot_le, true_and, max_le_iff, grp_at]
  constructor
  · intro h c
    have hc := c.isLt
    obtain ⟨⟨⟨⟨⟨⟨⟨h0, h1⟩, h2⟩, h3⟩, h4⟩, h5⟩, h6⟩, h7⟩ := h ⟨c.val % 16, Nat.mod_lt _ (by decide)⟩
    have hd : c.val / 16 < 8 := by omega
    have key : ∀ n : ℕ, ∀ hn : 128 * g.val + n < 2048, n = c.val →
        FloatOps.absf (X (ix2 t ⟨128 * g.val + n, hn⟩)) ≤ z → FloatOps.absf (X (ix2 t ⟨128 * g.val + c.val, by have := g.isLt; omega⟩)) ≤ z := by
      intro n hn e h; subst e; exact h
    rcases (by omega : c.val / 16 = 0 ∨ c.val / 16 = 1 ∨ c.val / 16 = 2 ∨ c.val / 16 = 3 ∨ c.val / 16 = 4 ∨ c.val / 16 = 5 ∨ c.val / 16 = 6 ∨ c.val / 16 = 7)
      with e | e | e | e | e | e | e | e
    · exact key _ _ (by simp only []; omega) h0
    · exact key _ _ (by simp only []; omega) h1
    · exact key _ _ (by simp only []; omega) h2
    · exact key _ _ (by simp only []; omega) h3
    · exact key _ _ (by simp only []; omega) h4
    · exact key _ _ (by simp only []; omega) h5
    · exact key _ _ (by simp only []; omega) h6
    · exact key _ _ (by simp only []; omega) h7
  · intro h x
    have hx := x.isLt
    exact ⟨⟨⟨⟨⟨⟨⟨h ⟨x.val, by omega⟩, h ⟨16 + x.val, by omega⟩⟩, h ⟨32 + x.val, by omega⟩⟩, h ⟨48 + x.val, by omega⟩⟩, h ⟨64 + x.val, by omega⟩⟩,
      h ⟨80 + x.val, by omega⟩⟩, h ⟨96 + x.val, by omega⟩⟩, h ⟨112 + x.val, by omega⟩⟩

theorem quot_tab : ∀ t : Fin 2048, Scalar.select
          (IntOp.andi
            (IntOp.cmpi CmpIPredicate.ne
              (IntOp.subi (BitVec.setWidth 32 (IntOp.cmpi CmpIPredicate.sgt (BitVec.ofNat 32 t.val) 0#32))
                (BitVec.setWidth 32 (IntOp.cmpi CmpIPredicate.slt (BitVec.ofNat 32 t.val) 0#32)))
              (Scalar.subi (1#32) (Scalar.extui 0#1)))
            (IntOp.cmpi CmpIPredicate.ne (IntOp.remsi ArithUnit.vector (BitVec.ofNat 32 t.val) 128#32) 0#32))
          (IntOp.subi (IntOp.divsi ArithUnit.vector (BitVec.ofNat 32 t.val) 128#32) 1#32)
          (IntOp.divsi ArithUnit.vector (BitVec.ofNat 32 t.val) 128#32) = BitVec.ofNat 32 (t.val / 128) := by decide +kernel

/-- The indicator picks the column's group. -/
theorem sel_at (g : Fin 16) (t : Fin 2048) : (sel : FVec Ideal S16x2048 .bf16) (ix2 g t) = if g.val = t.val / 128 then 1 else 0 := by
  unfold sel k0_pay77 k0_pay75 k0_pay76
  pointwise
  rw [quot_tab t]
  have h := (ofNat_eq_iff g.val (t.val / 128) (by have := g.isLt; omega) (by have := t.isLt; omega))
  rw [WordCmp.cmpi_eq_eq]
  unfold Scalar.select
  by_cases e : g.val = t.val / 128
  · rw [if_pos e, if_pos (by rw [decide_eq_true (h.mpr e)]; rfl)]
  · rw [if_neg e, if_neg (by rw [decide_eq_false (fun h' => e (h.mp h'))]; decide)]

/-- The clipped value, as both programs clip it. -/
def clip448 (v : EReal) : EReal := min (Ideal.ofBits .f32 0x43E00000#32) (max (Ideal.ofBits .f32 0xC3E00000#32) v)

theorem lim_bf16 : Ideal.ofBits .bf16 0x43E0#16 = Ideal.ofBits .f32 0x43E00000#32 ∧ Ideal.ofBits .bf16 0xC3E0#16 = Ideal.ofBits .f32 0xC3E00000#32 := by
  unfold Ideal.ofBits Ideal.ieee
  have h1 : (0x43E0#16).extractLsb' (8 + 7) 1 = 0#1 ∧ (0xC3E0#16).extractLsb' (8 + 7) 1 = 1#1 := by decide
  have h2 : ((0x43E0#16).extractLsb' 7 8).toNat = 135 ∧ ((0xC3E0#16).extractLsb' 7 8).toNat = 135 := by decide
  have h3 : ((0x43E0#16).extractLsb' 0 7).toNat = 96 ∧ ((0xC3E0#16).extractLsb' 0 7).toNat = 96 := by decide
  have g1 : (0x43E00000#32).extractLsb' (8 + 23) 1 = 0#1 ∧ (0xC3E00000#32).extractLsb' (8 + 23) 1 = 1#1 := by decide
  have g2 : ((0x43E00000#32).extractLsb' 23 8).toNat = 135 ∧ ((0xC3E00000#32).extractLsb' 23 8).toNat = 135 := by decide
  have g3 : ((0x43E00000#32).extractLsb' 0 23).toNat = 6291456 ∧ ((0xC3E00000#32).extractLsb' 0 23).toNat = 6291456 := by decide
  simp only [h1, h2, h3, g1, g2, g3]
  constructor <;> norm_num <;> rw [EReal.coe_eq_coe_iff] <;> norm_num

theorem rcTile_at (iv : FVec Ideal S16x512 .bf16) (r : Fin 4) (c : Fin 8) (p : Fin 128) (q : Fin 256) : rcTile iv X r c (ix2 p q)
    = clip448 (X (ix2 ⟨128 * r.val + p.val, by have := r.isLt; omega⟩ ⟨256 * c.val + q.val, by have := c.isLt; omega⟩)
      * iv (ix2 ⟨(256 * c.val + q.val) / 128, by have := c.isLt; omega⟩ ⟨128 * r.val + p.val, by have := r.isLt; omega⟩)) := by
  unfold rcTile codes
  pointwise
  rw [lim_bf16.1, lim_bf16.2]
  unfold clip448
  congr 2
  have e : window X ![128 * r.val, 256 * c.val] ![128, 256] (fun a => by revert a; revert r c; decide) (ix2 p q)
      = X (ix2 ⟨128 * r.val + p.val, by have := r.isLt; omega⟩ ⟨256 * c.val + q.val, by have := c.isLt; omega⟩) := by
    unfold window
    congr 1
    funext a
    match a with
    | 0 => apply Fin.ext; show 128 * r.val + 1 * p.val = _; simp
    | 1 => apply Fin.ext; show 256 * c.val + 1 * q.val = _; simp
  refine congrArg₂ (· * ·) e ?_
  rw [Finset.sum_eq_single (⟨(256 * c.val + q.val) / 128, by have := c.isLt; omega⟩ : Fin 16)]
  · rw [sel_at, if_pos rfl, mul_one]
  · intro x _ hx
    rw [sel_at, if_neg (fun h => hx (Fin.ext h)), mul_zero]
  · intro h; exact absurd (Finset.mem_univ _) h

theorem rc_at (t : Fin 512) (d : Fin 2048) (h : rowMax X t ⟨d.val / 128, by have := d.isLt; omega⟩ ≤ big) :
    rcBlk X (ix2 t d) = clip448 (X (ix2 t d) * ((powW (0#32 - eW (rowMax X t ⟨d.val / 128, by have := d.isLt; omega⟩)) : ℝ) : EReal)) := by
  unfold rcBlk
  rw [rcTile_at]
  have e1 : (⟨128 * (t.val / 128) + t.val % 128, by have := t.isLt; omega⟩ : Fin 512) = t := Fin.ext (Nat.div_add_mod _ _)
  have e2 : (⟨256 * (d.val / 256) + d.val % 256, by have := d.isLt; omega⟩ : Fin 2048) = d := Fin.ext (Nat.div_add_mod _ _)
  have e3 : (⟨(256 * (d.val / 256) + d.val % 256) / 128, by have := d.isLt; omega⟩ : Fin 16) = ⟨d.val / 128, by have := d.isLt; omega⟩ :=
    Fin.ext (congrArg (· / 128) (Nat.div_add_mod _ _))
  show clip448 (X (ix2 ⟨128 * (t.val / 128) + t.val % 128, _⟩ ⟨256 * (d.val / 256) + d.val % 256, _⟩)
    * invScale (raBlk X) (ix2 ⟨(256 * (d.val / 256) + d.val % 256) / 128, _⟩ ⟨128 * (t.val / 128) + t.val % 128, _⟩)) = _
  rw [e1, e2, e3, invScale_at _ _ (by rw [ra_at]; exact h), ra_at]

theorem rs_at (g : Fin 16) (t : Fin 512) (h : rowMax X t g ≤ big) : rsBlk X (ix2 g t) = ((powW (eW (rowMax X t g)) : ℝ) : EReal) := by
  unfold rsBlk
  rw [scale_at _ _ (by rw [ra_at]; exact h), ra_at]

end Cert.Proof.PI

end
-- ==== Proof.PI.Ref.lean ====
/-
  The reference's results at an index, over the extended reals.
-/
module

public import proofs.«01_k».proof.Proof.PI.Rows
public import proofs.«01_k».proof.Proof.Gen.ReferenceIdeal.Frame
public import Idealize.ShloMosaic.Lib.StableHlo.ReadAt

@[expose] public section

set_option maxRecDepth 16384

noncomputable section

namespace Cert.Proof.PI.Ref

open Cert.ReferenceIdeal Cert.ReferenceIdeal.Gen

open Idealize.ShloMosaic
open Idealize.ShloMosaic.TcCoe
open Idealize.SL Idealize.SL.Sem
open Cert.Proof.PI

variable (m : (ℓ : Loc nD τ sig) → Buf (Elt Ideal) ℓ) (c : Dev nD)

/-! ## The host operations as functions -/

/-- The tokens in groups of 128 channels. -/
def groups (X : FVec Ideal S51200x2048 .bf16) : FVec Ideal S51200x16x128 .f32 := shapeCast S51200x16x128 (extf .f32 X bitsLt_bf16_f32) shapeCasts_S51200x2048_S51200x16x128

/-- The greatest absolute value of each group. -/
def maxima (Y : FVec Ideal S51200x16x128 .f32) : FVec Ideal S51200x16 .f32 :=
  Host.reduce FloatOps.maximumf (Host.absf Y) (constant S_ .f32 0xFF800000#32) reducesTo_S51200x16x128_S51200x16_d2 h_S_

/-- The powers of two from 2 ^ -126 to 2 ^ 127. -/
def powers : FVec Ideal S254 .f32 :=
  Host.powf (broadcastInDim S254 ![] bcast_S_S254 (constant S_ .f32 0x40000000#32))
    (sitofp .f32 (addi (broadcastInDim S254 ![] bcast_S_S254 (constantI S_ 32 4294967170#32)) (iotaInDim S254 32 0)))

/-- For each maximum and each power, whether the power is at most the maximum over 448. -/
def below (A : FVec Ideal S51200x16 .f32) : IVec S51200x16x254 32 :=
  extui 32 (cmpf .ole (broadcastInDim S51200x16x254 ![0, 1, 2] bcast_S1x1x254_S51200x16x254_0_1_2 (broadcastInDim S1x1x254 ![2] bcast_S254_S1x1x254_2 powers))
    (broadcastInDim S51200x16x254 ![0, 1, 2] bcast_S51200x16x1_S51200x16x254_0_1_2 (broadcastInDim S51200x16x1 ![0, 1] bcast_S51200x16_S51200x16x1_0_1
      (mulf A (broadcastInDim S51200x16 ![] bcast_S_S51200x16 (constant S_ .f32 0x3B124925#32)))))) natLt_1_32

/-- The number of powers at most the maximum over 448. -/
def counts (A : FVec Ideal S51200x16 .f32) : IVec S51200x16 32 :=
  Host.reduce IntOp.addi (below A) (constantI S_ 32 0#32) reducesTo_S51200x16x254_S51200x16_d2 h_S_

/-- The exponent of each count. -/
def exps (n : IVec S51200x16 32) : IVec S51200x16 32 :=
  select (cmpi .eq n (broadcastInDim S51200x16 ![] bcast_S_S51200x16 (constantI S_ 32 0#32)))
    (broadcastInDim S51200x16 ![] bcast_S_S51200x16 (constantI S_ 32 0#32))
    (subi n (broadcastInDim S51200x16 ![] bcast_S_S51200x16 (constantI S_ 32 126#32)))

/-- Two to each exponent. -/
def scales (e : IVec S51200x16 32) : FVec Ideal S51200x16 .f32 :=
  Host.powf (broadcastInDim S51200x16 ![] bcast_S_S51200x16 (constant S_ .f32 0x40000000#32)) (sitofp .f32 e)

/-- The tokens scaled and clipped. -/
def clipped (Y : FVec Ideal S51200x16x128 .f32) (s : FVec Ideal S51200x16 .f32) : FVec Ideal S51200x2048 .f32 :=
  shapeCast S51200x2048 (minimumf (broadcastInDim S51200x16x128 ![] bcast_S_S51200x16x128 (constant S_ .f32 0x43E00000#32))
    (maximumf (broadcastInDim S51200x16x128 ![] bcast_S_S51200x16x128 (constant S_ .f32 0xC3E00000#32))
      (mulf Y (broadcastInDim S51200x16x128 ![0, 1, 2] bcast_S51200x16x1_S51200x16x128_0_1_2 (broadcastInDim S51200x16x1 ![0, 1] bcast_S51200x16_S51200x16x1_0_1 s)))))
    shapeCasts_S51200x16x128_S51200x2048

/-! ## The buffers before the cast -/

theorem V_v2 : V m c main_v2 = groups (V m c main_v0) := by
  unfold groups
  after_reads_simp
  rfl

theorem V_v4 : V m c main_v4 = maxima (V m c main_v2) := by
  unfold maxima
  after_reads_simp

theorem V_v19 : V m c main_v19 = counts (V m c main_v4) := by
  unfold counts below powers
  after_reads_simp

theorem V_v24 : V m c main_v24 = exps (V m c main_v19) := by
  unfold exps
  after_reads_simp
  all_goals try simp -implicitDefEqProofs only [StableHlo.TRef.toBuf, StableHlo.TRef.ofBuf, cast_cast, cast_eq, id]

theorem V_v27 : V m c main_v27 = scales (V m c main_v24) := by
  unfold scales
  after_reads_simp

theorem V_v31 : V m c main_v31 = scales (negi (V m c main_v24 : IVec S51200x16 32)) := by
  unfold scales
  after_reads_simp

theorem V_v36 : V m c main_v36 = clipped (V m c main_v2) (V m c main_v31) := by
  unfold clipped
  after_reads_simp
  rfl

/-! ## The functions at an index -/

theorem groups_at (X : FVec Ideal S51200x2048 .bf16) (t : Fin 51200) (g : Fin 16) (k : Fin 128) :
    groups X (ix3 t g k) = X (ix2 t ⟨128 * g.val + k.val, by have := g.isLt; have := k.isLt; omega⟩) := by
  unfold groups
  pointwise
  congr 2
  exact Fin.ext (by show g.val * 128 + k.val = 128 * g.val + k.val; omega)

theorem maxima_at (Y : FVec Ideal S51200x16x128 .f32) (t : Fin 51200) (g : Fin 16) :
    maxima Y (ix2 t g) = Finset.univ.sup fun k : Fin 128 => (FloatOps.absf (Y (ix3 t g k)) : Ideal .f32) := by
  unfold maxima
  pointwise
  refine eq_of_forall_ge_iff fun z => ?_
  rw [Finset.fold_max_le, neg_inf, Finset.sup_le_iff]
  simp only [bot_le, true_and]

theorem power_tab : ∀ k : Fin 254, (IntOp.addi (4294967170#32) (BitVec.ofNat 32 k.val)).toInt = (k.val : ℤ) - 126 := by decide +kernel

theorem powers_at (k : Fin 254) : powers (ix1 k) = W (k.val + 1) := by
  unfold powers
  pointwise
  refine (host_pow _).trans ?_
  rw [W, if_neg (by have := k.isLt; omega), if_neg (by omega), powW, power_tab k]
  congr 2
  push_cast
  ring

theorem below_at (A : FVec Ideal S51200x16 .f32) (t : Fin 51200) (g : Fin 16) (k : Fin 254) :
    below A (ix3 t g k) = if W (k.val + 1) ≤ A (ix2 t g) * κ then 1#32 else 0#32 := by
  unfold below
  pointwise
  rw [powers_at]
  show BitVec.setWidth 32 (BitVec.ofBool (decide (W (k.val + 1) ≤ A (ix2 t g) * κ))) = _
  by_cases h : W (k.val + 1) ≤ A (ix2 t g) * κ
  · rw [if_pos h, decide_eq_true h]; rfl
  · rw [if_neg h, decide_eq_false h]; rfl

/-- A sum of words that are zero or one counts the ones. -/
theorem fold_count {ι : Type} (p : ι → Prop) [DecidablePred p] (s : Finset ι) :
    Finset.fold IntOp.addi (0#32) (fun x => if p x then 1#32 else 0#32) s = BitVec.ofNat 32 (s.filter p).card := by
  classical
  induction s using Finset.induction_on with
  | empty => rfl
  | insert a s ha ih =>
    rw [Finset.fold_insert ha, ih, Finset.filter_insert]
    by_cases h : p a
    · rw [if_pos h, if_pos h, Finset.card_insert_of_notMem (fun h' => ha (Finset.mem_filter.mp h').1)]
      show 1#32 + _ = _
      rw [Nat.add_comm, BitVec.ofNat_add]
    · rw [if_neg h, if_neg h]
      show 0#32 + _ = _
      rw [BitVec.zero_add]

theorem counts_at (A : FVec Ideal S51200x16 .f32) (t : Fin 51200) (g : Fin 16) :
    counts A (ix2 t g) = BitVec.ofNat 32 (cnt (A (ix2 t g) * κ)) := by
  unfold counts
  pointwise
  simp only [below_at]
  rw [fold_count]
  rfl

theorem exps_at (n : IVec S51200x16 32) (y : S51200x16.Idx) : exps n y = if n y = 0#32 then 0#32 else n y - 126#32 := by
  unfold exps
  pointwise
  rw [WordCmp.cmpi_eq_eq]
  unfold Scalar.select
  by_cases h : n y = 0#32
  · rw [if_pos h, decide_eq_true h]; rfl
  · rw [if_neg h, decide_eq_false h]; rfl

theorem scales_at (e : IVec S51200x16 32) (y : S51200x16.Idx) : scales e y = ((powW (e y) : ℝ) : EReal) := by
  unfold scales
  pointwise
  exact host_pow _

theorem clipped_at (Y : FVec Ideal S51200x16x128 .f32) (s : FVec Ideal S51200x16 .f32) (t : Fin 51200) (d : Fin 2048) :
    clipped Y s (ix2 t d) = clip448 (Y (ix3 t ⟨d.val / 128, by have := d.isLt; omega⟩ ⟨d.val % 128, Nat.mod_lt _ (by decide)⟩) * s (ix2 t ⟨d.val / 128, by have := d.isLt; omega⟩)) := by
  unfold clipped
  pointwise
  rfl

/-! ## The results -/

/-- The tokens as rows. -/
abbrev rowsOf : FVec Ideal S51200x2048 .bf16 := V m c main_v0

/-- The greatest absolute value among the channels of group `g` of token `t`. -/
def groupMax (X : FVec Ideal S51200x2048 .bf16) (t : Fin 51200) (g : Fin 16) : EReal :=
  Finset.univ.sup fun k : Fin 128 => (FloatOps.absf (X (ix2 t ⟨128 * g.val + k.val, by have := g.isLt; have := k.isLt; omega⟩)) : Ideal .bf16)

theorem max_at (X : FVec Ideal S51200x2048 .bf16) (t : Fin 51200) (g : Fin 16) : maxima (groups X) (ix2 t g) = groupMax X t g := by
  rw [maxima_at]
  simp only [groups_at]
  rfl

theorem exp_at (X : FVec Ideal S51200x2048 .bf16) (t : Fin 51200) (g : Fin 16) : exps (counts (maxima (groups X))) (ix2 t g) = eW (groupMax X t g) := by
  have hn := cnt_le (groupMax X t g * κ)
  rw [exps_at, counts_at, max_at, eW, expW]
  by_cases h : cnt (groupMax X t g * κ) = 0
  · rw [if_pos h, if_pos (by rw [h])]
  · rw [if_neg h, if_neg (fun h' => h ((ofNat_eq_iff _ 0 (by omega) (by omega)).mp h'))]

/-- The row scales at an index. -/
theorem scale_at (t : Fin 51200) (g : Fin 16) :
    (V m c main_v27 : FVec Ideal S51200x16 .f32) (ix2 t g) = ((powW (eW (groupMax (rowsOf m c) t g)) : ℝ) : EReal) := by
  rw [V_v27, scales_at, V_v24, V_v19, V_v4, V_v2, exp_at]

theorem neg_at (X : FVec Ideal S51200x2048 .bf16) (t : Fin 51200) (g : Fin 16) :
    negi (exps (counts (maxima (groups X)))) (ix2 t g) = 0#32 - eW (groupMax X t g) := by
  rw [← exp_at]
  generalize exps (counts (maxima (groups X))) = w
  show - w (ix2 t g) = _
  rw [BitVec.zero_sub]

theorem chan (d : Fin 2048) : (⟨128 * (d.val / 128) + d.val % 128, by have := d.isLt; omega⟩ : Fin 2048) = d := Fin.ext (Nat.div_add_mod _ _)

theorem clip_at (X : FVec Ideal S51200x2048 .bf16) (t : Fin 51200) (d : Fin 2048) :
    clipped (groups X) (scales (negi (exps (counts (maxima (groups X)))))) (ix2 t d)
      = clip448 (X (ix2 t d) * ((powW (0#32 - eW (groupMax X t ⟨d.val / 128, by have := d.isLt; omega⟩)) : ℝ) : EReal)) := by
  rw [clipped_at, scales_at, neg_at, groups_at, chan]

/-- The row codes at an index, before the cast. -/
theorem code_at (t : Fin 51200) (d : Fin 2048) :
    (V m c main_v36 : FVec Ideal S51200x2048 .f32) (ix2 t d) = clip448 (rowsOf m c (ix2 t d)
      * ((powW (0#32 - eW (groupMax (rowsOf m c) t ⟨d.val / 128, by have := d.isLt; omega⟩)) : ℝ) : EReal)) := by
  rw [V_v36, V_v31, V_v24, V_v19, V_v4, V_v2]
  exact clip_at _ t d

end Cert.Proof.PI.Ref

end
-- ==== Proof.PI.Out.lean ====
/-
  The kernel's result arrays in the row direction, over the extended reals.
-/
module

public import proofs.«01_k».proof.Proof.PI.Run
public import proofs.«01_k».proof.Proof.PI.Ref
public import Idealize.ShloMosaic.Lib.Pipeline.ValueKit

@[expose] public section

set_option maxRecDepth 16384

noncomputable section

namespace Cert.Proof.PI

open Cert.KernelIdeal Cert.KernelIdeal.Gen

open Idealize.ShloMosaic
open Idealize.ShloMosaic.TcCoe
open Idealize.SL Idealize.SL.Sem
open Idealize.ShloMosaic.Pipeline (Dat Cfg Window)

variable (V : (c : Dev nD) → (b : Ref sig .tc) → Buf (Elt Ideal) ((c : Thread nD τ).loc b)) (pf : pre0.Contents (Elt Ideal)) (c : Dev nD)

/-- The tokens as rows, as the pipeline finds them. -/
abbrev rows : FVec Ideal S51200x2048 .bf16 := V c main_v0

/-- The row codes. -/
def codesOf (X : FVec Ideal S51200x2048 .bf16) : FVec Ideal S51200x2048 .fp8e4m3 := fun y =>
  clip448 (X y * ((powW (0#32 - eW (Ref.groupMax X (y 0) ⟨(y 1).val / 128, by have : (y 1).val < 2048 := (y 1).isLt; omega⟩)) : ℝ) : EReal))

/-- The row scales, a group a row. -/
def scalesOf (X : FVec Ideal S51200x2048 .bf16) : FVec Ideal S16x51200 .f32 := fun y => ((powW (eW (Ref.groupMax X (y 1) (y 0))) : ℝ) : EReal)

theorem index_0 : ∀ t : Fin grid0.N, cc0_transform_0 (grid0.coords t) 0 = min t.val 99 ∧ cc0_transform_0 (grid0.coords t) 1 = 0 := by decide +kernel
theorem index_1 : ∀ t : Fin grid0.N, cc0_transform_1 (grid0.coords t) 0 = min t.val 99 ∧ cc0_transform_1 (grid0.coords t) 1 = 0 := by decide +kernel
theorem index_2 : ∀ t : Fin grid0.N, cc0_transform_2 (grid0.coords t) 0 = 0 ∧ cc0_transform_2 (grid0.coords t) 1 = min t.val 99 := by decide +kernel

/-- Two indices of a matrix with equal coordinates are equal. -/
theorem ext2 {S : Fin 2 → ℕ} (a b : (⟨2, S⟩ : Shape).Idx) (h0 : (a 0).val = (b 0).val) (h1 : (a 1).val = (b 1).val) : a = b := by
  funext i
  apply Fin.ext
  match i with
  | 0 => exact h0
  | 1 => exact h1

theorem split2 {n k : ℕ} (y : (⟨2, ![n, k]⟩ : Shape).Idx) : ∃ (p : Fin n) (d : Fin k), y = ix2 p d :=
  ⟨y 0, y 1, ext2 _ _ rfl rfl⟩

theorem row_lt (t : Fin grid0.N) (p : Fin 512) : 512 * min t.val 99 + p.val < 51200 := by have := p.isLt; omega

/-- A strip at an index. -/
theorem strip_at (t : Fin grid0.N) (p : Fin 512) (d : Fin 2048) : strip V pf c t.val (ix2 p d) = rows V c (ix2 ⟨512 * min t.val 99 + p.val, row_lt t p⟩ d) := by
  rw [strip_eq]
  unfold strip0 iblk
  show V c main_v0 ((((cfgP (F := Ideal) pf).win 0).blk t).view.emb (ix2 p d : S512x2048.Idx)) = _
  refine congrArg (V c main_v0) ?_
  refine ext2 (S := _) _ _ ?_ ?_
  · show cc0_transform_0 (grid0.coords t) 0 * 512 + 1 * p.val = _; rw [(index_0 t).1]; show _ = 512 * min t.val 99 + p.val; omega
  · show cc0_transform_0 (grid0.coords t) 1 * 2048 + 1 * d.val = _; rw [(index_0 t).2]; show _ = d.val; omega

/-- The windows' maps do not read the table, so their cover is decided at a table of zeros. -/
def pf0 : pre0.Contents (Elt Ideal) := fun k => match k with | ⟨0, _⟩ => (fun _ => 0#32 : S9.Idx → BitVec 32)

theorem cover0_1 : ((cfgP (F := Ideal) pf0).win 1).Covers := by decide +kernel
theorem cover0_2 : ((cfgP (F := Ideal) pf0).win 2).Covers := by decide +kernel

theorem cover_1 : ((cfgP (F := Ideal) pf).win 1).Covers := cover0_1
theorem cover_2 : ((cfgP (F := Ideal) pf).win 2).Covers := cover0_2

theorem emb_1 (t : Fin grid0.N) (p : Fin 512) (d : Fin 2048) :
    (((cfgP (F := Ideal) pf).win 1).blk t).view.emb (ix2 p d : S512x2048.Idx) = (ix2 ⟨512 * min t.val 99 + p.val, row_lt t p⟩ d : S51200x2048.Idx) := by
  refine ext2 (S := _) _ _ ?_ ?_
  · show cc0_transform_1 (grid0.coords t) 0 * 512 + 1 * p.val = _; rw [(index_1 t).1]; show _ = 512 * min t.val 99 + p.val; omega
  · show cc0_transform_1 (grid0.coords t) 1 * 2048 + 1 * d.val = _; rw [(index_1 t).2]; show _ = d.val; omega

theorem emb_2 (t : Fin grid0.N) (g : Fin 16) (p : Fin 512) :
    (((cfgP (F := Ideal) pf).win 2).blk t).view.emb (ix2 g p : S16x512.Idx) = (ix2 g ⟨512 * min t.val 99 + p.val, row_lt t p⟩ : S16x51200.Idx) := by
  refine ext2 (S := _) _ _ ?_ ?_
  · show cc0_transform_2 (grid0.coords t) 0 * 16 + 1 * g.val = _; rw [(index_2 t).1]; show _ = g.val; omega
  · show cc0_transform_2 (grid0.coords t) 1 * 512 + 1 * p.val = _; rw [(index_2 t).2]; show _ = 512 * min t.val 99 + p.val; omega

/-- The maximum of a strip's group is the maximum of the token's. -/
theorem max_strip (t : Fin grid0.N) (p : Fin 512) (g : Fin 16) :
    rowMax (strip V pf c t.val) p g = Ref.groupMax (rows V c) ⟨512 * min t.val 99 + p.val, row_lt t p⟩ g := by
  unfold rowMax Ref.groupMax
  simp only [strip_at]

theorem max_big (X : FVec Ideal S51200x2048 .bf16) (h : ∀ y, FloatOps.absf (X y) ≤ big) (t : Fin 51200) (g : Fin 16) : Ref.groupMax X t g ≤ big :=
  Finset.sup_le fun k _ => h _

theorem out_1 (h : ∀ y, FloatOps.absf (rows V c y) ≤ big) : (dat V pf c).arrAt 1 (cfgP (F := Ideal) pf).N = codesOf (rows V c) := by
  refine (dat V pf c).arrAt_eq_of_covers 1 _ (cover_1 pf) fun t hf y => ?_
  blk_simp
  rw [after_1]
  obtain ⟨p, d, e⟩ := split2 y
  subst e
  refine Eq.trans ?_ (congrArg (codesOf (rows V c)) (emb_1 pf t p d)).symm
  rw [rc_at _ _ _ (by rw [max_strip]; exact max_big _ h _ _), max_strip, strip_at]
  rfl

theorem out_2 (h : ∀ y, FloatOps.absf (rows V c y) ≤ big) : (dat V pf c).arrAt 2 (cfgP (F := Ideal) pf).N = scalesOf (rows V c) := by
  refine (dat V pf c).arrAt_eq_of_covers 2 _ (cover_2 pf) fun t hf y => ?_
  blk_simp
  rw [after_2]
  obtain ⟨g, p, e⟩ := split2 y
  subst e
  refine Eq.trans ?_ (congrArg (scalesOf (rows V c)) (emb_2 pf t g p)).symm
  rw [rs_at _ _ _ (by rw [max_strip]; exact max_big _ h _ _), max_strip]
  rfl

end Cert.Proof.PI

end
-- ==== Proof.PI.Blocks.lean ====
/-
  The token blocks of a partition: each group is cut in blocks of 128 tokens, its last block shorter.
-/
module

public import proofs.«01_k».proof.Proof.PI.Sched

@[expose] public section

set_option maxRecDepth 16384

noncomputable section

namespace Cert.Proof.PI

open Cert.KernelIdeal Cert.KernelIdeal.Gen
open Idealize.ShloMosaic
open Idealize.ShloMosaic (ix1 ix2 ix3)

/-- The number of blocks of group `g`. -/
def nblk (gs : S9.Idx → BitVec 32) (g : ℕ) : ℕ := (gsz gs g + 127) / 128

/-- The number of blocks before group `g`. -/
def boff (gs : S9.Idx → BitVec 32) (g : ℕ) : ℕ := ∑ i ∈ Finset.range g, nblk gs i

/-- The block of token `t`. -/
def bid (gs : S9.Idx → BitVec 32) (t : ℕ) : ℕ :=
  ∑ g ∈ Finset.range 9, if gst gs g ≤ t ∧ t < gst gs (g + 1) then boff gs g + (t - gst gs g) / 128 else 0

variable {gs : S9.Idx → BitVec 32}

theorem boff_succ (g : ℕ) : boff gs (g + 1) = boff gs g + (gsz gs g + 127) / 128 := Finset.sum_range_succ _ _

theorem boff_mono : Monotone (boff gs) := monotone_nat_of_le_succ fun g => by rw [boff_succ]; omega

/-- Of a token in group `g` the block is the group's. -/
theorem bid_of {g t : ℕ} (hg : g ≤ 8) (h0 : gst gs g ≤ t) (h1 : t < gst gs (g + 1)) : bid gs t = boff gs g + (t - gst gs g) / 128 := by
  unfold bid
  rw [Finset.sum_eq_single_of_mem g (Finset.mem_range.mpr (by omega))]
  · rw [if_pos ⟨h0, h1⟩]
  · intro i hi hne
    rw [if_neg]
    rintro ⟨h2, h3⟩
    rcases Nat.lt_or_ge i g with h | h
    · have := gst_mono (gs := gs) (show i + 1 ≤ g from h); omega
    · have := gst_mono (gs := gs) (show g + 1 ≤ i by omega); omega

/-- Every token lies in a group. -/
theorem group_of (hp : Part gs) {t : ℕ} (ht : t < 51200) : ∃ g, g ≤ 8 ∧ gst gs g ≤ t ∧ t < gst gs (g + 1) := by
  classical
  have h9 : t < gst gs (8 + 1) := by rw [show gst gs (8 + 1) = 51200 from hp]; exact ht
  have hex : ∃ g, t < gst gs (g + 1) := ⟨8, h9⟩
  have h := Nat.find_spec hex
  have hle : Nat.find hex ≤ 8 := Nat.find_min' hex h9
  refine ⟨Nat.find hex, hle, ?_, h⟩
  rcases Nat.eq_zero_or_pos (Nat.find hex) with e | e
  · rw [e]; exact Nat.zero_le _
  · have := Nat.find_min hex (show Nat.find hex - 1 < Nat.find hex by omega)
    rw [Nat.sub_add_cancel e] at this
    omega

/-- A token's block lies between the blocks before its group and those before the next. -/
theorem bid_bounds {g t : ℕ} (hg : g ≤ 8) (h0 : gst gs g ≤ t) (h1 : t < gst gs (g + 1)) : boff gs g ≤ bid gs t ∧ bid gs t < boff gs (g + 1) := by
  rw [bid_of hg h0 h1, boff_succ]
  have := gst_succ (gs := gs) g
  omega

/-- The number of blocks grows with the tokens by at most one in 128 and one a group. -/
theorem boff_gst : ∀ g g' : ℕ, g' ≤ g → 128 * boff gs g + gst gs g' ≤ 128 * boff gs g' + gst gs g + 127 * (g - g')
  | 0, g', h => by have : g' = 0 := by omega
                   subst this; omega
  | g + 1, g', h => by
    rcases Nat.lt_or_ge g g' with h1 | h1
    · have : g' = g + 1 := by omega
      subst this; omega
    · have := boff_gst g g' h1
      rw [boff_succ, gst_succ]; omega

/-- The position `s` in group `g` is the start of the block `k`, or the group's end. -/
structure At (gs : S9.Idx → BitVec 32) (g s k : ℕ) : Prop where
  hg : g ≤ 8
  hlo : gst gs g ≤ s
  hhi : s ≤ gst gs (g + 1)
  hk : k = boff gs g + (s - gst gs g + 127) / 128
  hs : 128 ∣ s - gst gs g ∨ s = gst gs (g + 1)

/-- At the end of a group the position is the start of the next group. -/
theorem At.next {g s k : ℕ} (h : At gs g s k) (he : s = gst gs (g + 1)) (hg : g < 8) : At gs (g + 1) s k := by
  have h1 := h.hk
  have h2 := gst_succ (gs := gs) g
  refine ⟨by omega, by omega, ?_, ?_, Or.inl ⟨0, by omega⟩⟩
  · have := gst_mono (gs := gs) (show g + 1 ≤ g + 1 + 1 by omega); omega
  · rw [boff_succ, h1]
    have e : s - gst gs g = gsz gs g := by omega
    rw [e, show s - gst gs (g + 1) = 0 by omega]
    rfl

/-- Inside a group the tokens of the block are those from the position to the group's end, 128 at most. -/
theorem At.block (hp : Part gs) {g s k : ℕ} (h : At gs g s k) (hlt : s < gst gs (g + 1)) {t : ℕ} (ht : t < 51200) :
    bid gs t = k ↔ s ≤ t ∧ t < min (s + 128) (gst gs (g + 1)) := by
  obtain ⟨hg, hlo, hhi, hk, hs⟩ := h
  have hd : 128 ∣ s - gst gs g := by rcases hs with h | h; exact h; omega
  have hsu := gst_succ (gs := gs) g
  have hbu := boff_succ (gs := gs) g
  obtain ⟨g', hg', h0, h1⟩ := group_of hp ht
  have hb := bid_bounds hg' h0 h1
  rcases lt_trichotomy g' g with hl | hl | hl
  · have := boff_mono (gs := gs) (show g' + 1 ≤ g from hl)
    have := gst_mono (gs := gs) (show g' + 1 ≤ g from hl)
    omega
  · subst hl
    rw [bid_of hg' h0 h1, hk]
    omega
  · have := boff_mono (gs := gs) (show g + 1 ≤ g' from hl)
    have := gst_mono (gs := gs) (show g + 1 ≤ g' from hl)
    omega

/-- After the block the position is its end. -/
theorem At.step {g s k : ℕ} (h : At gs g s k) (hlt : s < gst gs (g + 1)) : At gs g (min (s + 128) (gst gs (g + 1))) (k + 1) := by
  obtain ⟨hg, hlo, hhi, hk, hs⟩ := h
  have hd : 128 ∣ s - gst gs g := by rcases hs with h | h; exact h; omega
  refine ⟨hg, by omega, by omega, by omega, ?_⟩
  rcases Nat.lt_or_ge (s + 128) (gst gs (g + 1)) with h1 | h1
  · left; rw [Nat.min_eq_left h1.le]; omega
  · right; omega

/-- The tokens before the position are those of the blocks before `k`. -/
theorem At.before (hp : Part gs) {g s k : ℕ} (h : At gs g s k) {t : ℕ} (ht : t < 51200) : bid gs t < k ↔ t < s := by
  obtain ⟨hg, hlo, hhi, hk, hs⟩ := h
  have hsu := gst_succ (gs := gs) g
  have hbu := boff_succ (gs := gs) g
  obtain ⟨g', hg', h0, h1⟩ := group_of hp ht
  have hb := bid_bounds hg' h0 h1
  rcases lt_trichotomy g' g with hl | hl | hl
  · have := boff_mono (gs := gs) (show g' + 1 ≤ g from hl)
    have := gst_mono (gs := gs) (show g' + 1 ≤ g from hl)
    omega
  · subst hl
    rw [bid_of hg' h0 h1, hk]
    omega
  · have := boff_mono (gs := gs) (show g + 1 ≤ g' from hl)
    have := gst_mono (gs := gs) (show g + 1 ≤ g' from hl)
    omega

/-- At most 31 blocks start between a token and a position within 1024 tokens after it. -/
theorem At.near (hp : Part gs) {g s k : ℕ} (h : At gs g s k) {t : ℕ} (ht : t < s) (hn : s ≤ t + 1024) : k ≤ bid gs t + 31 := by
  obtain ⟨hg, hlo, hhi, hk, hs⟩ := h
  have h51 : gst gs (g + 1) ≤ 51200 := gst_le hp _ (by omega)
  obtain ⟨g', hg', h0, h1⟩ := group_of hp (show t < 51200 by omega)
  have hle : g' ≤ g := by
    by_contra hc
    have := gst_mono (gs := gs) (show g + 1 ≤ g' by omega)
    omega
  have := boff_gst (gs := gs) g g' hle
  rw [bid_of hg' h0 h1, hk]
  omega

/-- At the end of the tokens every block has been met. -/
theorem At.last (hp : Part gs) {g s k : ℕ} (h : At gs g s k) (he : s = 51200) : k = boff gs 9 := by
  obtain ⟨hg, hlo, hhi, hk, hs⟩ := h
  have h51 : gst gs (g + 1) ≤ 51200 := gst_le hp _ (by omega)
  have hsu := gst_succ (gs := gs) g
  have key : ∀ j, g + 1 + j ≤ 9 → boff gs (g + 1 + j) = boff gs (g + 1) := by
    intro j
    induction j with
    | zero => intro _; rfl
    | succ j ih =>
      intro hj
      have e1 := boff_succ (gs := gs) (g + 1 + j)
      have e2 := gst_succ (gs := gs) (g + 1 + j)
      have e3 := gst_le hp (g + 1 + (j + 1)) hj
      have e4 := gst_mono (gs := gs) (show g + 1 ≤ g + 1 + j by omega)
      have e5 := ih (by omega)
      have e6 : gst gs (g + 1 + (j + 1)) = gst gs (g + 1 + j + 1) := rfl
      have e7 : boff gs (g + 1 + (j + 1)) = boff gs (g + 1 + j + 1) := rfl
      omega
  have := key (8 - g) (by omega)
  rw [show g + 1 + (8 - g) = 9 by omega] at this
  rw [this, boff_succ, hk]
  have e : s - gst gs g = gsz gs g := by omega
  rw [e]

/-- A token's block is one of the blocks. -/
theorem bid_lt (hp : Part gs) {t : ℕ} (ht : t < 51200) : bid gs t < boff gs 9 := by
  obtain ⟨g', hg', h0, h1⟩ := group_of hp ht
  exact (bid_bounds hg' h0 h1).2.trans_le (boff_mono (by omega))

/-- There are at most 408 blocks. -/
theorem boff_le (hp : Part gs) : boff gs 9 ≤ 408 := by
  have h := boff_gst (gs := gs) 9 0 (by omega)
  rw [show gst gs 9 = 51200 from hp, show gst gs 0 = 0 from rfl, show boff gs 0 = 0 from rfl] at h
  omega

end Cert.Proof.PI

end
-- ==== Proof.PI.Trip.lean ====
/-
  The running maxima of one block after one strip, at an index.
-/
module

public import proofs.«01_k».proof.Proof.PI.Blocks
public import proofs.«01_k».proof.Proof.PI.Rows

@[expose] public section

set_option maxRecDepth 16384

noncomputable section

namespace Cert.Proof.PI

open Cert.KernelIdeal Cert.KernelIdeal.Gen
open Idealize.ShloMosaic
open Idealize.ShloMosaic (ix1 ix2 ix3)
open Idealize.ShloMosaic.VecWindow (window put)

/-! ## Words -/

/-- A strip's offset of a token. -/
theorem sub_base (n : ℕ) (hn : n ≤ 100) (s : BitVec 32) (hs : s.toNat ≤ 51200) : (Scalar.subi s (base (co n))).toInt = (s.toNat : ℤ) - 512 * n := by
  show (s - base (co n)).toInt = _
  rw [BitVec.toInt_sub, toInt_small s (by omega), toInt_small _ (by rw [base_nat n hn]; omega), base_nat n hn]
  rw [Int.bmod_eq_of_le] <;> push_cast <;> omega

theorem floor_tab : ∀ m : Fin 640, k0_mult1 (co 1) (BitVec.ofNat 32 (m.val + 384)) = BitVec.ofNat 32 (min 368 ((m.val - 128) / 16 * 16)) := by decide +kernel

theorem slot_tab : ∀ k : Fin 512, k0_off19 (BitVec.ofNat 32 k.val) 0 = k.val % 32 ∧ k0_off19 (BitVec.ofNat 32 k.val) 1 = 0
    ∧ k0_off20 (BitVec.ofNat 32 k.val) 0 = k.val % 32 ∧ k0_off20 (BitVec.ofNat 32 k.val) 1 = 0 := by decide +kernel

theorem slot_of (k : BitVec 32) (h : k.toNat < 512) : k0_off19 k 0 = k.toNat % 32 ∧ k0_off19 k 1 = 0 ∧ k0_off20 k 0 = k.toNat % 32 ∧ k0_off20 k 1 = 0 := by
  have := slot_tab ⟨k.toNat, h⟩
  rwa [BitVec.ofNat_toNat, BitVec.setWidth_eq] at this

variable (X : S512x2048.Idx → Ideal .bf16)

theorem mult_congr (i i' : grid0.Coords) (s s' : BitVec 32) (h : Scalar.subi s (base i) = Scalar.subi s' (base i')) : k0_mult1 i s = k0_mult1 i' s' := by
  unfold base at h
  unfold k0_mult1
  simp only [h]

/-- The window starts at the multiple of sixteen below the block's start, at most 368. -/
theorem mult_nat (n : ℕ) (hn : n ≤ 100) (s : BitVec 32) (hs : s.toNat ≤ 51200) (h0 : 512 * n < s.toNat + 128) (h1 : s.toNat < 512 * n + 512) :
    (k0_mult1 (co n) s).toNat = min 368 ((s.toNat - 512 * n) / 16 * 16) := by
  have hm : s.toNat + 128 - 512 * n < 640 := by omega
  have e : Scalar.subi s (base (co n)) = Scalar.subi (BitVec.ofNat 32 ((s.toNat + 128 - 512 * n) + 384)) (base (co 1)) := by
    show s - base (co n) = BitVec.ofNat 32 _ - base (co 1)
    apply BitVec.eq_of_toNat_eq
    rw [BitVec.toNat_sub, BitVec.toNat_sub, base_nat n hn, base_nat 1 (by omega), BitVec.toNat_ofNat]
    omega
  rw [mult_congr _ _ _ _ e, floor_tab ⟨s.toNat + 128 - 512 * n, hm⟩, BitVec.toNat_ofNat]
  show min 368 ((s.toNat + 128 - 512 * n - 128) / 16 * 16) % _ = _
  rw [Nat.mod_eq_of_lt (by omega)]
  congr 3
  omega

theorem pay221_eq (i : grid0.Coords) (s : BitVec 32) : k0_pay221 s (base i) = broadcast S16x2048 (Scalar.addi (k0_mult1 i s) 0#32) := rfl

/-- The masked value of one token of the window. -/
def cell (s e t : ℕ) (v : EReal) : EReal := if s ≤ t ∧ t < e then v else 0

theorem cell_eq (n : ℕ) (hn : n ≤ 100) (s e w : BitVec 32) (hs : s.toNat ≤ 51200) (he : e.toNat ≤ 51200) (hw : w.toNat < 512) (v : EReal) :
    Scalar.select (IntOp.andi (IntOp.cmpi .sge w (Scalar.subi s (base (co n)))) (IntOp.cmpi .slt w (Scalar.subi e (base (co n))))) v 0
      = cell s.toNat e.toNat (512 * n + w.toNat) v := by
  have e1 := sub_base n hn s hs
  have e2 := sub_base n hn e he
  have e3 := toInt_small w (by omega)
  have h1 : IntOp.cmpi .sge w (Scalar.subi s (base (co n))) = 1#1 ↔ s.toNat ≤ 512 * n + w.toNat := by
    rw [WordCmp.cmpi_sge_eq, WordCmp.ofBool_decide_eq_one_iff, e1, e3]; omega
  have h2 : IntOp.cmpi .slt w (Scalar.subi e (base (co n))) = 1#1 ↔ 512 * n + w.toNat < e.toNat := by
    rw [WordCmp.cmpi_slt_eq, WordCmp.ofBool_decide_eq_one_iff, e2, e3]; omega
  have h3 := andi_one (IntOp.cmpi .sge w (Scalar.subi s (base (co n)))) (IntOp.cmpi .slt w (Scalar.subi e (base (co n))))
  rw [h1, h2] at h3
  unfold cell Scalar.select
  by_cases hc : s.toNat ≤ 512 * n + w.toNat ∧ 512 * n + w.toNat < e.toNat
  · rw [if_pos hc]; exact if_pos (h3.mpr hc)
  · rw [if_neg hc]; exact if_neg fun h => hc (h3.mp h)

variable (X : S512x2048.Idx → Ideal .bf16)

/-- The absolute value of channel `d` of token `p` of the strip. -/
def absX (p : Fin 512) (d : Fin 2048) : EReal := (FloatOps.absf (X (ix2 p d)) : Ideal .bf16)

theorem absX_nonneg (p : Fin 512) (d : Fin 2048) : 0 ≤ absX X p d := by
  unfold absX
  show (0 : EReal) ≤ max (X (ix2 p d) : EReal) (-(X (ix2 p d) : EReal))
  rcases le_total 0 (X (ix2 p d) : EReal) with h | h
  · exact le_max_of_le_left h
  · exact le_max_of_le_right (EReal.neg_nonneg.mpr h)

/-- The greatest absolute value of channel `d` among the strip's tokens from `s` to `e`, zero if there is none. -/
def seen (n s e : ℕ) (d : Fin 2048) : EReal := Finset.univ.sup fun p : Fin 512 => cell s e (512 * n + p.val) (absX X p d)

theorem win_at (n : ℕ) (s : BitVec 32) (h2 : k0_chk2 (co n) s) (r : Fin 9) (x : Fin 16) (d : Fin 2048) (w : ℕ) (hw : (k0_mult1 (co n) s).toNat = w)
    (hl : w ≤ 368) : win (co n) X s h2 r (ix2 x d) = X (ix2 ⟨w + 16 * r.val + x.val, by have := r.isLt; have := x.isLt; omega⟩ d) := by
  unfold win window
  congr 1
  funext a
  have hr := r.isLt
  have hb : (BitVec.ofNat 32 (16 * r.val)).toNat = 16 * r.val := by rw [BitVec.toNat_ofNat]; omega
  match a with
  | 0 =>
    apply Fin.ext
    show (Scalar.addi (k0_mult1 (co n) s) (BitVec.ofNat 32 (16 * r.val))).toNat + 1 * x.val = w + 16 * r.val + x.val
    rw [addi_nat _ _ (by omega), hb, hw]; omega
  | 1 => apply Fin.ext; show 0 + 1 * d.val = d.val; omega

theorem winWord (w : BitVec 32) (hw : w.toNat ≤ 368) (c : ℕ) (hc : c ≤ 128) (x : Fin 16) :
    (IntOp.addi (Scalar.addi w (BitVec.ofNat 32 c)) (BitVec.ofNat 32 x.val)).toNat = w.toNat + c + x.val := by
  have hx := x.isLt
  show (w + BitVec.ofNat 32 c + BitVec.ofNat 32 x.val).toNat = _
  rw [BitVec.toNat_add, BitVec.toNat_add, BitVec.toNat_ofNat, BitVec.toNat_ofNat]
  omega

/-- The block's maximum over the strip; if it started in the strip before, with the maximum kept of it. -/
theorem amNew_at (n : ℕ) (hn : n ≤ 100) (s e k : BitVec 32) (hs : s.toNat ≤ 51200) (he : e.toNat ≤ 51200) (h0 : 512 * n < s.toNat + 128)
    (h1 : s.toNat < 512 * n + 512) (hse : e.toNat ≤ s.toNat + 128) (hk : k.toNat < 512) (am : S32x2048.Idx → Ideal .f32) (h2 : k0_chk2 (co n) s) (h3 : k0_chk3 k)
    (d : Fin 2048) : amNew (co n) X s e k am h2 h3 (ix2 0 d)
      = if s.toNat < 512 * n then max (seen X n s.toNat e.toNat d) (am (ix2 ⟨k.toNat % 32, by omega⟩ d)) else seen X n s.toNat e.toNat d := by
  have hw := mult_nat n hn s hs h0 h1
  have hl : (k0_mult1 (co n) s).toNat ≤ 368 := by omega
  have hwin := fun r x d => win_at X n s h2 r x d _ rfl hl
  have hsl : Scalar.cmpi .slt (Scalar.subi s (base (co n))) 0#32 = 1#1 ↔ s.toNat < 512 * n := by
    unfold Scalar.cmpi
    rw [WordCmp.cmpi_slt_eq, WordCmp.ofBool_decide_eq_one_iff, sub_base n hn s hs]
    show (_ : ℤ) < 0 ↔ _
    omega
  have hrow : amRow am k h3 (ix2 0 d) = am (ix2 ⟨k.toNat % 32, by omega⟩ d) := by
    unfold amRow window
    congr 1
    obtain ⟨o0, o1, -, -⟩ := slot_of k hk
    funext a
    match a with
    | 0 => apply Fin.ext; show k0_off19 k 0 + 1 * 0 = _; rw [o0]; rfl
    | 1 => apply Fin.ext; show k0_off19 k 1 + 1 * d.val = d.val; rw [o1]; omega
  have hv : ∀ z, (∀ x : Fin 16, ∀ r : Fin 9, cell s.toNat e.toNat (512 * n + ((k0_mult1 (co n) s).toNat + 16 * r.val + x.val))
      (absX X ⟨(k0_mult1 (co n) s).toNat + 16 * r.val + x.val, by have := r.isLt; have := x.isLt; omega⟩ d) ≤ z) ↔ seen X n s.toNat e.toNat d ≤ z := by
    intro z
    unfold seen
    rw [Finset.sup_le_iff]
    constructor
    · intro h p _
      have hp := p.isLt
      by_cases hc : s.toNat ≤ 512 * n + p.val ∧ 512 * n + p.val < e.toNat
      · have := h ⟨(p.val - (k0_mult1 (co n) s).toNat) % 16, Nat.mod_lt _ (by decide)⟩ ⟨(p.val - (k0_mult1 (co n) s).toNat) / 16, by omega⟩
        have ep : (k0_mult1 (co n) s).toNat + 16 * ((p.val - (k0_mult1 (co n) s).toNat) / 16) + (p.val - (k0_mult1 (co n) s).toNat) % 16 = p.val := by omega
        simp only [ep] at this
        exact this
      · unfold cell
        rw [if_neg hc]
        refine le_trans ?_ (h 0 0)
        unfold cell
        split
        · exact absX_nonneg _ _ _
        · exact le_rfl
    · intro h x r
      exact h ⟨(k0_mult1 (co n) s).toNat + 16 * r.val + x.val, by have := r.isLt; have := x.isLt; omega⟩ (Finset.mem_univ _)
  have hcell : ∀ (c : ℕ) (hc : c ≤ 128) (x : Fin 16) (v : EReal),
      Scalar.select (IntOp.andi (IntOp.cmpi .sge (IntOp.addi (Scalar.addi (k0_mult1 (co n) s) (BitVec.ofNat 32 c)) (BitVec.ofNat 32 x.val)) (Scalar.subi s (base (co n))))
        (IntOp.cmpi .slt (IntOp.addi (Scalar.addi (k0_mult1 (co n) s) (BitVec.ofNat 32 c)) (BitVec.ofNat 32 x.val)) (Scalar.subi e (base (co n))))) v 0
      = cell s.toNat e.toNat (512 * n + ((k0_mult1 (co n) s).toNat + c + x.val)) v := by
    intro c hc x v
    have ew := winWord (k0_mult1 (co n) s) hl c hc x
    rw [cell_eq n hn s e _ hs he (by have := x.isLt; omega), ew]
  have c0 := hcell 0 (by omega)
  have c1 := hcell 16 (by omega)
  have c2 := hcell 32 (by omega)
  have c3 := hcell 48 (by omega)
  have c4 := hcell 64 (by omega)
  have c5 := hcell 80 (by omega)
  have c6 := hcell 96 (by omega)
  have c7 := hcell 112 (by omega)
  have c8 := hcell 128 (by omega)
  unfold amNew k0_pay8 acc8 k0_pay229 k0_pay228 k0_pay227 k0_pay226 k0_pay225 k0_pay224 k0_pay223 k0_pay222 k0_pay230
  rw [pay221_eq]
  pointwise
  simp only [c0, c1, c2, c3, c4, c5, c6, c7, c8, hwin, hrow]
  generalize hg : Finset.fold (max : Ideal .f32 → Ideal .f32 → Ideal .f32) _ _ (Finset.univ : Finset (Fin 16)) = f
  have hf : f = seen X n s.toNat e.toNat d := by
    subst hg
    clear c0 c1 c2 c3 c4 c5 c6 c7 c8 hcell hwin
    refine eq_of_forall_ge_iff fun z => ?_
    rw [Finset.fold_max_le, neg_inf, ← hv z]
    simp only [Finset.mem_univ, true_implies, bot_le, true_and, max_le_iff]
    constructor
    · intro h x r
      obtain ⟨⟨⟨⟨⟨⟨⟨⟨h0, h1⟩, h2⟩, h3⟩, h4⟩, h5⟩, h6⟩, h7⟩, h8⟩ := h x
      match r with
      | 0 => exact h0
      | 1 => exact h1
      | 2 => exact h2
      | 3 => exact h3
      | 4 => exact h4
      | 5 => exact h5
      | 6 => exact h6
      | 7 => exact h7
      | 8 => exact h8
    · intro h x
      exact ⟨⟨⟨⟨⟨⟨⟨⟨h x 0, h x 1⟩, h x 2⟩, h x 3⟩, h x 4⟩, h x 5⟩, h x 6⟩, h x 7⟩, h x 8⟩
  rw [hf]
  unfold Scalar.select
  by_cases hc : s.toNat < 512 * n
  · rw [if_pos hc]; exact if_pos (hsl.mpr hc)
  · rw [if_neg hc]; exact if_neg fun h => hc (hsl.mp h)

end Cert.Proof.PI

end
-- ==== Proof.PI.Cols.lean ====
/-
  The loop's state after every strip: the running maxima of the blocks, the slots' tokens and the blocks' scales.
-/
module

public import proofs.«01_k».proof.Proof.PI.Trip

@[expose] public section

set_option maxRecDepth 16384

noncomputable section

namespace Cert.Proof.PI

open Cert.KernelIdeal Cert.KernelIdeal.Gen
open Idealize.ShloMosaic
open Idealize.ShloMosaic (ix1 ix2 ix3)
open Idealize.ShloMosaic.VecWindow (window put)

/-! ## Maxima of a block -/

section Max

variable (gs : S9.Idx → BitVec 32) (x : FVec Ideal S51200x2048 .bf16)

/-- The absolute value of channel `d` of token `t`. -/
def absT (t : Fin 51200) (d : Fin 2048) : EReal := (FloatOps.absf (x (ix2 t d)) : Ideal .bf16)

theorem absT_nonneg (t : Fin 51200) (d : Fin 2048) : 0 ≤ absT x t d := by
  show (0 : EReal) ≤ max (x (ix2 t d) : EReal) (-(x (ix2 t d) : EReal))
  rcases le_total 0 (x (ix2 t d) : EReal) with h | h
  · exact le_max_of_le_left h
  · exact le_max_of_le_right (EReal.neg_nonneg.mpr h)

open Classical in
/-- The greatest absolute value of channel `d` among the tokens of block `κ` before `L`, zero if there is none. -/
def colMax (κ L : ℕ) (d : Fin 2048) : EReal := Finset.univ.sup fun t : Fin 51200 => if bid gs t.val = κ ∧ t.val < L then absT x t d else 0

theorem colMax_le (κ L : ℕ) (d : Fin 2048) (z : EReal) :
    colMax gs x κ L d ≤ z ↔ 0 ≤ z ∧ ∀ t : Fin 51200, bid gs t.val = κ → t.val < L → absT x t d ≤ z := by
  unfold colMax
  rw [Finset.sup_le_iff]
  constructor
  · intro h
    have h0 : (0 : EReal) ≤ z := by
      refine le_trans ?_ (h 0 (Finset.mem_univ _))
      split
      · exact absT_nonneg _ _ _
      · exact le_rfl
    refine ⟨h0, fun t h1 h2 => ?_⟩
    have := h t (Finset.mem_univ _)
    rwa [if_pos ⟨h1, h2⟩] at this
  · rintro ⟨h0, h⟩ t _
    split
    · next hc => exact h t hc.1 hc.2
    · exact h0

theorem colMax_big (hb : ∀ y, (FloatOps.absf (x y) : Ideal .bf16) ≤ big) (κ L : ℕ) (d : Fin 2048) : colMax gs x κ L d ≤ big :=
  (colMax_le gs x κ L d big).mpr ⟨(absT_nonneg x 0 d).trans (hb _), fun t _ _ => hb _⟩

/-- A bound past the block's tokens changes nothing. -/
theorem colMax_full (κ L : ℕ) (d : Fin 2048) (h : ∀ t, t < 51200 → bid gs t = κ → t < L) : colMax gs x κ L d = colMax gs x κ 51200 d :=
  eq_of_forall_ge_iff fun z => by
    rw [colMax_le, colMax_le]
    exact and_congr_right fun _ => ⟨fun h1 t e _ => h1 t e (h _ t.isLt e), fun h1 t e _ => h1 t e t.isLt⟩

/-- Of a block with no token before the bound the maximum is zero. -/
theorem colMax_none (κ L : ℕ) (d : Fin 2048) (h : ∀ t, t < 51200 → bid gs t = κ → L ≤ t) : colMax gs x κ L d = 0 :=
  eq_of_forall_ge_iff fun z => by
    rw [colMax_le]
    exact ⟨fun h1 => h1.1, fun h0 => ⟨h0, fun t e hl => absurd hl (not_lt.mpr (h _ t.isLt e))⟩⟩

theorem seen_le (X : S512x2048.Idx → Ideal .bf16) (n s e : ℕ) (d : Fin 2048) (z : EReal) :
    seen X n s e d ≤ z ↔ ∀ p : Fin 512, cell s e (512 * n + p.val) (absX X p d) ≤ z := by
  unfold seen
  rw [Finset.sup_le_iff]
  exact ⟨fun h p => h p (Finset.mem_univ _), fun h p _ => h p⟩

theorem seen_nonneg (X : S512x2048.Idx → Ideal .bf16) (n s e : ℕ) (d : Fin 2048) : 0 ≤ seen X n s e d := by
  refine le_trans ?_ ((seen_le X n s e d _).mp le_rfl 0)
  unfold cell
  split
  · exact absX_nonneg _ _ _
  · exact le_rfl

/-- One more strip. -/
theorem colMax_strip (X : S512x2048.Idx → Ideal .bf16) (n : ℕ) (hn : n ≤ 99)
    (hX : ∀ (p : Fin 512) (d : Fin 2048), X (ix2 p d) = x (ix2 ⟨512 * n + p.val, by have := p.isLt; omega⟩ d)) (κ s e : ℕ)
    (hb : ∀ t, t < 51200 → (bid gs t = κ ↔ s ≤ t ∧ t < e)) (d : Fin 2048) :
    max (seen X n s e d) (colMax gs x κ (512 * n) d) = colMax gs x κ (512 * n + 512) d :=
  eq_of_forall_ge_iff fun z => by
    rw [max_le_iff, seen_le, colMax_le, colMax_le]
    constructor
    · rintro ⟨h1, h0, h2⟩
      refine ⟨h0, fun t e1 hl => ?_⟩
      rcases Nat.lt_or_ge t.val (512 * n) with h | h
      · exact h2 t e1 h
      · have hc := (hb _ t.isLt).mp e1
        have := h1 ⟨t.val - 512 * n, by omega⟩
        have et : 512 * n + (t.val - 512 * n) = t.val := by omega
        unfold cell absX at this
        rw [hX] at this
        simp only [et] at this
        rw [if_pos hc] at this
        exact this
    · rintro ⟨h0, h1⟩
      refine ⟨fun p => ?_, h0, fun t e1 hl => h1 t e1 (by omega)⟩
      have hp := p.isLt
      unfold cell absX
      split
      · next hc =>
        rw [hX]
        exact h1 ⟨512 * n + p.val, by omega⟩ ((hb _ (by omega)).mpr hc) (by show 512 * n + p.val < _; omega)
      · exact h0

end Max

/-! ## Rows put in place -/

theorem put_row {α : Type} {n m : ℕ} (x : (⟨2, ![n, m]⟩ : Shape).Idx → α) (off : Fin 2 → ℕ) (a : ℕ) (o0 : off 0 = a) (o1 : off 1 = 0)
    (w : (⟨2, ![1, m]⟩ : Shape).Idx → α) (r : Fin n) (d : Fin m) :
    put x off (⟨2, ![1, m]⟩ : Shape).size w (ix2 r d) = if r.val = a then w (ix2 0 d) else x (ix2 r d) := by
  unfold put
  by_cases h : r.val = a
  · have hc : ∀ b, off b ≤ ((ix2 r d : (⟨2, ![n, m]⟩ : Shape).Idx) b).val ∧ ((ix2 r d : (⟨2, ![n, m]⟩ : Shape).Idx) b).val < off b + (⟨2, ![1, m]⟩ : Shape).size b := by
      intro b
      match b with
      | 0 => show off 0 ≤ r.val ∧ r.val < off 0 + 1; omega
      | 1 => show off 1 ≤ d.val ∧ d.val < off 1 + m; have := d.isLt; omega
    rw [dif_pos hc, if_pos h]
    congr 1
    funext b
    apply Fin.ext
    match b with
    | 0 => show r.val - off 0 = 0; omega
    | 1 => show d.val - off 1 = d.val; omega
  · rw [if_neg h, dif_neg]
    intro hc
    have := hc 0
    change off 0 ≤ r.val ∧ r.val < off 0 + 1 at this
    omega

theorem csNew_eq (v : FVec Ideal S1x2048 .f32) : csNew v = pow2 (expo v) := rfl

theorem ne_extui : ∀ b : BitVec 1, Scalar.cmpi .ne (Scalar.extui b) 0#32 = b := by decide

theorem cond3_eq (i : grid0.Coords) (s ge : BitVec 32) : k0_cond3 i s ge = doneW i (endW s ge) := ne_extui _

end Cert.Proof.PI

end
-- ==== Proof.PI.Inv.lean ====
/-
  The loop's invariant in the column direction.
-/
module

public import proofs.«01_k».proof.Proof.PI.Cols

@[expose] public section

set_option maxRecDepth 16384

noncomputable section

namespace Cert.Proof.PI

open Cert.KernelIdeal Cert.KernelIdeal.Gen
open Idealize.ShloMosaic
open Idealize.ShloMosaic (ix1 ix2 ix3)
open Idealize.ShloMosaic.VecWindow (window put)

/-- The inner loop keeps the position and stops at its group. -/
theorem adv_at {gs : S9.Idx → BitVec 32} (hp : Part gs) {s : BitVec 32} {k : ℕ} (hs : s.toNat < 51200) : ∀ (n : ℕ) (g ge : BitVec 32),
    At gs g.toNat s.toNat k → ge.toNat = gst gs (g.toNat + 1) → 9 - g.toNat ≤ n →
    At gs (adv gs s n g ge).1.toNat s.toNat k ∧ (adv gs s n g ge).2.toNat = gst gs ((adv gs s n g ge).1.toNat + 1) ∧ s.toNat < (adv gs s n g ge).2.toNat
  | 0, g, ge, h, hge, hn => by have := h.hg; omega
  | n + 1, g, ge, h, hge, hn => by
    have hg := h.hg
    have hle := gst_le hp (g.toNat + 1) (by omega)
    have hi := sle_iff ge s (by omega) (by omega)
    unfold adv
    by_cases hc : Scalar.cmpi .sle ge s = 1#1
    · rw [if_pos hc]
      have e : s.toNat = ge.toNat := by have := hi.mp hc; have := h.hhi; omega
      have hg8 : g.toNat < 8 := by
        by_contra hg
        have h8 : g.toNat = 8 := by omega
        rw [h8, show gst gs (8 + 1) = 51200 from hp] at hge
        omega
      obtain ⟨-, hnx⟩ := gsNext_eq (gs := gs) g hg8
      have e1 : (Scalar.addi g 1#32).toNat = g.toNat + 1 := addi_nat g 1#32 (by show _ + 1 < _; omega)
      have hle2 : gst gs (g.toNat + 1 + 1) ≤ 51200 := gst_le hp _ (by omega)
      have hsu := gst_succ (gs := gs) (g.toNat + 1)
      have e2 : (Scalar.addi ge (gsNext gs g)).toNat = gst gs (g.toNat + 1 + 1) := by
        rw [addi_nat _ _ (by omega)]; omega
      exact adv_at hp hs n _ _ (by rw [e1]; exact h.next (by omega) hg8) (by rw [e1, e2]) (by omega)
    · rw [if_neg hc]
      exact ⟨h, hge, by have : ¬ ge.toNat ≤ s.toNat := fun h' => hc (hi.mpr h'); show s.toNat < ge.toNat; omega⟩

/-- Lane `l` of slot `r` holds the tokens of block `κ`. -/
def Slot (gs : S9.Idx → BitVec 32) (lo hi : S32x128.Idx → BitVec 32) (r : Fin 32) (l : Fin 128) (κ : ℕ) : Prop :=
  (lo (ix2 r l)).toNat ≤ 51200 ∧ (hi (ix2 r l)).toNat ≤ 51200 ∧ ∀ t, t < 51200 → ((lo (ix2 r l)).toNat ≤ t ∧ t < (hi (ix2 r l)).toNat ↔ bid gs t = κ)

/-- The ring slot of block `κ`. -/
def ring (κ : ℕ) : Fin 32 := ⟨κ % 32, Nat.mod_lt _ (by decide)⟩

theorem pay9_eq (p0 p1 : BitVec 32) (a : FVec Ideal S16x2048 .f32) (b : IVec S16x2048 32) (w : FVec Ideal S16x2048 .bf16) (v : FVec Ideal S1x2048 .f32) :
    k0_pay9 p0 p1 a b w v = k0_pay8 p0 p1 a b w v := by
  unfold k0_pay9
  exact shapeCast_self _ _

/-- The maxima a trip stores. -/
def amSt (i : grid0.Coords) (X : S512x2048.Idx → Ideal .bf16) (s e k : BitVec 32) (am : S32x2048.Idx → Ideal .f32) (h2 : k0_chk2 i s) (h3 : k0_chk3 k) :
    FVec Ideal S1x2048 .f32 :=
  k0_pay9 (Scalar.subi s (base i)) (Scalar.subi e (base i)) (acc8 i X s e h2) (k0_pay230 (k0_mult1 i s)) (win i X s h2 8) (amRow am k h3)

/-- The maxima a trip stores are those it computes the scales of. -/
theorem amSt_eq (i : grid0.Coords) (X : S512x2048.Idx → Ideal .bf16) (s e k : BitVec 32) (am : S32x2048.Idx → Ideal .f32) (h2 : k0_chk2 i s) (h3 : k0_chk3 k) :
    amSt i X s e k am h2 h3 = amNew i X s e k am h2 h3 := pay9_eq _ _ _ _ _ _

variable (gs : S9.Idx → BitVec 32) (x : FVec Ideal S51200x2048 .bf16)

/-- The scale of block `κ` and channel `d`, of the maximum over the block's tokens. -/
def colScale (κ : ℕ) (d : Fin 2048) : EReal := ((powW (eW (colMax gs x κ 51200 d)) : ℝ) : EReal)

/-- What holds of the loop's state between the trips of point `n`. -/
structure Inv2 (n : ℕ) (σ : LS Ideal) : Prop where
  pos : At gs σ.g.toNat σ.s.toNat σ.k.toNat
  ge : σ.ge.toNat = gst gs (σ.g.toNat + 1)
  le : σ.s.toNat ≤ 512 * n + 512
  start : σ.fl = 1#1 → σ.s.toNat < 512 * n → 512 * n < 51200 ∧ bid gs (512 * n) = σ.k.toNat
    ∧ ∀ d, σ.am (ix2 (ring σ.k.toNat) d) = colMax gs x σ.k.toNat (512 * n) d
  part : σ.fl ≠ 1#1 → 512 * n + 512 < σ.s.toNat + 128 ∧ 512 * n + 512 < 51200 ∧ bid gs (512 * n + 512) = σ.k.toNat
    ∧ ∀ d, σ.am (ix2 (ring σ.k.toNat) d) = colMax gs x σ.k.toNat (512 * n + 512) d
  slots : ∀ r : Fin 32, ∃ κ, κ % 32 = r.val ∧ ∀ l, Slot gs σ.lo σ.hi r l κ
  kept : ∀ κ, κ < σ.k.toNat → σ.k.toNat ≤ κ + 31 → (∀ l, Slot gs σ.lo σ.hi (ring κ) l κ) ∧ ∀ d, σ.am (ix2 (ring κ) d) = colMax gs x κ 51200 d
  cs : ∀ (κ : Fin 409) (d : Fin 2048), σ.cs (ix2 κ d) = if κ.val < σ.k.toNat then colScale gs x κ.val d else 0

variable {gs x}

theorem inv_init (hp : Part gs) : Inv2 gs x 0 (init0 gs) := by
  have e : gst gs 1 = (gs (ix1 0)).toNat := (Finset.sum_range_one _).trans rfl
  refine ⟨⟨Nat.zero_le _, Nat.zero_le _, Nat.zero_le _, ?_, Or.inl ⟨0, rfl⟩⟩, e.symm, Nat.zero_le _, ?_, ?_, ?_, ?_, ?_⟩
  · show 0 = boff gs 0 + (0 - gst gs 0 + 127) / 128
    unfold boff
    rw [Finset.sum_range_zero]
    omega
  · intro _ h; exact absurd h (Nat.not_lt_zero _)
  · intro h; exact absurd rfl h
  · intro r
    refine ⟨r.val + 32 * 1000, by have := r.isLt; omega, fun l => ⟨Nat.zero_le _, Nat.zero_le _, fun t ht => ?_⟩⟩
    have h1 := bid_lt hp ht
    have h2 := boff_le hp
    constructor
    · rintro ⟨-, h⟩; exact absurd h (Nat.not_lt_zero _)
    · intro h; omega
  · intro κ h; exact absurd h (Nat.not_lt_zero _)
  · intro κ d
    show k0_pay4 (F := Ideal) (ix2 κ d) = if κ.val < 0 then colScale gs x κ.val d else 0
    rw [if_neg (Nat.not_lt_zero _)]
    unfold k0_pay4
    pointwise

set_option maxHeartbeats 1600000 in
/-- A trip keeps the invariant. -/
theorem inv_trip (hp : Part gs) (hb : ∀ y, (FloatOps.absf (x y) : Ideal .bf16) ≤ big) (n : ℕ) (hn : n ≤ 100) (X : S512x2048.Idx → Ideal .bf16)
    (hX : ∀ (h : n ≤ 99) (p : Fin 512) (d : Fin 2048), X (ix2 p d) = x (ix2 ⟨512 * n + p.val, by have := p.isLt; omega⟩ d)) (σ : LS Ideal)
    (h : Inv2 gs x n σ) (hfl : σ.fl = 1#1) (hs : σ.s.toNat < min (512 * n + 512) 51200) (hc : Chk (co n) gs σ) : Inv2 gs x n (trip (co n) gs X σ hc) := by
  have hs1 : σ.s.toNat < 51200 := by omega
  obtain ⟨hat, hge, hlt⟩ := adv_at hp hs1 16 σ.g σ.ge h.pos h.ge (by omega)
  have hk8 : σ.k.toNat < boff gs 9 := by
    have := bid_lt hp hs1
    have h1 := (hat.block hp (by rw [← hge]; exact hlt) hs1).mpr ⟨le_rfl, by omega⟩
    omega
  have hk9 := boff_le hp
  unfold trip
  change At gs (advW gs σ).1.toNat σ.s.toNat σ.k.toNat at hat
  change (advW gs σ).2.toNat = gst gs ((advW gs σ).1.toNat + 1) at hge
  change σ.s.toNat < (advW gs σ).2.toNat at hlt
  unfold Chk at hc
  generalize advW gs σ = r at hat hge hlt hc ⊢
  have hge51 : r.2.toNat ≤ 51200 := by rw [hge]; exact gst_le hp _ (by have := hat.hg; omega)
  have he := endW_nat σ.s r.2 (by omega) hge51
  have hblk : ∀ t, t < 51200 → (bid gs t = σ.k.toNat ↔ σ.s.toNat ≤ t ∧ t < (endW σ.s r.2).toNat) := fun t ht => by
    rw [he, hge]; exact hat.block hp (by rw [← hge]; exact hlt) ht
  have hse : σ.s.toNat < (endW σ.s r.2).toNat := by omega
  have hstep : At gs r.1.toNat (endW σ.s r.2).toNat (σ.k.toNat + 1) := by
    rw [he, hge]; exact hat.step (by rw [← hge]; exact hlt)
  generalize hE : endW σ.s r.2 = e at he hblk hse hstep
  have he51 : e.toNat ≤ 51200 := by omega
  have hen : 512 * n < e.toNat := by
    rcases Nat.lt_or_ge σ.s.toNat (512 * n) with h1 | h1
    · obtain ⟨h2, h3, -⟩ := h.start hfl h1
      exact ((hblk _ h2).mp h3).2
    · omega
  have hn9 : n ≤ 99 := by omega
  have hdone := doneW_iff n hn e he51
  have e1 : (Scalar.addi σ.k 1#32).toNat = σ.k.toNat + 1 := by rw [addi_nat _ _ (by show _ + 1 < _; omega)]; rfl
  -- the block's new maxima
  have ham : ∀ d, amNew (co n) X σ.s e σ.k σ.am hc.2.1 hc.1 (ix2 0 d) = colMax gs x σ.k.toNat (512 * n + 512) d := by
    intro d
    rw [amNew_at X n hn σ.s e σ.k (by omega) he51 (by omega) (by omega) (by omega) (by omega)]
    rw [← colMax_strip gs x X n hn9 (hX hn9) σ.k.toNat σ.s.toNat e.toNat hblk d]
    split
    · next h1 =>
      obtain ⟨-, -, h4⟩ := h.start hfl h1
      exact congrArg (max (seen X n σ.s.toNat e.toNat d)) (h4 d)
    · next h1 =>
      rw [colMax_none gs x σ.k.toNat (512 * n) d (fun t ht hk => by have := (hblk t ht).mp hk; omega), max_eq_left (seen_nonneg _ _ _ _ _)]
  obtain ⟨o0, o1, o2, o3⟩ := slot_of σ.k (by omega)
  have hamT : ∀ (q : Fin 32) (d : Fin 2048), (tripR (co n) X r σ hc).am (ix2 q d)
      = if q.val = σ.k.toNat % 32 then colMax gs x σ.k.toNat (512 * n + 512) d else σ.am (ix2 q d) := by
    intro q d
    rw [← ham d, ← amSt_eq]
    subst hE
    exact put_row _ _ _ o0 o1 _ q d
  have hslot : ∀ (q : Fin 32) (l : Fin 128) (κ : ℕ), (if q.val = σ.k.toNat % 32 then κ = σ.k.toNat else Slot gs σ.lo σ.hi q l κ) →
      Slot gs (tripR (co n) X r σ hc).lo (tripR (co n) X r σ hc).hi q l κ := by
    intro q l κ hq
    have elo : (tripR (co n) X r σ hc).lo (ix2 q l) = if q.val = σ.k.toNat % 32 then σ.s else σ.lo (ix2 q l) := put_row _ _ _ o2 o3 _ q l
    have ehi : (tripR (co n) X r σ hc).hi (ix2 q l) = if q.val = σ.k.toNat % 32 then e else σ.hi (ix2 q l) := by
      subst hE; exact put_row _ _ _ o2 o3 _ q l
    unfold Slot
    rw [elo, ehi]
    split at hq
    · next hc =>
      rw [if_pos hc, if_pos hc]
      subst hq
      exact ⟨by omega, he51, fun t ht => (hblk t ht).symm⟩
    · next hc =>
      rw [if_neg hc, if_neg hc]
      exact hq
  have hslots : ∀ q : Fin 32, ∃ κ, κ % 32 = q.val ∧ ∀ l, Slot gs (tripR (co n) X r σ hc).lo (tripR (co n) X r σ hc).hi q l κ := by
    intro q
    by_cases hq : q.val = σ.k.toNat % 32
    · exact ⟨σ.k.toNat, hq.symm, fun l => hslot q l _ (by rw [if_pos hq])⟩
    · obtain ⟨κ, h1, h2⟩ := h.slots q
      exact ⟨κ, h1, fun l => hslot q l _ (by rw [if_neg hq]; exact h2 l)⟩
  have hold : ∀ κ, κ < σ.k.toNat → σ.k.toNat ≤ κ + 31 → (∀ l, Slot gs (tripR (co n) X r σ hc).lo (tripR (co n) X r σ hc).hi (ring κ) l κ)
      ∧ ∀ d, (tripR (co n) X r σ hc).am (ix2 (ring κ) d) = colMax gs x κ 51200 d := by
    intro κ h1 h2
    have hne : ¬ (ring κ).val = σ.k.toNat % 32 := by show ¬ κ % 32 = _; omega
    obtain ⟨h3, h4⟩ := h.kept κ h1 h2
    exact ⟨fun l => hslot _ l _ (by rw [if_neg hne]; exact h3 l), fun d => by rw [hamT, if_neg hne]; exact h4 d⟩
  have eg : (tripR (co n) X r σ hc).g = r.1 := rfl
  have ege : (tripR (co n) X r σ hc).ge = r.2 := rfl
  have es : (tripR (co n) X r σ hc).s = Scalar.select (doneW (co n) e) e σ.s := by subst hE; rfl
  have ek : (tripR (co n) X r σ hc).k = Scalar.select (doneW (co n) e) (Scalar.addi σ.k 1#32) σ.k := by subst hE; rfl
  have ef : (tripR (co n) X r σ hc).fl = doneW (co n) e := by subst hE; rfl
  have ecs : (tripR (co n) X r σ hc).cs = if doneW (co n) e = 1#1 then put σ.cs (k0_off21 σ.k) S1x2048.size (csNew (amNew (co n) X σ.s e σ.k σ.am hc.2.1 hc.1)) else σ.cs := by
    subst hE; rw [← cond3_eq]; dsimp only [tripR]
  generalize tripR (co n) X r σ hc = τ at hamT hslot hslots hold eg ege es ek ef ecs ⊢
  by_cases hd : doneW (co n) e = 1#1
  · have hd' := hdone.mp hd
    rw [hd] at es ek ef ecs
    change τ.s = e at es
    change τ.k = Scalar.addi σ.k 1#32 at ek
    rw [if_pos rfl] at ecs
    have ek' : τ.k.toNat = σ.k.toNat + 1 := by rw [ek, e1]
    have hfull : ∀ d, colMax gs x σ.k.toNat (512 * n + 512) d = colMax gs x σ.k.toNat 51200 d := fun d =>
      colMax_full gs x _ _ d fun t ht hk => by have := (hblk t ht).mp hk; omega
    refine ⟨by rw [eg, es, ek']; exact hstep, by rw [ege, eg]; exact hge, by rw [es]; exact hd', ?_, ?_, hslots, ?_, ?_⟩
    · intro _ h1; rw [es] at h1; omega
    · intro h1; exact absurd ef h1
    · intro κ h1 h2
      rw [ek'] at h1 h2
      by_cases hκ : κ = σ.k.toNat
      · subst hκ
        exact ⟨fun l => hslot _ l _ (by rw [if_pos (show (ring σ.k.toNat).val = σ.k.toNat % 32 from rfl)]), fun d => by
          rw [hamT, if_pos (show (ring σ.k.toNat).val = σ.k.toNat % 32 from rfl), hfull]⟩
      · exact hold κ (by omega) (by omega)
    · intro κ d
      rw [ecs, ek', put_row _ _ σ.k.toNat rfl rfl]
      by_cases hκ : κ.val = σ.k.toNat
      · rw [if_pos hκ, if_pos (by omega), csNew_eq, scale_at _ _ (by rw [ham]; exact colMax_big gs x hb _ _ _), ham, hfull, hκ]
        rfl
      · rw [if_neg hκ, h.cs]
        by_cases hl : κ.val < σ.k.toNat
        · rw [if_pos hl, if_pos (by omega)]
        · rw [if_neg hl, if_neg (by omega)]
  · have hd' : ¬ e.toNat ≤ 512 * n + 512 := fun h' => hd (hdone.mpr h')
    have hd0 : doneW (co n) e = 0#1 := by revert hd; generalize doneW (co n) e = b; revert b; decide
    rw [hd0] at es ek ef ecs
    change τ.s = σ.s at es
    change τ.k = σ.k at ek
    rw [if_neg (by decide)] at ecs
    refine ⟨by rw [eg, es, ek]; exact hat, by rw [ege, eg]; exact hge, by rw [es]; omega, ?_, ?_, hslots, ?_, ?_⟩
    · intro h1; rw [ef] at h1; exact absurd h1 (by decide)
    · intro _
      rw [ek, es]
      exact ⟨by omega, by omega, (hblk _ (by omega)).mpr ⟨by omega, by omega⟩, fun d => by
        rw [hamT, if_pos (show (ring σ.k.toNat).val = σ.k.toNat % 32 from rfl)]⟩
    · rw [ek]; exact hold
    · rw [ecs, ek]; exact h.cs

/-- The outer loop keeps the invariant and runs until its test fails. -/
theorem inv_loop (hp : Part gs) (hb : ∀ y, (FloatOps.absf (x y) : Ideal .bf16) ≤ big) (n : ℕ) (hn : n ≤ 100) (X : S512x2048.Idx → Ideal .bf16)
    (hX : ∀ (h : n ≤ 99) (p : Fin 512) (d : Fin 2048), X (ix2 p d) = x (ix2 ⟨512 * n + p.val, by have := p.isLt; omega⟩ d)) :
    ∀ (m : ℕ) (σ : LS Ideal), Inv2 gs x n σ → Ok (co n) gs X m σ →
      Inv2 gs x n (loop (co n) gs X m σ) ∧ ¬ testW (co n) (loop (co n) gs X m σ).s (loop (co n) gs X m σ).fl = 1#1
  | 0, σ, h, ho => ⟨h, ho⟩
  | m + 1, σ, h, ho => by
    unfold loop
    by_cases ht : testW (co n) σ.s σ.fl = 1#1
    · obtain ⟨-, hc, ho'⟩ := ho ht
      have hs := h.le
      obtain ⟨hfl, hs'⟩ := (testW_iff n hn σ.s (by omega) σ.fl).mp ht
      rw [if_pos ht, dif_pos hc]
      exact inv_loop hp hb n hn X hX m _ (inv_trip hp hb n hn X hX σ h hfl hs' hc) ho'
    · rw [if_neg ht]
      exact ⟨h, ht⟩

/-- The strips are `x`'s. -/
def Strips (x : FVec Ideal S51200x2048 .bf16) (X : ℕ → S512x2048.Idx → Ideal .bf16) : Prop :=
  ∀ (n : ℕ) (h : n ≤ 99) (p : Fin 512) (d : Fin 2048), X n (ix2 p d) = x (ix2 ⟨512 * n + p.val, by have := p.isLt; omega⟩ d)

/-- The state a point starts from satisfies the invariant. -/
theorem inv_lsB (hp : Part gs) (hb : ∀ y, (FloatOps.absf (x y) : Ideal .bf16) ≤ big) {X : ℕ → S512x2048.Idx → Ideal .bf16} (hX : Strips x X) :
    ∀ (n : ℕ), n ≤ 100 → Inv2 gs x n (lsB gs X n)
  | 0, _ => inv_init hp
  | n + 1, hn => by
    obtain ⟨h, ht⟩ := inv_loop hp hb n (by omega) (X n) (fun h => hX n h) 600 _ (inv_lsB hp hb hX n (by omega)) (lsB_ok hp X n (by omega))
    unfold lsB
    generalize loop (co n) gs (X n) 600 (lsB gs X n) = σ at h ht ⊢
    have hs := h.le
    rw [testW_iff n (by omega) σ.s (by omega)] at ht
    refine ⟨h.pos, h.ge, by show σ.s.toNat ≤ _; omega, ?_, fun h1 => absurd rfl h1, h.slots, h.kept, h.cs⟩
    intro _ h1
    change σ.s.toNat < 512 * (n + 1) at h1
    have hf : σ.fl ≠ 1#1 := fun hf => ht ⟨hf, by omega⟩
    exact (h.part hf).2

/-- The state a point leaves satisfies the invariant. -/
theorem inv_lsA (hp : Part gs) (hb : ∀ y, (FloatOps.absf (x y) : Ideal .bf16) ≤ big) {X : ℕ → S512x2048.Idx → Ideal .bf16} (hX : Strips x X)
    (n : ℕ) (hn : n ≤ 100) : Inv2 gs x n (lsA gs X n) :=
  (inv_loop hp hb n hn (X n) (fun h => hX n h) 600 _ (inv_lsB hp hb hX n hn) (lsB_ok hp X n hn)).1

/-- A point past the first leaves every block of the preceding strip complete. -/
theorem lsA_past (hp : Part gs) (hb : ∀ y, (FloatOps.absf (x y) : Ideal .bf16) ≤ big) {X : ℕ → S512x2048.Idx → Ideal .bf16} (hX : Strips x X)
    (n : ℕ) (hn : n ≤ 100) : min (512 * n) 51200 ≤ (lsA gs X n).s.toNat := by
  obtain ⟨h, ht⟩ := inv_loop hp hb n hn (X n) (fun h => hX n h) 600 _ (inv_lsB hp hb hX n hn) (lsB_ok hp X n hn)
  change Inv2 gs x n (lsA gs X n) at h
  change ¬ testW (co n) (lsA gs X n).s (lsA gs X n).fl = 1#1 at ht
  generalize lsA gs X n = σ at h ht ⊢
  have hs := h.le
  rw [testW_iff n (by omega) σ.s (by omega)] at ht
  by_cases hf : σ.fl = 1#1
  · have : ¬ σ.s.toNat < min (512 * n + 512) 51200 := fun h' => ht ⟨hf, h'⟩
    omega
  · have := (h.part hf).1
    omega

end Cert.Proof.PI

end
-- ==== Proof.PI.Codes.lean ====
/-
  The column codes of a strip at an index.
-/
module

public import proofs.«01_k».proof.Proof.PI.Inv

@[expose] public section

set_option maxRecDepth 16384

noncomputable section

namespace Cert.Proof.PI

open Cert.KernelIdeal Cert.KernelIdeal.Gen
open Idealize.ShloMosaic
open Idealize.ShloMosaic (ix1 ix2 ix3)
open Idealize.ShloMosaic.VecWindow (window put)

theorem ccTile_at (iv : FVec Ideal S32x2048 .bf16) (ht : FVec Ideal S32x128 .bf16) (c : Fin 16) (v : S1x128x128.Idx → Ideal .bf16) (a b : Fin 128) :
    ccTile iv ht c v (ix2 a b) = clip448 (v (ix3 0 a b) * ∑ r : Fin 32, iv (ix2 r ⟨128 * c.val + a.val, by have := c.isLt; have := a.isLt; omega⟩) * ht (ix2 r b)) := by
  unfold ccTile codes
  pointwise
  rw [lim_bf16.1, lim_bf16.2]
  rfl

theorem pay14_at (v : FVec Ideal S512x128 .bf16) (a : Fin 128) (p : Fin 512) : k0_pay14 v (ix3 0 a p) = v (ix2 p a) := by
  unfold k0_pay14 k0_pay13
  pointwise

theorem hot_at (w : BitVec 32) (lo hi : S32x128.Idx → BitVec 32) (r : Fin 32) (b : Fin 128) (m : ℕ) (hw : w.toNat = m) (hm : m + 128 ≤ 51200)
    (hl : (lo (ix2 r b)).toNat ≤ 51200) (hh : (hi (ix2 r b)).toNat ≤ 51200) :
    (hot w lo hi : FVec Ideal S32x128 .bf16) (ix2 r b) = if (lo (ix2 r b)).toNat ≤ m + b.val ∧ m + b.val < (hi (ix2 r b)).toNat then 1 else 0 := by
  unfold hot
  pointwise
  have hb := b.isLt
  have ew : (IntOp.addi w (BitVec.ofNat 32 b.val)).toNat = m + b.val := by
    show (w + BitVec.ofNat 32 b.val).toNat = _
    rw [BitVec.toNat_add, BitVec.toNat_ofNat, hw]
    omega
  generalize IntOp.addi w (BitVec.ofNat 32 b.val) = u at ew ⊢
  have eu := toInt_small u (by omega)
  have el := toInt_small (lo (ix2 r b)) (by omega)
  have eh := toInt_small (hi (ix2 r b)) (by omega)
  generalize lo (ix2 r b) = l at hl el ⊢
  generalize hi (ix2 r b) = h at hh eh ⊢
  have h1 : IntOp.cmpi .sge u l = 1#1 ↔ l.toNat ≤ m + b.val := by
    rw [WordCmp.cmpi_sge_eq, WordCmp.ofBool_decide_eq_one_iff, eu, el]; omega
  have h2 : IntOp.cmpi .slt u h = 1#1 ↔ m + b.val < h.toNat := by
    rw [WordCmp.cmpi_slt_eq, WordCmp.ofBool_decide_eq_one_iff, eu, eh]; omega
  have h3 := andi_one (IntOp.cmpi .sge u l) (IntOp.cmpi .slt u h)
  rw [h1, h2] at h3
  unfold Scalar.select
  by_cases hc : l.toNat ≤ m + b.val ∧ m + b.val < h.toNat
  · rw [if_pos hc]; exact if_pos (h3.mpr hc)
  · rw [if_neg hc]; exact if_neg fun h => hc (h3.mp h)

theorem off22_tab : ∀ n : Fin 101, 0 < n.val → k0_off22 (co n.val) 0 = (n.val - 1) % 2 := by
  have e : ∀ n : Fin 101, (co n.val 0).val = n.val := fun n => co_val _ (by omega)
  intro n
  unfold k0_off22
  simp only [e]
  revert n
  decide

theorem prevBase_tab : ∀ n : Fin 101, 0 < n.val → ∀ r : Fin 4, (Scalar.addi (prevBase (co n.val)) (BitVec.ofNat 32 (128 * r.val))).toNat = 512 * (n.val - 1) + 128 * r.val := by
  have e : ∀ n : Fin 101, (co n.val 0).val = n.val := fun n => co_val _ (by omega)
  intro n
  unfold prevBase
  rw [e]
  revert n
  decide

variable {gs : S9.Idx → BitVec 32} {x : FVec Ideal S51200x2048 .bf16} {X : ℕ → S512x2048.Idx → Ideal .bf16}

/-- The two-strip buffer holds the strip just written, transposed. -/
theorem xt_new (hX : Strips x X) (o : S2x2048x512.Idx → Ideal .bf16) (n : ℕ) (hn : n ≤ 99) (q : Fin 2) (hq : q.val = n % 2) (d : Fin 2048) (p : Fin 512) :
    xtB X o (n + 1) (ix3 q d p) = x (ix2 ⟨512 * n + p.val, by have := p.isLt; omega⟩ d) := by
  have hc : k0_cond2 (co n) = 1#1 := (cond2_iff _).mpr (by rw [co_val _ (by omega)]; omega)
  have ho : k0_off1 (co n) 0 = n % 2 := off1_tab ⟨n, by omega⟩
  rw [xtB, if_pos hc]
  refine (if_pos (show q.val = k0_off1 (co n) 0 by rw [ho, hq])).trans ?_
  refine (pay14_at _ _ _).trans ((grp_at _ _ _ _ _).trans ?_)
  rw [ ← hX n hn p d]
  exact congrArg (fun e => X n (ix2 p e)) (Fin.ext (Nat.div_add_mod d.val 128))

/-- The two-strip buffer still holds the strip before. -/
theorem xt_prev (hX : Strips x X) (o : S2x2048x512.Idx → Ideal .bf16) (n : ℕ) (hn : n ≤ 99) (q : Fin 2) (hq : q.val = n % 2) (d : Fin 2048) (p : Fin 512) :
    xtB X o (n + 1 + 1) (ix3 q d p) = x (ix2 ⟨512 * n + p.val, by have := p.isLt; omega⟩ d) := by
  rw [← xt_new hX o n hn q hq d p, xtB]
  split
  · have ho : k0_off1 (co (n + 1)) 0 = (n + 1) % 2 := off1_tab ⟨n + 1, by omega⟩
    exact if_neg (show ¬ q.val = k0_off1 (co (n + 1)) 0 by rw [ho, hq]; omega)
  · rfl

/-- The scale's inverse at a token and a channel. -/
def colInv (gs : S9.Idx → BitVec 32) (x : FVec Ideal S51200x2048 .bf16) (t : ℕ) (d : Fin 2048) : EReal :=
  ((powW (0#32 - eW (colMax gs x (bid gs t) 51200 d)) : ℝ) : EReal)

/-- The inverse scale the slots give a token of the strip before. -/
theorem pick_at (hp : Part gs) (hb : ∀ y, (FloatOps.absf (x y) : Ideal .bf16) ≤ big) (hX : Strips x X) (n : ℕ) (hn : n ≤ 99) (d : Fin 2048) (r : Fin 4) (b : Fin 128) :
    ∑ q : Fin 32, (invScale (lsA gs X (n + 1)).am : FVec Ideal S32x2048 .bf16) (ix2 q d)
      * (hot (Scalar.addi (prevBase (co (n + 1))) (BitVec.ofNat 32 (128 * r.val))) (lsA gs X (n + 1)).lo (lsA gs X (n + 1)).hi : FVec Ideal S32x128 .bf16) (ix2 q b)
      = colInv gs x (512 * n + 128 * r.val + b.val) d := by
  have h := inv_lsA hp hb hX (n + 1) (by omega)
  have hs := lsA_past hp hb hX (n + 1) (by omega)
  generalize lsA gs X (n + 1) = σ at h hs ⊢
  have hr := r.isLt
  have hbl := b.isLt
  have hle := h.le
  have ht : 512 * n + 128 * r.val + b.val < 51200 := by omega
  have hw : (Scalar.addi (prevBase (co (n + 1))) (BitVec.ofNat 32 (128 * r.val))).toNat = 512 * n + 128 * r.val := prevBase_tab ⟨n + 1, by omega⟩ (Nat.succ_pos n) r
  have hts : 512 * n + 128 * r.val + b.val < σ.s.toNat := by omega
  have hlt := (h.pos.before hp ht).mpr hts
  have hnr := h.pos.near hp hts (by omega)
  generalize Scalar.addi (prevBase (co (n + 1))) (BitVec.ofNat 32 (128 * r.val)) = w at hw ⊢
  obtain ⟨hk, ham⟩ := h.kept _ hlt hnr
  rw [Finset.sum_eq_single (ring (bid gs (512 * n + 128 * r.val + b.val)))]
  · obtain ⟨h1, h2, h3⟩ := hk b
    rw [hot_at w _ _ _ b _ hw (by omega) h1 h2, if_pos ((h3 _ ht).mpr rfl), mul_one,
      invScale_at _ _ (by rw [ham]; exact colMax_big gs x hb _ _ _), ham]
    rfl
  · intro q _ hq
    obtain ⟨κ, hκ, hsl⟩ := h.slots q
    obtain ⟨h1, h2, h3⟩ := hsl b
    rw [hot_at w _ _ _ b _ hw (by omega) h1 h2, if_neg, mul_zero]
    intro hc
    have := (h3 _ ht).mp hc
    exact hq (Fin.ext (by rw [← hκ, ← this]; rfl))
  · intro h; exact absurd (Finset.mem_univ _) h

/-- The column codes of the strip before point `n + 1`'s, at a channel and a token. -/
theorem cc_at (hp : Part gs) (hb : ∀ y, (FloatOps.absf (x y) : Ideal .bf16) ≤ big) (hX : Strips x X) (o : S2x2048x512.Idx → Ideal .bf16) (n : ℕ) (hn : n ≤ 99)
    (h4 : k0_cond4 (co (n + 1)) = 1#1) (d : Fin 2048) (p : Fin 512) :
    ccBlk (co (n + 1)) h4 (xtB X o (n + 1 + 1)) (lsA gs X (n + 1)).am (lsA gs X (n + 1)).lo (lsA gs X (n + 1)).hi (ix2 d p)
      = clip448 (x (ix2 ⟨512 * n + p.val, by have := p.isLt; omega⟩ d) * colInv gs x (512 * n + p.val) d) := by
  have hd := d.isLt
  have hpl := p.isLt
  unfold ccBlk ccT
  refine (ccTile_at _ _ _ _ _ _).trans ?_
  have ed : (⟨128 * (d.val / 128) + d.val % 128, by omega⟩ : Fin 2048) = d := Fin.ext (Nat.div_add_mod _ _)
  have ep : 512 * n + 128 * (p.val / 128) + p.val % 128 = 512 * n + p.val := by omega
  have o22 : k0_off22 (co (n + 1)) 0 = n % 2 := off22_tab ⟨n + 1, by omega⟩ (Nat.succ_pos n)
  refine congrArg clip448 (congrArg₂ (· * ·) ?_ ?_)
  · rw [← xt_prev hX o n hn ⟨n % 2, by omega⟩ rfl d p]
    unfold window
    refine congrArg (xtB X o (n + 1 + 1)) ?_
    funext a
    match a with
    | 0 => apply Fin.ext; show k0_off22 (co (n + 1)) 0 + 1 * 0 = n % 2; omega
    | 1 => apply Fin.ext; show 128 * (d.val / 128) + 1 * (d.val % 128) = d.val; omega
    | 2 => apply Fin.ext; show 128 * (p.val / 128) + 1 * (p.val % 128) = p.val; omega
  · refine (pick_at hp hb hX n hn ⟨128 * (d.val / 128) + d.val % 128, by omega⟩ ⟨p.val / 128, by omega⟩ ⟨p.val % 128, by omega⟩).trans ?_
    show colInv gs x (512 * n + 128 * (p.val / 128) + p.val % 128) ⟨128 * (d.val / 128) + d.val % 128, _⟩ = _
    rw [ed, ep]

/-- The scales the last point leaves. -/
theorem cs_at (hp : Part gs) (hb : ∀ y, (FloatOps.absf (x y) : Ideal .bf16) ≤ big) (hX : Strips x X) (κ : Fin 409) (d : Fin 2048) :
    (lsA gs X 100).cs (ix2 κ d) = if κ.val < boff gs 9 then colScale gs x κ.val d else 0 := by
  have h := inv_lsA hp hb hX 100 le_rfl
  have hs := lsA_past hp hb hX 100 le_rfl
  rw [h.cs, h.pos.last hp (by have := h.pos.hhi; have := gst_le hp ((lsA gs X 100).g.toNat + 1) (by have := h.pos.hg; omega); omega)]

end Cert.Proof.PI

end
-- ==== Proof.PI.OutCols.lean ====
/-
  The kernel's result arrays in the column direction, over the extended reals.
-/
module

public import proofs.«01_k».proof.Proof.PI.Out
public import proofs.«01_k».proof.Proof.PI.Codes

@[expose] public section

set_option maxRecDepth 16384

noncomputable section

namespace Cert.Proof.PI

open Cert.KernelIdeal Cert.KernelIdeal.Gen

open Idealize.ShloMosaic
open Idealize.ShloMosaic.TcCoe
open Idealize.SL Idealize.SL.Sem
open Idealize.ShloMosaic.Pipeline (Dat Cfg Window)

/-- The column codes, a channel a row. -/
def colCodesOf (gs : S9.Idx → BitVec 32) (X : FVec Ideal S51200x2048 .bf16) : FVec Ideal S2048x51200 .fp8e4m3 := fun y =>
  clip448 (X (ix2 (y 1) (y 0)) * colInv gs X (y 1).val (y 0))

/-- The column scales, a block a row; zero past the last block. -/
def colScalesOf (gs : S9.Idx → BitVec 32) (X : FVec Ideal S51200x2048 .bf16) : FVec Ideal S409x2048 .f32 := fun y =>
  if (y 0).val < boff gs 9 then colScale gs X (y 0).val (y 1) else 0

variable (V : (c : Dev nD) → (b : Ref sig .tc) → Buf (Elt Ideal) ((c : Thread nD τ).loc b)) (pf : pre0.Contents (Elt Ideal)) (c : Dev nD)

theorem index_3 : ∀ t : Fin grid0.N, cc0_transform_3 (grid0.coords t) 0 = 0 ∧ cc0_transform_3 (grid0.coords t) 1 = t.val - 1 := by decide +kernel
theorem index_4 : ∀ t : Fin grid0.N, cc0_transform_4 (grid0.coords t) 0 = 0 ∧ cc0_transform_4 (grid0.coords t) 1 = 0 := by decide +kernel

theorem cover0_3 : ((cfgP (F := Ideal) pf0).win 3).Covers := by decide +kernel
theorem cover0_4 : ((cfgP (F := Ideal) pf0).win 4).Covers := by decide +kernel

theorem cover_3 : ((cfgP (F := Ideal) pf).win 3).Covers := cover0_3
theorem cover_4 : ((cfgP (F := Ideal) pf).win 4).Covers := cover0_4

theorem emb_3 (t : Fin grid0.N) (d : Fin 2048) (p : Fin 512) (h : 512 * (t.val - 1) + p.val < 51200) :
    (((cfgP (F := Ideal) pf).win 3).blk t).view.emb (ix2 d p : S2048x512.Idx) = (ix2 d ⟨512 * (t.val - 1) + p.val, h⟩ : S2048x51200.Idx) := by
  refine ext2 (S := _) _ _ ?_ ?_
  · show cc0_transform_3 (grid0.coords t) 0 * 2048 + 1 * d.val = _; rw [(index_3 t).1]; show _ = d.val; omega
  · show cc0_transform_3 (grid0.coords t) 1 * 512 + 1 * p.val = _; rw [(index_3 t).2]; show _ = 512 * (t.val - 1) + p.val; omega

theorem emb_4 (t : Fin grid0.N) (κ : Fin 409) (d : Fin 2048) :
    (((cfgP (F := Ideal) pf).win 4).blk t).view.emb (ix2 κ d : S409x2048.Idx) = (ix2 κ d : S409x2048.Idx) := by
  refine ext2 (S := _) _ _ ?_ ?_
  · show cc0_transform_4 (grid0.coords t) 0 * 409 + 1 * κ.val = _; rw [(index_4 t).1]; show _ = κ.val; omega
  · show cc0_transform_4 (grid0.coords t) 1 * 2048 + 1 * d.val = _; rw [(index_4 t).2]; show _ = d.val; omega

/-- The strips are the rows'. -/
theorem strips : Strips (rows V c) (strip V pf c) := by
  intro n h p d
  refine (strip_at V pf c ⟨n, by rw [N_0]; omega⟩ p d).trans ?_
  refine congrArg (rows V c) (ext2 (S := _) _ _ ?_ rfl)
  show 512 * min n 99 + p.val = 512 * n + p.val
  omega

theorem out_3 (hp : Part (gsOf pf)) (h : ∀ y, FloatOps.absf (rows V c y) ≤ big) :
    (dat V pf c).arrAt 3 (cfgP (F := Ideal) pf).N = colCodesOf (gsOf pf) (rows V c) := by
  refine (dat V pf c).arrAt_eq_of_covers 3 _ (cover_3 pf) fun t hf y => ?_
  have ht : t.val < 101 := lt_of_lt_of_eq t.isLt N_0
  have h0 : t.val ≠ 0 := by
    intro h0
    rw [flush_eq pf 3 t (by omega) (by show cc0_transform_3 _ = cc0_transform_3 _; rw [h0]; exact ix3_first)] at hf
    exact absurd hf (by decide)
  obtain ⟨n, hn⟩ : ∃ n, t.val = n + 1 := ⟨t.val - 1, by omega⟩
  have h4 : k0_cond4 (co (n + 1)) = 1#1 := (cond4_iff _).mpr (by rw [co_val _ (by omega)]; omega)
  blk_simp
  rw [after_3, hn]
  obtain ⟨d, p, e⟩ := split2 y
  subst e
  have hl : 512 * (t.val - 1) + p.val < 51200 := by have := p.isLt; omega
  refine Eq.trans ?_ (congrArg (colCodesOf (gsOf pf) (rows V c)) (emb_3 pf t d p hl)).symm
  unfold ccA
  rw [dif_pos h4]
  refine (cc_at hp h (strips V pf c) xt0 n (by omega) h4 d p).trans ?_
  have e : 512 * (t.val - 1) + p.val = 512 * n + p.val := by omega
  show _ = clip448 (rows V c (ix2 ⟨512 * (t.val - 1) + p.val, hl⟩ d) * colInv (gsOf pf) (rows V c) (512 * (t.val - 1) + p.val) d)
  simp only [e]

theorem out_4 (hp : Part (gsOf pf)) (h : ∀ y, FloatOps.absf (rows V c y) ≤ big) :
    (dat V pf c).arrAt 4 (cfgP (F := Ideal) pf).N = colScalesOf (gsOf pf) (rows V c) := by
  refine (dat V pf c).arrAt_eq_of_covers 4 _ (cover_4 pf) fun t hf y => ?_
  have ht : t.val < 101 := lt_of_lt_of_eq t.isLt N_0
  have h0 : t.val = 100 := by
    by_contra h0
    rw [flush_eq pf 4 t (by omega) rfl] at hf
    exact absurd hf (by decide)
  blk_simp
  rw [after_4, h0]
  obtain ⟨κ, d, e⟩ := split2 y
  subst e
  refine Eq.trans ?_ (congrArg (colScalesOf (gsOf pf) (rows V c)) (emb_4 pf t κ d)).symm
  exact cs_at hp h (strips V pf c) κ d

end Cert.Proof.PI

end
-- ==== Proof.PI.RefGroups.lean ====
/-
  The reference's groups and blocks: the first token and the first block of every group, and the block of every token, as words.
-/
module

public import proofs.«01_k».proof.Proof.PI.Blocks
public import proofs.«01_k».proof.Proof.PI.Ref
public import Idealize.ShloMosaic.Lib.Routing.Ops
public import Idealize.ShloMosaic.Lib.Routing.Words

@[expose] public section

set_option maxRecDepth 16384

noncomputable section

namespace Cert.Proof.PI.Ref

open Cert.ReferenceIdeal Cert.ReferenceIdeal.Gen

open Idealize.ShloMosaic
open Idealize.ShloMosaic.TcCoe
open Idealize.SL Idealize.SL.Sem
open Cert.Proof.PI

variable (m : (ℓ : Loc nD τ sig) → Buf (Elt Ideal) ℓ) (c : Dev nD)

/-! ## The host operations as functions -/

/-- The sums of the entries up to each one. -/
def sums (x : IVec S9 32) : IVec S9 32 :=
  Host.reduceWindow IntOp.addi ![9] ![1] ![8] ![0] x (broadcastInDim S_ ![] bcast_S_S_ (constantI S_ 32 0#32)) reduceWindows_S9_S9_w9s1p8_0 h_S_

/-- The number of blocks of each group. -/
def blocks (g : IVec S9 32) : IVec S9 32 :=
  Host.divsi (addi g (broadcastInDim S9 ![] bcast_S_S9 (constantI S_ 32 127#32))) (broadcastInDim S9 ![] bcast_S_S9 (constantI S_ 32 128#32))

/-- The number of blocks of all groups. -/
def total (b : IVec S9 32) : IVec S_ 32 := Host.reduce IntOp.addi b (constantI S_ 32 0#32) reducesTo_S9_S_d0 h_S_

/-- An entry per group, for every token. -/
def perGroup (x : IVec S9 32) : IVec S51200x9 32 :=
  broadcastInDim S51200x9 ![0, 1] bcast_S1x9_S51200x9_0_1 (broadcastInDim S1x9 ![1] bcast_S9_S1x9_1 x)

/-- The token, for every group. -/
def token : IVec S51200x9 32 :=
  broadcastInDim S51200x9 ![0, 1] bcast_S51200x1_S51200x9_0_1 (broadcastInDim S51200x1 ![0] bcast_S51200_S51200x1_0 (iotaInDim S51200 32 0))

/-- The block of a token if it lies in the group, zero otherwise, from the ends, the starts and the first blocks of the groups. -/
def inGroup (e s o : IVec S9 32) : IVec S51200x9 32 :=
  select (andi (cmpi .sle (perGroup s) token) (cmpi .slt token (perGroup e)))
    (addi (perGroup o) (Host.divsi (subi token (perGroup s)) (broadcastInDim S51200x9 ![] bcast_S_S51200x9 (constantI S_ 32 128#32))))
    (broadcastInDim S51200x9 ![] bcast_S_S51200x9 (constantI S_ 32 0#32))

/-- The block of every token. -/
def block (z : IVec S51200x9 32) : IVec S51200 32 := Host.reduce IntOp.addi z (constantI S_ 32 0#32) reducesTo_S51200x9_S51200_d1 h_S_

/-! ## The buffers -/

theorem V_v37 : V m c main_v37 = sums (V m c main_arg1) := by
  unfold sums
  after_reads_simp
  all_goals try simp -implicitDefEqProofs only [StableHlo.TRef.toBuf, StableHlo.TRef.ofBuf, cast_cast, cast_eq, id]

theorem V_v38 : V m c main_v38 = subi (V m c main_v37 : IVec S9 32) (V m c main_arg1 : IVec S9 32) := by
  after_reads_simp

theorem V_v42 : V m c main_v42 = blocks (V m c main_arg1) := by
  unfold blocks
  after_reads_simp

theorem V_v43 : V m c main_v43 = sums (V m c main_v42) := by
  unfold sums
  after_reads_simp
  all_goals try simp -implicitDefEqProofs only [StableHlo.TRef.toBuf, StableHlo.TRef.ofBuf, cast_cast, cast_eq, id]

theorem V_v44 : V m c main_v44 = subi (V m c main_v43 : IVec S9 32) (V m c main_v42 : IVec S9 32) := by
  after_reads_simp

theorem V_v45 : V m c main_v45 = total (V m c main_v42) := by
  unfold total
  after_reads_simp

theorem V_v66 : V m c main_v66 = inGroup (V m c main_v37) (V m c main_v38) (V m c main_v44) := by
  unfold inGroup perGroup token
  after_reads_simp
  all_goals try simp -implicitDefEqProofs only [StableHlo.TRef.toBuf, StableHlo.TRef.ofBuf, cast_cast, cast_eq, id]

theorem V_v67 : V m c main_v67 = block (V m c main_v66) := by
  unfold block
  after_reads_simp

/-! ## The functions at an index -/

theorem ofNat_sub (a b : ℕ) (h : b ≤ a) : BitVec.ofNat 32 a - BitVec.ofNat 32 b = BitVec.ofNat 32 (a - b) := by
  have : BitVec.ofNat 32 a = BitVec.ofNat 32 (a - b) + BitVec.ofNat 32 b := by rw [← BitVec.ofNat_add]; congr 1; omega
  rw [this, BitVec.add_sub_cancel]

theorem sum_map (f : ℕ → ℕ) (n : ℕ) : ((List.range n).map f).sum = ∑ i ∈ Finset.range n, f i := by
  induction n with
  | zero => rfl
  | succ n ih => rw [List.range_succ, List.map_append, List.sum_append, ih, Finset.sum_range_succ]; simp

theorem sums_at (x : IVec S9 32) (f : ℕ → ℕ) (hx : ∀ i : Fin 9, x (ix1 i) = BitVec.ofNat 32 (f i.val)) (j : Fin 9) :
    sums x (ix1 j) = BitVec.ofNat 32 (∑ i ∈ Finset.range (j.val + 1), f i) := by
  unfold sums
  refine (Routing.cumsum1 (N := 9) (Nm1 := 8) rfl x f hx _ ?_ _ _ j).trans ?_
  · rfl
  · rw [sum_map]

variable {gs : IVec S9 32} (hp : Part gs)

theorem sizes_at (i : Fin 9) : gs (ix1 i) = BitVec.ofNat 32 (gsz gs i.val) := by
  unfold gsz
  refine Eq.trans ?_ (congrArg (BitVec.ofNat 32) (dif_pos i.isLt).symm)
  exact BitVec.eq_of_toNat_eq (by rw [BitVec.toNat_ofNat]; exact (Nat.mod_eq_of_lt (BitVec.isLt _)).symm)

theorem ends_at (i : Fin 9) : sums gs (ix1 i) = BitVec.ofNat 32 (gst gs (i.val + 1)) := sums_at gs (gsz gs) sizes_at i

theorem starts_at (i : Fin 9) : (subi (sums gs) gs : IVec S9 32) (ix1 i) = BitVec.ofNat 32 (gst gs i.val) := by
  show sums gs (ix1 i) - gs (ix1 i) = _
  rw [ends_at, sizes_at (gs := gs), ofNat_sub _ _ (by rw [gst_succ]; omega), gst_succ]
  congr 1
  omega

include hp in
theorem blocks_at (i : Fin 9) : blocks gs (ix1 i) = BitVec.ofNat 32 (nblk gs i.val) := by
  have h1 := gst_le hp (i.val + 1) (by have := i.isLt; omega)
  rw [gst_succ] at h1
  unfold blocks
  pointwise
  refine (congrArg (fun u : BitVec 32 => IntOp.divsi .host (u + 127#32) 128#32) (sizes_at i)).trans ?_
  rw [show (127#32) = BitVec.ofNat 32 127 from rfl, ← BitVec.ofNat_add]
  exact Routing.divsi_word _ (by omega) (by omega) (by omega)

include hp in
theorem offs_at (i : Fin 9) : (subi (sums (blocks gs)) (blocks gs) : IVec S9 32) (ix1 i) = BitVec.ofNat 32 (boff gs i.val) := by
  show sums (blocks gs) (ix1 i) - blocks gs (ix1 i) = _
  rw [sums_at (blocks gs) (nblk gs) (blocks_at hp), blocks_at hp, Finset.sum_range_succ, ofNat_sub _ _ (by omega), Nat.add_sub_cancel]
  rfl

include hp in
theorem total_at : total (blocks gs) ix0 = BitVec.ofNat 32 (boff gs 9) := by
  unfold total
  refine (Routing.reduce_sum (N := 9) (blocks gs) (nblk gs) (blocks_at hp) _ _).trans ?_
  rw [sum_map]
  rfl

/-- A sum of words that each hold a natural or zero holds the sum. -/
theorem fold_sum {ι : Type} (f : ι → ℕ) (s : Finset ι) :
    Finset.fold IntOp.addi (0#32) (fun x => BitVec.ofNat 32 (f x)) s = BitVec.ofNat 32 (∑ x ∈ s, f x) := by
  classical
  induction s using Finset.induction_on with
  | empty => rfl
  | insert a s ha ih =>
    rw [Finset.fold_insert ha, ih, Finset.sum_insert ha, BitVec.ofNat_add]
    rfl

theorem inGroup_at (e s o : IVec S9 32) (t : Fin 51200) (g : Fin 9) :
    inGroup e s o (ix2 t g) = Scalar.select (IntOp.andi (IntOp.cmpi .sle (s (ix1 g)) (BitVec.ofNat 32 t.val)) (IntOp.cmpi .slt (BitVec.ofNat 32 t.val) (e (ix1 g))))
      (o (ix1 g) + IntOp.divsi .host (BitVec.ofNat 32 t.val - s (ix1 g)) 128#32) 0#32 := by
  unfold inGroup perGroup token
  pointwise
  rfl

include hp in
theorem member_at (t : Fin 51200) (g : Fin 9) :
    inGroup (sums gs) (subi (sums gs) gs) (subi (sums (blocks gs)) (blocks gs)) (ix2 t g)
      = BitVec.ofNat 32 (if gst gs g.val ≤ t.val ∧ t.val < gst gs (g.val + 1) then boff gs g.val + (t.val - gst gs g.val) / 128 else 0) := by
  have hg := g.isLt
  have ht := t.isLt
  have h1 := gst_le hp (g.val + 1) (by omega)
  have h0 := gst_le hp g.val (by omega)
  refine (inGroup_at _ _ _ t g).trans ?_
  rw [starts_at, ends_at, offs_at hp, WordCmp.cmpi_slt_eq]
  have hle : IntOp.cmpi .sle (BitVec.ofNat 32 (gst gs g.val)) (BitVec.ofNat 32 t.val) = BitVec.ofBool (decide (gst gs g.val ≤ t.val)) := by
    show BitVec.ofBool (decide ((BitVec.ofNat 32 (gst gs g.val)).toInt ≤ (BitVec.ofNat 32 t.val).toInt)) = _
    rw [StableHlo.Predicate.toInt_ofNat_small _ (by omega), StableHlo.Predicate.toInt_ofNat_small _ (by omega)]
    simp only [Nat.cast_le]
  rw [hle, StableHlo.Predicate.toInt_ofNat_small _ (by omega), StableHlo.Predicate.toInt_ofNat_small _ (by omega)]
  simp only [Nat.cast_lt]
  by_cases ha : gst gs g.val ≤ t.val
  · by_cases hb : t.val < gst gs (g.val + 1)
    · rw [if_pos ⟨ha, hb⟩, decide_eq_true ha, decide_eq_true hb, ofNat_sub _ _ ha, BitVec.ofNat_add]
      refine (congrArg (fun u : BitVec 32 => BitVec.ofNat 32 (boff gs g.val) + u) (Routing.divsi_word (a := t.val - gst gs g.val) (b := 128) _ (by omega) (by omega) (by omega)))
    · rw [if_neg (fun h => hb h.2), decide_eq_true ha, decide_eq_false hb]; rfl
  · rw [if_neg (fun h => ha h.1), decide_eq_false ha]
    by_cases hb : t.val < gst gs (g.val + 1)
    · rw [decide_eq_true hb]; rfl
    · rw [decide_eq_false hb]; rfl

/-- The block of every token, from the sizes of the groups. -/
def blockOf (gs : IVec S9 32) : IVec S51200 32 := block (inGroup (sums gs) (subi (sums gs) gs) (subi (sums (blocks gs)) (blocks gs)))

include hp in
theorem block_at (t : Fin 51200) : blockOf gs (ix1 t) = BitVec.ofNat 32 (bid gs t.val) := by
  unfold blockOf block
  pointwise
  simp only [member_at hp]
  rw [fold_sum]
  unfold bid
  rw [Finset.sum_range]

theorem V_block : V m c main_v67 = blockOf (V m c main_arg1) := by
  rw [V_v67, V_v66, V_v44, V_v43, V_v42, V_v38, V_v37]
  rfl

theorem V_total : V m c main_v45 = total (blocks (V m c main_arg1)) := by
  rw [V_v45, V_v42]

end Cert.Proof.PI.Ref

end
-- ==== Proof.PI.RefCols.lean ====
/-
  The reference's column results at an index, over the extended reals.
-/
module

public import proofs.«01_k».proof.Proof.PI.RefGroups
public import proofs.«01_k».proof.Proof.PI.OutCols

@[expose] public section

set_option maxRecDepth 16384

noncomputable section

namespace Cert.Proof.PI.Ref

open Cert.ReferenceIdeal Cert.ReferenceIdeal.Gen

open Idealize.ShloMosaic
open Idealize.ShloMosaic.TcCoe
open Idealize.SL Idealize.SL.Sem
open Cert.Proof.PI

variable (m : (ℓ : Loc nD τ sig) → Buf (Elt Ideal) ℓ) (c : Dev nD)

/-! ## The host operations as functions -/

/-- The tokens as 32-bit floats. -/
def wide (X : FVec Ideal S51200x2048 .bf16) : FVec Ideal S51200x2048 .f32 := extf .f32 X bitsLt_bf16_f32

/-- Whether a token lies in a block, from the tokens' blocks. -/
def members (b : IVec S51200 32) : IVec S51200x409 1 :=
  cmpi .eq (broadcastInDim S51200x409 ![0, 1] bcast_S51200x1_S51200x409_0_1 (broadcastInDim S51200x1 ![0] bcast_S51200_S51200x1_0 b))
    (broadcastInDim S51200x409 ![0, 1] bcast_S1x409_S51200x409_0_1 (broadcastInDim S1x409 ![1] bcast_S409_S1x409_1 (iotaInDim S409 32 0)))

/-- The absolute values of a block's tokens, zero for the tokens outside it. -/
def memberAbs (Y : FVec Ideal S51200x2048 .f32) (p : IVec S51200x409 1) : FVec Ideal S51200x409x2048 .f32 :=
  select (broadcastInDim S51200x409x2048 ![0, 1, 2] bcast_S51200x409x1_S51200x409x2048_0_1_2 (broadcastInDim S51200x409x1 ![0, 1] bcast_S51200x409_S51200x409x1_0_1 p))
    (broadcastInDim S51200x409x2048 ![0, 1, 2] bcast_S51200x1x2048_S51200x409x2048_0_1_2
      (broadcastInDim S51200x1x2048 ![0, 2] bcast_S51200x2048_S51200x1x2048_0_2 (Host.absf Y)))
    (broadcastInDim S51200x409x2048 ![] bcast_S_S51200x409x2048 (constant S_ .f32 0x00000000#32))

/-- The greatest of them. -/
def blockMaxima (Z : FVec Ideal S51200x409x2048 .f32) : FVec Ideal S409x2048 .f32 :=
  Host.reduce FloatOps.maximumf Z (constant S_ .f32 0xFF800000#32) reducesTo_S51200x409x2048_S409x2048_d0 h_S_

/-- Whether a block is one of the first `n`. -/
def valid (n : IVec S_ 32) : IVec S409x1 1 :=
  broadcastInDim S409x1 ![0] bcast_S409_S409x1_0 (cmpi .slt (iotaInDim S409 32 0) (broadcastInDim S409 ![] bcast_S_S409 n))

/-- The entries of the valid blocks, zero for the others. -/
def keep (p : IVec S409x1 1) (a : FVec Ideal S409x2048 .f32) : FVec Ideal S409x2048 .f32 :=
  select (broadcastInDim S409x2048 ![0, 1] bcast_S409x1_S409x2048_0_1 p) a (broadcastInDim S409x2048 ![] bcast_S_S409x2048 (constant S_ .f32 0x00000000#32))

/-- For each maximum and each power, whether the power is at most the maximum over 448. -/
def belowC (A : FVec Ideal S409x2048 .f32) : IVec S409x2048x254 32 :=
  extui 32 (cmpf .ole (broadcastInDim S409x2048x254 ![0, 1, 2] bcast_S1x1x254_S409x2048x254_0_1_2 (broadcastInDim S1x1x254 ![2] bcast_S254_S1x1x254_2 powers))
    (broadcastInDim S409x2048x254 ![0, 1, 2] bcast_S409x2048x1_S409x2048x254_0_1_2 (broadcastInDim S409x2048x1 ![0, 1] bcast_S409x2048_S409x2048x1_0_1
      (mulf A (broadcastInDim S409x2048 ![] bcast_S_S409x2048 (constant S_ .f32 0x3B124925#32)))))) natLt_1_32

/-- The number of powers at most the maximum over 448. -/
def countsC (A : FVec Ideal S409x2048 .f32) : IVec S409x2048 32 :=
  Host.reduce IntOp.addi (belowC A) (constantI S_ 32 0#32) reducesTo_S409x2048x254_S409x2048_d2 h_S_

/-- The exponent of each count. -/
def expsC (n : IVec S409x2048 32) : IVec S409x2048 32 :=
  select (cmpi .eq n (broadcastInDim S409x2048 ![] bcast_S_S409x2048 (constantI S_ 32 0#32)))
    (broadcastInDim S409x2048 ![] bcast_S_S409x2048 (constantI S_ 32 0#32))
    (subi n (broadcastInDim S409x2048 ![] bcast_S_S409x2048 (constantI S_ 32 126#32)))

/-- Two to each exponent. -/
def scalesC (e : IVec S409x2048 32) : FVec Ideal S409x2048 .f32 :=
  Host.powf (broadcastInDim S409x2048 ![] bcast_S_S409x2048 (constant S_ .f32 0x40000000#32)) (sitofp .f32 e)

/-- The tokens' blocks as row numbers. -/
def rowNo (b : IVec S51200 32) : IVec S51200x1 32 :=
  broadcastInDim S51200x1 ![0] bcast_S51200_S51200x1_0 (select (cmpi .slt b (broadcastInDim S51200 ![] bcast_S_S51200 (constantI S_ 32 0#32)))
    (addi b (broadcastInDim S51200 ![] bcast_S_S51200 (constantI S_ 32 409#32))) b)

/-- The row of every token's block. -/
def picked (s : FVec Ideal S409x2048 .f32) (i : IVec S51200x1 32) : FVec Ideal S51200x2048 .f32 :=
  Host.gather gather_S409x2048_S51200x1_S51200x2048_1_0_n_n_0_1_12048 s i

/-- The tokens scaled and clipped, a channel a row. -/
def clippedC (Y s : FVec Ideal S51200x2048 .f32) : FVec Ideal S2048x51200 .f32 :=
  transpose S2048x51200 [1, 0] (minimumf (broadcastInDim S51200x2048 ![] bcast_S_S51200x2048 (constant S_ .f32 0x43E00000#32))
    (maximumf (broadcastInDim S51200x2048 ![] bcast_S_S51200x2048 (constant S_ .f32 0xC3E00000#32)) (mulf Y s))) transposes_S51200x2048_S2048x51200_1_0

/-- A channel a row. -/
def turned (s : FVec Ideal S409x2048 .f32) : FVec Ideal S2048x409 .f32 := transpose S2048x409 [1, 0] s transposes_S409x2048_S2048x409_1_0

/-! ## The buffers before the cast -/

theorem V_v1 : V m c main_v1 = wide (V m c main_v0) := by
  unfold wide
  after_reads_simp

theorem V_v73 : V m c main_v73 = members (V m c main_v67) := by
  unfold members
  after_reads_simp

theorem V_v77 : V m c main_v77 = memberAbs (V m c main_v1) (V m c main_v73) := by
  unfold memberAbs
  after_reads_simp
  all_goals try simp -implicitDefEqProofs only [StableHlo.TRef.toBuf, StableHlo.TRef.ofBuf, cast_cast, cast_eq, id]

theorem V_v78 : V m c main_v78 = blockMaxima (V m c main_v77) := by
  unfold blockMaxima
  after_reads_simp

theorem V_v81 : V m c main_v81 = valid (V m c main_v45) := by
  unfold valid
  after_reads_simp

theorem V_v82 : V m c main_v82 = keep (V m c main_v81) (V m c main_v78) := by
  unfold keep
  after_reads_simp
  all_goals try simp -implicitDefEqProofs only [StableHlo.TRef.toBuf, StableHlo.TRef.ofBuf, cast_cast, cast_eq, id]

theorem V_v97 : V m c main_v97 = countsC (V m c main_v82) := by
  unfold countsC belowC powers
  after_reads_simp

theorem V_v102 : V m c main_v102 = expsC (V m c main_v97) := by
  unfold expsC
  after_reads_simp
  all_goals try simp -implicitDefEqProofs only [StableHlo.TRef.toBuf, StableHlo.TRef.ofBuf, cast_cast, cast_eq, id]

theorem V_v105 : V m c main_v105 = scalesC (V m c main_v102) := by
  unfold scalesC
  after_reads_simp

theorem V_v106 : V m c main_v106 = keep (V m c main_v81) (V m c main_v105) := by
  unfold keep
  after_reads_simp
  all_goals try simp -implicitDefEqProofs only [StableHlo.TRef.toBuf, StableHlo.TRef.ofBuf, cast_cast, cast_eq, id]

theorem V_v107 : V m c main_v107 = turned (V m c main_v106) := by
  unfold turned
  after_reads_simp

theorem V_v111 : V m c main_v111 = scalesC (negi (V m c main_v102 : IVec S409x2048 32)) := by
  unfold scalesC
  after_reads_simp

theorem V_v117 : V m c main_v117 = rowNo (V m c main_v67) := by
  unfold rowNo
  after_reads_simp

theorem V_v118 : V m c main_v118 = picked (V m c main_v111) (V m c main_v117) := by
  unfold picked
  after_reads_simp

theorem V_v121 : V m c main_v121 = clippedC (V m c main_v1) (V m c main_v118) := by
  unfold clippedC
  after_reads_simp
  all_goals try simp -implicitDefEqProofs only [StableHlo.TRef.toBuf, StableHlo.TRef.ofBuf, cast_cast, cast_eq, id]

/-! ## The functions at an index -/

theorem memberAbs_at (X : FVec Ideal S51200x2048 .bf16) (b : IVec S51200 32) (t : Fin 51200) (k : Fin 409) (d : Fin 2048) :
    memberAbs (wide X) (members b) (ix3 t k d) = if b (ix1 t) = BitVec.ofNat 32 k.val then absT X t d else (0 : EReal) := by
  unfold memberAbs members wide
  pointwise
  rw [WordCmp.cmpi_eq_eq]
  unfold Scalar.select
  by_cases h : b (ix1 t) = BitVec.ofNat 32 k.val
  · rw [if_pos h, decide_eq_true h]; rfl
  · rw [if_neg h, decide_eq_false h]; rfl

theorem blockMaxima_at (Z : FVec Ideal S51200x409x2048 .f32) (k : Fin 409) (d : Fin 2048) :
    blockMaxima Z (ix2 k d) = Finset.univ.sup fun t : Fin 51200 => (Z (ix3 t k d) : EReal) := by
  unfold blockMaxima
  pointwise
  refine eq_of_forall_ge_iff fun z => ?_
  rw [Finset.fold_max_le, neg_inf, Finset.sup_le_iff]
  simp only [bot_le, true_and]

theorem keep_at (n : IVec S_ 32) (a : FVec Ideal S409x2048 .f32) (k : Fin 409) (d : Fin 2048) (N : ℕ) (hn : n ix0 = BitVec.ofNat 32 N) (hN : N ≤ 408) :
    keep (valid n) a (ix2 k d) = if k.val < N then a (ix2 k d) else (0 : EReal) := by
  unfold keep valid
  pointwise
  have hk := k.isLt
  have e : IntOp.cmpi .slt (BitVec.ofNat 32 k.val) (n ix0) = BitVec.ofBool (decide (k.val < N)) := by
    rw [hn, WordCmp.cmpi_slt_eq, StableHlo.Predicate.toInt_ofNat_small _ (by omega), StableHlo.Predicate.toInt_ofNat_small _ (by omega)]
    simp only [Nat.cast_lt]
  refine (congrArg (fun w : BitVec 1 => Scalar.select w (a (ix2 k d)) (0 : Ideal .f32)) e).trans ?_
  unfold Scalar.select
  by_cases h : k.val < N
  · rw [if_pos h, decide_eq_true h]; rfl
  · rw [if_neg h, decide_eq_false h]; rfl

theorem belowC_at (A : FVec Ideal S409x2048 .f32) (t : Fin 409) (g : Fin 2048) (k : Fin 254) :
    belowC A (ix3 t g k) = if W (k.val + 1) ≤ A (ix2 t g) * κ then 1#32 else 0#32 := by
  unfold belowC
  pointwise
  rw [powers_at]
  show BitVec.setWidth 32 (BitVec.ofBool (decide (W (k.val + 1) ≤ A (ix2 t g) * κ))) = _
  by_cases h : W (k.val + 1) ≤ A (ix2 t g) * κ
  · rw [if_pos h, decide_eq_true h]; rfl
  · rw [if_neg h, decide_eq_false h]; rfl

theorem countsC_at (A : FVec Ideal S409x2048 .f32) (t : Fin 409) (g : Fin 2048) :
    countsC A (ix2 t g) = BitVec.ofNat 32 (cnt (A (ix2 t g) * κ)) := by
  unfold countsC
  pointwise
  simp only [belowC_at]
  rw [fold_count]
  rfl

theorem expsC_at (n : IVec S409x2048 32) (y : S409x2048.Idx) : expsC n y = if n y = 0#32 then 0#32 else n y - 126#32 := by
  unfold expsC
  pointwise
  rw [WordCmp.cmpi_eq_eq]
  unfold Scalar.select
  by_cases h : n y = 0#32
  · rw [if_pos h, decide_eq_true h]; rfl
  · rw [if_neg h, decide_eq_false h]; rfl

theorem scalesC_at (e : IVec S409x2048 32) (y : S409x2048.Idx) : scalesC e y = ((powW (e y) : ℝ) : EReal) := by
  unfold scalesC
  pointwise
  exact host_pow _

theorem expC_at (A : FVec Ideal S409x2048 .f32) (k : Fin 409) (d : Fin 2048) : expsC (countsC A) (ix2 k d) = eW (A (ix2 k d)) := by
  have hn := cnt_le (A (ix2 k d) * κ)
  rw [expsC_at, countsC_at, eW, expW]
  by_cases h : cnt (A (ix2 k d) * κ) = 0
  · rw [if_pos h, if_pos (by rw [h])]
  · rw [if_neg h, if_neg (fun h' => h ((ofNat_eq_iff _ 0 (by omega) (by omega)).mp h'))]

theorem negC_at (A : FVec Ideal S409x2048 .f32) (k : Fin 409) (d : Fin 2048) : negi (expsC (countsC A)) (ix2 k d) = 0#32 - eW (A (ix2 k d)) := by
  rw [← expC_at]
  generalize expsC (countsC A) = w
  show - w (ix2 k d) = _
  rw [BitVec.zero_sub]

theorem rowNo_at (b : IVec S51200 32) (t : Fin 51200) (n : ℕ) (hb : b (ix1 t) = BitVec.ofNat 32 n) (hn : n < 409) :
    rowNo b (ix2 t 0) = BitVec.ofNat 32 n := by
  unfold rowNo
  pointwise
  rw [WordCmp.cmpi_slt_eq]
  have e : decide ((b (ix1 t)).toInt < (0#32).toInt) = false := by
    rw [hb, StableHlo.Predicate.toInt_ofNat_small _ (by omega)]
    exact decide_eq_false (by show ¬ ((n : ℤ) < 0); omega)
  unfold Scalar.select
  refine (if_neg ?_).trans hb
  rw [e]
  decide

theorem picked_at (s : FVec Ideal S409x2048 .f32) (b : IVec S51200 32) (t : Fin 51200) (d : Fin 2048) (k : Fin 409) (hb : b (ix1 t) = BitVec.ofNat 32 k.val) :
    picked s (rowNo b) (ix2 t d) = s (ix2 k d) :=
  Routing.gather_row (nb := 409) (B := 2048) (n := 51200) _ rfl rfl rfl rfl rfl s (rowNo b) t d k (rowNo_at b t k.val hb k.isLt) (by decide)

theorem clippedC_at (X : FVec Ideal S51200x2048 .bf16) (s : FVec Ideal S51200x2048 .f32) (d : Fin 2048) (t : Fin 51200) :
    clippedC (wide X) s (ix2 d t) = clip448 (X (ix2 t d) * s (ix2 t d)) := by
  unfold clippedC wide
  pointwise
  rfl

theorem turned_at (s : FVec Ideal S409x2048 .f32) (d : Fin 2048) (k : Fin 409) : turned s (ix2 d k) = s (ix2 k d) := by
  unfold turned
  pointwise

/-! ## The results -/

variable {gs : IVec S9 32} (hp : Part gs)

include hp in
/-- The greatest absolute value of a channel in a block. -/
theorem colMax_at (X : FVec Ideal S51200x2048 .bf16) (k : Fin 409) (d : Fin 2048) :
    blockMaxima (memberAbs (wide X) (members (blockOf gs))) (ix2 k d) = colMax gs X k.val 51200 d := by
  rw [blockMaxima_at]
  unfold colMax
  refine congrArg (Finset.univ.sup) (funext fun t => ?_)
  have hk := k.isLt
  have hb : bid gs t.val < 409 := by have := bid_lt hp t.isLt; have := boff_le hp; omega
  rw [memberAbs_at, block_at hp]
  by_cases h : bid gs t.val = k.val
  · rw [if_pos (by rw [h]), if_pos ⟨h, t.isLt⟩]
  · rw [if_neg (fun h' => h ((ofNat_eq_iff _ _ (by omega) (by omega)).mp h')), if_neg (fun h' => h h'.1)]

/-- The blocks' maxima. -/
def maxC (gs : IVec S9 32) (X : FVec Ideal S51200x2048 .bf16) : FVec Ideal S409x2048 .f32 :=
  keep (valid (total (blocks gs))) (blockMaxima (memberAbs (wide X) (members (blockOf gs))))

include hp in
theorem maxC_at (X : FVec Ideal S51200x2048 .bf16) (k : Fin 409) (d : Fin 2048) (hk : k.val < boff gs 9) : maxC gs X (ix2 k d) = colMax gs X k.val 51200 d := by
  refine (keep_at _ _ k d _ (total_at hp) (boff_le hp)).trans ?_
  rw [if_pos hk, colMax_at hp]

include hp in
theorem scaleC_at (X : FVec Ideal S51200x2048 .bf16) (d : Fin 2048) (k : Fin 409) :
    turned (keep (valid (total (blocks gs))) (scalesC (expsC (countsC (maxC gs X))))) (ix2 d k) = colScalesOf gs X (ix2 k d) := by
  rw [turned_at]
  refine (keep_at _ _ k d _ (total_at hp) (boff_le hp)).trans ?_
  by_cases h : k.val < boff gs 9
  · refine (if_pos h).trans (Eq.trans ?_ (if_pos h).symm)
    rw [scalesC_at, expC_at, maxC_at hp X k d h]
    rfl
  · exact (if_neg h).trans (if_neg h).symm

include hp in
theorem clipC_at (X : FVec Ideal S51200x2048 .bf16) (d : Fin 2048) (t : Fin 51200) :
    clippedC (wide X) (picked (scalesC (negi (expsC (countsC (maxC gs X))))) (rowNo (blockOf gs))) (ix2 d t) = clip448 (X (ix2 t d) * colInv gs X t.val d) := by
  have hb := bid_lt hp t.isLt
  have h8 := boff_le hp
  refine (clippedC_at X _ d t).trans (congrArg (fun v : EReal => clip448 (X (ix2 t d) * v)) ?_)
  refine (picked_at _ _ t d ⟨bid gs t.val, by omega⟩ (block_at hp t)).trans ((scalesC_at _ _).trans ?_)
  unfold colInv
  refine congrArg (fun w : BitVec 32 => ((powW w : ℝ) : EReal)) ((negC_at _ _ d).trans (congrArg (fun a : EReal => 0#32 - eW a) ?_))
  exact maxC_at hp X _ d hb

/-- The column scales at an index. -/
theorem colScale_at (hp : Part (V m c main_arg1)) (d : Fin 2048) (k : Fin 409) :
    (V m c main_v107 : FVec Ideal S2048x409 .f32) (ix2 d k) = colScalesOf (V m c main_arg1) (rowsOf m c) (ix2 k d) := by
  rw [V_v107, V_v106, V_v105, V_v102, V_v97, V_v82, V_v81, V_total, V_v78, V_v77, V_v73, V_block, V_v1]
  exact scaleC_at hp _ d k

/-- The column codes at an index, before the cast. -/
theorem colCode_at (hp : Part (V m c main_arg1)) (d : Fin 2048) (t : Fin 51200) :
    (V m c main_v121 : FVec Ideal S2048x51200 .f32) (ix2 d t) = clip448 (rowsOf m c (ix2 t d) * colInv (V m c main_arg1) (rowsOf m c) t.val d) := by
  rw [V_v121, V_v118, V_v117, V_v111, V_v102, V_v97, V_v82, V_v81, V_total, V_v78, V_v77, V_v73, V_block, V_v1]
  exact clipC_at hp _ d t

end Cert.Proof.PI.Ref

end
-- ==== Proof.PI.Value.lean ====
/-
  The kernel and the reference give the same codes and scales, of the rows and of the columns, over the extended reals.
-/
module

public import proofs.«01_k».proof.Defs
public import proofs.«01_k».proof.Proof.PI.Part
public import proofs.«01_k».proof.Proof.PI.OutCols
public import proofs.«01_k».proof.Proof.PI.RefCols

@[expose] public section

set_option maxRecDepth 16384

noncomputable section

namespace Cert.Proof.PI

open Cert.KernelIdeal Cert.KernelIdeal.Gen

open Idealize.ShloMosaic
open Idealize.ShloMosaic.TcCoe
open Idealize.SL Idealize.SL.Sem
open Idealize.ShloMosaic.Pipeline (Dat Cfg Window)

/-- The precondition bounds the inputs. -/
theorem big_of (x : FVec Ideal Cert.Pre_finite_and_partition.S20x2560x2048 .bf16) (gs : IVec Cert.Pre_finite_and_partition.S9 32)
    (h : Cert.Pre_finite_and_partition.fn x gs = fun _ => 1#1) (y : Cert.Pre_finite_and_partition.S20x2560x2048.Idx) : (FloatOps.absf (x y) : Ideal .bf16) ≤ big := by
  have h0 := congrFun h ix0
  obtain ⟨h1, -⟩ := (andi_one _ _).mp h0
  obtain ⟨h3, -⟩ := (andi_one _ _).mp h1
  have h4 := Host.reduce_andi_all _ _ _ _ _ h3 y
  exact (WordCmp.ofBool_decide_eq_one_iff _).mp h4

variable (m : (ℓ : Loc nD τ sig) → Buf (Elt Ideal) ℓ)

/-- The rows are the input reshaped. -/
theorem rows_eq (c : Dev nD) : rows (V0r m) c = shapeCast S51200x2048 (m ((c : Thread nD τ).loc main_arg0) : FVec Ideal S20x2560x2048 .bf16) shapeCasts_S20x2560x2048_S51200x2048 := by
  show V0 m c (Proc.devRef .tc main_v0) = _
  unfold V0
  after_reads_simp
  rfl

theorem rows_big (c : Dev nD) (h : ∀ y, (FloatOps.absf ((m ((c : Thread nD τ).loc main_arg0) : FVec Ideal S20x2560x2048 .bf16) y) : Ideal .bf16) ≤ big) (y : S51200x2048.Idx) :
    (FloatOps.absf (rows (V0r m) c y) : Ideal .bf16) ≤ big := by
  rw [rows_eq]
  exact h _

/-- The row scales as the kernel's host program returns them. -/
theorem tail_2 (c : Dev nD) : Pipeline.afterTail (pcfgs (F := Ideal)) (adm (tab m)) (dats m) 0 (V0 m) [hostOps1] c main_v2
    = transpose (s := S16x51200) S51200x16 [1, 0] ((dat (V0r m) (tab m) c).arrAt 2 (cfgP (F := Ideal) (tab m)).N) transposes_S16x51200_S51200x16_1_0 := by
  unfold Pipeline.afterTail
  after_reads_simp
  refine congrArg (fun f => transpose (s := S16x51200) S51200x16 [1, 0] f transposes_S16x51200_S51200x16_1_0) ?_
  exact Pipeline.withArrays_arr spec0 (by decide) c (V0 m c) _ 2

/-- The column scales as the kernel's host program returns them. -/
theorem tail_3 (c : Dev nD) : Pipeline.afterTail (pcfgs (F := Ideal)) (adm (tab m)) (dats m) 0 (V0 m) [hostOps1] c main_v3
    = transpose (s := S409x2048) S2048x409 [1, 0] ((dat (V0r m) (tab m) c).arrAt 4 (cfgP (F := Ideal) (tab m)).N) transposes_S409x2048_S2048x409_1_0 := by
  unfold Pipeline.afterTail
  after_reads_simp
  refine congrArg (fun f => transpose (s := S409x2048) S2048x409 [1, 0] f transposes_S409x2048_S2048x409_1_0) ?_
  exact Pipeline.withArrays_arr spec0 (by decide) c (V0 m c) _ 4

/-! ## The reference's cast -/

namespace Ref

variable (m' : (ℓ : Loc Cert.ReferenceIdeal.nD Cert.ReferenceIdeal.τ Cert.ReferenceIdeal.sig) → Buf (Elt Ideal) ℓ)

/-- The cast of the row codes is the identity over the extended reals. -/
theorem cast_eq (c : Dev Cert.ReferenceIdeal.nD) : (Cert.ReferenceIdeal.Gen.dats m' 0 c).arrAt 2 Cert.ReferenceIdeal.cfg0.N = (Cert.ReferenceIdeal.Gen.V m' c Cert.ReferenceIdeal.main_v36 : FVec Ideal S51200x2048 .f32) := by
  refine (Cert.ReferenceIdeal.Gen.dats m' 0 c).arrAt_eq_of_covers 2 _ (by decide +kernel) fun t hf y => ?_
  blk_simp
  rw [Cert.ReferenceIdeal.Gen.after0_2]
  frame_out
  show Cert.ReferenceIdeal.Gen.V m' c Cert.ReferenceIdeal.main_v36 _ = _
  refine congrArg (Cert.ReferenceIdeal.Gen.V m' c Cert.ReferenceIdeal.main_v36) ?_
  rw [Shape.reshapeEquiv_self]
  rfl

/-- The cast of the column codes is the identity over the extended reals. -/
theorem castC_eq (c : Dev Cert.ReferenceIdeal.nD) : (Cert.ReferenceIdeal.Gen.dats m' 0 c).arrAt 3 Cert.ReferenceIdeal.cfg0.N = (Cert.ReferenceIdeal.Gen.V m' c Cert.ReferenceIdeal.main_v121 : FVec Ideal S2048x51200 .f32) := by
  refine (Cert.ReferenceIdeal.Gen.dats m' 0 c).arrAt_eq_of_covers 3 _ (by decide +kernel) fun t hf y => ?_
  blk_simp
  rw [Cert.ReferenceIdeal.Gen.after0_3]
  frame_out
  show Cert.ReferenceIdeal.Gen.V m' c Cert.ReferenceIdeal.main_v121 _ = _
  refine congrArg (Cert.ReferenceIdeal.Gen.V m' c Cert.ReferenceIdeal.main_v121) ?_
  rw [Shape.reshapeEquiv_self]
  rfl

theorem rowsOf_eq (c : Dev Cert.ReferenceIdeal.nD) :
    rowsOf m' c = shapeCast S51200x2048 (m' ((c : Thread Cert.ReferenceIdeal.nD Cert.ReferenceIdeal.τ).loc Cert.ReferenceIdeal.main_arg0) : FVec Ideal S20x2560x2048 .bf16) shapeCasts_S20x2560x2048_S51200x2048 := by
  unfold rowsOf
  after_reads_simp
  rfl

/-- The reference's codes are the codes of its rows. -/
theorem codes_eq (c : Dev Cert.ReferenceIdeal.nD) : (Cert.ReferenceIdeal.Gen.dats m' 0 c).arrAt 2 Cert.ReferenceIdeal.cfg0.N = codesOf (rowsOf m' c) := by
  rw [cast_eq]
  funext y
  obtain ⟨t, d, e⟩ := split2 y
  subst e
  exact code_at m' c t d

/-- The reference's scales are the scales of its rows. -/
theorem scales_eq (c : Dev Cert.ReferenceIdeal.nD) :
    (Cert.ReferenceIdeal.Gen.V m' c Cert.ReferenceIdeal.main_v27 : FVec Ideal S51200x16 .f32) = transpose (s := S16x51200) S51200x16 [1, 0] (scalesOf (rowsOf m' c)) transposes_S16x51200_S51200x16_1_0 := by
  funext y
  obtain ⟨t, g, e⟩ := split2 y
  subst e
  refine (scale_at m' c t g).trans ?_
  pointwise
  rfl

/-- The reference's column codes are the column codes of its rows. -/
theorem colCodes_eq (c : Dev Cert.ReferenceIdeal.nD) (gs : IVec S9 32) (hg : Cert.ReferenceIdeal.Gen.V m' c Cert.ReferenceIdeal.main_arg1 = gs) (hp : Part gs) :
    (Cert.ReferenceIdeal.Gen.dats m' 0 c).arrAt 3 Cert.ReferenceIdeal.cfg0.N = colCodesOf gs (rowsOf m' c) := by
  rw [castC_eq]
  subst hg
  funext y
  obtain ⟨d, t, e⟩ := split2 y
  subst e
  exact colCode_at m' c hp d t

/-- The reference's column scales are the column scales of its rows. -/
theorem colScales_eq (c : Dev Cert.ReferenceIdeal.nD) (gs : IVec S9 32) (hg : Cert.ReferenceIdeal.Gen.V m' c Cert.ReferenceIdeal.main_arg1 = gs) (hp : Part gs) :
    (Cert.ReferenceIdeal.Gen.V m' c Cert.ReferenceIdeal.main_v107 : FVec Ideal S2048x409 .f32)
      = transpose (s := S409x2048) S2048x409 [1, 0] (colScalesOf gs (rowsOf m' c)) transposes_S409x2048_S2048x409_1_0 := by
  subst hg
  funext y
  obtain ⟨d, k, e⟩ := split2 y
  subst e
  refine (colScale_at m' c hp d k).trans ?_
  generalize colScalesOf _ _ = s
  pointwise

end Ref

/-- The row scales as the kernel's host program returns them. -/
abbrev scalesT (X : FVec Ideal S51200x2048 .bf16) : FVec Ideal S51200x16 .f32 := transpose (s := S16x51200) S51200x16 [1, 0] (scalesOf X) transposes_S16x51200_S51200x16_1_0

/-- The column scales as the kernel's host program returns them. -/
abbrev colScalesT (gs : IVec S9 32) (X : FVec Ideal S51200x2048 .bf16) : FVec Ideal S2048x409 .f32 :=
  transpose (s := S409x2048) S2048x409 [1, 0] (colScalesOf gs X) transposes_S409x2048_S2048x409_1_0

/-- The two programs give the same codes and scales in both directions. -/
theorem algebraic : Cert.algebraic_KernelIdeal_ReferenceIdeal := by
  intro m g m' g' hpre harg
  have hb : ∀ c, ∀ y, (FloatOps.absf (rows (V0r m) c y) : Ideal .bf16) ≤ big := fun c => rows_big m c fun y => big_of _ _ (hpre c) y
  have hrow : ∀ c : Dev nD, Ref.rowsOf m' c = rows (V0r m) c := fun c => by
    rw [Ref.rowsOf_eq, rows_eq, (harg c).1]
  have hok : ∀ c, AllOk (V0r m) (tab m) c := fun c => allOk m c (hpre 0)
  have hp : Part (gsOf (tab m)) := by rw [gsOf_tab]; exact part_of _ _ (hpre 0)
  have hgs : ∀ c : Dev nD, Cert.ReferenceIdeal.Gen.V m' c Cert.ReferenceIdeal.main_arg1 = gsOf (tab m) := fun c => by
    obtain rfl : c = 0 := Subsingleton.elim _ _
    rw [gsOf_tab]
    exact (Cert.ReferenceIdeal.Gen.V_main_arg1 m' 0).trans (harg 0).2
  refine ⟨fun c => codesOf (rows (V0r m) c), fun c => scalesT (rows (V0r m) c), fun c => colCodesOf (gsOf (tab m)) (rows (V0r m) c),
    fun c => colScalesT (gsOf (tab m)) (rows (V0r m) c), ?_, ?_⟩
  · refine (θ_run _ _ _).mono (fun r h c => ⟨?_, ?_, ?_, ?_, ?_, ?_⟩) (run m g hok)
    · exact ((h.1 c).1 1).trans (out_1 (V0r m) (tab m) c (hb c))
    · refine ((h.1 c).2 main_v2 (show main_v2 ∈ Pipeline.restRefs sig spec0 by decide)).trans ((tail_2 m c).trans ?_)
      rw [out_2 (V0r m) (tab m) c (hb c)]
      rfl
    · exact ((h.1 c).1 3).trans (out_3 (V0r m) (tab m) c hp (hb c))
    · refine ((h.1 c).2 main_v3 (show main_v3 ∈ Pipeline.restRefs sig spec0 by decide)).trans ((tail_3 m c).trans ?_)
      rw [out_4 (V0r m) (tab m) c hp (hb c)]
      rfl
    · exact ((h.1 c).2 main_arg0 (show main_arg0 ∈ Pipeline.restRefs sig spec0 by decide)).trans (arg_tail m c _ (by simp))
    · exact ((h.1 c).2 main_arg1 (show main_arg1 ∈ Pipeline.restRefs sig spec0 by decide)).trans (arg_tail m c _ (by simp))
  · refine (θ_run _ _ _).mono (fun r h c => ⟨?_, ?_, ?_, ?_, ?_, ?_⟩) (Cert.ReferenceIdeal.Gen.run_main m' g')
    · exact ((h c).1 2).trans ((Ref.codes_eq m' c).trans (congrArg codesOf (hrow c)))
    · exact ((h c).2 Cert.ReferenceIdeal.main_v27 (Pipeline.mem_restRefs_of _ (by decide) (by decide))).trans ((Ref.scales_eq m' c).trans (congrArg scalesT (hrow c)))
    · exact ((h c).1 3).trans ((Ref.colCodes_eq m' c _ (hgs c) hp).trans (congrArg (colCodesOf _) (hrow c)))
    · exact ((h c).2 Cert.ReferenceIdeal.main_v107 (Pipeline.mem_restRefs_of _ (by decide) (by decide))).trans
        ((Ref.colScales_eq m' c _ (hgs c) hp).trans (congrArg (colScalesT _) (hrow c)))
    · exact ((h c).2 Cert.ReferenceIdeal.main_arg0 (Pipeline.mem_restRefs_of _ (by decide) (by decide))).trans (Cert.ReferenceIdeal.Gen.V_main_arg0 m' c)
    · exact ((h c).2 Cert.ReferenceIdeal.main_arg1 (Pipeline.mem_restRefs_of _ (by decide) (by decide))).trans (Cert.ReferenceIdeal.Gen.V_main_arg1 m' c)

end Cert.Proof.PI

end
-- ==== Proof.lean ====
/-
  The certificate: the frames of the kernel as written and over the extended reals, and of the reference, and the equality
  of the row codes and the row scales.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_finite_and_partition
public import proofs.«01_k».proof.Proof.P.Part
public import proofs.«01_k».proof.Proof.PI.Value
public import Idealize.ShloMosaic.Adequacy
public import Idealize.ShloMosaic.Init

@[expose] public section

noncomputable section

namespace Cert.Proof

open Idealize.ShloMosaic Idealize.SL.Sem Cert.Kernel

/-- The kernel as written runs and leaves its arguments. -/
theorem kernel : Cert.quiescent_Kernel := fun m g h => P.frame m g fun c => P.allOk m c (h 0)

/-- The kernel over the extended reals runs and leaves its arguments. -/
theorem kernelIdeal : Cert.quiescent_KernelIdeal := fun m g h => PI.frame m g fun c => PI.allOk m c (h 0)

theorem claim : Cert.Claim := ⟨Cert.Kernel.Gen.facts, Cert.KernelIdeal.Gen.facts, Cert.ReferenceIdeal.Gen.facts, Cert.Pre_finite_and_partition.Gen.facts,
  kernel, kernelIdeal, fun m g _ => Cert.ReferenceIdeal.Gen.frame m g, fun m g _ => Cert.ReferenceIdeal.Gen.frame m g, trivial, PI.algebraic⟩

end Cert.Proof

end
